-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_SsdOutKernel (m : (ℓ : Loc Cert.SsdOutKernel.nD Cert.SsdOutKernel.τ Cert.SsdOutKernel.sig) → Buf (Elt Bits) ℓ) : Prop :=
  True

def Pre_SsdOutKernelIdeal (m : (ℓ : Loc Cert.SsdOutKernelIdeal.nD Cert.SsdOutKernelIdeal.τ Cert.SsdOutKernelIdeal.sig) → Buf (Elt Ideal) ℓ) : Prop :=
  True

def Pre_SsdOutReferenceIdeal (m : (ℓ : Loc Cert.SsdOutReferenceIdeal.nD Cert.SsdOutReferenceIdeal.τ Cert.SsdOutReferenceIdeal.sig) → Buf (Elt Ideal) ℓ) : Prop :=
  True

def Pre_RwOutKernel (m : (ℓ : Loc Cert.RwOutKernel.nD Cert.RwOutKernel.τ Cert.RwOutKernel.sig) → Buf (Elt Bits) ℓ) : Prop :=
  True

def Pre_RwOutKernelIdeal (m : (ℓ : Loc Cert.RwOutKernelIdeal.nD Cert.RwOutKernelIdeal.τ Cert.RwOutKernelIdeal.sig) → Buf (Elt Ideal) ℓ) : Prop :=
  True

def Pre_RwOutReferenceIdeal (m : (ℓ : Loc Cert.RwOutReferenceIdeal.nD Cert.RwOutReferenceIdeal.τ Cert.RwOutReferenceIdeal.sig) → Buf (Elt Ideal) ℓ) : Prop :=
  True

def Pre_ZxKernel (m : (ℓ : Loc Cert.ZxKernel.nD Cert.ZxKernel.τ Cert.ZxKernel.sig) → Buf (Elt Bits) ℓ) : Prop :=
  True

def Pre_ZxKernelIdeal (m : (ℓ : Loc Cert.ZxKernelIdeal.nD Cert.ZxKernelIdeal.τ Cert.ZxKernelIdeal.sig) → Buf (Elt Ideal) ℓ) : Prop :=
  True

def Pre_ZxReferenceIdeal (m : (ℓ : Loc Cert.ZxReferenceIdeal.nD Cert.ZxReferenceIdeal.τ Cert.ZxReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_FfnSampleKernel (m : (ℓ : Loc Cert.FfnSampleKernel.nD Cert.FfnSampleKernel.τ Cert.FfnSampleKernel.sig) → Buf (Elt Bits) ℓ) : Prop :=
  True

def Pre_FfnSampleKernelIdeal (m : (ℓ : Loc Cert.FfnSampleKernelIdeal.nD Cert.FfnSampleKernelIdeal.τ Cert.FfnSampleKernelIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_QkvSampleKernel (m : (ℓ : Loc Cert.QkvSampleKernel.nD Cert.QkvSampleKernel.τ Cert.QkvSampleKernel.sig) → Buf (Elt Bits) ℓ) : Prop :=
  True

def Pre_QkvSampleKernelIdeal (m : (ℓ : Loc Cert.QkvSampleKernelIdeal.nD Cert.QkvSampleKernelIdeal.τ Cert.QkvSampleKernelIdeal.sig) → Buf (Elt Ideal) ℓ) : Prop :=
  True

def Pre_QkvSampleReferenceIdeal (m : (ℓ : Loc Cert.QkvSampleReferenceIdeal.nD Cert.QkvSampleReferenceIdeal.τ Cert.QkvSampleReferenceIdeal.sig) → Buf (Elt Ideal) ℓ) : Prop :=
  True

def Pre_ZxSampleKernel (m : (ℓ : Loc Cert.ZxSampleKernel.nD Cert.ZxSampleKernel.τ Cert.ZxSampleKernel.sig) → Buf (Elt Bits) ℓ) : Prop :=
  True

def Pre_ZxSampleKernelIdeal (m : (ℓ : Loc Cert.ZxSampleKernelIdeal.nD Cert.ZxSampleKernelIdeal.τ Cert.ZxSampleKernelIdeal.sig) → Buf (Elt Ideal) ℓ) : Prop :=
  True

def Pre_ZxSampleReferenceIdeal (m : (ℓ : Loc Cert.ZxSampleReferenceIdeal.nD Cert.ZxSampleReferenceIdeal.τ Cert.ZxSampleReferenceIdeal.sig) → Buf (Elt Ideal) ℓ) : Prop :=
  True

def Pre_RotaryKernel (m : (ℓ : Loc Cert.RotaryKernel.nD Cert.RotaryKernel.τ Cert.RotaryKernel.sig) → Buf (Elt Bits) ℓ) : Prop :=
  True

def Pre_RotaryKernelIdeal (m : (ℓ : Loc Cert.RotaryKernelIdeal.nD Cert.RotaryKernelIdeal.τ Cert.RotaryKernelIdeal.sig) → Buf (Elt Ideal) ℓ) : Prop :=
  True

def Pre_RotaryReferenceIdeal (m : (ℓ : Loc Cert.RotaryReferenceIdeal.nD Cert.RotaryReferenceIdeal.τ Cert.RotaryReferenceIdeal.sig) → Buf (Elt Ideal) ℓ) : Prop :=
  True

def Pre_RotarySampleKernel (m : (ℓ : Loc Cert.RotarySampleKernel.nD Cert.RotarySampleKernel.τ Cert.RotarySampleKernel.sig) → Buf (Elt Bits) ℓ) : Prop :=
  True

def Pre_RotarySampleKernelIdeal (m : (ℓ : Loc Cert.RotarySampleKernelIdeal.nD Cert.RotarySampleKernelIdeal.τ Cert.RotarySampleKernelIdeal.sig) → Buf (Elt Ideal) ℓ) : Prop :=
  True

def Pre_RotarySampleReferenceIdeal (m : (ℓ : Loc Cert.RotarySampleReferenceIdeal.nD Cert.RotarySampleReferenceIdeal.τ Cert.RotarySampleReferenceIdeal.sig) → Buf (Elt Ideal) ℓ) : Prop :=
  True

def Pre_SsdKernel (m : (ℓ : Loc Cert.SsdKernel.nD Cert.SsdKernel.τ Cert.SsdKernel.sig) → Buf (Elt Bits) ℓ) : Prop :=
  True

def Pre_SsdKernelIdeal (m : (ℓ : Loc Cert.SsdKernelIdeal.nD Cert.SsdKernelIdeal.τ Cert.SsdKernelIdeal.sig) → Buf (Elt Ideal) ℓ) : Prop :=
  True

def Pre_SsdReferenceIdeal (m : (ℓ : Loc Cert.SsdReferenceIdeal.nD Cert.SsdReferenceIdeal.τ Cert.SsdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_SsdOutKernel [hSsdOutKernel : Cert.SsdOutKernel.Facts] : Prop :=
  ∀ (m : (ℓ : Loc Cert.SsdOutKernel.nD Cert.SsdOutKernel.τ Cert.SsdOutKernel.sig) → Buf (Elt Bits) ℓ) (g : Dev Cert.SsdOutKernel.nD → PrngReg), Pre_SsdOutKernel m →
    θ_run (Cert.SsdOutKernel.defs (F := Bits)) (onTc (τ := Cert.SsdOutKernel.τ) (Cert.SsdOutKernel.main (F := Bits))) ⟨m, fun _ => 0, g⟩ (fun r => (∀ c : Dev Cert.SsdOutKernel.nD,
      r.2.mem ((c.tc : Thread Cert.SsdOutKernel.nD Cert.SsdOutKernel.τ).loc Cert.SsdOutKernel.main_arg0) = m ((c.tc : Thread Cert.SsdOutKernel.nD Cert.SsdOutKernel.τ).loc Cert.SsdOutKernel.main_arg0)
      ∧ r.2.mem ((c.tc : Thread Cert.SsdOutKernel.nD Cert.SsdOutKernel.τ).loc Cert.SsdOutKernel.main_arg1) = m ((c.tc : Thread Cert.SsdOutKernel.nD Cert.SsdOutKernel.τ).loc Cert.SsdOutKernel.main_arg1)
      ∧ r.2.mem ((c.tc : Thread Cert.SsdOutKernel.nD Cert.SsdOutKernel.τ).loc Cert.SsdOutKernel.main_arg2) = m ((c.tc : Thread Cert.SsdOutKernel.nD Cert.SsdOutKernel.τ).loc Cert.SsdOutKernel.main_arg2)
      ∧ r.2.mem ((c.tc : Thread Cert.SsdOutKernel.nD Cert.SsdOutKernel.τ).loc Cert.SsdOutKernel.main_arg3) = m ((c.tc : Thread Cert.SsdOutKernel.nD Cert.SsdOutKernel.τ).loc Cert.SsdOutKernel.main_arg3))
      ∧ r.2.sem = fun _ => 0)

def quiescent_SsdOutKernelIdeal [hSsdOutKernelIdeal : Cert.SsdOutKernelIdeal.Facts] : Prop :=
  ∀ (m : (ℓ : Loc Cert.SsdOutKernelIdeal.nD Cert.SsdOutKernelIdeal.τ Cert.SsdOutKernelIdeal.sig) → Buf (Elt Ideal) ℓ) (g : Dev Cert.SsdOutKernelIdeal.nD → PrngReg), Pre_SsdOutKernelIdeal m →
    θ_run (Cert.SsdOutKernelIdeal.defs (F := Ideal)) (onTc (τ := Cert.SsdOutKernelIdeal.τ) (Cert.SsdOutKernelIdeal.main (F := Ideal))) ⟨m, fun _ => 0, g⟩ (fun r => (∀ c : Dev Cert.SsdOutKernelIdeal.nD,
      r.2.mem ((c.tc : Thread Cert.SsdOutKernelIdeal.nD Cert.SsdOutKernelIdeal.τ).loc Cert.SsdOutKernelIdeal.main_arg0) = m ((c.tc : Thread Cert.SsdOutKernelIdeal.nD Cert.SsdOutKernelIdeal.τ).loc Cert.SsdOutKernelIdeal.main_arg0)
      ∧ r.2.mem ((c.tc : Thread Cert.SsdOutKernelIdeal.nD Cert.SsdOutKernelIdeal.τ).loc Cert.SsdOutKernelIdeal.main_arg1) = m ((c.tc : Thread Cert.SsdOutKernelIdeal.nD Cert.SsdOutKernelIdeal.τ).loc Cert.SsdOutKernelIdeal.main_arg1)
      ∧ r.2.mem ((c.tc : Thread Cert.SsdOutKernelIdeal.nD Cert.SsdOutKernelIdeal.τ).loc Cert.SsdOutKernelIdeal.main_arg2) = m ((c.tc : Thread Cert.SsdOutKernelIdeal.nD Cert.SsdOutKernelIdeal.τ).loc Cert.SsdOutKernelIdeal.main_arg2)
      ∧ r.2.mem ((c.tc : Thread Cert.SsdOutKernelIdeal.nD Cert.SsdOutKernelIdeal.τ).loc Cert.SsdOutKernelIdeal.main_arg3) = m ((c.tc : Thread Cert.SsdOutKernelIdeal.nD Cert.SsdOutKernelIdeal.τ).loc Cert.SsdOutKernelIdeal.main_arg3))
      ∧ r.2.sem = fun _ => 0)

def quiescent_SsdOutReferenceIdeal [hSsdOutReferenceIdeal : Cert.SsdOutReferenceIdeal.Facts] : Prop :=
  ∀ (m : (ℓ : Loc Cert.SsdOutReferenceIdeal.nD Cert.SsdOutReferenceIdeal.τ Cert.SsdOutReferenceIdeal.sig) → Buf (Elt Ideal) ℓ) (g : Dev Cert.SsdOutReferenceIdeal.nD → PrngReg), Pre_SsdOutReferenceIdeal m →
    θ_run (Cert.SsdOutReferenceIdeal.defs (F := Ideal)) (onTc (τ := Cert.SsdOutReferenceIdeal.τ) (Cert.SsdOutReferenceIdeal.main (F := Ideal))) ⟨m, fun _ => 0, g⟩ (fun r => (∀ c : Dev Cert.SsdOutReferenceIdeal.nD,
      r.2.mem ((c.tc : Thread Cert.SsdOutReferenceIdeal.nD Cert.SsdOutReferenceIdeal.τ).loc Cert.SsdOutReferenceIdeal.main_arg0) = m ((c.tc : Thread Cert.SsdOutReferenceIdeal.nD Cert.SsdOutReferenceIdeal.τ).loc Cert.SsdOutReferenceIdeal.main_arg0)
      ∧ r.2.mem ((c.tc : Thread Cert.SsdOutReferenceIdeal.nD Cert.SsdOutReferenceIdeal.τ).loc Cert.SsdOutReferenceIdeal.main_arg1) = m ((c.tc : Thread Cert.SsdOutReferenceIdeal.nD Cert.SsdOutReferenceIdeal.τ).loc Cert.SsdOutReferenceIdeal.main_arg1)
      ∧ r.2.mem ((c.tc : Thread Cert.SsdOutReferenceIdeal.nD Cert.SsdOutReferenceIdeal.τ).loc Cert.SsdOutReferenceIdeal.main_arg2) = m ((c.tc : Thread Cert.SsdOutReferenceIdeal.nD Cert.SsdOutReferenceIdeal.τ).loc Cert.SsdOutReferenceIdeal.main_arg2)
      ∧ r.2.mem ((c.tc : Thread Cert.SsdOutReferenceIdeal.nD Cert.SsdOutReferenceIdeal.τ).loc Cert.SsdOutReferenceIdeal.main_arg3) = m ((c.tc : Thread Cert.SsdOutReferenceIdeal.nD Cert.SsdOutReferenceIdeal.τ).loc Cert.SsdOutReferenceIdeal.main_arg3))
      ∧ r.2.sem = fun _ => 0)

def quiescent_RwOutKernel [hRwOutKernel : Cert.RwOutKernel.Facts] : Prop :=
  ∀ (m : (ℓ : Loc Cert.RwOutKernel.nD Cert.RwOutKernel.τ Cert.RwOutKernel.sig) → Buf (Elt Bits) ℓ) (g : Dev Cert.RwOutKernel.nD → PrngReg), Pre_RwOutKernel m →
    θ_run (Cert.RwOutKernel.defs (F := Bits)) (onTc (τ := Cert.RwOutKernel.τ) (Cert.RwOutKernel.main (F := Bits))) ⟨m, fun _ => 0, g⟩ (fun r => (∀ c : Dev Cert.RwOutKernel.nD,
      r.2.mem ((c.tc : Thread Cert.RwOutKernel.nD Cert.RwOutKernel.τ).loc Cert.RwOutKernel.main_arg0) = m ((c.tc : Thread Cert.RwOutKernel.nD Cert.RwOutKernel.τ).loc Cert.RwOutKernel.main_arg0)
      ∧ r.2.mem ((c.tc : Thread Cert.RwOutKernel.nD Cert.RwOutKernel.τ).loc Cert.RwOutKernel.main_arg1) = m ((c.tc : Thread Cert.RwOutKernel.nD Cert.RwOutKernel.τ).loc Cert.RwOutKernel.main_arg1)
      ∧ r.2.mem ((c.tc : Thread Cert.RwOutKernel.nD Cert.RwOutKernel.τ).loc Cert.RwOutKernel.main_arg2) = m ((c.tc : Thread Cert.RwOutKernel.nD Cert.RwOutKernel.τ).loc Cert.RwOutKernel.main_arg2)
      ∧ r.2.mem ((c.tc : Thread Cert.RwOutKernel.nD Cert.RwOutKernel.τ).loc Cert.RwOutKernel.main_arg3) = m ((c.tc : Thread Cert.RwOutKernel.nD Cert.RwOutKernel.τ).loc Cert.RwOutKernel.main_arg3)
      ∧ r.2.mem ((c.tc : Thread Cert.RwOutKernel.nD Cert.RwOutKernel.τ).loc Cert.RwOutKernel.main_arg4) = m ((c.tc : Thread Cert.RwOutKernel.nD Cert.RwOutKernel.τ).loc Cert.RwOutKernel.main_arg4))
      ∧ r.2.sem = fun _ => 0)

def quiescent_RwOutKernelIdeal [hRwOutKernelIdeal : Cert.RwOutKernelIdeal.Facts] : Prop :=
  ∀ (m : (ℓ : Loc Cert.RwOutKernelIdeal.nD Cert.RwOutKernelIdeal.τ Cert.RwOutKernelIdeal.sig) → Buf (Elt Ideal) ℓ) (g : Dev Cert.RwOutKernelIdeal.nD → PrngReg), Pre_RwOutKernelIdeal m →
    θ_run (Cert.RwOutKernelIdeal.defs (F := Ideal)) (onTc (τ := Cert.RwOutKernelIdeal.τ) (Cert.RwOutKernelIdeal.main (F := Ideal))) ⟨m, fun _ => 0, g⟩ (fun r => (∀ c : Dev Cert.RwOutKernelIdeal.nD,
      r.2.mem ((c.tc : Thread Cert.RwOutKernelIdeal.nD Cert.RwOutKernelIdeal.τ).loc Cert.RwOutKernelIdeal.main_arg0) = m ((c.tc : Thread Cert.RwOutKernelIdeal.nD Cert.RwOutKernelIdeal.τ).loc Cert.RwOutKernelIdeal.main_arg0)
      ∧ r.2.mem ((c.tc : Thread Cert.RwOutKernelIdeal.nD Cert.RwOutKernelIdeal.τ).loc Cert.RwOutKernelIdeal.main_arg1) = m ((c.tc : Thread Cert.RwOutKernelIdeal.nD Cert.RwOutKernelIdeal.τ).loc Cert.RwOutKernelIdeal.main_arg1)
      ∧ r.2.mem ((c.tc : Thread Cert.RwOutKernelIdeal.nD Cert.RwOutKernelIdeal.τ).loc Cert.RwOutKernelIdeal.main_arg2) = m ((c.tc : Thread Cert.RwOutKernelIdeal.nD Cert.RwOutKernelIdeal.τ).loc Cert.RwOutKernelIdeal.main_arg2)
      ∧ r.2.mem ((c.tc : Thread Cert.RwOutKernelIdeal.nD Cert.RwOutKernelIdeal.τ).loc Cert.RwOutKernelIdeal.main_arg3) = m ((c.tc : Thread Cert.RwOutKernelIdeal.nD Cert.RwOutKernelIdeal.τ).loc Cert.RwOutKernelIdeal.main_arg3)
      ∧ r.2.mem ((c.tc : Thread Cert.RwOutKernelIdeal.nD Cert.RwOutKernelIdeal.τ).loc Cert.RwOutKernelIdeal.main_arg4) = m ((c.tc : Thread Cert.RwOutKernelIdeal.nD Cert.RwOutKernelIdeal.τ).loc Cert.RwOutKernelIdeal.main_arg4))
      ∧ r.2.sem = fun _ => 0)

def quiescent_RwOutReferenceIdeal [hRwOutReferenceIdeal : Cert.RwOutReferenceIdeal.Facts] : Prop :=
  ∀ (m : (ℓ : Loc Cert.RwOutReferenceIdeal.nD Cert.RwOutReferenceIdeal.τ Cert.RwOutReferenceIdeal.sig) → Buf (Elt Ideal) ℓ) (g : Dev Cert.RwOutReferenceIdeal.nD → PrngReg), Pre_RwOutReferenceIdeal m →
    θ_run (Cert.RwOutReferenceIdeal.defs (F := Ideal)) (onTc (τ := Cert.RwOutReferenceIdeal.τ) (Cert.RwOutReferenceIdeal.main (F := Ideal))) ⟨m, fun _ => 0, g⟩ (fun r => (∀ c : Dev Cert.RwOutReferenceIdeal.nD,
      r.2.mem ((c.tc : Thread Cert.RwOutReferenceIdeal.nD Cert.RwOutReferenceIdeal.τ).loc Cert.RwOutReferenceIdeal.main_arg0) = m ((c.tc : Thread Cert.RwOutReferenceIdeal.nD Cert.RwOutReferenceIdeal.τ).loc Cert.RwOutReferenceIdeal.main_arg0)
      ∧ r.2.mem ((c.tc : Thread Cert.RwOutReferenceIdeal.nD Cert.RwOutReferenceIdeal.τ).loc Cert.RwOutReferenceIdeal.main_arg1) = m ((c.tc : Thread Cert.RwOutReferenceIdeal.nD Cert.RwOutReferenceIdeal.τ).loc Cert.RwOutReferenceIdeal.main_arg1)
      ∧ r.2.mem ((c.tc : Thread Cert.RwOutReferenceIdeal.nD Cert.RwOutReferenceIdeal.τ).loc Cert.RwOutReferenceIdeal.main_arg2) = m ((c.tc : Thread Cert.RwOutReferenceIdeal.nD Cert.RwOutReferenceIdeal.τ).loc Cert.RwOutReferenceIdeal.main_arg2)
      ∧ r.2.mem ((c.tc : Thread Cert.RwOutReferenceIdeal.nD Cert.RwOutReferenceIdeal.τ).loc Cert.RwOutReferenceIdeal.main_arg3) = m ((c.tc : Thread Cert.RwOutReferenceIdeal.nD Cert.RwOutReferenceIdeal.τ).loc Cert.RwOutReferenceIdeal.main_arg3)
      ∧ r.2.mem ((c.tc : Thread Cert.RwOutReferenceIdeal.nD Cert.RwOutReferenceIdeal.τ).loc Cert.RwOutReferenceIdeal.main_arg4) = m ((c.tc : Thread Cert.RwOutReferenceIdeal.nD Cert.RwOutReferenceIdeal.τ).loc Cert.RwOutReferenceIdeal.main_arg4))
      ∧ r.2.sem = fun _ => 0)

def quiescent_ZxKernel [hZxKernel : Cert.ZxKernel.Facts] : Prop :=
  ∀ (m : (ℓ : Loc Cert.ZxKernel.nD Cert.ZxKernel.τ Cert.ZxKernel.sig) → Buf (Elt Bits) ℓ) (g : Dev Cert.ZxKernel.nD → PrngReg), Pre_ZxKernel m →
    θ_run (Cert.ZxKernel.defs (F := Bits)) (onTc (τ := Cert.ZxKernel.τ) (Cert.ZxKernel.main (F := Bits))) ⟨m, fun _ => 0, g⟩ (fun r => (∀ c : Dev Cert.ZxKernel.nD,
      r.2.mem ((c.tc : Thread Cert.ZxKernel.nD Cert.ZxKernel.τ).loc Cert.ZxKernel.main_arg0) = m ((c.tc : Thread Cert.ZxKernel.nD Cert.ZxKernel.τ).loc Cert.ZxKernel.main_arg0)
      ∧ r.2.mem ((c.tc : Thread Cert.ZxKernel.nD Cert.ZxKernel.τ).loc Cert.ZxKernel.main_arg1) = m ((c.tc : Thread Cert.ZxKernel.nD Cert.ZxKernel.τ).loc Cert.ZxKernel.main_arg1))
      ∧ r.2.sem = fun _ => 0)

def quiescent_ZxKernelIdeal [hZxKernelIdeal : Cert.ZxKernelIdeal.Facts] : Prop :=
  ∀ (m : (ℓ : Loc Cert.ZxKernelIdeal.nD Cert.ZxKernelIdeal.τ Cert.ZxKernelIdeal.sig) → Buf (Elt Ideal) ℓ) (g : Dev Cert.ZxKernelIdeal.nD → PrngReg), Pre_ZxKernelIdeal m →
    θ_run (Cert.ZxKernelIdeal.defs (F := Ideal)) (onTc (τ := Cert.ZxKernelIdeal.τ) (Cert.ZxKernelIdeal.main (F := Ideal))) ⟨m, fun _ => 0, g⟩ (fun r => (∀ c : Dev Cert.ZxKernelIdeal.nD,
      r.2.mem ((c.tc : Thread Cert.ZxKernelIdeal.nD Cert.ZxKernelIdeal.τ).loc Cert.ZxKernelIdeal.main_arg0) = m ((c.tc : Thread Cert.ZxKernelIdeal.nD Cert.ZxKernelIdeal.τ).loc Cert.ZxKernelIdeal.main_arg0)
      ∧ r.2.mem ((c.tc : Thread Cert.ZxKernelIdeal.nD Cert.ZxKernelIdeal.τ).loc Cert.ZxKernelIdeal.main_arg1) = m ((c.tc : Thread Cert.ZxKernelIdeal.nD Cert.ZxKernelIdeal.τ).loc Cert.ZxKernelIdeal.main_arg1))
      ∧ r.2.sem = fun _ => 0)

def quiescent_ZxReferenceIdeal [hZxReferenceIdeal : Cert.ZxReferenceIdeal.Facts] : Prop :=
  ∀ (m : (ℓ : Loc Cert.ZxReferenceIdeal.nD Cert.ZxReferenceIdeal.τ Cert.ZxReferenceIdeal.sig) → Buf (Elt Ideal) ℓ) (g : Dev Cert.ZxReferenceIdeal.nD → PrngReg), Pre_ZxReferenceIdeal m →
    θ_run (Cert.ZxReferenceIdeal.defs (F := Ideal)) (onTc (τ := Cert.ZxReferenceIdeal.τ) (Cert.ZxReferenceIdeal.main (F := Ideal))) ⟨m, fun _ => 0, g⟩ (fun r => (∀ c : Dev Cert.ZxReferenceIdeal.nD,
      r.2.mem ((c.tc : Thread Cert.ZxReferenceIdeal.nD Cert.ZxReferenceIdeal.τ).loc Cert.ZxReferenceIdeal.main_arg0) = m ((c.tc : Thread Cert.ZxReferenceIdeal.nD Cert.ZxReferenceIdeal.τ).loc Cert.ZxReferenceIdeal.main_arg0)
      ∧ r.2.mem ((c.tc : Thread Cert.ZxReferenceIdeal.nD Cert.ZxReferenceIdeal.τ).loc Cert.ZxReferenceIdeal.main_arg1) = m ((c.tc : Thread Cert.ZxReferenceIdeal.nD Cert.ZxReferenceIdeal.τ).loc Cert.ZxReferenceIdeal.main_arg1))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_FfnSampleKernel [hFfnSampleKernel : Cert.FfnSampleKernel.Facts] : Prop :=
  ∀ (m : (ℓ : Loc Cert.FfnSampleKernel.nD Cert.FfnSampleKernel.τ Cert.FfnSampleKernel.sig) → Buf (Elt Bits) ℓ) (g : Dev Cert.FfnSampleKernel.nD → PrngReg), Pre_FfnSampleKernel m →
    θ_run (Cert.FfnSampleKernel.defs (F := Bits)) (onTc (τ := Cert.FfnSampleKernel.τ) (Cert.FfnSampleKernel.main (F := Bits))) ⟨m, fun _ => 0, g⟩ (fun r => (∀ c : Dev Cert.FfnSampleKernel.nD,
      r.2.mem ((c.tc : Thread Cert.FfnSampleKernel.nD Cert.FfnSampleKernel.τ).loc Cert.FfnSampleKernel.main_arg0) = m ((c.tc : Thread Cert.FfnSampleKernel.nD Cert.FfnSampleKernel.τ).loc Cert.FfnSampleKernel.main_arg0)
      ∧ r.2.mem ((c.tc : Thread Cert.FfnSampleKernel.nD Cert.FfnSampleKernel.τ).loc Cert.FfnSampleKernel.main_arg1) = m ((c.tc : Thread Cert.FfnSampleKernel.nD Cert.FfnSampleKernel.τ).loc Cert.FfnSampleKernel.main_arg1)
      ∧ r.2.mem ((c.tc : Thread Cert.FfnSampleKernel.nD Cert.FfnSampleKernel.τ).loc Cert.FfnSampleKernel.main_arg2) = m ((c.tc : Thread Cert.FfnSampleKernel.nD Cert.FfnSampleKernel.τ).loc Cert.FfnSampleKernel.main_arg2)
      ∧ r.2.mem ((c.tc : Thread Cert.FfnSampleKernel.nD Cert.FfnSampleKernel.τ).loc Cert.FfnSampleKernel.main_arg3) = m ((c.tc : Thread Cert.FfnSampleKernel.nD Cert.FfnSampleKernel.τ).loc Cert.FfnSampleKernel.main_arg3)
      ∧ r.2.mem ((c.tc : Thread Cert.FfnSampleKernel.nD Cert.FfnSampleKernel.τ).loc Cert.FfnSampleKernel.main_arg4) = m ((c.tc : Thread Cert.FfnSampleKernel.nD Cert.FfnSampleKernel.τ).loc Cert.FfnSampleKernel.main_arg4)
      ∧ r.2.mem ((c.tc : Thread Cert.FfnSampleKernel.nD Cert.FfnSampleKernel.τ).loc Cert.FfnSampleKernel.main_arg5) = m ((c.tc : Thread Cert.FfnSampleKernel.nD Cert.FfnSampleKernel.τ).loc Cert.FfnSampleKernel.main_arg5)
      ∧ r.2.mem ((c.tc : Thread Cert.FfnSampleKernel.nD Cert.FfnSampleKernel.τ).loc Cert.FfnSampleKernel.main_arg6) = m ((c.tc : Thread Cert.FfnSampleKernel.nD Cert.FfnSampleKernel.τ).loc Cert.FfnSampleKernel.main_arg6))
      ∧ r.2.sem = fun _ => 0)

def quiescent_FfnSampleKernelIdeal [hFfnSampleKernelIdeal : Cert.FfnSampleKernelIdeal.Facts] : Prop :=
  ∀ (m : (ℓ : Loc Cert.FfnSampleKernelIdeal.nD Cert.FfnSampleKernelIdeal.τ Cert.FfnSampleKernelIdeal.sig) → Buf (Elt Ideal) ℓ) (g : Dev Cert.FfnSampleKernelIdeal.nD → PrngReg), Pre_FfnSampleKernelIdeal m →
    θ_run (Cert.FfnSampleKernelIdeal.defs (F := Ideal)) (onTc (τ := Cert.FfnSampleKernelIdeal.τ) (Cert.FfnSampleKernelIdeal.main (F := Ideal))) ⟨m, fun _ => 0, g⟩ (fun r => (∀ c : Dev Cert.FfnSampleKernelIdeal.nD,
      r.2.mem ((c.tc : Thread Cert.FfnSampleKernelIdeal.nD Cert.FfnSampleKernelIdeal.τ).loc Cert.FfnSampleKernelIdeal.main_arg0) = m ((c.tc : Thread Cert.FfnSampleKernelIdeal.nD Cert.FfnSampleKernelIdeal.τ).loc Cert.FfnSampleKernelIdeal.main_arg0)
      ∧ r.2.mem ((c.tc : Thread Cert.FfnSampleKernelIdeal.nD Cert.FfnSampleKernelIdeal.τ).loc Cert.FfnSampleKernelIdeal.main_arg1) = m ((c.tc : Thread Cert.FfnSampleKernelIdeal.nD Cert.FfnSampleKernelIdeal.τ).loc Cert.FfnSampleKernelIdeal.main_arg1)
      ∧ r.2.mem ((c.tc : Thread Cert.FfnSampleKernelIdeal.nD Cert.FfnSampleKernelIdeal.τ).loc Cert.FfnSampleKernelIdeal.main_arg2) = m ((c.tc : Thread Cert.FfnSampleKernelIdeal.nD Cert.FfnSampleKernelIdeal.τ).loc Cert.FfnSampleKernelIdeal.main_arg2)
      ∧ r.2.mem ((c.tc : Thread Cert.FfnSampleKernelIdeal.nD Cert.FfnSampleKernelIdeal.τ).loc Cert.FfnSampleKernelIdeal.main_arg3) = m ((c.tc : Thread Cert.FfnSampleKernelIdeal.nD Cert.FfnSampleKernelIdeal.τ).loc Cert.FfnSampleKernelIdeal.main_arg3)
      ∧ r.2.mem ((c.tc : Thread Cert.FfnSampleKernelIdeal.nD Cert.FfnSampleKernelIdeal.τ).loc Cert.FfnSampleKernelIdeal.main_arg4) = m ((c.tc : Thread Cert.FfnSampleKernelIdeal.nD Cert.FfnSampleKernelIdeal.τ).loc Cert.FfnSampleKernelIdeal.main_arg4)
      ∧ r.2.mem ((c.tc : Thread Cert.FfnSampleKernelIdeal.nD Cert.FfnSampleKernelIdeal.τ).loc Cert.FfnSampleKernelIdeal.main_arg5) = m ((c.tc : Thread Cert.FfnSampleKernelIdeal.nD Cert.FfnSampleKernelIdeal.τ).loc Cert.FfnSampleKernelIdeal.main_arg5)
      ∧ r.2.mem ((c.tc : Thread Cert.FfnSampleKernelIdeal.nD Cert.FfnSampleKernelIdeal.τ).loc Cert.FfnSampleKernelIdeal.main_arg6) = m ((c.tc : Thread Cert.FfnSampleKernelIdeal.nD Cert.FfnSampleKernelIdeal.τ).loc Cert.FfnSampleKernelIdeal.main_arg6))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6))
      ∧ r.2.sem = fun _ => 0)

def quiescent_QkvSampleKernel [hQkvSampleKernel : Cert.QkvSampleKernel.Facts] : Prop :=
  ∀ (m : (ℓ : Loc Cert.QkvSampleKernel.nD Cert.QkvSampleKernel.τ Cert.QkvSampleKernel.sig) → Buf (Elt Bits) ℓ) (g : Dev Cert.QkvSampleKernel.nD → PrngReg), Pre_QkvSampleKernel m →
    θ_run (Cert.QkvSampleKernel.defs (F := Bits)) (onTc (τ := Cert.QkvSampleKernel.τ) (Cert.QkvSampleKernel.main (F := Bits))) ⟨m, fun _ => 0, g⟩ (fun r => (∀ c : Dev Cert.QkvSampleKernel.nD,
      r.2.mem ((c.tc : Thread Cert.QkvSampleKernel.nD Cert.QkvSampleKernel.τ).loc Cert.QkvSampleKernel.main_arg0) = m ((c.tc : Thread Cert.QkvSampleKernel.nD Cert.QkvSampleKernel.τ).loc Cert.QkvSampleKernel.main_arg0)
      ∧ r.2.mem ((c.tc : Thread Cert.QkvSampleKernel.nD Cert.QkvSampleKernel.τ).loc Cert.QkvSampleKernel.main_arg1) = m ((c.tc : Thread Cert.QkvSampleKernel.nD Cert.QkvSampleKernel.τ).loc Cert.QkvSampleKernel.main_arg1))
      ∧ r.2.sem = fun _ => 0)

def quiescent_QkvSampleKernelIdeal [hQkvSampleKernelIdeal : Cert.QkvSampleKernelIdeal.Facts] : Prop :=
  ∀ (m : (ℓ : Loc Cert.QkvSampleKernelIdeal.nD Cert.QkvSampleKernelIdeal.τ Cert.QkvSampleKernelIdeal.sig) → Buf (Elt Ideal) ℓ) (g : Dev Cert.QkvSampleKernelIdeal.nD → PrngReg), Pre_QkvSampleKernelIdeal m →
    θ_run (Cert.QkvSampleKernelIdeal.defs (F := Ideal)) (onTc (τ := Cert.QkvSampleKernelIdeal.τ) (Cert.QkvSampleKernelIdeal.main (F := Ideal))) ⟨m, fun _ => 0, g⟩ (fun r => (∀ c : Dev Cert.QkvSampleKernelIdeal.nD,
      r.2.mem ((c.tc : Thread Cert.QkvSampleKernelIdeal.nD Cert.QkvSampleKernelIdeal.τ).loc Cert.QkvSampleKernelIdeal.main_arg0) = m ((c.tc : Thread Cert.QkvSampleKernelIdeal.nD Cert.QkvSampleKernelIdeal.τ).loc Cert.QkvSampleKernelIdeal.main_arg0)
      ∧ r.2.mem ((c.tc : Thread Cert.QkvSampleKernelIdeal.nD Cert.QkvSampleKernelIdeal.τ).loc Cert.QkvSampleKernelIdeal.main_arg1) = m ((c.tc : Thread Cert.QkvSampleKernelIdeal.nD Cert.QkvSampleKernelIdeal.τ).loc Cert.QkvSampleKernelIdeal.main_arg1))
      ∧ r.2.sem = fun _ => 0)

def quiescent_QkvSampleReferenceIdeal [hQkvSampleReferenceIdeal : Cert.QkvSampleReferenceIdeal.Facts] : Prop :=
  ∀ (m : (ℓ : Loc Cert.QkvSampleReferenceIdeal.nD Cert.QkvSampleReferenceIdeal.τ Cert.QkvSampleReferenceIdeal.sig) → Buf (Elt Ideal) ℓ) (g : Dev Cert.QkvSampleReferenceIdeal.nD → PrngReg), Pre_QkvSampleReferenceIdeal m →
    θ_run (Cert.QkvSampleReferenceIdeal.defs (F := Ideal)) (onTc (τ := Cert.QkvSampleReferenceIdeal.τ) (Cert.QkvSampleReferenceIdeal.main (F := Ideal))) ⟨m, fun _ => 0, g⟩ (fun r => (∀ c : Dev Cert.QkvSampleReferenceIdeal.nD,
      r.2.mem ((c.tc : Thread Cert.QkvSampleReferenceIdeal.nD Cert.QkvSampleReferenceIdeal.τ).loc Cert.QkvSampleReferenceIdeal.main_arg0) = m ((c.tc : Thread Cert.QkvSampleReferenceIdeal.nD Cert.QkvSampleReferenceIdeal.τ).loc Cert.QkvSampleReferenceIdeal.main_arg0)
      ∧ r.2.mem ((c.tc : Thread Cert.QkvSampleReferenceIdeal.nD Cert.QkvSampleReferenceIdeal.τ).loc Cert.QkvSampleReferenceIdeal.main_arg1) = m ((c.tc : Thread Cert.QkvSampleReferenceIdeal.nD Cert.QkvSampleReferenceIdeal.τ).loc Cert.QkvSampleReferenceIdeal.main_arg1))
      ∧ r.2.sem = fun _ => 0)

def quiescent_ZxSampleKernel [hZxSampleKernel : Cert.ZxSampleKernel.Facts] : Prop :=
  ∀ (m : (ℓ : Loc Cert.ZxSampleKernel.nD Cert.ZxSampleKernel.τ Cert.ZxSampleKernel.sig) → Buf (Elt Bits) ℓ) (g : Dev Cert.ZxSampleKernel.nD → PrngReg), Pre_ZxSampleKernel m →
    θ_run (Cert.ZxSampleKernel.defs (F := Bits)) (onTc (τ := Cert.ZxSampleKernel.τ) (Cert.ZxSampleKernel.main (F := Bits))) ⟨m, fun _ => 0, g⟩ (fun r => (∀ c : Dev Cert.ZxSampleKernel.nD,
      r.2.mem ((c.tc : Thread Cert.ZxSampleKernel.nD Cert.ZxSampleKernel.τ).loc Cert.ZxSampleKernel.main_arg0) = m ((c.tc : Thread Cert.ZxSampleKernel.nD Cert.ZxSampleKernel.τ).loc Cert.ZxSampleKernel.main_arg0)
      ∧ r.2.mem ((c.tc : Thread Cert.ZxSampleKernel.nD Cert.ZxSampleKernel.τ).loc Cert.ZxSampleKernel.main_arg1) = m ((c.tc : Thread Cert.ZxSampleKernel.nD Cert.ZxSampleKernel.τ).loc Cert.ZxSampleKernel.main_arg1))
      ∧ r.2.sem = fun _ => 0)

def quiescent_ZxSampleKernelIdeal [hZxSampleKernelIdeal : Cert.ZxSampleKernelIdeal.Facts] : Prop :=
  ∀ (m : (ℓ : Loc Cert.ZxSampleKernelIdeal.nD Cert.ZxSampleKernelIdeal.τ Cert.ZxSampleKernelIdeal.sig) → Buf (Elt Ideal) ℓ) (g : Dev Cert.ZxSampleKernelIdeal.nD → PrngReg), Pre_ZxSampleKernelIdeal m →
    θ_run (Cert.ZxSampleKernelIdeal.defs (F := Ideal)) (onTc (τ := Cert.ZxSampleKernelIdeal.τ) (Cert.ZxSampleKernelIdeal.main (F := Ideal))) ⟨m, fun _ => 0, g⟩ (fun r => (∀ c : Dev Cert.ZxSampleKernelIdeal.nD,
      r.2.mem ((c.tc : Thread Cert.ZxSampleKernelIdeal.nD Cert.ZxSampleKernelIdeal.τ).loc Cert.ZxSampleKernelIdeal.main_arg0) = m ((c.tc : Thread Cert.ZxSampleKernelIdeal.nD Cert.ZxSampleKernelIdeal.τ).loc Cert.ZxSampleKernelIdeal.main_arg0)
      ∧ r.2.mem ((c.tc : Thread Cert.ZxSampleKernelIdeal.nD Cert.ZxSampleKernelIdeal.τ).loc Cert.ZxSampleKernelIdeal.main_arg1) = m ((c.tc : Thread Cert.ZxSampleKernelIdeal.nD Cert.ZxSampleKernelIdeal.τ).loc Cert.ZxSampleKernelIdeal.main_arg1))
      ∧ r.2.sem = fun _ => 0)

def quiescent_ZxSampleReferenceIdeal [hZxSampleReferenceIdeal : Cert.ZxSampleReferenceIdeal.Facts] : Prop :=
  ∀ (m : (ℓ : Loc Cert.ZxSampleReferenceIdeal.nD Cert.ZxSampleReferenceIdeal.τ Cert.ZxSampleReferenceIdeal.sig) → Buf (Elt Ideal) ℓ) (g : Dev Cert.ZxSampleReferenceIdeal.nD → PrngReg), Pre_ZxSampleReferenceIdeal m →
    θ_run (Cert.ZxSampleReferenceIdeal.defs (F := Ideal)) (onTc (τ := Cert.ZxSampleReferenceIdeal.τ) (Cert.ZxSampleReferenceIdeal.main (F := Ideal))) ⟨m, fun _ => 0, g⟩ (fun r => (∀ c : Dev Cert.ZxSampleReferenceIdeal.nD,
      r.2.mem ((c.tc : Thread Cert.ZxSampleReferenceIdeal.nD Cert.ZxSampleReferenceIdeal.τ).loc Cert.ZxSampleReferenceIdeal.main_arg0) = m ((c.tc : Thread Cert.ZxSampleReferenceIdeal.nD Cert.ZxSampleReferenceIdeal.τ).loc Cert.ZxSampleReferenceIdeal.main_arg0)
      ∧ r.2.mem ((c.tc : Thread Cert.ZxSampleReferenceIdeal.nD Cert.ZxSampleReferenceIdeal.τ).loc Cert.ZxSampleReferenceIdeal.main_arg1) = m ((c.tc : Thread Cert.ZxSampleReferenceIdeal.nD Cert.ZxSampleReferenceIdeal.τ).loc Cert.ZxSampleReferenceIdeal.main_arg1))
      ∧ r.2.sem = fun _ => 0)

def quiescent_RotaryKernel [hRotaryKernel : Cert.RotaryKernel.Facts] : Prop :=
  ∀ (m : (ℓ : Loc Cert.RotaryKernel.nD Cert.RotaryKernel.τ Cert.RotaryKernel.sig) → Buf (Elt Bits) ℓ) (g : Dev Cert.RotaryKernel.nD → PrngReg), Pre_RotaryKernel m →
    θ_run (Cert.RotaryKernel.defs (F := Bits)) (onTc (τ := Cert.RotaryKernel.τ) (Cert.RotaryKernel.main (F := Bits))) ⟨m, fun _ => 0, g⟩ (fun r => (∀ c : Dev Cert.RotaryKernel.nD,
      r.2.mem ((c.tc : Thread Cert.RotaryKernel.nD Cert.RotaryKernel.τ).loc Cert.RotaryKernel.main_arg0) = m ((c.tc : Thread Cert.RotaryKernel.nD Cert.RotaryKernel.τ).loc Cert.RotaryKernel.main_arg0)
      ∧ r.2.mem ((c.tc : Thread Cert.RotaryKernel.nD Cert.RotaryKernel.τ).loc Cert.RotaryKernel.main_arg1) = m ((c.tc : Thread Cert.RotaryKernel.nD Cert.RotaryKernel.τ).loc Cert.RotaryKernel.main_arg1)
      ∧ r.2.mem ((c.tc : Thread Cert.RotaryKernel.nD Cert.RotaryKernel.τ).loc Cert.RotaryKernel.main_arg2) = m ((c.tc : Thread Cert.RotaryKernel.nD Cert.RotaryKernel.τ).loc Cert.RotaryKernel.main_arg2)
      ∧ r.2.mem ((c.tc : Thread Cert.RotaryKernel.nD Cert.RotaryKernel.τ).loc Cert.RotaryKernel.main_arg3) = m ((c.tc : Thread Cert.RotaryKernel.nD Cert.RotaryKernel.τ).loc Cert.RotaryKernel.main_arg3))
      ∧ r.2.sem = fun _ => 0)

def quiescent_RotaryKernelIdeal [hRotaryKernelIdeal : Cert.RotaryKernelIdeal.Facts] : Prop :=
  ∀ (m : (ℓ : Loc Cert.RotaryKernelIdeal.nD Cert.RotaryKernelIdeal.τ Cert.RotaryKernelIdeal.sig) → Buf (Elt Ideal) ℓ) (g : Dev Cert.RotaryKernelIdeal.nD → PrngReg), Pre_RotaryKernelIdeal m →
    θ_run (Cert.RotaryKernelIdeal.defs (F := Ideal)) (onTc (τ := Cert.RotaryKernelIdeal.τ) (Cert.RotaryKernelIdeal.main (F := Ideal))) ⟨m, fun _ => 0, g⟩ (fun r => (∀ c : Dev Cert.RotaryKernelIdeal.nD,
      r.2.mem ((c.tc : Thread Cert.RotaryKernelIdeal.nD Cert.RotaryKernelIdeal.τ).loc Cert.RotaryKernelIdeal.main_arg0) = m ((c.tc : Thread Cert.RotaryKernelIdeal.nD Cert.RotaryKernelIdeal.τ).loc Cert.RotaryKernelIdeal.main_arg0)
      ∧ r.2.mem ((c.tc : Thread Cert.RotaryKernelIdeal.nD Cert.RotaryKernelIdeal.τ).loc Cert.RotaryKernelIdeal.main_arg1) = m ((c.tc : Thread Cert.RotaryKernelIdeal.nD Cert.RotaryKernelIdeal.τ).loc Cert.RotaryKernelIdeal.main_arg1)
      ∧ r.2.mem ((c.tc : Thread Cert.RotaryKernelIdeal.nD Cert.RotaryKernelIdeal.τ).loc Cert.RotaryKernelIdeal.main_arg2) = m ((c.tc : Thread Cert.RotaryKernelIdeal.nD Cert.RotaryKernelIdeal.τ).loc Cert.RotaryKernelIdeal.main_arg2)
      ∧ r.2.mem ((c.tc : Thread Cert.RotaryKernelIdeal.nD Cert.RotaryKernelIdeal.τ).loc Cert.RotaryKernelIdeal.main_arg3) = m ((c.tc : Thread Cert.RotaryKernelIdeal.nD Cert.RotaryKernelIdeal.τ).loc Cert.RotaryKernelIdeal.main_arg3))
      ∧ r.2.sem = fun _ => 0)

def quiescent_RotaryReferenceIdeal [hRotaryReferenceIdeal : Cert.RotaryReferenceIdeal.Facts] : Prop :=
  ∀ (m : (ℓ : Loc Cert.RotaryReferenceIdeal.nD Cert.RotaryReferenceIdeal.τ Cert.RotaryReferenceIdeal.sig) → Buf (Elt Ideal) ℓ) (g : Dev Cert.RotaryReferenceIdeal.nD → PrngReg), Pre_RotaryReferenceIdeal m →
    θ_run (Cert.RotaryReferenceIdeal.defs (F := Ideal)) (onTc (τ := Cert.RotaryReferenceIdeal.τ) (Cert.RotaryReferenceIdeal.main (F := Ideal))) ⟨m, fun _ => 0, g⟩ (fun r => (∀ c : Dev Cert.RotaryReferenceIdeal.nD,
      r.2.mem ((c.tc : Thread Cert.RotaryReferenceIdeal.nD Cert.RotaryReferenceIdeal.τ).loc Cert.RotaryReferenceIdeal.main_arg0) = m ((c.tc : Thread Cert.RotaryReferenceIdeal.nD Cert.RotaryReferenceIdeal.τ).loc Cert.RotaryReferenceIdeal.main_arg0)
      ∧ r.2.mem ((c.tc : Thread Cert.RotaryReferenceIdeal.nD Cert.RotaryReferenceIdeal.τ).loc Cert.RotaryReferenceIdeal.main_arg1) = m ((c.tc : Thread Cert.RotaryReferenceIdeal.nD Cert.RotaryReferenceIdeal.τ).loc Cert.RotaryReferenceIdeal.main_arg1)
      ∧ r.2.mem ((c.tc : Thread Cert.RotaryReferenceIdeal.nD Cert.RotaryReferenceIdeal.τ).loc Cert.RotaryReferenceIdeal.main_arg2) = m ((c.tc : Thread Cert.RotaryReferenceIdeal.nD Cert.RotaryReferenceIdeal.τ).loc Cert.RotaryReferenceIdeal.main_arg2)
      ∧ r.2.mem ((c.tc : Thread Cert.RotaryReferenceIdeal.nD Cert.RotaryReferenceIdeal.τ).loc Cert.RotaryReferenceIdeal.main_arg3) = m ((c.tc : Thread Cert.RotaryReferenceIdeal.nD Cert.RotaryReferenceIdeal.τ).loc Cert.RotaryReferenceIdeal.main_arg3))
      ∧ r.2.sem = fun _ => 0)

def quiescent_RotarySampleKernel [hRotarySampleKernel : Cert.RotarySampleKernel.Facts] : Prop :=
  ∀ (m : (ℓ : Loc Cert.RotarySampleKernel.nD Cert.RotarySampleKernel.τ Cert.RotarySampleKernel.sig) → Buf (Elt Bits) ℓ) (g : Dev Cert.RotarySampleKernel.nD → PrngReg), Pre_RotarySampleKernel m →
    θ_run (Cert.RotarySampleKernel.defs (F := Bits)) (onTc (τ := Cert.RotarySampleKernel.τ) (Cert.RotarySampleKernel.main (F := Bits))) ⟨m, fun _ => 0, g⟩ (fun r => (∀ c : Dev Cert.RotarySampleKernel.nD,
      r.2.mem ((c.tc : Thread Cert.RotarySampleKernel.nD Cert.RotarySampleKernel.τ).loc Cert.RotarySampleKernel.main_arg0) = m ((c.tc : Thread Cert.RotarySampleKernel.nD Cert.RotarySampleKernel.τ).loc Cert.RotarySampleKernel.main_arg0)
      ∧ r.2.mem ((c.tc : Thread Cert.RotarySampleKernel.nD Cert.RotarySampleKernel.τ).loc Cert.RotarySampleKernel.main_arg1) = m ((c.tc : Thread Cert.RotarySampleKernel.nD Cert.RotarySampleKernel.τ).loc Cert.RotarySampleKernel.main_arg1)
      ∧ r.2.mem ((c.tc : Thread Cert.RotarySampleKernel.nD Cert.RotarySampleKernel.τ).loc Cert.RotarySampleKernel.main_arg2) = m ((c.tc : Thread Cert.RotarySampleKernel.nD Cert.RotarySampleKernel.τ).loc Cert.RotarySampleKernel.main_arg2)
      ∧ r.2.mem ((c.tc : Thread Cert.RotarySampleKernel.nD Cert.RotarySampleKernel.τ).loc Cert.RotarySampleKernel.main_arg3) = m ((c.tc : Thread Cert.RotarySampleKernel.nD Cert.RotarySampleKernel.τ).loc Cert.RotarySampleKernel.main_arg3))
      ∧ r.2.sem = fun _ => 0)

def quiescent_RotarySampleKernelIdeal [hRotarySampleKernelIdeal : Cert.RotarySampleKernelIdeal.Facts] : Prop :=
  ∀ (m : (ℓ : Loc Cert.RotarySampleKernelIdeal.nD Cert.RotarySampleKernelIdeal.τ Cert.RotarySampleKernelIdeal.sig) → Buf (Elt Ideal) ℓ) (g : Dev Cert.RotarySampleKernelIdeal.nD → PrngReg), Pre_RotarySampleKernelIdeal m →
    θ_run (Cert.RotarySampleKernelIdeal.defs (F := Ideal)) (onTc (τ := Cert.RotarySampleKernelIdeal.τ) (Cert.RotarySampleKernelIdeal.main (F := Ideal))) ⟨m, fun _ => 0, g⟩ (fun r => (∀ c : Dev Cert.RotarySampleKernelIdeal.nD,
      r.2.mem ((c.tc : Thread Cert.RotarySampleKernelIdeal.nD Cert.RotarySampleKernelIdeal.τ).loc Cert.RotarySampleKernelIdeal.main_arg0) = m ((c.tc : Thread Cert.RotarySampleKernelIdeal.nD Cert.RotarySampleKernelIdeal.τ).loc Cert.RotarySampleKernelIdeal.main_arg0)
      ∧ r.2.mem ((c.tc : Thread Cert.RotarySampleKernelIdeal.nD Cert.RotarySampleKernelIdeal.τ).loc Cert.RotarySampleKernelIdeal.main_arg1) = m ((c.tc : Thread Cert.RotarySampleKernelIdeal.nD Cert.RotarySampleKernelIdeal.τ).loc Cert.RotarySampleKernelIdeal.main_arg1)
      ∧ r.2.mem ((c.tc : Thread Cert.RotarySampleKernelIdeal.nD Cert.RotarySampleKernelIdeal.τ).loc Cert.RotarySampleKernelIdeal.main_arg2) = m ((c.tc : Thread Cert.RotarySampleKernelIdeal.nD Cert.RotarySampleKernelIdeal.τ).loc Cert.RotarySampleKernelIdeal.main_arg2)
      ∧ r.2.mem ((c.tc : Thread Cert.RotarySampleKernelIdeal.nD Cert.RotarySampleKernelIdeal.τ).loc Cert.RotarySampleKernelIdeal.main_arg3) = m ((c.tc : Thread Cert.RotarySampleKernelIdeal.nD Cert.RotarySampleKernelIdeal.τ).loc Cert.RotarySampleKernelIdeal.main_arg3))
      ∧ r.2.sem = fun _ => 0)

def quiescent_RotarySampleReferenceIdeal [hRotarySampleReferenceIdeal : Cert.RotarySampleReferenceIdeal.Facts] : Prop :=
  ∀ (m : (ℓ : Loc Cert.RotarySampleReferenceIdeal.nD Cert.RotarySampleReferenceIdeal.τ Cert.RotarySampleReferenceIdeal.sig) → Buf (Elt Ideal) ℓ) (g : Dev Cert.RotarySampleReferenceIdeal.nD → PrngReg), Pre_RotarySampleReferenceIdeal m →
    θ_run (Cert.RotarySampleReferenceIdeal.defs (F := Ideal)) (onTc (τ := Cert.RotarySampleReferenceIdeal.τ) (Cert.RotarySampleReferenceIdeal.main (F := Ideal))) ⟨m, fun _ => 0, g⟩ (fun r => (∀ c : Dev Cert.RotarySampleReferenceIdeal.nD,
      r.2.mem ((c.tc : Thread Cert.RotarySampleReferenceIdeal.nD Cert.RotarySampleReferenceIdeal.τ).loc Cert.RotarySampleReferenceIdeal.main_arg0) = m ((c.tc : Thread Cert.RotarySampleReferenceIdeal.nD Cert.RotarySampleReferenceIdeal.τ).loc Cert.RotarySampleReferenceIdeal.main_arg0)
      ∧ r.2.mem ((c.tc : Thread Cert.RotarySampleReferenceIdeal.nD Cert.RotarySampleReferenceIdeal.τ).loc Cert.RotarySampleReferenceIdeal.main_arg1) = m ((c.tc : Thread Cert.RotarySampleReferenceIdeal.nD Cert.RotarySampleReferenceIdeal.τ).loc Cert.RotarySampleReferenceIdeal.main_arg1)
      ∧ r.2.mem ((c.tc : Thread Cert.RotarySampleReferenceIdeal.nD Cert.RotarySampleReferenceIdeal.τ).loc Cert.RotarySampleReferenceIdeal.main_arg2) = m ((c.tc : Thread Cert.RotarySampleReferenceIdeal.nD Cert.RotarySampleReferenceIdeal.τ).loc Cert.RotarySampleReferenceIdeal.main_arg2)
      ∧ r.2.mem ((c.tc : Thread Cert.RotarySampleReferenceIdeal.nD Cert.RotarySampleReferenceIdeal.τ).loc Cert.RotarySampleReferenceIdeal.main_arg3) = m ((c.tc : Thread Cert.RotarySampleReferenceIdeal.nD Cert.RotarySampleReferenceIdeal.τ).loc Cert.RotarySampleReferenceIdeal.main_arg3))
      ∧ r.2.sem = fun _ => 0)

def quiescent_SsdKernel [hSsdKernel : Cert.SsdKernel.Facts] : Prop :=
  ∀ (m : (ℓ : Loc Cert.SsdKernel.nD Cert.SsdKernel.τ Cert.SsdKernel.sig) → Buf (Elt Bits) ℓ) (g : Dev Cert.SsdKernel.nD → PrngReg), Pre_SsdKernel m →
    θ_run (Cert.SsdKernel.defs (F := Bits)) (onTc (τ := Cert.SsdKernel.τ) (Cert.SsdKernel.main (F := Bits))) ⟨m, fun _ => 0, g⟩ (fun r => (∀ c : Dev Cert.SsdKernel.nD,
      r.2.mem ((c.tc : Thread Cert.SsdKernel.nD Cert.SsdKernel.τ).loc Cert.SsdKernel.main_arg0) = m ((c.tc : Thread Cert.SsdKernel.nD Cert.SsdKernel.τ).loc Cert.SsdKernel.main_arg0)
      ∧ r.2.mem ((c.tc : Thread Cert.SsdKernel.nD Cert.SsdKernel.τ).loc Cert.SsdKernel.main_arg1) = m ((c.tc : Thread Cert.SsdKernel.nD Cert.SsdKernel.τ).loc Cert.SsdKernel.main_arg1)
      ∧ r.2.mem ((c.tc : Thread Cert.SsdKernel.nD Cert.SsdKernel.τ).loc Cert.SsdKernel.main_arg2) = m ((c.tc : Thread Cert.SsdKernel.nD Cert.SsdKernel.τ).loc Cert.SsdKernel.main_arg2)
      ∧ r.2.mem ((c.tc : Thread Cert.SsdKernel.nD Cert.SsdKernel.τ).loc Cert.SsdKernel.main_arg3) = m ((c.tc : Thread Cert.SsdKernel.nD Cert.SsdKernel.τ).loc Cert.SsdKernel.main_arg3)
      ∧ r.2.mem ((c.tc : Thread Cert.SsdKernel.nD Cert.SsdKernel.τ).loc Cert.SsdKernel.main_arg4) = m ((c.tc : Thread Cert.SsdKernel.nD Cert.SsdKernel.τ).loc Cert.SsdKernel.main_arg4)
      ∧ r.2.mem ((c.tc : Thread Cert.SsdKernel.nD Cert.SsdKernel.τ).loc Cert.SsdKernel.main_arg5) = m ((c.tc : Thread Cert.SsdKernel.nD Cert.SsdKernel.τ).loc Cert.SsdKernel.main_arg5)
      ∧ r.2.mem ((c.tc : Thread Cert.SsdKernel.nD Cert.SsdKernel.τ).loc Cert.SsdKernel.main_arg6) = m ((c.tc : Thread Cert.SsdKernel.nD Cert.SsdKernel.τ).loc Cert.SsdKernel.main_arg6)
      ∧ r.2.mem ((c.tc : Thread Cert.SsdKernel.nD Cert.SsdKernel.τ).loc Cert.SsdKernel.main_arg7) = m ((c.tc : Thread Cert.SsdKernel.nD Cert.SsdKernel.τ).loc Cert.SsdKernel.main_arg7))
      ∧ r.2.sem = fun _ => 0)

def quiescent_SsdKernelIdeal [hSsdKernelIdeal : Cert.SsdKernelIdeal.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
      ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
      ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5)
      ∧ r.2.mem ((c.tc : Thread Cert.SsdReferenceIdeal.nD Cert.SsdReferenceIdeal.τ).loc Cert.SsdReferenceIdeal.main_arg6) = m ((c.tc : Thread Cert.SsdReferenceIdeal.nD Cert.SsdReferenceIdeal.τ).loc Cert.SsdReferenceIdeal.main_arg6)
      ∧ r.2.mem ((c.tc : Thread Cert.SsdReferenceIdeal.nD Cert.SsdReferenceIdeal.τ).loc Cert.SsdReferenceIdeal.main_arg7) = m ((c.tc : Thread Cert.SsdReferenceIdeal.nD Cert.SsdReferenceIdeal.τ).loc Cert.SsdReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v3) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v29) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_SsdOutKernel_SsdOutKernelIdeal : Prop :=
  True

def algebraic_SsdOutKernelIdeal_SsdOutReferenceIdeal [hSsdOutKernelIdeal : Cert.SsdOutKernelIdeal.Facts] [hSsdOutReferenceIdeal : Cert.SsdOutReferenceIdeal.Facts] : Prop :=
  ∀ (m : (ℓ : Loc Cert.SsdOutKernelIdeal.nD Cert.SsdOutKernelIdeal.τ Cert.SsdOutKernelIdeal.sig) → Buf (Elt Ideal) ℓ) (g : Dev Cert.SsdOutKernelIdeal.nD → PrngReg)
    (m' : (ℓ : Loc Cert.SsdOutReferenceIdeal.nD Cert.SsdOutReferenceIdeal.τ Cert.SsdOutReferenceIdeal.sig) → Buf (Elt Ideal) ℓ) (g' : Dev Cert.SsdOutReferenceIdeal.nD → PrngReg), Pre_SsdOutKernelIdeal m →
    (∀ c : Dev Cert.SsdOutKernelIdeal.nD,
      m' ((c.tc : Thread Cert.SsdOutReferenceIdeal.nD Cert.SsdOutReferenceIdeal.τ).loc Cert.SsdOutReferenceIdeal.main_arg0) = m ((c.tc : Thread Cert.SsdOutKernelIdeal.nD Cert.SsdOutKernelIdeal.τ).loc Cert.SsdOutKernelIdeal.main_arg0)
      ∧ m' ((c.tc : Thread Cert.SsdOutReferenceIdeal.nD Cert.SsdOutReferenceIdeal.τ).loc Cert.SsdOutReferenceIdeal.main_arg1) = m ((c.tc : Thread Cert.SsdOutKernelIdeal.nD Cert.SsdOutKernelIdeal.τ).loc Cert.SsdOutKernelIdeal.main_arg1)
      ∧ m' ((c.tc : Thread Cert.SsdOutReferenceIdeal.nD Cert.SsdOutReferenceIdeal.τ).loc Cert.SsdOutReferenceIdeal.main_arg2) = m ((c.tc : Thread Cert.SsdOutKernelIdeal.nD Cert.SsdOutKernelIdeal.τ).loc Cert.SsdOutKernelIdeal.main_arg2)
      ∧ m' ((c.tc : Thread Cert.SsdOutReferenceIdeal.nD Cert.SsdOutReferenceIdeal.τ).loc Cert.SsdOutReferenceIdeal.main_arg3) = m ((c.tc : Thread Cert.SsdOutKernelIdeal.nD Cert.SsdOutKernelIdeal.τ).loc Cert.SsdOutKernelIdeal.main_arg3)) →
    ∃ (v0 : (c : Dev Cert.SsdOutKernelIdeal.nD) → Buf (Elt Ideal) ((c.tc : Thread Cert.SsdOutKernelIdeal.nD Cert.SsdOutKernelIdeal.τ).loc Cert.SsdOutKernelIdeal.main_v1)),
      θ_run (Cert.SsdOutKernelIdeal.defs (F := Ideal)) (onTc (τ := Cert.SsdOutKernelIdeal.τ) (Cert.SsdOutKernelIdeal.main (F := Ideal))) ⟨m, fun _ => 0, g⟩ (fun r => ∀ c : Dev Cert.SsdOutKernelIdeal.nD,
          r.2.mem ((c.tc : Thread Cert.SsdOutKernelIdeal.nD Cert.SsdOutKernelIdeal.τ).loc Cert.SsdOutKernelIdeal.main_v1) = v0 c
          ∧ r.2.mem ((c.tc : Thread Cert.SsdOutKernelIdeal.nD Cert.SsdOutKernelIdeal.τ).loc Cert.SsdOutKernelIdeal.main_arg0) = m ((c.tc : Thread Cert.SsdOutKernelIdeal.nD Cert.SsdOutKernelIdeal.τ).loc Cert.SsdOutKernelIdeal.main_arg0)
          ∧ r.2.mem ((c.tc : Thread Cert.SsdOutKernelIdeal.nD Cert.SsdOutKernelIdeal.τ).loc Cert.SsdOutKernelIdeal.main_arg1) = m ((c.tc : Thread Cert.SsdOutKernelIdeal.nD Cert.SsdOutKernelIdeal.τ).loc Cert.SsdOutKernelIdeal.main_arg1)
          ∧ r.2.mem ((c.tc : Thread Cert.SsdOutKernelIdeal.nD Cert.SsdOutKernelIdeal.τ).loc Cert.SsdOutKernelIdeal.main_arg2) = m ((c.tc : Thread Cert.SsdOutKernelIdeal.nD Cert.SsdOutKernelIdeal.τ).loc Cert.SsdOutKernelIdeal.main_arg2)
          ∧ r.2.mem ((c.tc : Thread Cert.SsdOutKernelIdeal.nD Cert.SsdOutKernelIdeal.τ).loc Cert.SsdOutKernelIdeal.main_arg3) = m ((c.tc : Thread Cert.SsdOutKernelIdeal.nD Cert.SsdOutKernelIdeal.τ).loc Cert.SsdOutKernelIdeal.main_arg3))
      ∧ θ_run (Cert.SsdOutReferenceIdeal.defs (F := Ideal)) (onTc (τ := Cert.SsdOutReferenceIdeal.τ) (Cert.SsdOutReferenceIdeal.main (F := Ideal))) ⟨m', fun _ => 0, g'⟩ (fun r => ∀ c : Dev Cert.SsdOutReferenceIdeal.nD,
          r.2.mem ((c.tc : Thread Cert.SsdOutReferenceIdeal.nD Cert.SsdOutReferenceIdeal.τ).loc Cert.SsdOutReferenceIdeal.main_v3) = v0 c
          ∧ r.2.mem ((c.tc : Thread Cert.SsdOutReferenceIdeal.nD Cert.SsdOutReferenceIdeal.τ).loc Cert.SsdOutReferenceIdeal.main_arg0) = m' ((c.tc : Thread Cert.SsdOutReferenceIdeal.nD Cert.SsdOutReferenceIdeal.τ).loc Cert.SsdOutReferenceIdeal.main_arg0)
          ∧ r.2.mem ((c.tc : Thread Cert.SsdOutReferenceIdeal.nD Cert.SsdOutReferenceIdeal.τ).loc Cert.SsdOutReferenceIdeal.main_arg1) = m' ((c.tc : Thread Cert.SsdOutReferenceIdeal.nD Cert.SsdOutReferenceIdeal.τ).loc Cert.SsdOutReferenceIdeal.main_arg1)
          ∧ r.2.mem ((c.tc : Thread Cert.SsdOutReferenceIdeal.nD Cert.SsdOutReferenceIdeal.τ).loc Cert.SsdOutReferenceIdeal.main_arg2) = m' ((c.tc : Thread Cert.SsdOutReferenceIdeal.nD Cert.SsdOutReferenceIdeal.τ).loc Cert.SsdOutReferenceIdeal.main_arg2)
          ∧ r.2.mem ((c.tc : Thread Cert.SsdOutReferenceIdeal.nD Cert.SsdOutReferenceIdeal.τ).loc Cert.SsdOutReferenceIdeal.main_arg3) = m' ((c.tc : Thread Cert.SsdOutReferenceIdeal.nD Cert.SsdOutReferenceIdeal.τ).loc Cert.SsdOutReferenceIdeal.main_arg3))

def preserves_RwOutKernel_RwOutKernelIdeal : Prop :=
  True

def algebraic_RwOutKernelIdeal_RwOutReferenceIdeal [hRwOutKernelIdeal : Cert.RwOutKernelIdeal.Facts] [hRwOutReferenceIdeal : Cert.RwOutReferenceIdeal.Facts] : Prop :=
  ∀ (m : (ℓ : Loc Cert.RwOutKernelIdeal.nD Cert.RwOutKernelIdeal.τ Cert.RwOutKernelIdeal.sig) → Buf (Elt Ideal) ℓ) (g : Dev Cert.RwOutKernelIdeal.nD → PrngReg)
    (m' : (ℓ : Loc Cert.RwOutReferenceIdeal.nD Cert.RwOutReferenceIdeal.τ Cert.RwOutReferenceIdeal.sig) → Buf (Elt Ideal) ℓ) (g' : Dev Cert.RwOutReferenceIdeal.nD → PrngReg), Pre_RwOutKernelIdeal m →
    (∀ c : Dev Cert.RwOutKernelIdeal.nD,
      m' ((c.tc : Thread Cert.RwOutReferenceIdeal.nD Cert.RwOutReferenceIdeal.τ).loc Cert.RwOutReferenceIdeal.main_arg0) = m ((c.tc : Thread Cert.RwOutKernelIdeal.nD Cert.RwOutKernelIdeal.τ).loc Cert.RwOutKernelIdeal.main_arg0)
      ∧ m' ((c.tc : Thread Cert.RwOutReferenceIdeal.nD Cert.RwOutReferenceIdeal.τ).loc Cert.RwOutReferenceIdeal.main_arg1) = m ((c.tc : Thread Cert.RwOutKernelIdeal.nD Cert.RwOutKernelIdeal.τ).loc Cert.RwOutKernelIdeal.main_arg1)
      ∧ m' ((c.tc : Thread Cert.RwOutReferenceIdeal.nD Cert.RwOutReferenceIdeal.τ).loc Cert.RwOutReferenceIdeal.main_arg2) = m ((c.tc : Thread Cert.RwOutKernelIdeal.nD Cert.RwOutKernelIdeal.τ).loc Cert.RwOutKernelIdeal.main_arg2)
      ∧ m' ((c.tc : Thread Cert.RwOutReferenceIdeal.nD Cert.RwOutReferenceIdeal.τ).loc Cert.RwOutReferenceIdeal.main_arg3) = m ((c.tc : Thread Cert.RwOutKernelIdeal.nD Cert.RwOutKernelIdeal.τ).loc Cert.RwOutKernelIdeal.main_arg3)
      ∧ m' ((c.tc : Thread Cert.RwOutReferenceIdeal.nD Cert.RwOutReferenceIdeal.τ).loc Cert.RwOutReferenceIdeal.main_arg4) = m ((c.tc : Thread Cert.RwOutKernelIdeal.nD Cert.RwOutKernelIdeal.τ).loc Cert.RwOutKernelIdeal.main_arg4)) →
    ∃ (v0 : (c : Dev Cert.RwOutKernelIdeal.nD) → Buf (Elt Ideal) ((c.tc : Thread Cert.RwOutKernelIdeal.nD Cert.RwOutKernelIdeal.τ).loc Cert.RwOutKernelIdeal.main_v1)),
      θ_run (Cert.RwOutKernelIdeal.defs (F := Ideal)) (onTc (τ := Cert.RwOutKernelIdeal.τ) (Cert.RwOutKernelIdeal.main (F := Ideal))) ⟨m, fun _ => 0, g⟩ (fun r => ∀ c : Dev Cert.RwOutKernelIdeal.nD,
          r.2.mem ((c.tc : Thread Cert.RwOutKernelIdeal.nD Cert.RwOutKernelIdeal.τ).loc Cert.RwOutKernelIdeal.main_v1) = v0 c
          ∧ r.2.mem ((c.tc : Thread Cert.RwOutKernelIdeal.nD Cert.RwOutKernelIdeal.τ).loc Cert.RwOutKernelIdeal.main_arg0) = m ((c.tc : Thread Cert.RwOutKernelIdeal.nD Cert.RwOutKernelIdeal.τ).loc Cert.RwOutKernelIdeal.main_arg0)
          ∧ r.2.mem ((c.tc : Thread Cert.RwOutKernelIdeal.nD Cert.RwOutKernelIdeal.τ).loc Cert.RwOutKernelIdeal.main_arg1) = m ((c.tc : Thread Cert.RwOutKernelIdeal.nD Cert.RwOutKernelIdeal.τ).loc Cert.RwOutKernelIdeal.main_arg1)
          ∧ r.2.mem ((c.tc : Thread Cert.RwOutKernelIdeal.nD Cert.RwOutKernelIdeal.τ).loc Cert.RwOutKernelIdeal.main_arg2) = m ((c.tc : Thread Cert.RwOutKernelIdeal.nD Cert.RwOutKernelIdeal.τ).loc Cert.RwOutKernelIdeal.main_arg2)
          ∧ r.2.mem ((c.tc : Thread Cert.RwOutKernelIdeal.nD Cert.RwOutKernelIdeal.τ).loc Cert.RwOutKernelIdeal.main_arg3) = m ((c.tc : Thread Cert.RwOutKernelIdeal.nD Cert.RwOutKernelIdeal.τ).loc Cert.RwOutKernelIdeal.main_arg3)
          ∧ r.2.mem ((c.tc : Thread Cert.RwOutKernelIdeal.nD Cert.RwOutKernelIdeal.τ).loc Cert.RwOutKernelIdeal.main_arg4) = m ((c.tc : Thread Cert.RwOutKernelIdeal.nD Cert.RwOutKernelIdeal.τ).loc Cert.RwOutKernelIdeal.main_arg4))
      ∧ θ_run (Cert.RwOutReferenceIdeal.defs (F := Ideal)) (onTc (τ := Cert.RwOutReferenceIdeal.τ) (Cert.RwOutReferenceIdeal.main (F := Ideal))) ⟨m', fun _ => 0, g'⟩ (fun r => ∀ c : Dev Cert.RwOutReferenceIdeal.nD,
          r.2.mem ((c.tc : Thread Cert.RwOutReferenceIdeal.nD Cert.RwOutReferenceIdeal.τ).loc Cert.RwOutReferenceIdeal.main_v4) = v0 c
          ∧ r.2.mem ((c.tc : Thread Cert.RwOutReferenceIdeal.nD Cert.RwOutReferenceIdeal.τ).loc Cert.RwOutReferenceIdeal.main_arg0) = m' ((c.tc : Thread Cert.RwOutReferenceIdeal.nD Cert.RwOutReferenceIdeal.τ).loc Cert.RwOutReferenceIdeal.main_arg0)
          ∧ r.2.mem ((c.tc : Thread Cert.RwOutReferenceIdeal.nD Cert.RwOutReferenceIdeal.τ).loc Cert.RwOutReferenceIdeal.main_arg1) = m' ((c.tc : Thread Cert.RwOutReferenceIdeal.nD Cert.RwOutReferenceIdeal.τ).loc Cert.RwOutReferenceIdeal.main_arg1)
          ∧ r.2.mem ((c.tc : Thread Cert.RwOutReferenceIdeal.nD Cert.RwOutReferenceIdeal.τ).loc Cert.RwOutReferenceIdeal.main_arg2) = m' ((c.tc : Thread Cert.RwOutReferenceIdeal.nD Cert.RwOutReferenceIdeal.τ).loc Cert.RwOutReferenceIdeal.main_arg2)
          ∧ r.2.mem ((c.tc : Thread Cert.RwOutReferenceIdeal.nD Cert.RwOutReferenceIdeal.τ).loc Cert.RwOutReferenceIdeal.main_arg3) = m' ((c.tc : Thread Cert.RwOutReferenceIdeal.nD Cert.RwOutReferenceIdeal.τ).loc Cert.RwOutReferenceIdeal.main_arg3)
          ∧ r.2.mem ((c.tc : Thread Cert.RwOutReferenceIdeal.nD Cert.RwOutReferenceIdeal.τ).loc Cert.RwOutReferenceIdeal.main_arg4) = m' ((c.tc : Thread Cert.RwOutReferenceIdeal.nD Cert.RwOutReferenceIdeal.τ).loc Cert.RwOutReferenceIdeal.main_arg4))

def preserves_ZxKernel_ZxKernelIdeal : Prop :=
  True

def algebraic_ZxKernelIdeal_ZxReferenceIdeal [hZxKernelIdeal : Cert.ZxKernelIdeal.Facts] [hZxReferenceIdeal : Cert.ZxReferenceIdeal.Facts] : Prop :=
  ∀ (m : (ℓ : Loc Cert.ZxKernelIdeal.nD Cert.ZxKernelIdeal.τ Cert.ZxKernelIdeal.sig) → Buf (Elt Ideal) ℓ) (g : Dev Cert.ZxKernelIdeal.nD → PrngReg)
    (m' : (ℓ : Loc Cert.ZxReferenceIdeal.nD Cert.ZxReferenceIdeal.τ Cert.ZxReferenceIdeal.sig) → Buf (Elt Ideal) ℓ) (g' : Dev Cert.ZxReferenceIdeal.nD → PrngReg), Pre_ZxKernelIdeal m →
    (∀ c : Dev Cert.ZxKernelIdeal.nD,
      m' ((c.tc : Thread Cert.ZxReferenceIdeal.nD Cert.ZxReferenceIdeal.τ).loc Cert.ZxReferenceIdeal.main_arg0) = m ((c.tc : Thread Cert.ZxKernelIdeal.nD Cert.ZxKernelIdeal.τ).loc Cert.ZxKernelIdeal.main_arg0)
      ∧ m' ((c.tc : Thread Cert.ZxReferenceIdeal.nD Cert.ZxReferenceIdeal.τ).loc Cert.ZxReferenceIdeal.main_arg1) = m ((c.tc : Thread Cert.ZxKernelIdeal.nD Cert.ZxKernelIdeal.τ).loc Cert.ZxKernelIdeal.main_arg1)) →
    ∃ (v0 : (c : Dev Cert.ZxKernelIdeal.nD) → Buf (Elt Ideal) ((c.tc : Thread Cert.ZxKernelIdeal.nD Cert.ZxKernelIdeal.τ).loc Cert.ZxKernelIdeal.main_v3)),
      θ_run (Cert.ZxKernelIdeal.defs (F := Ideal)) (onTc (τ := Cert.ZxKernelIdeal.τ) (Cert.ZxKernelIdeal.main (F := Ideal))) ⟨m, fun _ => 0, g⟩ (fun r => ∀ c : Dev Cert.ZxKernelIdeal.nD,
          r.2.mem ((c.tc : Thread Cert.ZxKernelIdeal.nD Cert.ZxKernelIdeal.τ).loc Cert.ZxKernelIdeal.main_v3) = v0 c
          ∧ r.2.mem ((c.tc : Thread Cert.ZxKernelIdeal.nD Cert.ZxKernelIdeal.τ).loc Cert.ZxKernelIdeal.main_arg0) = m ((c.tc : Thread Cert.ZxKernelIdeal.nD Cert.ZxKernelIdeal.τ).loc Cert.ZxKernelIdeal.main_arg0)
          ∧ r.2.mem ((c.tc : Thread Cert.ZxKernelIdeal.nD Cert.ZxKernelIdeal.τ).loc Cert.ZxKernelIdeal.main_arg1) = m ((c.tc : Thread Cert.ZxKernelIdeal.nD Cert.ZxKernelIdeal.τ).loc Cert.ZxKernelIdeal.main_arg1))
      ∧ θ_run (Cert.ZxReferenceIdeal.defs (F := Ideal)) (onTc (τ := Cert.ZxReferenceIdeal.τ) (Cert.ZxReferenceIdeal.main (F := Ideal))) ⟨m', fun _ => 0, g'⟩ (fun r => ∀ c : Dev Cert.ZxReferenceIdeal.nD,
          r.2.mem ((c.tc : Thread Cert.ZxReferenceIdeal.nD Cert.ZxReferenceIdeal.τ).loc Cert.ZxReferenceIdeal.main_v3) = v0 c
          ∧ r.2.mem ((c.tc : Thread Cert.ZxReferenceIdeal.nD Cert.ZxReferenceIdeal.τ).loc Cert.ZxReferenceIdeal.main_arg0) = m' ((c.tc : Thread Cert.ZxReferenceIdeal.nD Cert.ZxReferenceIdeal.τ).loc Cert.ZxReferenceIdeal.main_arg0)
          ∧ r.2.mem ((c.tc : Thread Cert.ZxReferenceIdeal.nD Cert.ZxReferenceIdeal.τ).loc Cert.ZxReferenceIdeal.main_arg1) = m' ((c.tc : Thread Cert.ZxReferenceIdeal.nD Cert.ZxReferenceIdeal.τ).loc Cert.ZxReferenceIdeal.main_arg1))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)) →
    ∃ (v0 : (c : Dev Cert.QkvKernelIdeal.nD) → Buf (Elt Ideal) ((c.tc : Thread Cert.QkvKernelIdeal.nD Cert.QkvKernelIdeal.τ).loc Cert.QkvKernelIdeal.main_v2)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v2) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v2) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v3)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v3) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v3) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_FfnSampleKernel_FfnSampleKernelIdeal : Prop :=
  True

def algebraic_FfnSampleKernelIdeal_FfnSampleReferenceIdeal [hFfnSampleKernelIdeal : Cert.FfnSampleKernelIdeal.Facts] [hFfnSampleReferenceIdeal : Cert.FfnSampleReferenceIdeal.Facts] : Prop :=
  ∀ (m : (ℓ : Loc Cert.FfnSampleKernelIdeal.nD Cert.FfnSampleKernelIdeal.τ Cert.FfnSampleKernelIdeal.sig) → Buf (Elt Ideal) ℓ) (g : Dev Cert.FfnSampleKernelIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleKernelIdeal m →
    (∀ c : Dev Cert.FfnSampleKernelIdeal.nD,
      m' ((c.tc : Thread Cert.FfnSampleReferenceIdeal.nD Cert.FfnSampleReferenceIdeal.τ).loc Cert.FfnSampleReferenceIdeal.main_arg0) = m ((c.tc : Thread Cert.FfnSampleKernelIdeal.nD Cert.FfnSampleKernelIdeal.τ).loc Cert.FfnSampleKernelIdeal.main_arg0)
      ∧ m' ((c.tc : Thread Cert.FfnSampleReferenceIdeal.nD Cert.FfnSampleReferenceIdeal.τ).loc Cert.FfnSampleReferenceIdeal.main_arg1) = m ((c.tc : Thread Cert.FfnSampleKernelIdeal.nD Cert.FfnSampleKernelIdeal.τ).loc Cert.FfnSampleKernelIdeal.main_arg1)
      ∧ m' ((c.tc : Thread Cert.FfnSampleReferenceIdeal.nD Cert.FfnSampleReferenceIdeal.τ).loc Cert.FfnSampleReferenceIdeal.main_arg2) = m ((c.tc : Thread Cert.FfnSampleKernelIdeal.nD Cert.FfnSampleKernelIdeal.τ).loc Cert.FfnSampleKernelIdeal.main_arg2)
      ∧ m' ((c.tc : Thread Cert.FfnSampleReferenceIdeal.nD Cert.FfnSampleReferenceIdeal.τ).loc Cert.FfnSampleReferenceIdeal.main_arg3) = m ((c.tc : Thread Cert.FfnSampleKernelIdeal.nD Cert.FfnSampleKernelIdeal.τ).loc Cert.FfnSampleKernelIdeal.main_arg3)
      ∧ m' ((c.tc : Thread Cert.FfnSampleReferenceIdeal.nD Cert.FfnSampleReferenceIdeal.τ).loc Cert.FfnSampleReferenceIdeal.main_arg4) = m ((c.tc : Thread Cert.FfnSampleKernelIdeal.nD Cert.FfnSampleKernelIdeal.τ).loc Cert.FfnSampleKernelIdeal.main_arg4)
      ∧ m' ((c.tc : Thread Cert.FfnSampleReferenceIdeal.nD Cert.FfnSampleReferenceIdeal.τ).loc Cert.FfnSampleReferenceIdeal.main_arg5) = m ((c.tc : Thread Cert.FfnSampleKernelIdeal.nD Cert.FfnSampleKernelIdeal.τ).loc Cert.FfnSampleKernelIdeal.main_arg5)
      ∧ m' ((c.tc : Thread Cert.FfnSampleReferenceIdeal.nD Cert.FfnSampleReferenceIdeal.τ).loc Cert.FfnSampleReferenceIdeal.main_arg6) = m ((c.tc : Thread Cert.FfnSampleKernelIdeal.nD Cert.FfnSampleKernelIdeal.τ).loc Cert.FfnSampleKernelIdeal.main_arg6)) →
    ∃ (v0 : (c : Dev Cert.FfnSampleKernelIdeal.nD) → Buf (Elt Ideal) ((c.tc : Thread Cert.FfnSampleKernelIdeal.nD Cert.FfnSampleKernelIdeal.τ).loc Cert.FfnSampleKernelIdeal.main_v3)),
      θ_run (Cert.FfnSampleKernelIdeal.defs (F := Ideal)) (onTc (τ := Cert.FfnSampleKernelIdeal.τ) (Cert.FfnSampleKernelIdeal.main (F := Ideal))) ⟨m, fun _ => 0, g⟩ (fun r => ∀ c : Dev Cert.FfnSampleKernelIdeal.nD,
          r.2.mem ((c.tc : Thread Cert.FfnSampleKernelIdeal.nD Cert.FfnSampleKernelIdeal.τ).loc Cert.FfnSampleKernelIdeal.main_v3) = v0 c
          ∧ r.2.mem ((c.tc : Thread Cert.FfnSampleKernelIdeal.nD Cert.FfnSampleKernelIdeal.τ).loc Cert.FfnSampleKernelIdeal.main_arg0) = m ((c.tc : Thread Cert.FfnSampleKernelIdeal.nD Cert.FfnSampleKernelIdeal.τ).loc Cert.FfnSampleKernelIdeal.main_arg0)
          ∧ r.2.mem ((c.tc : Thread Cert.FfnSampleKernelIdeal.nD Cert.FfnSampleKernelIdeal.τ).loc Cert.FfnSampleKernelIdeal.main_arg1) = m ((c.tc : Thread Cert.FfnSampleKernelIdeal.nD Cert.FfnSampleKernelIdeal.τ).loc Cert.FfnSampleKernelIdeal.main_arg1)
          ∧ r.2.mem ((c.tc : Thread Cert.FfnSampleKernelIdeal.nD Cert.FfnSampleKernelIdeal.τ).loc Cert.FfnSampleKernelIdeal.main_arg2) = m ((c.tc : Thread Cert.FfnSampleKernelIdeal.nD Cert.FfnSampleKernelIdeal.τ).loc Cert.FfnSampleKernelIdeal.main_arg2)
          ∧ r.2.mem ((c.tc : Thread Cert.FfnSampleKernelIdeal.nD Cert.FfnSampleKernelIdeal.τ).loc Cert.FfnSampleKernelIdeal.main_arg3) = m ((c.tc : Thread Cert.FfnSampleKernelIdeal.nD Cert.FfnSampleKernelIdeal.τ).loc Cert.FfnSampleKernelIdeal.main_arg3)
          ∧ r.2.mem ((c.tc : Thread Cert.FfnSampleKernelIdeal.nD Cert.FfnSampleKernelIdeal.τ).loc Cert.FfnSampleKernelIdeal.main_arg4) = m ((c.tc : Thread Cert.FfnSampleKernelIdeal.nD Cert.FfnSampleKernelIdeal.τ).loc Cert.FfnSampleKernelIdeal.main_arg4)
          ∧ r.2.mem ((c.tc : Thread Cert.FfnSampleKernelIdeal.nD Cert.FfnSampleKernelIdeal.τ).loc Cert.FfnSampleKernelIdeal.main_arg5) = m ((c.tc : Thread Cert.FfnSampleKernelIdeal.nD Cert.FfnSampleKernelIdeal.τ).loc Cert.FfnSampleKernelIdeal.main_arg5)
          ∧ r.2.mem ((c.tc : Thread Cert.FfnSampleKernelIdeal.nD Cert.FfnSampleKernelIdeal.τ).loc Cert.FfnSampleKernelIdeal.main_arg6) = m ((c.tc : Thread Cert.FfnSampleKernelIdeal.nD Cert.FfnSampleKernelIdeal.τ).loc Cert.FfnSampleKernelIdeal.main_arg6))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v29) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6))

def preserves_QkvSampleKernel_QkvSampleKernelIdeal : Prop :=
  True

def algebraic_QkvSampleKernelIdeal_QkvSampleReferenceIdeal [hQkvSampleKernelIdeal : Cert.QkvSampleKernelIdeal.Facts] [hQkvSampleReferenceIdeal : Cert.QkvSampleReferenceIdeal.Facts] : Prop :=
  ∀ (m : (ℓ : Loc Cert.QkvSampleKernelIdeal.nD Cert.QkvSampleKernelIdeal.τ Cert.QkvSampleKernelIdeal.sig) → Buf (Elt Ideal) ℓ) (g : Dev Cert.QkvSampleKernelIdeal.nD → PrngReg)
    (m' : (ℓ : Loc Cert.QkvSampleReferenceIdeal.nD Cert.QkvSampleReferenceIdeal.τ Cert.QkvSampleReferenceIdeal.sig) → Buf (Elt Ideal) ℓ) (g' : Dev Cert.QkvSampleReferenceIdeal.nD → PrngReg), Pre_QkvSampleKernelIdeal m →
    (∀ c : Dev Cert.QkvSampleKernelIdeal.nD,
      m' ((c.tc : Thread Cert.QkvSampleReferenceIdeal.nD Cert.QkvSampleReferenceIdeal.τ).loc Cert.QkvSampleReferenceIdeal.main_arg0) = m ((c.tc : Thread Cert.QkvSampleKernelIdeal.nD Cert.QkvSampleKernelIdeal.τ).loc Cert.QkvSampleKernelIdeal.main_arg0)
      ∧ m' ((c.tc : Thread Cert.QkvSampleReferenceIdeal.nD Cert.QkvSampleReferenceIdeal.τ).loc Cert.QkvSampleReferenceIdeal.main_arg1) = m ((c.tc : Thread Cert.QkvSampleKernelIdeal.nD Cert.QkvSampleKernelIdeal.τ).loc Cert.QkvSampleKernelIdeal.main_arg1)) →
    ∃ (v0 : (c : Dev Cert.QkvSampleKernelIdeal.nD) → Buf (Elt Ideal) ((c.tc : Thread Cert.QkvSampleKernelIdeal.nD Cert.QkvSampleKernelIdeal.τ).loc Cert.QkvSampleKernelIdeal.main_v2)),
      θ_run (Cert.QkvSampleKernelIdeal.defs (F := Ideal)) (onTc (τ := Cert.QkvSampleKernelIdeal.τ) (Cert.QkvSampleKernelIdeal.main (F := Ideal))) ⟨m, fun _ => 0, g⟩ (fun r => ∀ c : Dev Cert.QkvSampleKernelIdeal.nD,
          r.2.mem ((c.tc : Thread Cert.QkvSampleKernelIdeal.nD Cert.QkvSampleKernelIdeal.τ).loc Cert.QkvSampleKernelIdeal.main_v2) = v0 c
          ∧ r.2.mem ((c.tc : Thread Cert.QkvSampleKernelIdeal.nD Cert.QkvSampleKernelIdeal.τ).loc Cert.QkvSampleKernelIdeal.main_arg0) = m ((c.tc : Thread Cert.QkvSampleKernelIdeal.nD Cert.QkvSampleKernelIdeal.τ).loc Cert.QkvSampleKernelIdeal.main_arg0)
          ∧ r.2.mem ((c.tc : Thread Cert.QkvSampleKernelIdeal.nD Cert.QkvSampleKernelIdeal.τ).loc Cert.QkvSampleKernelIdeal.main_arg1) = m ((c.tc : Thread Cert.QkvSampleKernelIdeal.nD Cert.QkvSampleKernelIdeal.τ).loc Cert.QkvSampleKernelIdeal.main_arg1))
      ∧ θ_run (Cert.QkvSampleReferenceIdeal.defs (F := Ideal)) (onTc (τ := Cert.QkvSampleReferenceIdeal.τ) (Cert.QkvSampleReferenceIdeal.main (F := Ideal))) ⟨m', fun _ => 0, g'⟩ (fun r => ∀ c : Dev Cert.QkvSampleReferenceIdeal.nD,
          r.2.mem ((c.tc : Thread Cert.QkvSampleReferenceIdeal.nD Cert.QkvSampleReferenceIdeal.τ).loc Cert.QkvSampleReferenceIdeal.main_v2) = v0 c
          ∧ r.2.mem ((c.tc : Thread Cert.QkvSampleReferenceIdeal.nD Cert.QkvSampleReferenceIdeal.τ).loc Cert.QkvSampleReferenceIdeal.main_arg0) = m' ((c.tc : Thread Cert.QkvSampleReferenceIdeal.nD Cert.QkvSampleReferenceIdeal.τ).loc Cert.QkvSampleReferenceIdeal.main_arg0)
          ∧ r.2.mem ((c.tc : Thread Cert.QkvSampleReferenceIdeal.nD Cert.QkvSampleReferenceIdeal.τ).loc Cert.QkvSampleReferenceIdeal.main_arg1) = m' ((c.tc : Thread Cert.QkvSampleReferenceIdeal.nD Cert.QkvSampleReferenceIdeal.τ).loc Cert.QkvSampleReferenceIdeal.main_arg1))

def preserves_ZxSampleKernel_ZxSampleKernelIdeal : Prop :=
  True

def algebraic_ZxSampleKernelIdeal_ZxSampleReferenceIdeal [hZxSampleKernelIdeal : Cert.ZxSampleKernelIdeal.Facts] [hZxSampleReferenceIdeal : Cert.ZxSampleReferenceIdeal.Facts] : Prop :=
  ∀ (m : (ℓ : Loc Cert.ZxSampleKernelIdeal.nD Cert.ZxSampleKernelIdeal.τ Cert.ZxSampleKernelIdeal.sig) → Buf (Elt Ideal) ℓ) (g : Dev Cert.ZxSampleKernelIdeal.nD → PrngReg)
    (m' : (ℓ : Loc Cert.ZxSampleReferenceIdeal.nD Cert.ZxSampleReferenceIdeal.τ Cert.ZxSampleReferenceIdeal.sig) → Buf (Elt Ideal) ℓ) (g' : Dev Cert.ZxSampleReferenceIdeal.nD → PrngReg), Pre_ZxSampleKernelIdeal m →
    (∀ c : Dev Cert.ZxSampleKernelIdeal.nD,
      m' ((c.tc : Thread Cert.ZxSampleReferenceIdeal.nD Cert.ZxSampleReferenceIdeal.τ).loc Cert.ZxSampleReferenceIdeal.main_arg0) = m ((c.tc : Thread Cert.ZxSampleKernelIdeal.nD Cert.ZxSampleKernelIdeal.τ).loc Cert.ZxSampleKernelIdeal.main_arg0)
      ∧ m' ((c.tc : Thread Cert.ZxSampleReferenceIdeal.nD Cert.ZxSampleReferenceIdeal.τ).loc Cert.ZxSampleReferenceIdeal.main_arg1) = m ((c.tc : Thread Cert.ZxSampleKernelIdeal.nD Cert.ZxSampleKernelIdeal.τ).loc Cert.ZxSampleKernelIdeal.main_arg1)) →
    ∃ (v0 : (c : Dev Cert.ZxSampleKernelIdeal.nD) → Buf (Elt Ideal) ((c.tc : Thread Cert.ZxSampleKernelIdeal.nD Cert.ZxSampleKernelIdeal.τ).loc Cert.ZxSampleKernelIdeal.main_v3)),
      θ_run (Cert.ZxSampleKernelIdeal.defs (F := Ideal)) (onTc (τ := Cert.ZxSampleKernelIdeal.τ) (Cert.ZxSampleKernelIdeal.main (F := Ideal))) ⟨m, fun _ => 0, g⟩ (fun r => ∀ c : Dev Cert.ZxSampleKernelIdeal.nD,
          r.2.mem ((c.tc : Thread Cert.ZxSampleKernelIdeal.nD Cert.ZxSampleKernelIdeal.τ).loc Cert.ZxSampleKernelIdeal.main_v3) = v0 c
          ∧ r.2.mem ((c.tc : Thread Cert.ZxSampleKernelIdeal.nD Cert.ZxSampleKernelIdeal.τ).loc Cert.ZxSampleKernelIdeal.main_arg0) = m ((c.tc : Thread Cert.ZxSampleKernelIdeal.nD Cert.ZxSampleKernelIdeal.τ).loc Cert.ZxSampleKernelIdeal.main_arg0)
          ∧ r.2.mem ((c.tc : Thread Cert.ZxSampleKernelIdeal.nD Cert.ZxSampleKernelIdeal.τ).loc Cert.ZxSampleKernelIdeal.main_arg1) = m ((c.tc : Thread Cert.ZxSampleKernelIdeal.nD Cert.ZxSampleKernelIdeal.τ).loc Cert.ZxSampleKernelIdeal.main_arg1))
      ∧ θ_run (Cert.ZxSampleReferenceIdeal.defs (F := Ideal)) (onTc (τ := Cert.ZxSampleReferenceIdeal.τ) (Cert.ZxSampleReferenceIdeal.main (F := Ideal))) ⟨m', fun _ => 0, g'⟩ (fun r => ∀ c : Dev Cert.ZxSampleReferenceIdeal.nD,
          r.2.mem ((c.tc : Thread Cert.ZxSampleReferenceIdeal.nD Cert.ZxSampleReferenceIdeal.τ).loc Cert.ZxSampleReferenceIdeal.main_v3) = v0 c
          ∧ r.2.mem ((c.tc : Thread Cert.ZxSampleReferenceIdeal.nD Cert.ZxSampleReferenceIdeal.τ).loc Cert.ZxSampleReferenceIdeal.main_arg0) = m' ((c.tc : Thread Cert.ZxSampleReferenceIdeal.nD Cert.ZxSampleReferenceIdeal.τ).loc Cert.ZxSampleReferenceIdeal.main_arg0)
          ∧ r.2.mem ((c.tc : Thread Cert.ZxSampleReferenceIdeal.nD Cert.ZxSampleReferenceIdeal.τ).loc Cert.ZxSampleReferenceIdeal.main_arg1) = m' ((c.tc : Thread Cert.ZxSampleReferenceIdeal.nD Cert.ZxSampleReferenceIdeal.τ).loc Cert.ZxSampleReferenceIdeal.main_arg1))

def preserves_RotaryKernel_RotaryKernelIdeal : Prop :=
  True

def algebraic_RotaryKernelIdeal_RotaryReferenceIdeal [hRotaryKernelIdeal : Cert.RotaryKernelIdeal.Facts] [hRotaryReferenceIdeal : Cert.RotaryReferenceIdeal.Facts] : Prop :=
  ∀ (m : (ℓ : Loc Cert.RotaryKernelIdeal.nD Cert.RotaryKernelIdeal.τ Cert.RotaryKernelIdeal.sig) → Buf (Elt Ideal) ℓ) (g : Dev Cert.RotaryKernelIdeal.nD → PrngReg)
    (m' : (ℓ : Loc Cert.RotaryReferenceIdeal.nD Cert.RotaryReferenceIdeal.τ Cert.RotaryReferenceIdeal.sig) → Buf (Elt Ideal) ℓ) (g' : Dev Cert.RotaryReferenceIdeal.nD → PrngReg), Pre_RotaryKernelIdeal m →
    (∀ c : Dev Cert.RotaryKernelIdeal.nD,
      m' ((c.tc : Thread Cert.RotaryReferenceIdeal.nD Cert.RotaryReferenceIdeal.τ).loc Cert.RotaryReferenceIdeal.main_arg0) = m ((c.tc : Thread Cert.RotaryKernelIdeal.nD Cert.RotaryKernelIdeal.τ).loc Cert.RotaryKernelIdeal.main_arg0)
      ∧ m' ((c.tc : Thread Cert.RotaryReferenceIdeal.nD Cert.RotaryReferenceIdeal.τ).loc Cert.RotaryReferenceIdeal.main_arg1) = m ((c.tc : Thread Cert.RotaryKernelIdeal.nD Cert.RotaryKernelIdeal.τ).loc Cert.RotaryKernelIdeal.main_arg1)
      ∧ m' ((c.tc : Thread Cert.RotaryReferenceIdeal.nD Cert.RotaryReferenceIdeal.τ).loc Cert.RotaryReferenceIdeal.main_arg2) = m ((c.tc : Thread Cert.RotaryKernelIdeal.nD Cert.RotaryKernelIdeal.τ).loc Cert.RotaryKernelIdeal.main_arg2)
      ∧ m' ((c.tc : Thread Cert.RotaryReferenceIdeal.nD Cert.RotaryReferenceIdeal.τ).loc Cert.RotaryReferenceIdeal.main_arg3) = m ((c.tc : Thread Cert.RotaryKernelIdeal.nD Cert.RotaryKernelIdeal.τ).loc Cert.RotaryKernelIdeal.main_arg3)) →
    ∃ (v0 : (c : Dev Cert.RotaryKernelIdeal.nD) → Buf (Elt Ideal) ((c.tc : Thread Cert.RotaryKernelIdeal.nD Cert.RotaryKernelIdeal.τ).loc Cert.RotaryKernelIdeal.main_v30_0)) (v1 : (c : Dev Cert.RotaryKernelIdeal.nD) → Buf (Elt Ideal) ((c.tc : Thread Cert.RotaryKernelIdeal.nD Cert.RotaryKernelIdeal.τ).loc Cert.RotaryKernelIdeal.main_v30_1)),
      θ_run (Cert.RotaryKernelIdeal.defs (F := Ideal)) (onTc (τ := Cert.RotaryKernelIdeal.τ) (Cert.RotaryKernelIdeal.main (F := Ideal))) ⟨m, fun _ => 0, g⟩ (fun r => ∀ c : Dev Cert.RotaryKernelIdeal.nD,
          r.2.mem ((c.tc : Thread Cert.RotaryKernelIdeal.nD Cert.RotaryKernelIdeal.τ).loc Cert.RotaryKernelIdeal.main_v30_0) = v0 c
          ∧ r.2.mem ((c.tc : Thread Cert.RotaryKernelIdeal.nD Cert.RotaryKernelIdeal.τ).loc Cert.RotaryKernelIdeal.main_v30_1) = v1 c
          ∧ r.2.mem ((c.tc : Thread Cert.RotaryKernelIdeal.nD Cert.RotaryKernelIdeal.τ).loc Cert.RotaryKernelIdeal.main_arg0) = m ((c.tc : Thread Cert.RotaryKernelIdeal.nD Cert.RotaryKernelIdeal.τ).loc Cert.RotaryKernelIdeal.main_arg0)
          ∧ r.2.mem ((c.tc : Thread Cert.RotaryKernelIdeal.nD Cert.RotaryKernelIdeal.τ).loc Cert.RotaryKernelIdeal.main_arg1) = m ((c.tc : Thread Cert.RotaryKernelIdeal.nD Cert.RotaryKernelIdeal.τ).loc Cert.RotaryKernelIdeal.main_arg1)
          ∧ r.2.mem ((c.tc : Thread Cert.RotaryKernelIdeal.nD Cert.RotaryKernelIdeal.τ).loc Cert.RotaryKernelIdeal.main_arg2) = m ((c.tc : Thread Cert.RotaryKernelIdeal.nD Cert.RotaryKernelIdeal.τ).loc Cert.RotaryKernelIdeal.main_arg2)
          ∧ r.2.mem ((c.tc : Thread Cert.RotaryKernelIdeal.nD Cert.RotaryKernelIdeal.τ).loc Cert.RotaryKernelIdeal.main_arg3) = m ((c.tc : Thread Cert.RotaryKernelIdeal.nD Cert.RotaryKernelIdeal.τ).loc Cert.RotaryKernelIdeal.main_arg3))
      ∧ θ_run (Cert.RotaryReferenceIdeal.defs (F := Ideal)) (onTc (τ := Cert.RotaryReferenceIdeal.τ) (Cert.RotaryReferenceIdeal.main (F := Ideal))) ⟨m', fun _ => 0, g'⟩ (fun r => ∀ c : Dev Cert.RotaryReferenceIdeal.nD,
          r.2.mem ((c.tc : Thread Cert.RotaryReferenceIdeal.nD Cert.RotaryReferenceIdeal.τ).loc Cert.RotaryReferenceIdeal.main_v101) = v0 c
          ∧ r.2.mem ((c.tc : Thread Cert.RotaryReferenceIdeal.nD Cert.RotaryReferenceIdeal.τ).loc Cert.RotaryReferenceIdeal.main_v102) = v1 c
          ∧ r.2.mem ((c.tc : Thread Cert.RotaryReferenceIdeal.nD Cert.RotaryReferenceIdeal.τ).loc Cert.RotaryReferenceIdeal.main_arg0) = m' ((c.tc : Thread Cert.RotaryReferenceIdeal.nD Cert.RotaryReferenceIdeal.τ).loc Cert.RotaryReferenceIdeal.main_arg0)
          ∧ r.2.mem ((c.tc : Thread Cert.RotaryReferenceIdeal.nD Cert.RotaryReferenceIdeal.τ).loc Cert.RotaryReferenceIdeal.main_arg1) = m' ((c.tc : Thread Cert.RotaryReferenceIdeal.nD Cert.RotaryReferenceIdeal.τ).loc Cert.RotaryReferenceIdeal.main_arg1)
          ∧ r.2.mem ((c.tc : Thread Cert.RotaryReferenceIdeal.nD Cert.RotaryReferenceIdeal.τ).loc Cert.RotaryReferenceIdeal.main_arg2) = m' ((c.tc : Thread Cert.RotaryReferenceIdeal.nD Cert.RotaryReferenceIdeal.τ).loc Cert.RotaryReferenceIdeal.main_arg2)
          ∧ r.2.mem ((c.tc : Thread Cert.RotaryReferenceIdeal.nD Cert.RotaryReferenceIdeal.τ).loc Cert.RotaryReferenceIdeal.main_arg3) = m' ((c.tc : Thread Cert.RotaryReferenceIdeal.nD Cert.RotaryReferenceIdeal.τ).loc Cert.RotaryReferenceIdeal.main_arg3))

def preserves_RotarySampleKernel_RotarySampleKernelIdeal : Prop :=
  True

def algebraic_RotarySampleKernelIdeal_RotarySampleReferenceIdeal [hRotarySampleKernelIdeal : Cert.RotarySampleKernelIdeal.Facts] [hRotarySampleReferenceIdeal : Cert.RotarySampleReferenceIdeal.Facts] : Prop :=
  ∀ (m : (ℓ : Loc Cert.RotarySampleKernelIdeal.nD Cert.RotarySampleKernelIdeal.τ Cert.RotarySampleKernelIdeal.sig) → Buf (Elt Ideal) ℓ) (g : Dev Cert.RotarySampleKernelIdeal.nD → PrngReg)
    (m' : (ℓ : Loc Cert.RotarySampleReferenceIdeal.nD Cert.RotarySampleReferenceIdeal.τ Cert.RotarySampleReferenceIdeal.sig) → Buf (Elt Ideal) ℓ) (g' : Dev Cert.RotarySampleReferenceIdeal.nD → PrngReg), Pre_RotarySampleKernelIdeal m →
    (∀ c : Dev Cert.RotarySampleKernelIdeal.nD,
      m' ((c.tc : Thread Cert.RotarySampleReferenceIdeal.nD Cert.RotarySampleReferenceIdeal.τ).loc Cert.RotarySampleReferenceIdeal.main_arg0) = m ((c.tc : Thread Cert.RotarySampleKernelIdeal.nD Cert.RotarySampleKernelIdeal.τ).loc Cert.RotarySampleKernelIdeal.main_arg0)
      ∧ m' ((c.tc : Thread Cert.RotarySampleReferenceIdeal.nD Cert.RotarySampleReferenceIdeal.τ).loc Cert.RotarySampleReferenceIdeal.main_arg1) = m ((c.tc : Thread Cert.RotarySampleKernelIdeal.nD Cert.RotarySampleKernelIdeal.τ).loc Cert.RotarySampleKernelIdeal.main_arg1)
      ∧ m' ((c.tc : Thread Cert.RotarySampleReferenceIdeal.nD Cert.RotarySampleReferenceIdeal.τ).loc Cert.RotarySampleReferenceIdeal.main_arg2) = m ((c.tc : Thread Cert.RotarySampleKernelIdeal.nD Cert.RotarySampleKernelIdeal.τ).loc Cert.RotarySampleKernelIdeal.main_arg2)
      ∧ m' ((c.tc : Thread Cert.RotarySampleReferenceIdeal.nD Cert.RotarySampleReferenceIdeal.τ).loc Cert.RotarySampleReferenceIdeal.main_arg3) = m ((c.tc : Thread Cert.RotarySampleKernelIdeal.nD Cert.RotarySampleKernelIdeal.τ).loc Cert.RotarySampleKernelIdeal.main_arg3)) →
    ∃ (v0 : (c : Dev Cert.RotarySampleKernelIdeal.nD) → Buf (Elt Ideal) ((c.tc : Thread Cert.RotarySampleKernelIdeal.nD Cert.RotarySampleKernelIdeal.τ).loc Cert.RotarySampleKernelIdeal.main_v30_0)) (v1 : (c : Dev Cert.RotarySampleKernelIdeal.nD) → Buf (Elt Ideal) ((c.tc : Thread Cert.RotarySampleKernelIdeal.nD Cert.RotarySampleKernelIdeal.τ).loc Cert.RotarySampleKernelIdeal.main_v30_1)),
      θ_run (Cert.RotarySampleKernelIdeal.defs (F := Ideal)) (onTc (τ := Cert.RotarySampleKernelIdeal.τ) (Cert.RotarySampleKernelIdeal.main (F := Ideal))) ⟨m, fun _ => 0, g⟩ (fun r => ∀ c : Dev Cert.RotarySampleKernelIdeal.nD,
          r.2.mem ((c.tc : Thread Cert.RotarySampleKernelIdeal.nD Cert.RotarySampleKernelIdeal.τ).loc Cert.RotarySampleKernelIdeal.main_v30_0) = v0 c
          ∧ r.2.mem ((c.tc : Thread Cert.RotarySampleKernelIdeal.nD Cert.RotarySampleKernelIdeal.τ).loc Cert.RotarySampleKernelIdeal.main_v30_1) = v1 c
          ∧ r.2.mem ((c.tc : Thread Cert.RotarySampleKernelIdeal.nD Cert.RotarySampleKernelIdeal.τ).loc Cert.RotarySampleKernelIdeal.main_arg0) = m ((c.tc : Thread Cert.RotarySampleKernelIdeal.nD Cert.RotarySampleKernelIdeal.τ).loc Cert.RotarySampleKernelIdeal.main_arg0)
          ∧ r.2.mem ((c.tc : Thread Cert.RotarySampleKernelIdeal.nD Cert.RotarySampleKernelIdeal.τ).loc Cert.RotarySampleKernelIdeal.main_arg1) = m ((c.tc : Thread Cert.RotarySampleKernelIdeal.nD Cert.RotarySampleKernelIdeal.τ).loc Cert.RotarySampleKernelIdeal.main_arg1)
          ∧ r.2.mem ((c.tc : Thread Cert.RotarySampleKernelIdeal.nD Cert.RotarySampleKernelIdeal.τ).loc Cert.RotarySampleKernelIdeal.main_arg2) = m ((c.tc : Thread Cert.RotarySampleKernelIdeal.nD Cert.RotarySampleKernelIdeal.τ).loc Cert.RotarySampleKernelIdeal.main_arg2)
          ∧ r.2.mem ((c.tc : Thread Cert.RotarySampleKernelIdeal.nD Cert.RotarySampleKernelIdeal.τ).loc Cert.RotarySampleKernelIdeal.main_arg3) = m ((c.tc : Thread Cert.RotarySampleKernelIdeal.nD Cert.RotarySampleKernelIdeal.τ).loc Cert.RotarySampleKernelIdeal.main_arg3))
      ∧ θ_run (Cert.RotarySampleReferenceIdeal.defs (F := Ideal)) (onTc (τ := Cert.RotarySampleReferenceIdeal.τ) (Cert.RotarySampleReferenceIdeal.main (F := Ideal))) ⟨m', fun _ => 0, g'⟩ (fun r => ∀ c : Dev Cert.RotarySampleReferenceIdeal.nD,
          r.2.mem ((c.tc : Thread Cert.RotarySampleReferenceIdeal.nD Cert.RotarySampleReferenceIdeal.τ).loc Cert.RotarySampleReferenceIdeal.main_v101) = v0 c
          ∧ r.2.mem ((c.tc : Thread Cert.RotarySampleReferenceIdeal.nD Cert.RotarySampleReferenceIdeal.τ).loc Cert.RotarySampleReferenceIdeal.main_v102) = v1 c
          ∧ r.2.mem ((c.tc : Thread Cert.RotarySampleReferenceIdeal.nD Cert.RotarySampleReferenceIdeal.τ).loc Cert.RotarySampleReferenceIdeal.main_arg0) = m' ((c.tc : Thread Cert.RotarySampleReferenceIdeal.nD Cert.RotarySampleReferenceIdeal.τ).loc Cert.RotarySampleReferenceIdeal.main_arg0)
          ∧ r.2.mem ((c.tc : Thread Cert.RotarySampleReferenceIdeal.nD Cert.RotarySampleReferenceIdeal.τ).loc Cert.RotarySampleReferenceIdeal.main_arg1) = m' ((c.tc : Thread Cert.RotarySampleReferenceIdeal.nD Cert.RotarySampleReferenceIdeal.τ).loc Cert.RotarySampleReferenceIdeal.main_arg1)
          ∧ r.2.mem ((c.tc : Thread Cert.RotarySampleReferenceIdeal.nD Cert.RotarySampleReferenceIdeal.τ).loc Cert.RotarySampleReferenceIdeal.main_arg2) = m' ((c.tc : Thread Cert.RotarySampleReferenceIdeal.nD Cert.RotarySampleReferenceIdeal.τ).loc Cert.RotarySampleReferenceIdeal.main_arg2)
          ∧ r.2.mem ((c.tc : Thread Cert.RotarySampleReferenceIdeal.nD Cert.RotarySampleReferenceIdeal.τ).loc Cert.RotarySampleReferenceIdeal.main_arg3) = m' ((c.tc : Thread Cert.RotarySampleReferenceIdeal.nD Cert.RotarySampleReferenceIdeal.τ).loc Cert.RotarySampleReferenceIdeal.main_arg3))

def preserves_SsdKernel_SsdKernelIdeal : Prop :=
  True

def algebraic_SsdKernelIdeal_SsdReferenceIdeal [hSsdKernelIdeal : Cert.SsdKernelIdeal.Facts] [hSsdReferenceIdeal : Cert.SsdReferenceIdeal.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdKernelIdeal m →
    (∀ c : Dev Cert.SsdKernelIdeal.nD,
      m' ((c.tc : Thread Cert.SsdReferenceIdeal.nD Cert.SsdReferenceIdeal.τ).loc Cert.SsdReferenceIdeal.main_arg0) = m ((c.tc : Thread Cert.SsdKernelIdeal.nD Cert.SsdKernelIdeal.τ).loc Cert.SsdKernelIdeal.main_arg0)
      ∧ m' ((c.tc : Thread Cert.SsdReferenceIdeal.nD Cert.SsdReferenceIdeal.τ).loc Cert.SsdReferenceIdeal.main_arg1) = m ((c.tc : Thread Cert.SsdKernelIdeal.nD Cert.SsdKernelIdeal.τ).loc Cert.SsdKernelIdeal.main_arg1)
      ∧ m' ((c.tc : Thread Cert.SsdReferenceIdeal.nD Cert.SsdReferenceIdeal.τ).loc Cert.SsdReferenceIdeal.main_arg2) = m ((c.tc : Thread Cert.SsdKernelIdeal.nD Cert.SsdKernelIdeal.τ).loc Cert.SsdKernelIdeal.main_arg2)
      ∧ m' ((c.tc : Thread Cert.SsdReferenceIdeal.nD Cert.SsdReferenceIdeal.τ).loc Cert.SsdReferenceIdeal.main_arg3) = m ((c.tc : Thread Cert.SsdKernelIdeal.nD Cert.SsdKernelIdeal.τ).loc Cert.SsdKernelIdeal.main_arg3)
      ∧ m' ((c.tc : Thread Cert.SsdReferenceIdeal.nD Cert.SsdReferenceIdeal.τ).loc Cert.SsdReferenceIdeal.main_arg4) = m ((c.tc : Thread Cert.SsdKernelIdeal.nD Cert.SsdKernelIdeal.τ).loc Cert.SsdKernelIdeal.main_arg4)
      ∧ m' ((c.tc : Thread Cert.SsdReferenceIdeal.nD Cert.SsdReferenceIdeal.τ).loc Cert.SsdReferenceIdeal.main_arg5) = m ((c.tc : Thread Cert.SsdKernelIdeal.nD Cert.SsdKernelIdeal.τ).loc Cert.SsdKernelIdeal.main_arg5)
      ∧ m' ((c.tc : Thread Cert.SsdReferenceIdeal.nD Cert.SsdReferenceIdeal.τ).loc Cert.SsdReferenceIdeal.main_arg6) = m ((c.tc : Thread Cert.SsdKernelIdeal.nD Cert.SsdKernelIdeal.τ).loc Cert.SsdKernelIdeal.main_arg6)
      ∧ m' ((c.tc : Thread Cert.SsdReferenceIdeal.nD Cert.SsdReferenceIdeal.τ).loc Cert.SsdReferenceIdeal.main_arg7) = m ((c.tc : Thread Cert.SsdKernelIdeal.nD Cert.SsdKernelIdeal.τ).loc Cert.SsdKernelIdeal.main_arg7)) →
    ∃ (v0 : (c : Dev Cert.SsdKernelIdeal.nD) → Buf (Elt Ideal) ((c.tc : Thread Cert.SsdKernelIdeal.nD Cert.SsdKernelIdeal.τ).loc Cert.SsdKernelIdeal.main_v10_0)) (v1 : (c : Dev Cert.SsdKernelIdeal.nD) → Buf (Elt Ideal) ((c.tc : Thread Cert.SsdKernelIdeal.nD Cert.SsdKernelIdeal.τ).loc Cert.SsdKernelIdeal.main_v10_1)),
      θ_run (Cert.SsdKernelIdeal.defs (F := Ideal)) (onTc (τ := Cert.SsdKernelIdeal.τ) (Cert.SsdKernelIdeal.main (F := Ideal))) ⟨m, fun _ => 0, g⟩ (fun r => ∀ c : Dev Cert.SsdKernelIdeal.nD,
          r.2.mem ((c.tc : Thread Cert.SsdKernelIdeal.nD Cert.SsdKernelIdeal.τ).loc Cert.SsdKernelIdeal.main_v10_0) = v0 c
          ∧ r.2.mem ((c.tc : Thread Cert.SsdKernelIdeal.nD Cert.SsdKernelIdeal.τ).loc Cert.SsdKernelIdeal.main_v10_1) = v1 c
          ∧ r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
          ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
          ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
          ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
          ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
          ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
          ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
          ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v88) = v0 c
          ∧ r.2.mem ((c.tc : Thread Cert.SsdReferenceIdeal.nD Cert.SsdReferenceIdeal.τ).loc Cert.SsdReferenceIdeal.main_v89) = v1 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4)
          ∧ r.2.mem ((c.tc : Thread Cert.SsdReferenceIdeal.nD Cert.SsdReferenceIdeal.τ).loc Cert.SsdReferenceIdeal.main_arg5) = m' ((c.tc : Thread Cert.SsdReferenceIdeal.nD Cert.SsdReferenceIdeal.τ).loc Cert.SsdReferenceIdeal.main_arg5)
          ∧ r.2.mem ((c.tc : Thread Cert.SsdReferenceIdeal.nD Cert.SsdReferenceIdeal.τ).loc Cert.SsdReferenceIdeal.main_arg6) = m' ((c.tc : Thread Cert.SsdReferenceIdeal.nD Cert.SsdReferenceIdeal.τ).loc Cert.SsdReferenceIdeal.main_arg6)
          ∧ r.2.mem ((c.tc : Thread Cert.SsdReferenceIdeal.nD Cert.SsdReferenceIdeal.τ).loc Cert.SsdReferenceIdeal.main_arg7) = m' ((c.tc : Thread Cert.SsdReferenceIdeal.nD Cert.SsdReferenceIdeal.τ).loc Cert.SsdReferenceIdeal.main_arg7))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hOutKernel : Cert.OutKernel.Facts) (hOutKernelIdeal : Cert.OutKernelIdeal.Facts) (hOutReferenceIdeal : Cert.OutReferenceIdeal.Facts) (hSsdOutKernel : Cert.SsdOutKernel.Facts) (hSsdOutKernelIdeal : Cert.SsdOutKernelIdeal.Facts) (hSsdOutReferenceIdeal : Cert.SsdOutReferenceIdeal.Facts) (hRwOutKernel : Cert.RwOutKernel.Facts) (hRwOutKernelIdeal : Cert.RwOutKernelIdeal.Facts) (hRwOutReferenceIdeal : Cert.RwOutReferenceIdeal.Facts) (hZxKernel : Cert.ZxKernel.Facts) (hZxKernelIdeal : Cert.ZxKernelIdeal.Facts) (hZxReferenceIdeal : Cert.ZxReferenceIdeal.Facts) (hQkvKernel : Cert.QkvKernel.Facts) (hQkvKernelIdeal : Cert.QkvKernelIdeal.Facts) (hQkvReferenceIdeal : Cert.QkvReferenceIdeal.Facts) (hProjKernel : Cert.ProjKernel.Facts) (hProjKernelIdeal : Cert.ProjKernelIdeal.Facts) (hProjReferenceIdeal : Cert.ProjReferenceIdeal.Facts) (hFfnSampleKernel : Cert.FfnSampleKernel.Facts) (hFfnSampleKernelIdeal : Cert.FfnSampleKernelIdeal.Facts) (hFfnSampleReferenceIdeal : Cert.FfnSampleReferenceIdeal.Facts) (hQkvSampleKernel : Cert.QkvSampleKernel.Facts) (hQkvSampleKernelIdeal : Cert.QkvSampleKernelIdeal.Facts) (hQkvSampleReferenceIdeal : Cert.QkvSampleReferenceIdeal.Facts) (hZxSampleKernel : Cert.ZxSampleKernel.Facts) (hZxSampleKernelIdeal : Cert.ZxSampleKernelIdeal.Facts) (hZxSampleReferenceIdeal : Cert.ZxSampleReferenceIdeal.Facts) (hRotaryKernel : Cert.RotaryKernel.Facts) (hRotaryKernelIdeal : Cert.RotaryKernelIdeal.Facts) (hRotaryReferenceIdeal : Cert.RotaryReferenceIdeal.Facts) (hRotarySampleKernel : Cert.RotarySampleKernel.Facts) (hRotarySampleKernelIdeal : Cert.RotarySampleKernelIdeal.Facts) (hRotarySampleReferenceIdeal : Cert.RotarySampleReferenceIdeal.Facts) (hSsdKernel : Cert.SsdKernel.Facts) (hSsdKernelIdeal : Cert.SsdKernelIdeal.Facts) (hSsdReferenceIdeal : Cert.SsdReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_SsdOutKernel (hSsdOutKernel := hSsdOutKernel)
    ∧ quiescent_SsdOutKernelIdeal (hSsdOutKernelIdeal := hSsdOutKernelIdeal)
    ∧ quiescent_SsdOutReferenceIdeal (hSsdOutReferenceIdeal := hSsdOutReferenceIdeal)
    ∧ quiescent_RwOutKernel (hRwOutKernel := hRwOutKernel)
    ∧ quiescent_RwOutKernelIdeal (hRwOutKernelIdeal := hRwOutKernelIdeal)
    ∧ quiescent_RwOutReferenceIdeal (hRwOutReferenceIdeal := hRwOutReferenceIdeal)
    ∧ quiescent_ZxKernel (hZxKernel := hZxKernel)
    ∧ quiescent_ZxKernelIdeal (hZxKernelIdeal := hZxKernelIdeal)
    ∧ quiescent_ZxReferenceIdeal (hZxReferenceIdeal := hZxReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_FfnSampleKernel (hFfnSampleKernel := hFfnSampleKernel)
    ∧ quiescent_FfnSampleKernelIdeal (hFfnSampleKernelIdeal := hFfnSampleKernelIdeal)
    ∧ quiescent_FfnSampleReferenceIdeal (hFfnSampleReferenceIdeal := hFfnSampleReferenceIdeal)
    ∧ quiescent_QkvSampleKernel (hQkvSampleKernel := hQkvSampleKernel)
    ∧ quiescent_QkvSampleKernelIdeal (hQkvSampleKernelIdeal := hQkvSampleKernelIdeal)
    ∧ quiescent_QkvSampleReferenceIdeal (hQkvSampleReferenceIdeal := hQkvSampleReferenceIdeal)
    ∧ quiescent_ZxSampleKernel (hZxSampleKernel := hZxSampleKernel)
    ∧ quiescent_ZxSampleKernelIdeal (hZxSampleKernelIdeal := hZxSampleKernelIdeal)
    ∧ quiescent_ZxSampleReferenceIdeal (hZxSampleReferenceIdeal := hZxSampleReferenceIdeal)
    ∧ quiescent_RotaryKernel (hRotaryKernel := hRotaryKernel)
    ∧ quiescent_RotaryKernelIdeal (hRotaryKernelIdeal := hRotaryKernelIdeal)
    ∧ quiescent_RotaryReferenceIdeal (hRotaryReferenceIdeal := hRotaryReferenceIdeal)
    ∧ quiescent_RotarySampleKernel (hRotarySampleKernel := hRotarySampleKernel)
    ∧ quiescent_RotarySampleKernelIdeal (hRotarySampleKernelIdeal := hRotarySampleKernelIdeal)
    ∧ quiescent_RotarySampleReferenceIdeal (hRotarySampleReferenceIdeal := hRotarySampleReferenceIdeal)
    ∧ quiescent_SsdKernel (hSsdKernel := hSsdKernel)
    ∧ quiescent_SsdKernelIdeal (hSsdKernelIdeal := hSsdKernelIdeal)
    ∧ quiescent_SsdReferenceIdeal (hSsdReferenceIdeal := hSsdReferenceIdeal)
    ∧ preserves_Kernel_KernelIdeal
    ∧ algebraic_KernelIdeal_ReferenceIdeal (hKernelIdeal := hKernelIdeal) (hReferenceIdeal := hReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_OutKernel_OutKernelIdeal
    ∧ algebraic_OutKernelIdeal_OutReferenceIdeal (hOutKernelIdeal := hOutKernelIdeal) (hOutReferenceIdeal := hOutReferenceIdeal)
    ∧ preserves_SsdOutKernel_SsdOutKernelIdeal
    ∧ algebraic_SsdOutKernelIdeal_SsdOutReferenceIdeal (hSsdOutKernelIdeal := hSsdOutKernelIdeal) (hSsdOutReferenceIdeal := hSsdOutReferenceIdeal)
    ∧ preserves_RwOutKernel_RwOutKernelIdeal
    ∧ algebraic_RwOutKernelIdeal_RwOutReferenceIdeal (hRwOutKernelIdeal := hRwOutKernelIdeal) (hRwOutReferenceIdeal := hRwOutReferenceIdeal)
    ∧ preserves_ZxKernel_ZxKernelIdeal
    ∧ algebraic_ZxKernelIdeal_ZxReferenceIdeal (hZxKernelIdeal := hZxKernelIdeal) (hZxReferenceIdeal := hZxReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_FfnSampleKernel_FfnSampleKernelIdeal
    ∧ algebraic_FfnSampleKernelIdeal_FfnSampleReferenceIdeal (hFfnSampleKernelIdeal := hFfnSampleKernelIdeal) (hFfnSampleReferenceIdeal := hFfnSampleReferenceIdeal)
    ∧ preserves_QkvSampleKernel_QkvSampleKernelIdeal
    ∧ algebraic_QkvSampleKernelIdeal_QkvSampleReferenceIdeal (hQkvSampleKernelIdeal := hQkvSampleKernelIdeal) (hQkvSampleReferenceIdeal := hQkvSampleReferenceIdeal)
    ∧ preserves_ZxSampleKernel_ZxSampleKernelIdeal
    ∧ algebraic_ZxSampleKernelIdeal_ZxSampleReferenceIdeal (hZxSampleKernelIdeal := hZxSampleKernelIdeal) (hZxSampleReferenceIdeal := hZxSampleReferenceIdeal)
    ∧ preserves_RotaryKernel_RotaryKernelIdeal
    ∧ algebraic_RotaryKernelIdeal_RotaryReferenceIdeal (hRotaryKernelIdeal := hRotaryKernelIdeal) (hRotaryReferenceIdeal := hRotaryReferenceIdeal)
    ∧ preserves_RotarySampleKernel_RotarySampleKernelIdeal
    ∧ algebraic_RotarySampleKernelIdeal_RotarySampleReferenceIdeal (hRotarySampleKernelIdeal := hRotarySampleKernelIdeal) (hRotarySampleReferenceIdeal := hRotarySampleReferenceIdeal)
    ∧ preserves_SsdKernel_SsdKernelIdeal
    ∧ algebraic_SsdKernelIdeal_SsdReferenceIdeal (hSsdKernelIdeal := hSsdKernelIdeal) (hSsdReferenceIdeal := hSsdReferenceIdeal)
-- ==== Kernel.lean ====
abbrev S128x8x3072 : Shape := ⟨3, ![128, 8, 3072]⟩
abbrev S128x8x512 : Shape := ⟨3, ![128, 8, 512]⟩
abbrev S16 : Shape := ⟨1, ![16]⟩
abbrev S1024 : Shape := ⟨1, ![1024]⟩
abbrev S128x8x128x64 : Shape := ⟨4, ![128, 8, 128, 64]⟩
abbrev S128x8x64 : Shape := ⟨3, ![128, 8, 64]⟩
abbrev S128x8 : Shape := ⟨2, ![128, 8]⟩
abbrev S8 : Shape := ⟨1, ![8]⟩
abbrev S4x2 : Shape := ⟨2, ![4, 2]⟩
abbrev S4x4 : Shape := ⟨2, ![4, 4]⟩
abbrev S_ : Shape := ⟨0, ![]⟩
abbrev S4x128 : Shape := ⟨2, ![4, 128]⟩
abbrev S1x512 : Shape := ⟨2, ![1, 512]⟩
abbrev S1x1024 : Shape := ⟨2, ![1, 1024]⟩
abbrev S128x4x2x64 : Shape := ⟨4, ![128, 4, 2, 64]⟩
abbrev S128x4x1x2 : Shape := ⟨4, ![128, 4, 1, 2]⟩
abbrev S128x8x1024 : Shape := ⟨3, ![128, 8, 1024]⟩
abbrev S1x8x128 : Shape := ⟨3, ![1, 8, 128]⟩
abbrev S1x8x256 : Shape := ⟨3, ![1, 8, 256]⟩
abbrev S1x128 : Shape := ⟨2, ![1, 128]⟩
abbrev S1x256 : Shape := ⟨2, ![1, 256]⟩
abbrev S1x2x128x64 : Shape := ⟨4, ![1, 2, 128, 64]⟩
abbrev S1x1x2x64 : Shape := ⟨4, ![1, 1, 2, 64]⟩
abbrev S1x1x1x2 : Shape := ⟨4, ![1, 1, 1, 2]⟩
abbrev S2x128x64 : Shape := ⟨3, ![2, 128, 64]⟩
abbrev S2x64 : Shape := ⟨2, ![2, 64]⟩
abbrev S1x2 : Shape := ⟨2, ![1, 2]⟩
abbrev S8x8 : Shape := ⟨2, ![8, 8]⟩
abbrev S8x128 : Shape := ⟨2, ![8, 128]⟩
abbrev S8x1 : Shape := ⟨2, ![8, 1]⟩
abbrev S1x1 : Shape := ⟨2, ![1, 1]⟩
abbrev S8x64 : Shape := ⟨2, ![8, 64]⟩
abbrev S8x256 : Shape := ⟨2, ![8, 256]⟩
abbrev S1x128x64 : Shape := ⟨3, ![1, 128, 64]⟩
abbrev S128x64 : Shape := ⟨2, ![128, 64]⟩
abbrev S1x64 : Shape := ⟨2, ![1, 64]⟩
abbrev S1x8 : Shape := ⟨2, ![1, 8]⟩
abbrev S64 : Shape := ⟨1, ![64]⟩

abbrev nBuf : Space → Nat
  | .hbm => 23
  | .vmem => 31
  | .smem => 0
  | _ => 0

abbrev bufTy : (tb : Table) → Fin (tcTables nBuf tb) → BufTy
  | .hbm, ⟨0, _⟩ => ⟨S128x8x3072, .f32⟩
  | .hbm, ⟨1, _⟩ => ⟨S128x8x512, .f32⟩
  | .hbm, ⟨2, _⟩ => ⟨S16, .f32⟩
  | .hbm, ⟨3, _⟩ => ⟨S1024, .f32⟩
  | .hbm, ⟨4, _⟩ => ⟨S128x8x128x64, .f32⟩
  | .hbm, ⟨5, _⟩ => ⟨S128x8x64, .f32⟩
  | .hbm, ⟨6, _⟩ => ⟨S128x8, .f32⟩
  | .hbm, ⟨7, _⟩ => ⟨S8, .f32⟩
  | .hbm, ⟨8, _⟩ => ⟨S4x2, .f32⟩
  | .hbm, ⟨9, _⟩ => ⟨S8, .f32⟩
  | .hbm, ⟨10, _⟩ => ⟨S4x2, .f32⟩
  | .hbm, ⟨11, _⟩ => ⟨S4x4, .f32⟩
  | .hbm, ⟨12, _⟩ => ⟨S_, .i32⟩
  | .hbm, ⟨13, _⟩ => ⟨S_, .f32⟩
  | .hbm, ⟨14, _⟩ => ⟨S4x128, .f32⟩
  | .hbm, ⟨15, _⟩ => ⟨S1x512, .f32⟩
  | .hbm, ⟨16, _⟩ => ⟨S1x1024, .f32⟩
  | .hbm, ⟨17, _⟩ => ⟨S128x4x2x64, .f32⟩
  | .hbm, ⟨18, _⟩ => ⟨S128x4x1x2, .f32⟩
  | .hbm, ⟨19, _⟩ => ⟨S128x8x1024, .f32⟩
  | .hbm, ⟨20, _⟩ => ⟨S128x8x128x64, .f32⟩
  | .hbm, ⟨21, _⟩ => ⟨S128x4x2x64, .f32⟩
  | .hbm, ⟨22, _⟩ => ⟨S128x4x1x2, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x256, .f32⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | .local _ .vmem, ⟨8, _⟩ => ⟨S1x8x128, .f32⟩
  | .local _ .vmem, ⟨9, _⟩ => ⟨S1x8x128, .f32⟩
  | .local _ .vmem, ⟨10, _⟩ => ⟨S1x128, .f32⟩
  | .local _ .vmem, ⟨11, _⟩ => ⟨S1x128, .f32⟩
  | .local _ .vmem, ⟨12, _⟩ => ⟨S1x256, .f32⟩
  | .local _ .vmem, ⟨13, _⟩ => ⟨S1x256, .f32⟩
  | .local _ .vmem, ⟨14, _⟩ => ⟨S1x2x128x64, .f32⟩
  | .local _ .vmem, ⟨15, _⟩ => ⟨S1x2x128x64, .f32⟩
  | .local _ .vmem, ⟨16, _⟩ => ⟨S1x1x2x64, .f32⟩
  | .local _ .vmem, ⟨17, _⟩ => ⟨S1x1x2x64, .f32⟩
  | .local _ .vmem, ⟨18, _⟩ => ⟨S1x1x1x2, .f32⟩
  | .local _ .vmem, ⟨19, _⟩ => ⟨S1x1x1x2, .f32⟩
  | .local _ .vmem, ⟨20, _⟩ => ⟨S1x8x256, .f32⟩
  | .local _ .vmem, ⟨21, _⟩ => ⟨S1x8x256, .f32⟩
  | .local _ .vmem, ⟨22, _⟩ => ⟨S1x2x128x64, .f32⟩
  | .local _ .vmem, ⟨23, _⟩ => ⟨S1x2x128x64, .f32⟩
  | .local _ .vmem, ⟨24, _⟩ => ⟨S1x1x2x64, .f32⟩
  | .local _ .vmem, ⟨25, _⟩ => ⟨S1x1x2x64, .f32⟩
  | .local _ .vmem, ⟨26, _⟩ => ⟨S1x1x1x2, .f32⟩
  | .local _ .vmem, ⟨27, _⟩ => ⟨S1x1x1x2, .f32⟩
  | .local _ .vmem, ⟨28, _⟩ => ⟨S2x128x64, .f32⟩
  | .local _ .vmem, ⟨29, _⟩ => ⟨S2x64, .f32⟩
  | .local _ .vmem, ⟨30, _⟩ => ⟨S1x2, .f32⟩
  | _, _ => ⟨S128x8x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![128, 4, 1], ![false, false, false]⟩

def k0_cond2 (i : grid0.Coords) : BitVec 1 :=
  let arg2 : BitVec 32 := BitVec.ofNat 32 (i 2).val
  let c0_i32_108 : BitVec 32 := 0#32
  let v300 : BitVec 1 := Scalar.cmpi .eq arg2 c0_i32_108
  let v301 : BitVec 32 := Scalar.extui v300
  let c0_i32_109 : BitVec 32 := 0#32
  let v302 : BitVec 1 := Scalar.cmpi .ne v301 c0_i32_109
  v302

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x2x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x2x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1x2x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x1x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== ReferenceIdeal.lean ====
abbrev S128x8x3072 : Shape := ⟨3, ![128, 8, 3072]⟩
abbrev S128x8x512 : Shape := ⟨3, ![128, 8, 512]⟩
abbrev S16 : Shape := ⟨1, ![16]⟩
abbrev S1024 : Shape := ⟨1, ![1024]⟩
abbrev S128x8x128x64 : Shape := ⟨4, ![128, 8, 128, 64]⟩
abbrev S128x8x64 : Shape := ⟨3, ![128, 8, 64]⟩
abbrev S128x8 : Shape := ⟨2, ![128, 8]⟩
abbrev S128x8x8x64 : Shape := ⟨4, ![128, 8, 8, 64]⟩
abbrev S_ : Shape := ⟨0, ![]⟩
abbrev S128x8x1024 : Shape := ⟨3, ![128, 8, 1024]⟩
abbrev S128x8x8x128 : Shape := ⟨4, ![128, 8, 8, 128]⟩
abbrev S128x8x4x128 : Shape := ⟨4, ![128, 8, 4, 128]⟩
abbrev S128x8x4x2 : Shape := ⟨4, ![128, 8, 4, 2]⟩
abbrev S128x8x8 : Shape := ⟨3, ![128, 8, 8]⟩
abbrev S8 : Shape := ⟨1, ![8]⟩
abbrev S1x1x8 : Shape := ⟨3, ![1, 1, 8]⟩
abbrev S8x8 : Shape := ⟨2, ![8, 8]⟩
abbrev S1x8x8x1 : Shape := ⟨4, ![1, 8, 8, 1]⟩
abbrev S128x8x1x8 : Shape := ⟨4, ![128, 8, 1, 8]⟩
abbrev S128x1x8x8 : Shape := ⟨4, ![128, 1, 8, 8]⟩
abbrev S128x8x8x8 : Shape := ⟨4, ![128, 8, 8, 8]⟩
abbrev S128x1x8 : Shape := ⟨3, ![128, 1, 8]⟩
abbrev S128x8x128x8 : Shape := ⟨4, ![128, 8, 128, 8]⟩
abbrev S128x8x8x1 : Shape := ⟨4, ![128, 8, 8, 1]⟩
abbrev S128x8x1x1 : Shape := ⟨4, ![128, 8, 1, 1]⟩
abbrev S128x8x1 : Shape := ⟨3, ![128, 8, 1]⟩
abbrev S8x128 : Shape := ⟨2, ![8, 128]⟩
abbrev S1x1x8x128 : Shape := ⟨4, ![1, 1, 8, 128]⟩
abbrev S128x4x2x64 : Shape := ⟨4, ![128, 4, 2, 64]⟩
abbrev S128x4x1x2 : Shape := ⟨4, ![128, 4, 1, 2]⟩

abbrev nBuf : Space → Nat
  | .hbm => 167
  | .vmem => 0
  | .smem => 0
  | _ => 0

abbrev hbmTy0_0 (i : Nat) : BufTy := match i % 128 with
  | 0 => ⟨S128x8x3072, .f32⟩
  | 1 => ⟨S128x8x512, .f32⟩
  | 2 => ⟨S16, .f32⟩
  | 3 => ⟨S1024, .f32⟩
  | 4 => ⟨S128x8x128x64, .f32⟩
  | 5 => ⟨S128x8x64, .f32⟩
  | 6 => ⟨S128x8, .f32⟩
  | 7 => ⟨S128x8x512, .f32⟩
  | 8 => ⟨S128x8x8x64, .f32⟩
  | 9 => ⟨S_, .f32⟩
  | 10 => ⟨S128x8x8x64, .f32⟩
  | 11 => ⟨S128x8x8x64, .f32⟩
  | 12 => ⟨S128x8x512, .f32⟩
  | 13 => ⟨S128x8x8x64, .f32⟩
  | 14 => ⟨S128x8x1024, .f32⟩
  | 15 => ⟨S128x8x8x128, .f32⟩
  | 16 => ⟨S128x8x1024, .f32⟩
  | 17 => ⟨S128x8x1024, .f32⟩
  | 18 => ⟨S128x8x1024, .f32⟩
  | 19 => ⟨S_, .f32⟩
  | 20 => ⟨S128x8x1024, .f32⟩
  | 21 => ⟨S128x8x1024, .f32⟩
  | 22 => ⟨S_, .f32⟩
  | 23 => ⟨S128x8x1024, .f32⟩
  | 24 => ⟨S128x8x1024, .f32⟩
  | 25 => ⟨S128x8x4x128, .f32⟩
  | 26 => ⟨S128x8x4x2, .f32⟩
  | 27 => ⟨S128x8x8, .f32⟩
  | 28 => ⟨S8, .f32⟩
  | 29 => ⟨S1x1x8, .f32⟩
  | 30 => ⟨S128x8x8, .f32⟩
  | 31 => ⟨S128x8x8, .f32⟩
  | 32 => ⟨S128x8x4x2, .f32⟩
  | 33 => ⟨S128x8x8, .f32⟩
  | 34 => ⟨S8, .f32⟩
  | 35 => ⟨S1x1x8, .f32⟩
  | 36 => ⟨S128x8x8, .f32⟩
  | 37 => ⟨S128x8x8, .f32⟩
  | 38 => ⟨S128x8x8, .f32⟩
  | 39 => ⟨S_, .f32⟩
  | 40 => ⟨S128x8x8, .f32⟩
  | 41 => ⟨S128x8x8, .f32⟩
  | 42 => ⟨S128x8x8, .f32⟩
  | 43 => ⟨S128x8x8, .f32⟩
  | 44 => ⟨S128x8x8, .i1⟩
  | 45 => ⟨S128x8x8, .f32⟩
  | 46 => ⟨S128x8x8, .f32⟩
  | 47 => ⟨S128x8x8, .f32⟩
  | 48 => ⟨S128x8x8, .f32⟩
  | 49 => ⟨S128x8x8, .f32⟩
  | 50 => ⟨S128x8x8, .f32⟩
  | 51 => ⟨S128x8x8, .f32⟩
  | 52 => ⟨S128x8x8, .f32⟩
  | 53 => ⟨S128x8x8, .f32⟩
  | 54 => ⟨S_, .i1⟩
  | 55 => ⟨S8x8, .i1⟩
  | 56 => ⟨S8x8, .i32⟩
  | 57 => ⟨S_, .i32⟩
  | 58 => ⟨S8x8, .i32⟩
  | 59 => ⟨S8x8, .i32⟩
  | 60 => ⟨S8x8, .i32⟩
  | 61 => ⟨S8x8, .i1⟩
  | 62 => ⟨S_, .i1⟩
  | 63 => ⟨S8x8, .i1⟩
  | 64 => ⟨S8x8, .i1⟩
  | 65 => ⟨S1x8x8x1, .i1⟩
  | 66 => ⟨S_, .f32⟩
  | 67 => ⟨S_, .f32⟩
  | 68 => ⟨S128x8x8, .f32⟩
  | 69 => ⟨S128x8x1x8, .f32⟩
  | 70 => ⟨S128x1x8x8, .f32⟩
  | 71 => ⟨S128x8x8x8, .f32⟩
  | 72 => ⟨S128x8x8x8, .f32⟩
  | 73 => ⟨S128x8x8x8, .f32⟩
  | 74 => ⟨S128x1x8x8, .f32⟩
  | 75 => ⟨S128x8x8x8, .f32⟩
  | 76 => ⟨S128x8x8x8, .f32⟩
  | 77 => ⟨S_, .f32⟩
  | 78 => ⟨S_, .f32⟩
  | 79 => ⟨S128x8x8x8, .i1⟩
  | 80 => ⟨S128x8x8x8, .f32⟩
  | 81 => ⟨S128x8x8x8, .f32⟩
  | 82 => ⟨S128x1x8, .f32⟩
  | 83 => ⟨S128x8x8, .f32⟩
  | 84 => ⟨S128x8x8, .f32⟩
  | 85 => ⟨S_, .f32⟩
  | 86 => ⟨S128x8x8, .f32⟩
  | 87 => ⟨S128x8x8, .f32⟩
  | 88 => ⟨S128x8x1x8, .f32⟩
  | 89 => ⟨S128x8x8x8, .f32⟩
  | 90 => ⟨S128x8x8x8, .f32⟩
  | 91 => ⟨S128x8x8x8, .f32⟩
  | 92 => ⟨S128x8x8, .f32⟩
  | 93 => ⟨S128x8x8, .f32⟩
  | 94 => ⟨S128x8x8x8, .f32⟩
  | 95 => ⟨S128x8x8x8, .f32⟩
  | 96 => ⟨S128x8x8x8, .f32⟩
  | 97 => ⟨S128x8x128x8, .f32⟩
  | 98 => ⟨S128x8x8x128, .f32⟩
  | 99 => ⟨S128x8x8x1, .f32⟩
  | 100 => ⟨S128x8x8x128, .f32⟩
  | 101 => ⟨S128x8x8x128, .f32⟩
  | 102 => ⟨S128x8x8x128, .f32⟩
  | 103 => ⟨S128x8x8x128, .f32⟩
  | 104 => ⟨S128x8x8x128, .f32⟩
  | 105 => ⟨S_, .f32⟩
  | 106 => ⟨S128x8x8, .f32⟩
  | 107 => ⟨S128x8x8, .f32⟩
  | 108 => ⟨S128x8x8, .f32⟩
  | 109 => ⟨S128x8x8, .f32⟩
  | 110 => ⟨S128x8x8, .f32⟩
  | 111 => ⟨S128x8x8, .f32⟩
  | 112 => ⟨S128x8x8, .f32⟩
  | 113 => ⟨S128x8x8, .f32⟩
  | 114 => ⟨S128x8x8, .f32⟩
  | 115 => ⟨S128x8x8x1, .f32⟩
  | 116 => ⟨S128x8x8x128, .f32⟩
  | 117 => ⟨S128x8x8x128, .f32⟩
  | 118 => ⟨S128x1x8, .f32⟩
  | 119 => ⟨S128x8, .f32⟩
  | 120 => ⟨S128x1x8, .f32⟩
  | 121 => ⟨S128x8x8, .f32⟩
  | 122 => ⟨S128x8x8, .f32⟩
  | 123 => ⟨S128x8x8, .f32⟩
  | 124 => ⟨S128x1x8, .f32⟩
  | 125 => ⟨S128x8x8, .f32⟩
  | 126 => ⟨S128x8x8, .f32⟩
  | 127 => ⟨S128x8x8, .f32⟩
  | _ => ⟨S128x8x3072, .f32⟩

abbrev hbmTy0_1 (i : Nat) : BufTy := match i % 128 with
  | 0 => ⟨S128x1x8, .f32⟩
  | 1 => ⟨S128x8, .f32⟩
  | 2 => ⟨S128x8, .f32⟩
  | 3 => ⟨S128x8, .f32⟩
  | 4 => ⟨S128x8, .f32⟩
  | 5 => ⟨S128x8x1x1, .f32⟩
  | 6 => ⟨S128x8x128x64, .f32⟩
  | 7 => ⟨S128x8x128x64, .f32⟩
  | 8 => ⟨S128x8x8x1, .f32⟩
  | 9 => ⟨S128x8x8x128, .f32⟩
  | 10 => ⟨S128x8x8x128, .f32⟩
  | 11 => ⟨S128x8x128x64, .f32⟩
  | 12 => ⟨S128x8x128x64, .f32⟩
  | 13 => ⟨S128x8x1, .f32⟩
  | 14 => ⟨S128x8x64, .f32⟩
  | 15 => ⟨S128x8x64, .f32⟩
  | 16 => ⟨S128x8x64, .f32⟩
  | 17 => ⟨S128x8x64, .f32⟩
  | 18 => ⟨S8x128, .f32⟩
  | 19 => ⟨S128x8x8x128, .f32⟩
  | 20 => ⟨S_, .f32⟩
  | 21 => ⟨S128x8x8, .f32⟩
  | 22 => ⟨S128x8x8x1, .f32⟩
  | 23 => ⟨S_, .f32⟩
  | 24 => ⟨S128x8x8x1, .f32⟩
  | 25 => ⟨S128x8x8x1, .f32⟩
  | 26 => ⟨S_, .f32⟩
  | 27 => ⟨S128x8x8x1, .f32⟩
  | 28 => ⟨S128x8x8x1, .f32⟩
  | 29 => ⟨S128x8x8x1, .f32⟩
  | 30 => ⟨S128x8x8x128, .f32⟩
  | 31 => ⟨S128x8x8x128, .f32⟩
  | 32 => ⟨S1x1x8x128, .f32⟩
  | 33 => ⟨S128x8x8x128, .f32⟩
  | 34 => ⟨S128x8x8x128, .f32⟩
  | 35 => ⟨S128x8x1024, .f32⟩
  | 36 => ⟨S128x8x1024, .f32⟩
  | 37 => ⟨S128x4x2x64, .f32⟩
  | 38 => ⟨S128x4x1x2, .f32⟩
  | _ => ⟨S128x8x3072, .f32⟩

abbrev hbmTy (i : Nat) : BufTy := match i / 128 with
  | 0 => hbmTy0_0 i
  | 1 => hbmTy0_1 i
  | _ => ⟨S128x8x3072, .f32⟩

abbrev bufTy : (tb : Table) → Fin (tcTables nBuf tb) → BufTy
  | .hbm, ⟨i, _⟩ => hbmTy i
  | _, _ => ⟨S128x8x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_v1 : Ref sig .tc := ⟨.hbm, 52, rfl⟩
abbrev main_v28 : Ref sig .tc := ⟨.hbm, 53, rfl⟩
abbrev main_c : Ref sig .tc := ⟨.hbm, 54, rfl⟩
abbrev main_v29 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_0 : Ref sig .tc := ⟨.hbm, 62, rfl⟩
abbrev main_call1_v5 : Ref sig .tc := ⟨.hbm, 63, rfl⟩
abbrev main_v30 : Ref sig .tc := ⟨.hbm, 64, rfl⟩
abbrev main_v31 : Ref sig .tc := ⟨.hbm, 65, rfl⟩
abbrev main_call2_call0_cst : Ref sig .tc := ⟨.hbm, 66, rfl⟩
abbrev main_call2_call0_v0 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_2 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_3 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_4 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_5 : Ref sig .tc := ⟨.hbm, 148, rfl⟩
abbrev main_v106 : Ref sig .tc := ⟨.hbm, 149, rfl⟩
abbrev main_v107 : Ref sig .tc := ⟨.hbm, 150, rfl⟩
abbrev main_cst_6 : Ref sig .tc := ⟨.hbm, 151, rfl⟩
abbrev main_v108 : Ref sig .tc := ⟨.hbm, 152, rfl⟩
abbrev main_v109 : Ref sig .tc := ⟨.hbm, 153, rfl⟩
abbrev main_cst_7 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩

abbrev nD : Nat := 1
abbrev τ : Topo := Topo.v7x

variable {F : FTy → Type} [FloatOps F]
-- ==== FfnKernel.lean ====
abbrev S2x8192x1024 : Shape := ⟨3, ![2, 8192, 1024]⟩
abbrev S2x1x1024 : Shape := ⟨3, ![2, 1, 1024]⟩
abbrev S1024 : Shape := ⟨1, ![1024]⟩
abbrev S1024x5632 : Shape := ⟨2, ![1024, 5632]⟩
abbrev S2816x1024 : Shape := ⟨2, ![2816, 1024]⟩
abbrev S1x1x1024 : Shape := ⟨3, ![1, 1, 1024]⟩
abbrev S1x512x1024 : Shape := ⟨3, ![1, 512, 1024]⟩
abbrev S1024x1408 : Shape := ⟨2, ![1024, 1408]⟩
abbrev S1408x1024 : Shape := ⟨2, ![1408, 1024]⟩
abbrev S512x1024 : Shape := ⟨2, ![512, 1024]⟩
abbrev S1x512 : Shape := ⟨2, ![1, 512]⟩
abbrev S1x512x1 : Shape := ⟨3, ![1, 512, 1]⟩
abbrev S512x1408 : Shape := ⟨2, ![512, 1408]⟩

abbrev nBuf : Space → Nat
  | .hbm => 11
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024x5632, .bf16⟩
  | .hbm, ⟨8, _⟩ => ⟨S2816x1024, .bf16⟩
  | .hbm, ⟨9, _⟩ => ⟨S1x1x1024, .f32⟩
  | .hbm, ⟨10, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | .local _ .vmem, ⟨18, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 16, 2], ![false, false, false]⟩

def k0_cond4 (i : grid0.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_14 : BitVec 32 := 0#32
  let v25 : BitVec 1 := Scalar.cmpi .ne v24 c0_i32_14
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FfnReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x5632, .f32⟩
  | .hbm, ⟨31, _⟩ => ⟨S2x8192x2816, .f32⟩
  | .hbm, ⟨32, _⟩ => ⟨S2x8192x2816, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x8192x2816, .f32⟩
  | .hbm, ⟨37, _⟩ => ⟨S2x8192x2816, .f32⟩
  | .hbm, ⟨38, _⟩ => ⟨S_, .f32⟩
  | .hbm, ⟨39, _⟩ => ⟨S2x8192x2816, .f32⟩
  | .hbm, ⟨40, _⟩ => ⟨S2x8192x2816, .f32⟩
  | .hbm, ⟨41, _⟩ => ⟨S_, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== OutKernel.lean ====
abbrev S2x8192x1024 : Shape := ⟨3, ![2, 8192, 1024]⟩
abbrev S1024x1024 : Shape := ⟨2, ![1024, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S2x1x1024, .f32⟩
  | .hbm, ⟨4, _⟩ => ⟨S1024x1024, .bf16⟩
  | .hbm, ⟨5, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutKernelIdeal.lean ====
abbrev S2x8192x1024 : Shape := ⟨3, ![2, 8192, 1024]⟩
abbrev S1024x1024 : Shape := ⟨2, ![1024, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S2x1x1024, .f32⟩
  | .hbm, ⟨4, _⟩ => ⟨S1024x1024, .bf16⟩
  | .hbm, ⟨5, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S2x8192x1024 : Shape := ⟨3, ![2, 8192, 1024]⟩
abbrev S1024x1024 : Shape := ⟨2, ![1024, 1024]⟩
abbrev S2x1x1024 : Shape := ⟨3, ![2, 1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S2x1x1024, .f32⟩
  | .hbm, ⟨4, _⟩ => ⟨S2x8192x1024, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== SsdOutKernel.lean ====
abbrev S2x8192x2048 : Shape := ⟨3, ![2, 8192, 2048]⟩
abbrev S2048x1024 : Shape := ⟨2, ![2048, 1024]⟩
abbrev S2x8192x1024 : Shape := ⟨3, ![2, 8192, 1024]⟩
abbrev S2x1x1024 : Shape := ⟨3, ![2, 1, 1024]⟩
abbrev S1x512x2048 : Shape := ⟨3, ![1, 512, 2048]⟩
abbrev S1x512x1024 : Shape := ⟨3, ![1, 512, 1024]⟩
abbrev S1x1x1024 : Shape := ⟨3, ![1, 1, 1024]⟩
abbrev S512x2048 : Shape := ⟨2, ![512, 2048]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S2048x1024, .f32⟩
  | .hbm, ⟨2, _⟩ => ⟨S2x8192x1024, .f32⟩
  | .hbm, ⟨3, _⟩ => ⟨S2x1x1024, .f32⟩
  | .hbm, ⟨4, _⟩ => ⟨S2048x1024, .bf16⟩
  | .hbm, ⟨5, _⟩ => ⟨S2x8192x1024, .f32⟩
  | .local _ .vmem, ⟨0, _⟩ => ⟨S1x512x2048, .f32⟩
  | .local _ .vmem, ⟨1, _⟩ => ⟨S1x512x2048, .f32⟩
  | .local _ .vmem, ⟨2, _⟩ => ⟨S2048x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SsdOutReferenceIdeal.lean ====
abbrev S2x8192x2048 : Shape := ⟨3, ![2, 8192, 2048]⟩
abbrev S2048x1024 : Shape := ⟨2, ![2048, 1024]⟩
abbrev S2x8192x1024 : Shape := ⟨3, ![2, 8192, 1024]⟩
abbrev S2x1x1024 : Shape := ⟨3, ![2, 1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x1024, .f32⟩
  | .hbm, ⟨2, _⟩ => ⟨S2x8192x1024, .f32⟩
  | .hbm, ⟨3, _⟩ => ⟨S2x1x1024, .f32⟩
  | .hbm, ⟨4, _⟩ => ⟨S2x8192x1024, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== RwOutKernel.lean ====
abbrev S2x8192x1024 : Shape := ⟨3, ![2, 8192, 1024]⟩
abbrev S1024x1024 : Shape := ⟨2, ![1024, 1024]⟩
abbrev S2x1x1024 : Shape := ⟨3, ![2, 1, 1024]⟩
abbrev S1x256x1024 : Shape := ⟨3, ![1, 256, 1024]⟩
abbrev S1x1x1024 : Shape := ⟨3, ![1, 1, 1024]⟩
abbrev S256x1024 : Shape := ⟨2, ![256, 1024]⟩

abbrev nBuf : Space → Nat
  | .hbm => 7
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S2x8192x1024, .f32⟩
  | .hbm, ⟨4, _⟩ => ⟨S2x1x1024, .f32⟩
  | .hbm, ⟨5, _⟩ => ⟨S1024x1024, .bf16⟩
  | .hbm, ⟨6, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x1024, .bf16⟩
  | .local _ .vmem, ⟨5, _⟩ => ⟨S1x256x1024, .f32⟩
  | .local _ .vmem, ⟨6, _⟩ => ⟨S1x256x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x256x1024, .f32⟩
  | .local _ .vmem, ⟨10, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RwOutReferenceIdeal.lean ====
abbrev S2x8192x1024 : Shape := ⟨3, ![2, 8192, 1024]⟩
abbrev S1024x1024 : Shape := ⟨2, ![1024, 1024]⟩
abbrev S2x1x1024 : Shape := ⟨3, ![2, 1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S2x8192x1024, .f32⟩
  | .hbm, ⟨4, _⟩ => ⟨S2x1x1024, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== ZxKernel.lean ====
abbrev S2x8192x1024 : Shape := ⟨3, ![2, 8192, 1024]⟩
abbrev S1024x5152 : Shape := ⟨2, ![1024, 5152]⟩
abbrev S1024x5120 : Shape := ⟨2, ![1024, 5120]⟩
abbrev S16384x1024 : Shape := ⟨2, ![16384, 1024]⟩
abbrev S16384x5120 : Shape := ⟨2, ![16384, 5120]⟩
abbrev S512x1024 : Shape := ⟨2, ![512, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x8192x1024, .bf16⟩
  | .hbm, ⟨1, _⟩ => ⟨S1024x5152, .f32⟩
  | .hbm, ⟨2, _⟩ => ⟨S1024x5120, .f32⟩
  | .hbm, ⟨3, _⟩ => ⟨S16384x1024, .bf16⟩
  | .hbm, ⟨4, _⟩ => ⟨S1024x5120, .bf16⟩
  | .hbm, ⟨5, _⟩ => ⟨S16384x5120, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZxKernelIdeal.lean ====
abbrev S2x8192x1024 : Shape := ⟨3, ![2, 8192, 1024]⟩
abbrev S1024x5152 : Shape := ⟨2, ![1024, 5152]⟩
abbrev S1024x5120 : Shape := ⟨2, ![1024, 5120]⟩
abbrev S16384x1024 : Shape := ⟨2, ![16384, 1024]⟩
abbrev S16384x5120 : Shape := ⟨2, ![16384, 5120]⟩
abbrev S512x1024 : Shape := ⟨2, ![512, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x8192x1024, .bf16⟩
  | .hbm, ⟨1, _⟩ => ⟨S1024x5152, .f32⟩
  | .hbm, ⟨2, _⟩ => ⟨S1024x5120, .f32⟩
  | .hbm, ⟨3, _⟩ => ⟨S16384x1024, .bf16⟩
  | .hbm, ⟨4, _⟩ => ⟨S1024x5120, .bf16⟩
  | .hbm, ⟨5, _⟩ => ⟨S16384x5120, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZxReferenceIdeal.lean ====
abbrev S2x8192x1024 : Shape := ⟨3, ![2, 8192, 1024]⟩
abbrev S1024x5152 : Shape := ⟨2, ![1024, 5152]⟩
abbrev S2x8192x5152 : Shape := ⟨3, ![2, 8192, 5152]⟩
abbrev S2x8192x5120 : Shape := ⟨3, ![2, 8192, 5120]⟩
abbrev S16384x5120 : Shape := ⟨2, ![16384, 5120]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x5152, .f32⟩
  | .hbm, ⟨2, _⟩ => ⟨S2x8192x1024, .f32⟩
  | .hbm, ⟨3, _⟩ => ⟨S2x8192x5152, .f32⟩
  | .hbm, ⟨4, _⟩ => ⟨S2x8192x5120, .f32⟩
  | .hbm, ⟨5, _⟩ => ⟨S16384x5120, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QkvKernel.lean ====
abbrev S2x8192x1024 : Shape := ⟨3, ![2, 8192, 1024]⟩
abbrev S1024x3072 : Shape := ⟨2, ![1024, 3072]⟩
abbrev S16384x1024 : Shape := ⟨2, ![16384, 1024]⟩
abbrev S16384x3072 : Shape := ⟨2, ![16384, 3072]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2x8192x1024, .bf16⟩
  | .hbm, ⟨1, _⟩ => ⟨S1024x3072, .f32⟩
  | .hbm, ⟨2, _⟩ => ⟨S16384x1024, .bf16⟩
  | .hbm, ⟨3, _⟩ => ⟨S1024x3072, .bf16⟩
  | .hbm, ⟨4, _⟩ => ⟨S16384x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvKernelIdeal.lean ====
abbrev S2x8192x1024 : Shape := ⟨3, ![2, 8192, 1024]⟩
abbrev S1024x3072 : Shape := ⟨2, ![1024, 3072]⟩
abbrev S16384x1024 : Shape := ⟨2, ![16384, 1024]⟩
abbrev S16384x3072 : Shape := ⟨2, ![16384, 3072]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2x8192x1024, .bf16⟩
  | .hbm, ⟨1, _⟩ => ⟨S1024x3072, .f32⟩
  | .hbm, ⟨2, _⟩ => ⟨S16384x1024, .bf16⟩
  | .hbm, ⟨3, _⟩ => ⟨S1024x3072, .bf16⟩
  | .hbm, ⟨4, _⟩ => ⟨S16384x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvReferenceIdeal.lean ====
abbrev S2x8192x1024 : Shape := ⟨3, ![2, 8192, 1024]⟩
abbrev S1024x3072 : Shape := ⟨2, ![1024, 3072]⟩
abbrev S2x8192x3072 : Shape := ⟨3, ![2, 8192, 3072]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x3072, .f32⟩
  | .hbm, ⟨2, _⟩ => ⟨S2x8192x1024, .f32⟩
  | .hbm, ⟨3, _⟩ => ⟨S2x8192x3072, .f32⟩
  | .hbm, ⟨4, _⟩ => ⟨S16384x3072, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjKernel.lean ====
abbrev S2x8192x1024 : Shape := ⟨3, ![2, 8192, 1024]⟩
abbrev S1024x3088 : Shape := ⟨2, ![1024, 3088]⟩
abbrev S1024x3072 : Shape := ⟨2, ![1024, 3072]⟩
abbrev S16384x1024 : Shape := ⟨2, ![16384, 1024]⟩
abbrev S16384x3072 : Shape := ⟨2, ![16384, 3072]⟩
abbrev S512x1024 : Shape := ⟨2, ![512, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x8192x1024, .bf16⟩
  | .hbm, ⟨1, _⟩ => ⟨S1024x3088, .f32⟩
  | .hbm, ⟨2, _⟩ => ⟨S1024x3072, .f32⟩
  | .hbm, ⟨3, _⟩ => ⟨S16384x1024, .bf16⟩
  | .hbm, ⟨4, _⟩ => ⟨S1024x3072, .bf16⟩
  | .hbm, ⟨5, _⟩ => ⟨S16384x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S2x8192x1024 : Shape := ⟨3, ![2, 8192, 1024]⟩
abbrev S1024x3088 : Shape := ⟨2, ![1024, 3088]⟩
abbrev S2x8192x3088 : Shape := ⟨3, ![2, 8192, 3088]⟩
abbrev S2x8192x3072 : Shape := ⟨3, ![2, 8192, 3072]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1024x3088, .f32⟩
  | .hbm, ⟨2, _⟩ => ⟨S2x8192x1024, .f32⟩
  | .hbm, ⟨3, _⟩ => ⟨S2x8192x3088, .f32⟩
  | .hbm, ⟨4, _⟩ => ⟨S2x8192x3072, .f32⟩
  | .hbm, ⟨5, _⟩ => ⟨S16384x3072, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnSampleKernel.lean ====
abbrev S128x8x1024 : Shape := ⟨3, ![128, 8, 1024]⟩
abbrev S128x1x1024 : Shape := ⟨3, ![128, 1, 1024]⟩
abbrev S1024 : Shape := ⟨1, ![1024]⟩
abbrev S1024x5632 : Shape := ⟨2, ![1024, 5632]⟩
abbrev S2816x1024 : Shape := ⟨2, ![2816, 1024]⟩
abbrev S1x1x1024 : Shape := ⟨3, ![1, 1, 1024]⟩
abbrev S64x8x1024 : Shape := ⟨3, ![64, 8, 1024]⟩
abbrev S64x1x1024 : Shape := ⟨3, ![64, 1, 1024]⟩
abbrev S1024x1408 : Shape := ⟨2, ![1024, 1408]⟩
abbrev S1408x1024 : Shape := ⟨2, ![1408, 1024]⟩
abbrev S512x1024 : Shape := ⟨2, ![512, 1024]⟩
abbrev S64x8 : Shape := ⟨2, ![64, 8]⟩
abbrev S64x8x1 : Shape := ⟨3, ![64, 8, 1]⟩
abbrev S512x1408 : Shape := ⟨2, ![512, 1408]⟩

abbrev nBuf : Space → Nat
  | .hbm => 11
  | .vmem => 19
  | .smem => 0
  | _ => 0

abbrev bufTy : (tb : Table) → Fin (tcTables nBuf tb) → BufTy
  | .hbm, ⟨0, _⟩ => ⟨S128x8x1024, .f32⟩
  | .hbm, ⟨1, _⟩ => ⟨S128x1x1024, .f32⟩
  | .hbm, ⟨2, _⟩ => ⟨S128x1x1024, .f32⟩
  | .hbm, ⟨3, _⟩ => ⟨S128x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024x5632, .bf16⟩
  | .hbm, ⟨8, _⟩ => ⟨S2816x1024, .bf16⟩
  | .hbm, ⟨9, _⟩ => ⟨S1x1x1024, .f32⟩
  | .hbm, ⟨10, _⟩ => ⟨S128x8x1024, .f32⟩
  | .local _ .vmem, ⟨0, _⟩ => ⟨S64x8x1024, .f32⟩
  | .local _ .vmem, ⟨1, _⟩ => ⟨S64x8x1024, .f32⟩
  | .local _ .vmem, ⟨2, _⟩ => ⟨S64x1x1024, .f32⟩
  | .local _ .vmem, ⟨3, _⟩ => ⟨S64x1x1024, .f32⟩
  | .local _ .vmem, ⟨4, _⟩ => ⟨S64x1x1024, .f32⟩
  | .local _ .vmem, ⟨5, _⟩ => ⟨S64x1x1024, .f32⟩
  | .local _ .vmem, ⟨6, _⟩ => ⟨S64x1x1024, .f32⟩
  | .local _ .vmem, ⟨7, _⟩ => ⟨S64x1x1024, .f32⟩
  | .local _ .vmem, ⟨8, _⟩ => ⟨S1x1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S64x8x1024, .f32⟩
  | .local _ .vmem, ⟨16, _⟩ => ⟨S64x8x1024, .f32⟩
  | .local _ .vmem, ⟨17, _⟩ => ⟨S512x1024, .bf16⟩
  | .local _ .vmem, ⟨18, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 1, 2], ![false, false, false]⟩

def k0_cond4 (i : grid0.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_14 : BitVec 32 := 0#32
  let v25 : BitVec 1 := Scalar.cmpi .ne v24 c0_i32_14
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S64x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S64x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S64x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S64x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FfnSampleReferenceIdeal.lean ====
abbrev S128x8x1024 : Shape := ⟨3, ![128, 8, 1024]⟩
abbrev S128x1x1024 : Shape := ⟨3, ![128, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x5632 : Shape := ⟨3, ![128, 8, 5632]⟩
abbrev S128x8x2816 : Shape := ⟨3, ![128, 8, 2816]⟩

abbrev nBuf : Space → Nat
  | .hbm => 50
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x1x1024, .f32⟩
  | .hbm, ⟨2, _⟩ => ⟨S128x1x1024, .f32⟩
  | .hbm, ⟨3, _⟩ => ⟨S128x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S128x8x1024, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S128x8x1, .f32⟩
  | .hbm, ⟨18, _⟩ => ⟨S128x8x1024, .f32⟩
  | .hbm, ⟨19, _⟩ => ⟨S128x8x1024, .f32⟩
  | .hbm, ⟨20, _⟩ => ⟨S1x1x1024, .f32⟩
  | .hbm, ⟨21, _⟩ => ⟨S128x8x1024, .f32⟩
  | .hbm, ⟨22, _⟩ => ⟨S128x8x1024, .f32⟩
  | .hbm, ⟨23, _⟩ => ⟨S_, .f32⟩
  | .hbm, ⟨24, _⟩ => ⟨S128x1x1024, .f32⟩
  | .hbm, ⟨25, _⟩ => ⟨S128x1x1024, .f32⟩
  | .hbm, ⟨26, _⟩ => ⟨S128x8x1024, .f32⟩
  | .hbm, ⟨27, _⟩ => ⟨S128x8x1024, .f32⟩
  | .hbm, ⟨28, _⟩ => ⟨S128x8x1024, .f32⟩
  | .hbm, ⟨29, _⟩ => ⟨S128x8x1024, .f32⟩
  | .hbm, ⟨30, _⟩ => ⟨S128x8x5632, .f32⟩
  | .hbm, ⟨31, _⟩ => ⟨S128x8x2816, .f32⟩
  | .hbm, ⟨32, _⟩ => ⟨S128x8x2816, .f32⟩
  | .hbm, ⟨33, _⟩ => ⟨S_, .f32⟩
  | .hbm, ⟨34, _⟩ => ⟨S128x1x1024, .f32⟩
  | .hbm, ⟨35, _⟩ => ⟨S128x1x1024, .f32⟩
  | .hbm, ⟨36, _⟩ => ⟨S128x8x2816, .f32⟩
  | .hbm, ⟨37, _⟩ => ⟨S128x8x2816, .f32⟩
  | .hbm, ⟨38, _⟩ => ⟨S_, .f32⟩
  | .hbm, ⟨39, _⟩ => ⟨S128x8x2816, .f32⟩
  | .hbm, ⟨40, _⟩ => ⟨S128x8x2816, .f32⟩
  | .hbm, ⟨41, _⟩ => ⟨S_, .f32⟩
  | .hbm, ⟨42, _⟩ => ⟨S128x8x2816, .f32⟩
  | .hbm, ⟨43, _⟩ => ⟨S128x8x2816, .f32⟩
  | .hbm, ⟨44, _⟩ => ⟨S128x8x2816, .f32⟩
  | .hbm, ⟨45, _⟩ => ⟨S128x8x2816, .f32⟩
  | .hbm, ⟨46, _⟩ => ⟨S128x8x1024, .f32⟩
  | .hbm, ⟨47, _⟩ => ⟨S128x8x1024, .f32⟩
  | .hbm, ⟨48, _⟩ => ⟨S128x8x1024, .f32⟩
  | .hbm, ⟨49, _⟩ => ⟨S128x8x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== QkvSampleKernel.lean ====
abbrev S128x8x1024 : Shape := ⟨3, ![128, 8, 1024]⟩
abbrev S1024x3072 : Shape := ⟨2, ![1024, 3072]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S128x8x1024, .bf16⟩
  | .hbm, ⟨1, _⟩ => ⟨S1024x3072, .f32⟩
  | .hbm, ⟨2, _⟩ => ⟨S1024x1024, .bf16⟩
  | .hbm, ⟨3, _⟩ => ⟨S1024x3072, .bf16⟩
  | .hbm, ⟨4, _⟩ => ⟨S1024x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S128x8x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvSampleReferenceIdeal.lean ====
abbrev S128x8x1024 : Shape := ⟨3, ![128, 8, 1024]⟩
abbrev S1024x3072 : Shape := ⟨2, ![1024, 3072]⟩
abbrev S128x8x3072 : Shape := ⟨3, ![128, 8, 3072]⟩

abbrev nBuf : Space → Nat
  | .hbm => 5
  | .vmem => 0
  | .smem => 0
  | _ => 0

abbrev bufTy : (tb : Table) → Fin (tcTables nBuf tb) → BufTy
  | .hbm, ⟨0, _⟩ => ⟨S128x8x1024, .bf16⟩
  | .hbm, ⟨1, _⟩ => ⟨S1024x3072, .f32⟩
  | .hbm, ⟨2, _⟩ => ⟨S128x8x1024, .f32⟩
  | .hbm, ⟨3, _⟩ => ⟨S128x8x3072, .f32⟩
  | .hbm, ⟨4, _⟩ => ⟨S1024x3072, .f32⟩
  | _, _ => ⟨S128x8x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ZxSampleKernel.lean ====
abbrev S128x8x1024 : Shape := ⟨3, ![128, 8, 1024]⟩
abbrev S1024x5152 : Shape := ⟨2, ![1024, 5152]⟩
abbrev S1024x5120 : Shape := ⟨2, ![1024, 5120]⟩
abbrev S1024x1024 : Shape := ⟨2, ![1024, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S128x8x1024, .bf16⟩
  | .hbm, ⟨1, _⟩ => ⟨S1024x5152, .f32⟩
  | .hbm, ⟨2, _⟩ => ⟨S1024x5120, .f32⟩
  | .hbm, ⟨3, _⟩ => ⟨S1024x1024, .bf16⟩
  | .hbm, ⟨4, _⟩ => ⟨S1024x5120, .bf16⟩
  | .hbm, ⟨5, _⟩ => ⟨S1024x5120, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S128x8x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZxSampleReferenceIdeal.lean ====
abbrev S128x8x1024 : Shape := ⟨3, ![128, 8, 1024]⟩
abbrev S1024x5152 : Shape := ⟨2, ![1024, 5152]⟩
abbrev S128x8x5152 : Shape := ⟨3, ![128, 8, 5152]⟩
abbrev S128x8x5120 : Shape := ⟨3, ![128, 8, 5120]⟩
abbrev S1024x5120 : Shape := ⟨2, ![1024, 5120]⟩

abbrev nBuf : Space → Nat
  | .hbm => 6
  | .vmem => 0
  | .smem => 0
  | _ => 0

abbrev bufTy : (tb : Table) → Fin (tcTables nBuf tb) → BufTy
  | .hbm, ⟨0, _⟩ => ⟨S128x8x1024, .bf16⟩
  | .hbm, ⟨1, _⟩ => ⟨S1024x5152, .f32⟩
  | .hbm, ⟨2, _⟩ => ⟨S128x8x1024, .f32⟩
  | .hbm, ⟨3, _⟩ => ⟨S128x8x5152, .f32⟩
  | .hbm, ⟨4, _⟩ => ⟨S128x8x5120, .f32⟩
  | .hbm, ⟨5, _⟩ => ⟨S1024x5120, .f32⟩
  | _, _ => ⟨S128x8x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RotaryKernel.lean ====
abbrev S2x8192x3072 : Shape := ⟨3, ![2, 8192, 3072]⟩
abbrev S8192 : Shape := ⟨1, ![8192]⟩
abbrev S64 : Shape := ⟨1, ![64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x8192x1024 : Shape := ⟨3, ![2, 8192, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 40
  | .vmem => 14
  | .smem => 0
  | _ => 0

abbrev bufTy : (tb : Table) → Fin (tcTables nBuf tb) → BufTy
  | .hbm, ⟨0, _⟩ => ⟨S2x8192x3072, .f32⟩
  | .hbm, ⟨1, _⟩ => ⟨S8192, .i32⟩
  | .hbm, ⟨2, _⟩ => ⟨S64, .f32⟩
  | .hbm, ⟨3, _⟩ => ⟨S64, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8192, .f32⟩
  | .hbm, ⟨13, _⟩ => ⟨S8192x1, .f32⟩
  | .hbm, ⟨14, _⟩ => ⟨S1x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S_, .f32⟩
  | .hbm, ⟨21, _⟩ => ⟨S8192x48, .f32⟩
  | .hbm, ⟨22, _⟩ => ⟨S8192x64, .f32⟩
  | .hbm, ⟨23, _⟩ => ⟨S8192x8, .f32⟩
  | .hbm, ⟨24, _⟩ => ⟨S_, .f32⟩
  | .hbm, ⟨25, _⟩ => ⟨S8192x48, .f32⟩
  | .hbm, ⟨26, _⟩ => ⟨S8192x48, .f32⟩
  | .hbm, ⟨27, _⟩ => ⟨S8192x64, .f32⟩
  | .hbm, ⟨28, _⟩ => ⟨S8192x128, .f32⟩
  | .hbm, ⟨29, _⟩ => ⟨S8192x128, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S2x8192x1024, .f32⟩
  | .hbm, ⟨39, _⟩ => ⟨S2x8192x1024, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | _, _ => ⟨S2x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c0_i32 : BitVec 32 := 0#32
  ![arg0.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== RotaryReferenceIdeal.lean ====
abbrev S2x8192x3072 : Shape := ⟨3, ![2, 8192, 3072]⟩
abbrev S8192 : Shape := ⟨1, ![8192]⟩
abbrev S64 : Shape := ⟨1, ![64]⟩
abbrev S2x8192x3x16x64 : Shape := ⟨5, ![2, 8192, 3, 16, 64]⟩
abbrev S2x8192x1x16x64 : Shape := ⟨5, ![2, 8192, 1, 16, 64]⟩
abbrev S2x8192x16x64 : Shape := ⟨4, ![2, 8192, 16, 64]⟩
abbrev S_ : Shape := ⟨0, ![]⟩
abbrev S2x8192x16 : Shape := ⟨3, ![2, 8192, 16]⟩
abbrev S2x8192x16x1 : Shape := ⟨4, ![2, 8192, 16, 1]⟩
abbrev S1x1x1x64 : Shape := ⟨4, ![1, 1, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x16x8 : Shape := ⟨4, ![2, 8192, 16, 8]⟩
abbrev S1x8192x1x8 : Shape := ⟨4, ![1, 8192, 1, 8]⟩
abbrev S2x8192x16x16 : Shape := ⟨4, ![2, 8192, 16, 16]⟩
abbrev S2x8192x16x48 : Shape := ⟨4, ![2, 8192, 16, 48]⟩
abbrev S2x8192x1024 : Shape := ⟨3, ![2, 8192, 1024]⟩

abbrev nBuf : Space → Nat
  | .hbm => 117
  | .vmem => 0
  | .smem => 0
  | _ => 0

abbrev bufTy : (tb : Table) → Fin (tcTables nBuf tb) → BufTy
  | .hbm, ⟨0, _⟩ => ⟨S2x8192x3072, .f32⟩
  | .hbm, ⟨1, _⟩ => ⟨S8192, .i32⟩
  | .hbm, ⟨2, _⟩ => ⟨S64, .f32⟩
  | .hbm, ⟨3, _⟩ => ⟨S64, .f32⟩
  | .hbm, ⟨4, _⟩ => ⟨S2x8192x3x16x64, .f32⟩
  | .hbm, ⟨5, _⟩ => ⟨S2x8192x1x16x64, .f32⟩
  | .hbm, ⟨6, _⟩ => ⟨S2x8192x16x64, .f32⟩
  | .hbm, ⟨7, _⟩ => ⟨S2x8192x16x64, .f32⟩
  | .hbm, ⟨8, _⟩ => ⟨S_, .f32⟩
  | .hbm, ⟨9, _⟩ => ⟨S2x8192x16, .f32⟩
  | .hbm, ⟨10, _⟩ => ⟨S2x8192x16x1, .f32⟩
  | .hbm, ⟨11, _⟩ => ⟨S_, .f32⟩
  | .hbm, ⟨12, _⟩ => ⟨S2x8192x16x1, .f32⟩
  | .hbm, ⟨13, _⟩ => ⟨S2x8192x16x1, .f32⟩
  | .hbm, ⟨14, _⟩ => ⟨S_, .f32⟩
  | .hbm, ⟨15, _⟩ => ⟨S2x8192x16x1, .f32⟩
  | .hbm, ⟨16, _⟩ => ⟨S2x8192x16x1, .f32⟩
  | .hbm, ⟨17, _⟩ => ⟨S2x8192x16x1, .f32⟩
  | .hbm, ⟨18, _⟩ => ⟨S2x8192x16x64, .f32⟩
  | .hbm, ⟨19, _⟩ => ⟨S2x8192x16x64, .f32⟩
  | .hbm, ⟨20, _⟩ => ⟨S1x1x1x64, .f32⟩
  | .hbm, ⟨21, _⟩ => ⟨S2x8192x16x64, .f32⟩
  | .hbm, ⟨22, _⟩ => ⟨S2x8192x16x64, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8192, .f32⟩
  | .hbm, ⟨32, _⟩ => ⟨S8192x1, .f32⟩
  | .hbm, ⟨33, _⟩ => ⟨S1x8, .f32⟩
  | .hbm, ⟨34, _⟩ => ⟨S8192x8, .f32⟩
  | .hbm, ⟨35, _⟩ => ⟨S8192x8, .f32⟩
  | .hbm, ⟨36, _⟩ => ⟨S8192x8, .f32⟩
  | .hbm, ⟨37, _⟩ => ⟨S8192x8, .f32⟩
  | .hbm, ⟨38, _⟩ => ⟨S8192x1x8, .f32⟩
  | .hbm, ⟨39, _⟩ => ⟨S8192x8, .f32⟩
  | .hbm, ⟨40, _⟩ => ⟨S8192x1x8, .f32⟩
  | .hbm, ⟨41, _⟩ => ⟨S2x8192x16x8, .f32⟩
  | .hbm, ⟨42, _⟩ => ⟨S2x8192x16x8, .f32⟩
  | .hbm, ⟨43, _⟩ => ⟨S1x8192x1x8, .f32⟩
  | .hbm, ⟨44, _⟩ => ⟨S2x8192x16x8, .f32⟩
  | .hbm, ⟨45, _⟩ => ⟨S2x8192x16x8, .f32⟩
  | .hbm, ⟨46, _⟩ => ⟨S1x8192x1x8, .f32⟩
  | .hbm, ⟨47, _⟩ => ⟨S2x8192x16x8, .f32⟩
  | .hbm, ⟨48, _⟩ => ⟨S2x8192x16x8, .f32⟩
  | .hbm, ⟨49, _⟩ => ⟨S2x8192x16x8, .f32⟩
  | .hbm, ⟨50, _⟩ => ⟨S1x8192x1x8, .f32⟩
  | .hbm, ⟨51, _⟩ => ⟨S2x8192x16x8, .f32⟩
  | .hbm, ⟨52, _⟩ => ⟨S2x8192x16x8, .f32⟩
  | .hbm, ⟨53, _⟩ => ⟨S1x8192x1x8, .f32⟩
  | .hbm, ⟨54, _⟩ => ⟨S2x8192x16x8, .f32⟩
  | .hbm, ⟨55, _⟩ => ⟨S2x8192x16x8, .f32⟩
  | .hbm, ⟨56, _⟩ => ⟨S2x8192x16x8, .f32⟩
  | .hbm, ⟨57, _⟩ => ⟨S2x8192x16x16, .f32⟩
  | .hbm, ⟨58, _⟩ => ⟨S2x8192x16x48, .f32⟩
  | .hbm, ⟨59, _⟩ => ⟨S2x8192x16x64, .f32⟩
  | .hbm, ⟨60, _⟩ => ⟨S2x8192x1x16x64, .f32⟩
  | .hbm, ⟨61, _⟩ => ⟨S2x8192x16x64, .f32⟩
  | .hbm, ⟨62, _⟩ => ⟨S2x8192x16x64, .f32⟩
  | .hbm, ⟨63, _⟩ => ⟨S_, .f32⟩
  | .hbm, ⟨64, _⟩ => ⟨S2x8192x16, .f32⟩
  | .hbm, ⟨65, _⟩ => ⟨S2x8192x16x1, .f32⟩
  | .hbm, ⟨66, _⟩ => ⟨S_, .f32⟩
  | .hbm, ⟨67, _⟩ => ⟨S2x8192x16x1, .f32⟩
  | .hbm, ⟨68, _⟩ => ⟨S2x8192x16x1, .f32⟩
  | .hbm, ⟨69, _⟩ => ⟨S_, .f32⟩
  | .hbm, ⟨70, _⟩ => ⟨S2x8192x16x1, .f32⟩
  | .hbm, ⟨71, _⟩ => ⟨S2x8192x16x1, .f32⟩
  | .hbm, ⟨72, _⟩ => ⟨S2x8192x16x1, .f32⟩
  | .hbm, ⟨73, _⟩ => ⟨S2x8192x16x64, .f32⟩
  | .hbm, ⟨74, _⟩ => ⟨S2x8192x16x64, .f32⟩
  | .hbm, ⟨75, _⟩ => ⟨S1x1x1x64, .f32⟩
  | .hbm, ⟨76, _⟩ => ⟨S2x8192x16x64, .f32⟩
  | .hbm, ⟨77, _⟩ => ⟨S2x8192x16x64, .f32⟩
  | .hbm, ⟨78, _⟩ => ⟨S8, .f32⟩
  | .hbm, ⟨79, _⟩ => ⟨S8, .f32⟩
  | .hbm, ⟨80, _⟩ => ⟨S_, .f32⟩
  | .hbm, ⟨81, _⟩ => ⟨S8, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S8192, .f32⟩
  | .hbm, ⟨87, _⟩ => ⟨S8192x1, .f32⟩
  | .hbm, ⟨88, _⟩ => ⟨S1x8, .f32⟩
  | .hbm, ⟨89, _⟩ => ⟨S8192x8, .f32⟩
  | .hbm, ⟨90, _⟩ => ⟨S8192x8, .f32⟩
  | .hbm, ⟨91, _⟩ => ⟨S8192x8, .f32⟩
  | .hbm, ⟨92, _⟩ => ⟨S8192x8, .f32⟩
  | .hbm, ⟨93, _⟩ => ⟨S8192x1x8, .f32⟩
  | .hbm, ⟨94, _⟩ => ⟨S8192x8, .f32⟩
  | .hbm, ⟨95, _⟩ => ⟨S8192x1x8, .f32⟩
  | .hbm, ⟨96, _⟩ => ⟨S2x8192x16x8, .f32⟩
  | .hbm, ⟨97, _⟩ => ⟨S2x8192x16x8, .f32⟩
  | .hbm, ⟨98, _⟩ => ⟨S1x8192x1x8, .f32⟩
  | .hbm, ⟨99, _⟩ => ⟨S2x8192x16x8, .f32⟩
  | .hbm, ⟨100, _⟩ => ⟨S2x8192x16x8, .f32⟩
  | .hbm, ⟨101, _⟩ => ⟨S1x8192x1x8, .f32⟩
  | .hbm, ⟨102, _⟩ => ⟨S2x8192x16x8, .f32⟩
  | .hbm, ⟨103, _⟩ => ⟨S2x8192x16x8, .f32⟩
  | .hbm, ⟨104, _⟩ => ⟨S2x8192x16x8, .f32⟩
  | .hbm, ⟨105, _⟩ => ⟨S1x8192x1x8, .f32⟩
  | .hbm, ⟨106, _⟩ => ⟨S2x8192x16x8, .f32⟩
  | .hbm, ⟨107, _⟩ => ⟨S2x8192x16x8, .f32⟩
  | .hbm, ⟨108, _⟩ => ⟨S1x8192x1x8, .f32⟩
  | .hbm, ⟨109, _⟩ => ⟨S2x8192x16x8, .f32⟩
  | .hbm, ⟨110, _⟩ => ⟨S2x8192x16x8, .f32⟩
  | .hbm, ⟨111, _⟩ => ⟨S2x8192x16x8, .f32⟩
  | .hbm, ⟨112, _⟩ => ⟨S2x8192x16x16, .f32⟩
  | .hbm, ⟨113, _⟩ => ⟨S2x8192x16x48, .f32⟩
  | .hbm, ⟨114, _⟩ => ⟨S2x8192x16x64, .f32⟩
  | .hbm, ⟨115, _⟩ => ⟨S2x8192x1024, .f32⟩
  | .hbm, ⟨116, _⟩ => ⟨S2x8192x1024, .f32⟩
  | _, _ => ⟨S2x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_7 : Ref sig .tc := ⟨.hbm, 80, rfl⟩
abbrev main_v68 : Ref sig .tc := ⟨.hbm, 81, rfl⟩
abbrev main_v69 : Ref sig .tc := ⟨.hbm, 82, rfl⟩
abbrev main_cst_8 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩

abbrev nD : Nat := 1
abbrev τ : Topo := Topo.v7x

variable {F : FTy → Type} [FloatOps F]
-- ==== RotarySampleKernel.lean ====
abbrev S128x8x3072 : Shape := ⟨3, ![128, 8, 3072]⟩
abbrev S8 : Shape := ⟨1, ![8]⟩
abbrev S64 : Shape := ⟨1, ![64]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S8x48 : Shape := ⟨2, ![8, 48]⟩
abbrev S8x64 : Shape := ⟨2, ![8, 64]⟩
abbrev S8x128 : Shape := ⟨2, ![8, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S128x8x1024 : Shape := ⟨3, ![128, 8, 1024]⟩
abbrev S16x8x128 : Shape := ⟨3, ![16, 8, 128]⟩
abbrev S128x128 : Shape := ⟨2, ![128, 128]⟩
abbrev S1x8x128 : Shape := ⟨3, ![1, 8, 128]⟩
abbrev S128x1 : Shape := ⟨2, ![128, 1]⟩

abbrev nBuf : Space → Nat
  | .hbm => 40
  | .vmem => 12
  | .smem => 0
  | _ => 0

abbrev bufTy : (tb : Table) → Fin (tcTables nBuf tb) → BufTy
  | .hbm, ⟨0, _⟩ => ⟨S128x8x3072, .f32⟩
  | .hbm, ⟨1, _⟩ => ⟨S8, .i32⟩
  | .hbm, ⟨2, _⟩ => ⟨S64, .f32⟩
  | .hbm, ⟨3, _⟩ => ⟨S64, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8x1, .f32⟩
  | .hbm, ⟨14, _⟩ => ⟨S1x8, .f32⟩
  | .hbm, ⟨15, _⟩ => ⟨S8x8, .f32⟩
  | .hbm, ⟨16, _⟩ => ⟨S8x8, .f32⟩
  | .hbm, ⟨17, _⟩ => ⟨S8x8, .f32⟩
  | .hbm, ⟨18, _⟩ => ⟨S8x8, .f32⟩
  | .hbm, ⟨19, _⟩ => ⟨S8x8, .f32⟩
  | .hbm, ⟨20, _⟩ => ⟨S_, .f32⟩
  | .hbm, ⟨21, _⟩ => ⟨S8x48, .f32⟩
  | .hbm, ⟨22, _⟩ => ⟨S8x64, .f32⟩
  | .hbm, ⟨23, _⟩ => ⟨S8x8, .f32⟩
  | .hbm, ⟨24, _⟩ => ⟨S_, .f32⟩
  | .hbm, ⟨25, _⟩ => ⟨S8x48, .f32⟩
  | .hbm, ⟨26, _⟩ => ⟨S8x48, .f32⟩
  | .hbm, ⟨27, _⟩ => ⟨S8x64, .f32⟩
  | .hbm, ⟨28, _⟩ => ⟨S8x128, .f32⟩
  | .hbm, ⟨29, _⟩ => ⟨S8x128, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S128x8x1024, .f32⟩
  | .hbm, ⟨39, _⟩ => ⟨S128x8x1024, .f32⟩
  | .local _ .vmem, ⟨0, _⟩ => ⟨S16x8x128, .f32⟩
  | .local _ .vmem, ⟨1, _⟩ => ⟨S16x8x128, .f32⟩
  | .local _ .vmem, ⟨2, _⟩ => ⟨S16x8x128, .f32⟩
  | .local _ .vmem, ⟨3, _⟩ => ⟨S16x8x128, .f32⟩
  | .local _ .vmem, ⟨4, _⟩ => ⟨S8x128, .f32⟩
  | .local _ .vmem, ⟨5, _⟩ => ⟨S8x128, .f32⟩
  | .local _ .vmem, ⟨6, _⟩ => ⟨S1x128, .f32⟩
  | .local _ .vmem, ⟨7, _⟩ => ⟨S1x128, .f32⟩
  | .local _ .vmem, ⟨8, _⟩ => ⟨S16x8x128, .f32⟩
  | .local _ .vmem, ⟨9, _⟩ => ⟨S16x8x128, .f32⟩
  | .local _ .vmem, ⟨10, _⟩ => ⟨S16x8x128, .f32⟩
  | .local _ .vmem, ⟨11, _⟩ => ⟨S16x8x128, .f32⟩
  | _, _ => ⟨S128x8x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![8, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c0_i32 : BitVec 32 := 0#32
  ![arg0.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S16x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S16x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== RotarySampleReferenceIdeal.lean ====
abbrev S128x8x3072 : Shape := ⟨3, ![128, 8, 3072]⟩
abbrev S8 : Shape := ⟨1, ![8]⟩
abbrev S64 : Shape := ⟨1, ![64]⟩
abbrev S128x8x3x16x64 : Shape := ⟨5, ![128, 8, 3, 16, 64]⟩
abbrev S128x8x1x16x64 : Shape := ⟨5, ![128, 8, 1, 16, 64]⟩
abbrev S128x8x16x64 : Shape := ⟨4, ![128, 8, 16, 64]⟩
abbrev S_ : Shape := ⟨0, ![]⟩
abbrev S128x8x16 : Shape := ⟨3, ![128, 8, 16]⟩
abbrev S128x8x16x1 : Shape := ⟨4, ![128, 8, 16, 1]⟩
abbrev S1x1x1x64 : Shape := ⟨4, ![1, 1, 1, 64]⟩
abbrev S8x1 : Shape := ⟨2, ![8, 1]⟩
abbrev S1x8 : Shape := ⟨2, ![1, 8]⟩
abbrev S8x8 : Shape := ⟨2, ![8, 8]⟩
abbrev S8x1x8 : Shape := ⟨3, ![8, 1, 8]⟩
abbrev S128x8x16x8 : Shape := ⟨4, ![128, 8, 16, 8]⟩
abbrev S1x8x1x8 : Shape := ⟨4, ![1, 8, 1, 8]⟩
abbrev S128x8x16x16 : Shape := ⟨4, ![128, 8, 16, 16]⟩
abbrev S128x8x16x48 : Shape := ⟨4, ![128, 8, 16, 48]⟩
abbrev S128x8x1024 : Shape := ⟨3, ![128, 8, 1024]⟩

abbrev nBuf : Space → Nat
  | .hbm => 117
  | .vmem => 0
  | .smem => 0
  | _ => 0

abbrev bufTy : (tb : Table) → Fin (tcTables nBuf tb) → BufTy
  | .hbm, ⟨0, _⟩ => ⟨S128x8x3072, .f32⟩
  | .hbm, ⟨1, _⟩ => ⟨S8, .i32⟩
  | .hbm, ⟨2, _⟩ => ⟨S64, .f32⟩
  | .hbm, ⟨3, _⟩ => ⟨S64, .f32⟩
  | .hbm, ⟨4, _⟩ => ⟨S128x8x3x16x64, .f32⟩
  | .hbm, ⟨5, _⟩ => ⟨S128x8x1x16x64, .f32⟩
  | .hbm, ⟨6, _⟩ => ⟨S128x8x16x64, .f32⟩
  | .hbm, ⟨7, _⟩ => ⟨S128x8x16x64, .f32⟩
  | .hbm, ⟨8, _⟩ => ⟨S_, .f32⟩
  | .hbm, ⟨9, _⟩ => ⟨S128x8x16, .f32⟩
  | .hbm, ⟨10, _⟩ => ⟨S128x8x16x1, .f32⟩
  | .hbm, ⟨11, _⟩ => ⟨S_, .f32⟩
  | .hbm, ⟨12, _⟩ => ⟨S128x8x16x1, .f32⟩
  | .hbm, ⟨13, _⟩ => ⟨S128x8x16x1, .f32⟩
  | .hbm, ⟨14, _⟩ => ⟨S_, .f32⟩
  | .hbm, ⟨15, _⟩ => ⟨S128x8x16x1, .f32⟩
  | .hbm, ⟨16, _⟩ => ⟨S128x8x16x1, .f32⟩
  | .hbm, ⟨17, _⟩ => ⟨S128x8x16x1, .f32⟩
  | .hbm, ⟨18, _⟩ => ⟨S128x8x16x64, .f32⟩
  | .hbm, ⟨19, _⟩ => ⟨S128x8x16x64, .f32⟩
  | .hbm, ⟨20, _⟩ => ⟨S1x1x1x64, .f32⟩
  | .hbm, ⟨21, _⟩ => ⟨S128x8x16x64, .f32⟩
  | .hbm, ⟨22, _⟩ => ⟨S128x8x16x64, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S8x1, .f32⟩
  | .hbm, ⟨33, _⟩ => ⟨S1x8, .f32⟩
  | .hbm, ⟨34, _⟩ => ⟨S8x8, .f32⟩
  | .hbm, ⟨35, _⟩ => ⟨S8x8, .f32⟩
  | .hbm, ⟨36, _⟩ => ⟨S8x8, .f32⟩
  | .hbm, ⟨37, _⟩ => ⟨S8x8, .f32⟩
  | .hbm, ⟨38, _⟩ => ⟨S8x1x8, .f32⟩
  | .hbm, ⟨39, _⟩ => ⟨S8x8, .f32⟩
  | .hbm, ⟨40, _⟩ => ⟨S8x1x8, .f32⟩
  | .hbm, ⟨41, _⟩ => ⟨S128x8x16x8, .f32⟩
  | .hbm, ⟨42, _⟩ => ⟨S128x8x16x8, .f32⟩
  | .hbm, ⟨43, _⟩ => ⟨S1x8x1x8, .f32⟩
  | .hbm, ⟨44, _⟩ => ⟨S128x8x16x8, .f32⟩
  | .hbm, ⟨45, _⟩ => ⟨S128x8x16x8, .f32⟩
  | .hbm, ⟨46, _⟩ => ⟨S1x8x1x8, .f32⟩
  | .hbm, ⟨47, _⟩ => ⟨S128x8x16x8, .f32⟩
  | .hbm, ⟨48, _⟩ => ⟨S128x8x16x8, .f32⟩
  | .hbm, ⟨49, _⟩ => ⟨S128x8x16x8, .f32⟩
  | .hbm, ⟨50, _⟩ => ⟨S1x8x1x8, .f32⟩
  | .hbm, ⟨51, _⟩ => ⟨S128x8x16x8, .f32⟩
  | .hbm, ⟨52, _⟩ => ⟨S128x8x16x8, .f32⟩
  | .hbm, ⟨53, _⟩ => ⟨S1x8x1x8, .f32⟩
  | .hbm, ⟨54, _⟩ => ⟨S128x8x16x8, .f32⟩
  | .hbm, ⟨55, _⟩ => ⟨S128x8x16x8, .f32⟩
  | .hbm, ⟨56, _⟩ => ⟨S128x8x16x8, .f32⟩
  | .hbm, ⟨57, _⟩ => ⟨S128x8x16x16, .f32⟩
  | .hbm, ⟨58, _⟩ => ⟨S128x8x16x48, .f32⟩
  | .hbm, ⟨59, _⟩ => ⟨S128x8x16x64, .f32⟩
  | .hbm, ⟨60, _⟩ => ⟨S128x8x1x16x64, .f32⟩
  | .hbm, ⟨61, _⟩ => ⟨S128x8x16x64, .f32⟩
  | .hbm, ⟨62, _⟩ => ⟨S128x8x16x64, .f32⟩
  | .hbm, ⟨63, _⟩ => ⟨S_, .f32⟩
  | .hbm, ⟨64, _⟩ => ⟨S128x8x16, .f32⟩
  | .hbm, ⟨65, _⟩ => ⟨S128x8x16x1, .f32⟩
  | .hbm, ⟨66, _⟩ => ⟨S_, .f32⟩
  | .hbm, ⟨67, _⟩ => ⟨S128x8x16x1, .f32⟩
  | .hbm, ⟨68, _⟩ => ⟨S128x8x16x1, .f32⟩
  | .hbm, ⟨69, _⟩ => ⟨S_, .f32⟩
  | .hbm, ⟨70, _⟩ => ⟨S128x8x16x1, .f32⟩
  | .hbm, ⟨71, _⟩ => ⟨S128x8x16x1, .f32⟩
  | .hbm, ⟨72, _⟩ => ⟨S128x8x16x1, .f32⟩
  | .hbm, ⟨73, _⟩ => ⟨S128x8x16x64, .f32⟩
  | .hbm, ⟨74, _⟩ => ⟨S128x8x16x64, .f32⟩
  | .hbm, ⟨75, _⟩ => ⟨S1x1x1x64, .f32⟩
  | .hbm, ⟨76, _⟩ => ⟨S128x8x16x64, .f32⟩
  | .hbm, ⟨77, _⟩ => ⟨S128x8x16x64, .f32⟩
  | .hbm, ⟨78, _⟩ => ⟨S8, .f32⟩
  | .hbm, ⟨79, _⟩ => ⟨S8, .f32⟩
  | .hbm, ⟨80, _⟩ => ⟨S_, .f32⟩
  | .hbm, ⟨81, _⟩ => ⟨S8, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S8, .f32⟩
  | .hbm, ⟨87, _⟩ => ⟨S8x1, .f32⟩
  | .hbm, ⟨88, _⟩ => ⟨S1x8, .f32⟩
  | .hbm, ⟨89, _⟩ => ⟨S8x8, .f32⟩
  | .hbm, ⟨90, _⟩ => ⟨S8x8, .f32⟩
  | .hbm, ⟨91, _⟩ => ⟨S8x8, .f32⟩
  | .hbm, ⟨92, _⟩ => ⟨S8x8, .f32⟩
  | .hbm, ⟨93, _⟩ => ⟨S8x1x8, .f32⟩
  | .hbm, ⟨94, _⟩ => ⟨S8x8, .f32⟩
  | .hbm, ⟨95, _⟩ => ⟨S8x1x8, .f32⟩
  | .hbm, ⟨96, _⟩ => ⟨S128x8x16x8, .f32⟩
  | .hbm, ⟨97, _⟩ => ⟨S128x8x16x8, .f32⟩
  | .hbm, ⟨98, _⟩ => ⟨S1x8x1x8, .f32⟩
  | .hbm, ⟨99, _⟩ => ⟨S128x8x16x8, .f32⟩
  | .hbm, ⟨100, _⟩ => ⟨S128x8x16x8, .f32⟩
  | .hbm, ⟨101, _⟩ => ⟨S1x8x1x8, .f32⟩
  | .hbm, ⟨102, _⟩ => ⟨S128x8x16x8, .f32⟩
  | .hbm, ⟨103, _⟩ => ⟨S128x8x16x8, .f32⟩
  | .hbm, ⟨104, _⟩ => ⟨S128x8x16x8, .f32⟩
  | .hbm, ⟨105, _⟩ => ⟨S1x8x1x8, .f32⟩
  | .hbm, ⟨106, _⟩ => ⟨S128x8x16x8, .f32⟩
  | .hbm, ⟨107, _⟩ => ⟨S128x8x16x8, .f32⟩
  | .hbm, ⟨108, _⟩ => ⟨S1x8x1x8, .f32⟩
  | .hbm, ⟨109, _⟩ => ⟨S128x8x16x8, .f32⟩
  | .hbm, ⟨110, _⟩ => ⟨S128x8x16x8, .f32⟩
  | .hbm, ⟨111, _⟩ => ⟨S128x8x16x8, .f32⟩
  | .hbm, ⟨112, _⟩ => ⟨S128x8x16x16, .f32⟩
  | .hbm, ⟨113, _⟩ => ⟨S128x8x16x48, .f32⟩
  | .hbm, ⟨114, _⟩ => ⟨S128x8x16x64, .f32⟩
  | .hbm, ⟨115, _⟩ => ⟨S128x8x1024, .f32⟩
  | .hbm, ⟨116, _⟩ => ⟨S128x8x1024, .f32⟩
  | _, _ => ⟨S128x8x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_7 : Ref sig .tc := ⟨.hbm, 80, rfl⟩
abbrev main_v68 : Ref sig .tc := ⟨.hbm, 81, rfl⟩
abbrev main_v69 : Ref sig .tc := ⟨.hbm, 82, rfl⟩
abbrev main_cst_8 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩

abbrev nD : Nat := 1
abbrev τ : Topo := Topo.v7x

variable {F : FTy → Type} [FloatOps F]
-- ==== SsdKernel.lean ====
abbrev S128x8x3072 : Shape := ⟨3, ![128, 8, 3072]⟩
abbrev S128x8x5120 : Shape := ⟨3, ![128, 8, 5120]⟩
abbrev S128x8x512 : Shape := ⟨3, ![128, 8, 512]⟩
abbrev S32 : Shape := ⟨1, ![32]⟩
abbrev S2048 : Shape := ⟨1, ![2048]⟩
abbrev S128x32x64x128 : Shape := ⟨4, ![128, 32, 64, 128]⟩
abbrev S4x8 : Shape := ⟨2, ![4, 8]⟩
abbrev S_ : Shape := ⟨0, ![]⟩
abbrev S4x128 : Shape := ⟨2, ![4, 128]⟩
abbrev S1x512 : Shape := ⟨2, ![1, 512]⟩
abbrev S32x64 : Shape := ⟨2, ![32, 64]⟩
abbrev S1x2048 : Shape := ⟨2, ![1, 2048]⟩
abbrev S128x8x2048 : Shape := ⟨3, ![128, 8, 2048]⟩
abbrev S1x8x512 : Shape := ⟨3, ![1, 8, 512]⟩
abbrev S1x8x128 : Shape := ⟨3, ![1, 8, 128]⟩
abbrev S1x128 : Shape := ⟨2, ![1, 128]⟩
abbrev S1x8x64x128 : Shape := ⟨4, ![1, 8, 64, 128]⟩
abbrev S8x64x128 : Shape := ⟨3, ![8, 64, 128]⟩
abbrev S8x8 : Shape := ⟨2, ![8, 8]⟩
abbrev S8x128 : Shape := ⟨2, ![8, 128]⟩
abbrev S8x512 : Shape := ⟨2, ![8, 512]⟩
abbrev S512x128 : Shape := ⟨2, ![512, 128]⟩
abbrev S8x1 : Shape := ⟨2, ![8, 1]⟩
abbrev S1x1 : Shape := ⟨2, ![1, 1]⟩
abbrev S8 : Shape := ⟨1, ![8]⟩
abbrev S1x8 : Shape := ⟨2, ![1, 8]⟩
abbrev S1x64x128 : Shape := ⟨3, ![1, 64, 128]⟩
abbrev S64x128 : Shape := ⟨2, ![64, 128]⟩

abbrev nBuf : Space → Nat
  | .hbm => 24
  | .vmem => 25
  | .smem => 0
  | _ => 0

abbrev bufTy : (tb : Table) → Fin (tcTables nBuf tb) → BufTy
  | .hbm, ⟨0, _⟩ => ⟨S128x8x3072, .f32⟩
  | .hbm, ⟨1, _⟩ => ⟨S128x8x5120, .f32⟩
  | .hbm, ⟨2, _⟩ => ⟨S128x8x512, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S2048, .f32⟩
  | .hbm, ⟨7, _⟩ => ⟨S128x32x64x128, .f32⟩
  | .hbm, ⟨8, _⟩ => ⟨S4x8, .f32⟩
  | .hbm, ⟨9, _⟩ => ⟨S_, .i32⟩
  | .hbm, ⟨10, _⟩ => ⟨S_, .f32⟩
  | .hbm, ⟨11, _⟩ => ⟨S4x128, .f32⟩
  | .hbm, ⟨12, _⟩ => ⟨S1x512, .f32⟩
  | .hbm, ⟨13, _⟩ => ⟨S4x8, .f32⟩
  | .hbm, ⟨14, _⟩ => ⟨S_, .i32⟩
  | .hbm, ⟨15, _⟩ => ⟨S_, .f32⟩
  | .hbm, ⟨16, _⟩ => ⟨S4x128, .f32⟩
  | .hbm, ⟨17, _⟩ => ⟨S1x512, .f32⟩
  | .hbm, ⟨18, _⟩ => ⟨S32x64, .f32⟩
  | .hbm, ⟨19, _⟩ => ⟨S2048, .f32⟩
  | .hbm, ⟨20, _⟩ => ⟨S1x2048, .f32⟩
  | .hbm, ⟨21, _⟩ => ⟨S1x2048, .f32⟩
  | .hbm, ⟨22, _⟩ => ⟨S128x8x2048, .f32⟩
  | .hbm, ⟨23, _⟩ => ⟨S128x32x64x128, .f32⟩
  | .local _ .vmem, ⟨0, _⟩ => ⟨S1x8x512, .f32⟩
  | .local _ .vmem, ⟨1, _⟩ => ⟨S1x8x512, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x512, .f32⟩
  | .local _ .vmem, ⟨7, _⟩ => ⟨S1x8x512, .f32⟩
  | .local _ .vmem, ⟨8, _⟩ => ⟨S1x8x128, .f32⟩
  | .local _ .vmem, ⟨9, _⟩ => ⟨S1x8x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x8x64x128, .f32⟩
  | .local _ .vmem, ⟨19, _⟩ => ⟨S1x8x64x128, .f32⟩
  | .local _ .vmem, ⟨20, _⟩ => ⟨S1x8x512, .f32⟩
  | .local _ .vmem, ⟨21, _⟩ => ⟨S1x8x512, .f32⟩
  | .local _ .vmem, ⟨22, _⟩ => ⟨S1x8x64x128, .f32⟩
  | .local _ .vmem, ⟨23, _⟩ => ⟨S1x8x64x128, .f32⟩
  | .local _ .vmem, ⟨24, _⟩ => ⟨S8x64x128, .f32⟩
  | _, _ => ⟨S128x8x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![128, 4, 1], ![false, false, false]⟩

def k0_cond2 (i : grid0.Coords) : BitVec 1 :=
  let arg2 : BitVec 32 := BitVec.ofNat 32 (i 2).val
  let c0_i32_133 : BitVec 32 := 0#32
  let v501 : BitVec 1 := Scalar.cmpi .eq arg2 c0_i32_133
  let v502 : BitVec 32 := Scalar.extui v501
  let c0_i32_134 : BitVec 32 := 0#32
  let v503 : BitVec 1 := Scalar.cmpi .ne v502 c0_i32_134
  v503

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x8x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x8x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== SsdReferenceIdeal.lean ====
abbrev S128x8x3072 : Shape := ⟨3, ![128, 8, 3072]⟩
abbrev S128x8x5120 : Shape := ⟨3, ![128, 8, 5120]⟩
abbrev S128x8x512 : Shape := ⟨3, ![128, 8, 512]⟩
abbrev S32 : Shape := ⟨1, ![32]⟩
abbrev S2048 : Shape := ⟨1, ![2048]⟩
abbrev S128x32x64x128 : Shape := ⟨4, ![128, 32, 64, 128]⟩
abbrev S128x8x2048 : Shape := ⟨3, ![128, 8, 2048]⟩
abbrev S128x8x4x8x64 : Shape := ⟨5, ![128, 8, 4, 8, 64]⟩
abbrev S128x8x4x128 : Shape := ⟨4, ![128, 8, 4, 128]⟩
abbrev S128x8x4x8 : Shape := ⟨4, ![128, 8, 4, 8]⟩
abbrev S4x8 : Shape := ⟨2, ![4, 8]⟩
abbrev S1x1x4x8 : Shape := ⟨4, ![1, 1, 4, 8]⟩
abbrev S_ : Shape := ⟨0, ![]⟩
abbrev S128x4x8x64x128 : Shape := ⟨5, ![128, 4, 8, 64, 128]⟩
abbrev S8x8 : Shape := ⟨2, ![8, 8]⟩
abbrev S1x8x8x1x1 : Shape := ⟨5, ![1, 8, 8, 1, 1]⟩
abbrev S128x8x1x4x8 : Shape := ⟨5, ![128, 8, 1, 4, 8]⟩
abbrev S128x1x8x4x8 : Shape := ⟨5, ![128, 1, 8, 4, 8]⟩
abbrev S128x8x8x4x8 : Shape := ⟨5, ![128, 8, 8, 4, 8]⟩
abbrev S128x4x8x8 : Shape := ⟨4, ![128, 4, 8, 8]⟩
abbrev S128x8x8x4 : Shape := ⟨4, ![128, 8, 8, 4]⟩
abbrev S128x8x8x4x1 : Shape := ⟨5, ![128, 8, 8, 4, 1]⟩
abbrev S128x4x8x64x8 : Shape := ⟨5, ![128, 4, 8, 64, 8]⟩
abbrev S128x8x4x8x1 : Shape := ⟨5, ![128, 8, 4, 8, 1]⟩
abbrev S128x1x4x8 : Shape := ⟨4, ![128, 1, 4, 8]⟩
abbrev S128x4x8 : Shape := ⟨3, ![128, 4, 8]⟩
abbrev S128x4x8x1x1 : Shape := ⟨5, ![128, 4, 8, 1, 1]⟩
abbrev S4x8x1 : Shape := ⟨3, ![4, 8, 1]⟩
abbrev S1x1x4x8x1 : Shape := ⟨5, ![1, 1, 4, 8, 1]⟩
abbrev S128x8x4x512 : Shape := ⟨4, ![128, 8, 4, 512]⟩
abbrev S4x512 : Shape := ⟨2, ![4, 512]⟩
abbrev S128x8x4 : Shape := ⟨3, ![128, 8, 4]⟩
abbrev S128x8x4x1 : Shape := ⟨4, ![128, 8, 4, 1]⟩
abbrev S1x1x4x512 : Shape := ⟨4, ![1, 1, 4, 512]⟩

abbrev nBuf : Space → Nat
  | .hbm => 137
  | .vmem => 0
  | .smem => 0
  | _ => 0

abbrev hbmTy0_0 (i : Nat) : BufTy := match i % 128 with
  | 0 => ⟨S128x8x3072, .f32⟩
  | 1 => ⟨S128x8x5120, .f32⟩
  | 2 => ⟨S128x8x512, .f32⟩
  | 3 => ⟨S32, .f32⟩
  | 4 => ⟨S32, .f32⟩
  | 5 => ⟨S32, .f32⟩
  | 6 => ⟨S2048, .f32⟩
  | 7 => ⟨S128x32x64x128, .f32⟩
  | 8 => ⟨S128x8x2048, .f32⟩
  | 9 => ⟨S128x8x4x8x64, .f32⟩
  | 10 => ⟨S128x8x512, .f32⟩
  | 11 => ⟨S128x8x4x128, .f32⟩
  | 12 => ⟨S128x8x512, .f32⟩
  | 13 => ⟨S128x8x4x128, .f32⟩
  | 14 => ⟨S128x8x2048, .f32⟩
  | 15 => ⟨S128x8x4x128, .f32⟩
  | 16 => ⟨S128x8x4x8, .f32⟩
  | 17 => ⟨S4x8, .f32⟩
  | 18 => ⟨S1x1x4x8, .f32⟩
  | 19 => ⟨S128x8x4x8, .f32⟩
  | 20 => ⟨S128x8x4x8, .f32⟩
  | 21 => ⟨S_, .f32⟩
  | 22 => ⟨S128x8x4x8, .f32⟩
  | 23 => ⟨S128x8x4x8, .f32⟩
  | 24 => ⟨S128x8x4x8, .f32⟩
  | 25 => ⟨S128x8x4x8, .f32⟩
  | 26 => ⟨S128x8x4x8, .i1⟩
  | 27 => ⟨S128x8x4x8, .f32⟩
  | 28 => ⟨S128x8x4x8, .f32⟩
  | 29 => ⟨S128x8x4x8, .f32⟩
  | 30 => ⟨S128x8x4x8, .f32⟩
  | 31 => ⟨S128x8x4x8, .f32⟩
  | 32 => ⟨S128x8x4x8, .f32⟩
  | 33 => ⟨S128x8x4x8, .f32⟩
  | 34 => ⟨S128x8x4x8, .f32⟩
  | 35 => ⟨S32, .f32⟩
  | 36 => ⟨S4x8, .f32⟩
  | 37 => ⟨S4x8, .f32⟩
  | 38 => ⟨S128x4x8x64x128, .f32⟩
  | 39 => ⟨S_, .i1⟩
  | 40 => ⟨S8x8, .i1⟩
  | 41 => ⟨S8x8, .i32⟩
  | 42 => ⟨S_, .i32⟩
  | 43 => ⟨S8x8, .i32⟩
  | 44 => ⟨S8x8, .i32⟩
  | 45 => ⟨S8x8, .i32⟩
  | 46 => ⟨S8x8, .i1⟩
  | 47 => ⟨S_, .i1⟩
  | 48 => ⟨S8x8, .i1⟩
  | 49 => ⟨S8x8, .i1⟩
  | 50 => ⟨S1x8x8x1x1, .i1⟩
  | 51 => ⟨S1x1x4x8, .f32⟩
  | 52 => ⟨S128x8x4x8, .f32⟩
  | 53 => ⟨S128x8x4x8, .f32⟩
  | 54 => ⟨S_, .f32⟩
  | 55 => ⟨S_, .f32⟩
  | 56 => ⟨S128x8x4x8, .f32⟩
  | 57 => ⟨S128x8x1x4x8, .f32⟩
  | 58 => ⟨S128x1x8x4x8, .f32⟩
  | 59 => ⟨S128x8x8x4x8, .f32⟩
  | 60 => ⟨S128x8x8x4x8, .f32⟩
  | 61 => ⟨S128x8x8x4x8, .f32⟩
  | 62 => ⟨S_, .f32⟩
  | 63 => ⟨S_, .f32⟩
  | 64 => ⟨S128x8x8x4x8, .i1⟩
  | 65 => ⟨S128x8x8x4x8, .f32⟩
  | 66 => ⟨S128x8x8x4x8, .f32⟩
  | 67 => ⟨S128x8x8x4x8, .f32⟩
  | 68 => ⟨S128x4x8x8, .f32⟩
  | 69 => ⟨S128x8x8x4, .f32⟩
  | 70 => ⟨S128x8x8x4x1, .f32⟩
  | 71 => ⟨S128x8x8x4x8, .f32⟩
  | 72 => ⟨S128x8x8x4x8, .f32⟩
  | 73 => ⟨S128x1x8x4x8, .f32⟩
  | 74 => ⟨S128x8x8x4x8, .f32⟩
  | 75 => ⟨S128x8x8x4x8, .f32⟩
  | 76 => ⟨S128x4x8x64x8, .f32⟩
  | 77 => ⟨S128x8x4x8x64, .f32⟩
  | 78 => ⟨S128x4x8x64x8, .f32⟩
  | 79 => ⟨S128x8x4x8x64, .f32⟩
  | 80 => ⟨S128x8x4x8, .f32⟩
  | 81 => ⟨S128x8x4x8x1, .f32⟩
  | 82 => ⟨S128x8x4x8x64, .f32⟩
  | 83 => ⟨S128x8x4x8x64, .f32⟩
  | 84 => ⟨S128x8x4x8x64, .f32⟩
  | 85 => ⟨S128x1x4x8, .f32⟩
  | 86 => ⟨S128x8x4x8, .f32⟩
  | 87 => ⟨S128x8x4x8, .f32⟩
  | 88 => ⟨S128x8x4x8, .f32⟩
  | 89 => ⟨S128x8x4x8, .f32⟩
  | 90 => ⟨S128x1x4x8, .f32⟩
  | 91 => ⟨S128x4x8, .f32⟩
  | 92 => ⟨S128x4x8, .f32⟩
  | 93 => ⟨S128x4x8x1x1, .f32⟩
  | 94 => ⟨S128x4x8x64x128, .f32⟩
  | 95 => ⟨S128x4x8x64x128, .f32⟩
  | 96 => ⟨S128x8x4x8x1, .f32⟩
  | 97 => ⟨S128x8x4x8x64, .f32⟩
  | 98 => ⟨S128x8x4x8x64, .f32⟩
  | 99 => ⟨S128x4x8x64x128, .f32⟩
  | 100 => ⟨S128x4x8x64x128, .f32⟩
  | 101 => ⟨S4x8x1, .f32⟩
  | 102 => ⟨S1x1x4x8x1, .f32⟩
  | 103 => ⟨S128x8x4x8x64, .f32⟩
  | 104 => ⟨S128x8x4x8x64, .f32⟩
  | 105 => ⟨S128x8x4x8x64, .f32⟩
  | 106 => ⟨S128x8x2048, .f32⟩
  | 107 => ⟨S128x8x2048, .f32⟩
  | 108 => ⟨S128x8x2048, .f32⟩
  | 109 => ⟨S_, .f32⟩
  | 110 => ⟨S128x8x2048, .f32⟩
  | 111 => ⟨S128x8x2048, .f32⟩
  | 112 => ⟨S_, .f32⟩
  | 113 => ⟨S128x8x2048, .f32⟩
  | 114 => ⟨S128x8x2048, .f32⟩
  | 115 => ⟨S128x8x2048, .f32⟩
  | 116 => ⟨S128x8x2048, .f32⟩
  | 117 => ⟨S128x8x4x512, .f32⟩
  | 118 => ⟨S4x512, .f32⟩
  | 119 => ⟨S128x8x4x512, .f32⟩
  | 120 => ⟨S_, .f32⟩
  | 121 => ⟨S128x8x4, .f32⟩
  | 122 => ⟨S128x8x4x1, .f32⟩
  | 123 => ⟨S_, .f32⟩
  | 124 => ⟨S128x8x4x1, .f32⟩
  | 125 => ⟨S128x8x4x1, .f32⟩
  | 126 => ⟨S_, .f32⟩
  | 127 => ⟨S128x8x4x1, .f32⟩
  | _ => ⟨S128x8x3072, .f32⟩

abbrev hbmTy0_1 (i : Nat) : BufTy := match i % 128 with
  | 0 => ⟨S128x8x4x1, .f32⟩
  | 1 => ⟨S128x8x4x1, .f32⟩
  | 2 => ⟨S128x8x4x512, .f32⟩
  | 3 => ⟨S128x8x4x512, .f32⟩
  | 4 => ⟨S1x1x4x512, .f32⟩
  | 5 => ⟨S128x8x4x512, .f32⟩
  | 6 => ⟨S128x8x4x512, .f32⟩
  | 7 => ⟨S128x8x2048, .f32⟩
  | 8 => ⟨S128x32x64x128, .f32⟩
  | _ => ⟨S128x8x3072, .f32⟩

abbrev hbmTy (i : Nat) : BufTy := match i / 128 with
  | 0 => hbmTy0_0 i
  | 1 => hbmTy0_1 i
  | _ => ⟨S128x8x3072, .f32⟩

abbrev bufTy : (tb : Table) → Fin (tcTables nBuf tb) → BufTy
  | .hbm, ⟨i, _⟩ => hbmTy i
  | _, _ => ⟨S128x8x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_0 : Ref sig .tc := ⟨.hbm, 47, rfl⟩
abbrev main_call1_v5 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call2_call0_cst : Ref sig .tc := ⟨.hbm, 54, rfl⟩
abbrev main_call2_call0_v0 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call4_v0 : Ref sig .tc := ⟨.hbm, 107, rfl⟩
abbrev main_call4_v1 : Ref sig .tc := ⟨.hbm, 108, rfl⟩
abbrev main_call4_cst : Ref sig .tc := ⟨.hbm, 109, rfl⟩
abbrev main_call4_v2 : Ref sig .tc := ⟨.hbm, 110, rfl⟩
abbrev main_call4_v3 : Ref sig .tc := ⟨.hbm, 111, rfl⟩
abbrev main_call4_cst_0 : Ref sig .tc := ⟨.hbm, 112, rfl⟩
abbrev main_call4_v4 : Ref sig .tc := ⟨.hbm, 113, rfl⟩
abbrev main_call4_v5 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_0 : Ref sig .tc := ⟨.hbm, 120, rfl⟩
abbrev main_v76 : Ref sig .tc := ⟨.hbm, 121, rfl⟩
abbrev main_v77 : Ref sig .tc := ⟨.hbm, 122, rfl⟩
abbrev main_cst_1 : Ref sig .tc := ⟨.hbm, 123, rfl⟩
abbrev main_v78 : Ref sig .tc := ⟨.hbm, 124, rfl⟩
abbrev main_v79 : Ref sig .tc := ⟨.hbm, 125, rfl⟩
abbrev main_cst_2 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩

abbrev nD : Nat := 1
abbrev τ : Topo := Topo.v7x

variable {F : FTy → Type} [FloatOps F]
-- ==== Proof.Ffn.lean ====
module

public import proofs.«01_k».proof.Proof.Gen.FfnKernelIdeal.Value
public import proofs.«01_k».proof.Proof.Gen.FfnReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.FfnKernelIdeal.Value

open Cert.FfnKernelIdeal Cert.FfnKernelIdeal.Gen Idealize.ShloMosaic Idealize.ShloMosaic.TcCoe Idealize.SL.Sem
open Idealize.ShloMosaic.Pipeline (Dat)

/-! ## The feed-forward layer as a function of its arguments, entry by entry -/

/-- The normalised, scaled and shifted input at row `(b, l)`, column `d`. -/
def hid (x : Vec Ideal S2x8192x1024 .f32) (sh sc : Vec Ideal S2x1x1024 .f32) (nw : Vec Ideal S1024 .f32)
    (b : Fin 2) (l : Fin 8192) (d : Fin 1024) : EReal :=
  x (ix3 b l d) * Ideal.rsqrt (Ideal.div (∑ e : Fin 1024, x (ix3 b l e) * x (ix3 b l e)) (Ideal.ofBits FTy.f32 0x44800000#32)
    + Ideal.ofBits FTy.f32 0x358637BD#32) * nw (ix1 d) * (1 + sc (ix3 b 0 d)) + sh (ix3 b 0 d)

/-- A gated unit: the gate's value times its logistic times the other value. -/
def unit (g u : EReal) : EReal := g * Ideal.logistic g * u

/-- A row of 1024 entries against column `j` of the input weights. -/
def proj (h : Fin 1024 → EReal) (w : Vec Ideal S1024x5632 .f32) (j : Fin 5632) : EReal := ∑ e : Fin 1024, h e * w (ix2 e j)

/-- Hidden unit `j` of a row: its gate is column `j` of the input weights, its value column `2816 + j`. -/
def act (h : Fin 1024 → EReal) (w : Vec Ideal S1024x5632 .f32) (j : Fin 2816) : EReal :=
  unit (proj h w ⟨j.val, by omega⟩) (proj h w ⟨2816 + j.val, by omega⟩)

/-- The layer's result at `(b, l, d)`: the input plus half the gate times the hidden units against the output weights. -/
def spec (x : Vec Ideal S2x8192x1024 .f32) (sh sc gt : Vec Ideal S2x1x1024 .f32) (nw : Vec Ideal S1024 .f32)
    (wi : Vec Ideal S1024x5632 .f32) (wo : Vec Ideal S2816x1024 .f32) (b : Fin 2) (l : Fin 8192) (d : Fin 1024) : EReal :=
  x (ix3 b l d) + Ideal.ofBits FTy.f32 0x3F000000#32 * gt (ix3 b 0 d)
    * ∑ j : Fin 2816, act (hid x sh sc nw b l) wi j * wo (ix2 j d)

/-! ## The kernel's stored values, entry by entry -/

variable (m : (ℓ : Loc nD τ sig) → Buf (Elt Ideal) ℓ)

/-- Every window's block index at point `t`: `t / 32` is the batch row, `t / 2 % 16` the row tile, `t % 2` the half of the hidden axis. -/
theorem idx : ∀ t : Fin cfg0.N, win0_0.index t = ![t.val / 32, t.val / 2 % 16, 0] ∧ win0_1.index t = ![t.val / 32, 0, 0]
    ∧ win0_2.index t = ![t.val / 32, 0, 0] ∧ win0_3.index t = ![t.val / 32, 0, 0] ∧ win0_4.index t = ![0, 0, 0]
    ∧ win0_5.index t = ![0, t.val % 2] ∧ win0_6.index t = ![0, t.val % 2 + 2] ∧ win0_7.index t = ![t.val % 2, 0]
    ∧ win0_8.index t = ![t.val / 32, t.val / 2 % 16, 0] ∧ t.val < 64 :=
  (by decide +kernel : ∀ t : Fin grid0.N, _)

/-- One half of the hidden axis: the units of 1408 columns against 1408 rows of the output weights. -/
theorem pay2_apply (h : Vec Ideal S512x1024 .bf16) (wg wu : Vec Ideal S1024x1408 .bf16) (wo : Vec Ideal S1408x1024 .bf16)
    (r : Fin 512) (d : Fin 1024) :
    k0_pay2 (F := Ideal) h wg wu wo (ix2 r d) = ∑ j : Fin 1408, unit (∑ e : Fin 1024, h (ix2 r e) * wg (ix2 e j))
      (∑ e : Fin 1024, h (ix2 r e) * wu (ix2 e j)) * wo (ix2 j d) := by
  pointwise [k0_pay2, unit]

/-- The normalised block stored at point `t`. -/
theorem pay1_point (c : Dev nD) (t : Fin cfg0.N) (r : Fin 512) (d : Fin 1024) (b : Fin 2) (l : Fin 8192)
    (hb : b.val = t.val / 32) (hl : l.val = t.val / 2 % 16 * 512 + r.val) :
    k0_pay1 (F := Ideal) (iblk m c 0 t) (iblk m c 4 t) (iblk m c 2 t) (iblk m c 1 t) (ix2 r d)
      = hid (m ((c : Thread nD τ).loc main_arg0)) (m ((c : Thread nD τ).loc main_arg1)) (m ((c : Thread nD τ).loc main_arg2))
          (m ((c : Thread nD τ).loc main_arg4)) b l d := by
  pointwise [k0_pay1, hid]
  blk_point [iblk, V, idx t]

/-- The half of the hidden axis that point `t` adds. -/
theorem pay2_point (c : Dev nD) (t : Fin cfg0.N) (h : Vec Ideal S512x1024 .bf16) (hr : Fin 1024 → EReal) (r : Fin 512) (d : Fin 1024)
    (hh : ∀ e : Fin 1024, h (ix2 r e) = hr e) (k : ℕ) (hk : t.val % 2 = k) (hk2 : k < 2) :
    k0_pay2 (F := Ideal) h (iblk m c 5 t) (iblk m c 6 t) (iblk m c 7 t) (ix2 r d)
      = ∑ j : Fin 1408, act hr (m ((c : Thread nD τ).loc main_arg5)) ⟨k * 1408 + j.val, by omega⟩
          * m ((c : Thread nD τ).loc main_arg6) (ix2 ⟨k * 1408 + j.val, by omega⟩ d) := by
  subst hk
  rw [pay2_apply]
  simp only [hh, act, proj]
  blk_point [iblk, V, idx t]

/-- The two scratch buffers after an even point: the normalised block, and the first half's product. -/
theorem outs_even (c : Dev nD) (t : Fin cfg0.N) (h : t.val % 2 = 0) : (outsAt0 m c t.val t.isLt).2 =
    (k0_pay1 (iblk m c 0 t) (iblk m c 4 t) (iblk m c 2 t) (iblk m c 1 t),
      k0_pay3 (k0_pay1 (iblk m c 0 t) (iblk m c 4 t) (iblk m c 2 t) (iblk m c 1 t)) (iblk m c 5 t) (iblk m c 6 t) (iblk m c 7 t)) := by
  rw [outsAt0_A m c t h h (by omega) (by omega)]
  frame_out

/-- The output block after an odd point, over the scratch that the point before left. -/
theorem outs_odd (c : Dev nD) (t : Fin cfg0.N) (h : t.val % 2 = 1) (p : Fin cfg0.N) (hp : p.val = t.val - 1) :
    (outsAt0 m c t.val t.isLt).1 = k0_pay5 (iblk m c 0 t) (iblk m c 3 t)
      (k0_pay4 (outsAt0 m c p.val p.isLt).2.1 (iblk m c 5 t) (iblk m c 6 t) (iblk m c 7 t) (outsAt0 m c p.val p.isLt).2.2) := by
  obtain ⟨p, hlt⟩ := p
  dsimp only at hp
  subst hp
  rw [outsAt0_B m c t (by omega) (by omega) h h]
  frame_out
  simp only [read_unread_whole]

/-- What the last step of a row tile makes of the input, the gate and the two halves' products. -/
theorem pay5_apply (x : Vec Ideal S1x512x1024 .f32) (g : Vec Ideal S1x1x1024 .f32) (a : Vec Ideal S512x1024 .f32) (r : Fin 512) (d : Fin 1024) :
    k0_pay5 (F := Ideal) x g a (ix3 0 r d) = x (ix3 0 r d) + Ideal.ofBits FTy.f32 0x3F000000#32 * g (ix3 0 0 d) * a (ix2 r d) := by
  pointwise [k0_pay5]

/-- What the second half's step adds to the scratch. -/
theorem pay4_apply (h : Vec Ideal S512x1024 .bf16) (wg wu : Vec Ideal S1024x1408 .bf16) (wo : Vec Ideal S1408x1024 .bf16)
    (a : Vec Ideal S512x1024 .f32) (r : Fin 512) (d : Fin 1024) :
    k0_pay4 (F := Ideal) h wg wu wo a (ix2 r d) = a (ix2 r d) + k0_pay2 (F := Ideal) h wg wu wo (ix2 r d) := by
  pointwise [k0_pay4]

/-- What the first half's step stores in the scratch. -/
theorem pay3_apply (h : Vec Ideal S512x1024 .bf16) (wg wu : Vec Ideal S1024x1408 .bf16) (wo : Vec Ideal S1408x1024 .bf16)
    (r : Fin 512) (d : Fin 1024) :
    k0_pay3 (F := Ideal) h wg wu wo (ix2 r d) = k0_pay2 (F := Ideal) h wg wu wo (ix2 r d) := by
  pointwise [k0_pay3]

/-- The layer's result as an array over the kernel's arguments. -/
def result (c : Dev nD) : Vec Ideal S2x8192x1024 .f32 := fun i =>
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 2)

/-- The output block after an odd point is the layer's result at the rows of its tile. -/
theorem point (c : Dev nD) (t : Fin cfg0.N) (h : t.val % 2 = 1) (r : Fin 512) (d : Fin 1024) (b : Fin 2) (l : Fin 8192)
    (hb : b.val = t.val / 32) (hl : l.val = t.val / 2 % 16 * 512 + r.val) :
    (outsAt0 m c t.val t.isLt).1 (ix3 0 r d) = result m c (ix3 b l d) := by
  have hN : t.val < 64 := (idx t).2.2.2.2.2.2.2.2.2
  obtain ⟨p, hp⟩ : ∃ p : Fin cfg0.N, p.val = t.val - 1 := ⟨⟨t.val - 1, by have := t.isLt; omega⟩, rfl⟩
  have hpe : p.val % 2 = 0 := by omega
  rw [outs_odd m c t h p hp, outs_even m c p hpe, pay5_apply, pay4_apply]
  dsimp only
  have h1 := fun e => pay1_point m c p r e b l (by omega) (by omega)
  rw [pay3_apply, pay2_point m c t _ _ r d h1 1 h (by omega), pay2_point m c p _ _ r d h1 0 hpe (by omega)]
  show _ = spec _ _ _ _ _ _ _ b l d
  unfold spec
  rw [Fin.sum_univ_two_halves 1408 1408 rfl]
  blk_point [iblk, V, idx t]

/-- The result array after the run. -/
theorem final (c : Dev nD) : (dats m 0 c).arrAt 8 cfg0.N = result m c := by
  refine (dats m 0 c).arrAt_eq_of_covers 8 _ (by decide +kernel) fun t hf y => ?_
  have hm : t.val % 2 = 1 := (flush0_8 t).mp hf
  blk_simp
  rw [after0_8]
  obtain ⟨z, r, d, rfl⟩ : ∃ (z : Fin 1) (r : Fin 512) (d : Fin 1024), y = ix3 z r d := ⟨y 0, y 1, y 2, eq_ix3 y⟩
  obtain rfl : z = 0 := Subsingleton.elim _ _
  have hN : t.val < 64 := (idx t).2.2.2.2.2.2.2.2.2
  refine (point m c t hm r d ⟨t.val / 32, by omega⟩ ⟨t.val / 2 % 16 * 512 + r.val, by omega⟩ rfl rfl).trans ?_
  refine congrArg (result m c) ?_
  blk_ext [idx t]

/-- The kernel's run: the result array holds the layer's result, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final8 m c).symm.trans (final m c)), (h c).2⟩) (run m ρ)

end Cert.FfnKernelIdeal.Value

namespace Cert.FfnReferenceIdeal.Value

open Cert.FfnReferenceIdeal Cert.FfnReferenceIdeal.Gen Idealize.ShloMosaic Idealize.ShloMosaic.TcCoe Idealize.SL.Sem

/-- The reference's term is the same function, entry by entry. -/
theorem ref_apply (m : (ℓ : Loc nD τ sig) → Buf (Elt Ideal) ℓ) (c : Dev nD) (b : Fin 2) (l : Fin 8192) (d : Fin 1024) :
   (res_main_v29 (F := Ideal) m c : Vec Ideal S2x8192x1024 .f32) (ix3 b l d) =
    Cert.FfnKernelIdeal.Value.spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b l d := by
  pointwise [res_main_v29]
  rfl

end Cert.FfnReferenceIdeal.Value

end
-- ==== Proof.MlstmSpec.lean ====
module

public import Idealize.ShloMosaic.Lib.Pointwise
public import Idealize.ShloMosaic.Lib.Claim

@[expose] public section

set_option maxRecDepth 16384

noncomputable section

/-! # One chunk of the mLSTM recurrence for one head, over the extended reals

A chunk has 8 tokens; a head has keys and queries of 64 entries and values of 128 entries. `b` is the running sum of the
log forget gates, `i` the input gates, `m` the stabiliser of the state before the chunk. -/

namespace Cert.Mlstm

open Idealize.ShloMosaic

/-- The word of minus infinity. -/
abbrev ninf : EReal := Ideal.ofBits FTy.f32 0xFF800000#32

/-- The logarithm of the logistic function, as minus a softplus of minus the argument. -/
def logsig (x : EReal) : EReal :=
  -(max (-x) 0 + Ideal.log1p (Ideal.exp (-(FloatOps.absf (F := Ideal) (φ := .f32) (-x)))))

/-- The running sum over the chunk. -/
def cum (f : Fin 8 → EReal) (t : Fin 8) : EReal := ∑ s : Fin 8, if s ≤ t then f s else 0

/-- The log weight of token `s` at token `t`: minus infinity where `s` is after `t`. -/
def dmat (b i : Fin 8 → EReal) (t s : Fin 8) : EReal := if s ≤ t then b t - b s + i s else ninf

/-- The stabiliser at token `t`. -/
def mtok (b i : Fin 8 → EReal) (m : EReal) (t : Fin 8) : EReal :=
  max (b t + m) (Finset.univ.fold max ninf fun s => dmat b i t s)

/-- The weight of the state before the chunk at token `t`. -/
def winter (b i : Fin 8 → EReal) (m : EReal) (t : Fin 8) : EReal := Ideal.exp (b t + m - mtok b i m t)

/-- The weighted product of query `t` and key `s`. -/
def qk (q k : Fin 8 → Fin 64 → EReal) (b i : Fin 8 → EReal) (m : EReal) (t s : Fin 8) : EReal :=
  (∑ x : Fin 64, q t x * k s x) * Ideal.exp (dmat b i t s - mtok b i m t)

/-- The recurrence's output at token `t`, entry `d`. -/
def hout (q k : Fin 8 → Fin 64 → EReal) (v : Fin 8 → Fin 128 → EReal) (b i : Fin 8 → EReal) (C : Fin 128 → Fin 64 → EReal)
    (n : Fin 64 → EReal) (m : EReal) (t : Fin 8) (d : Fin 128) : EReal :=
  Ideal.div (∑ s : Fin 8, qk q k b i m t s * v s d + winter b i m t * ∑ x : Fin 64, q t x * C d x)
    (max (FloatOps.absf (F := Ideal) (φ := .f32)
        (∑ s : Fin 8, qk q k b i m t s + winter b i m t * ∑ x : Fin 64, q t x * n x))
      (Ideal.exp (-mtok b i m t)))

/-- The weight of token `s` in the state after the chunk. -/
def wstate (b i : Fin 8 → EReal) (m : EReal) (s : Fin 8) : EReal := Ideal.exp (b 7 - b s + i s - mtok b i m 7)

/-- The weight of the state before the chunk in the state after it. -/
def decay (b i : Fin 8 → EReal) (m : EReal) : EReal := Ideal.exp (b 7 + m - mtok b i m 7)

/-- The matrix state after the chunk. -/
def cnew (k : Fin 8 → Fin 64 → EReal) (v : Fin 8 → Fin 128 → EReal) (b i : Fin 8 → EReal) (C : Fin 128 → Fin 64 → EReal)
    (m : EReal) (d : Fin 128) (x : Fin 64) : EReal :=
  decay b i m * C d x + ∑ s : Fin 8, v s d * wstate b i m s * k s x

/-- The normaliser state after the chunk. -/
def nnew (k : Fin 8 → Fin 64 → EReal) (b i : Fin 8 → EReal) (n : Fin 64 → EReal) (m : EReal) (x : Fin 64) : EReal :=
  decay b i m * n x + ∑ s : Fin 8, wstate b i m s * k s x

/-- An output row, normalised by its root mean square, weighted, and gated by a logistic. -/
def gated (h o w : Fin 128 → EReal) (d : Fin 128) : EReal :=
  Ideal.div 1 (1 + Ideal.exp (-o d))
    * (h d * Ideal.rsqrt (Ideal.div (∑ e : Fin 128, h e * h e) (Ideal.ofBits FTy.f32 0x43000000#32)
        + Ideal.ofBits FTy.f32 0x358637BD#32) * w d)

/-! The layer's results from the arrays: projections `p` (queries, keys, values and output gates side by side), gates `g` (each pair
of heads in its own 128 columns), their bias `bi`, the norm's weight `w`, and the state `C`, `n`, `m` before the chunk. -/

/-- Head `h`'s input gates. -/
def headI (g : Vec Ideal ⟨3, ![128, 8, 512]⟩ .f32) (bi : Vec Ideal ⟨1, ![16]⟩ .f32) (b : Fin 128) (h t : Fin 8) : EReal :=
  g (ix3 b t ⟨h.val / 2 * 128 + h.val % 2, by omega⟩) + bi (ix1 ⟨h.val, by omega⟩)

/-- The running sums of head `h`'s log forget gates. -/
def headB (g : Vec Ideal ⟨3, ![128, 8, 512]⟩ .f32) (bi : Vec Ideal ⟨1, ![16]⟩ .f32) (b : Fin 128) (h : Fin 8) : Fin 8 → EReal :=
  cum fun s => logsig (g (ix3 b s ⟨h.val / 2 * 128 + (h.val % 2 + 2), by omega⟩) + bi (ix1 ⟨8 + h.val, by omega⟩))

/-- Head `h`'s scaled queries. -/
def headQ (p : Vec Ideal ⟨3, ![128, 8, 3072]⟩ .f32) (b : Fin 128) (h t : Fin 8) (x : Fin 64) : EReal :=
  p (ix3 b t ⟨h.val * 64 + x.val, by omega⟩) * Ideal.ofBits FTy.f32 0x3E000000#32

/-- Head `h`'s keys. -/
def headK (p : Vec Ideal ⟨3, ![128, 8, 3072]⟩ .f32) (b : Fin 128) (h t : Fin 8) (x : Fin 64) : EReal :=
  p (ix3 b t ⟨512 + (h.val * 64 + x.val), by omega⟩)

/-- Head `h`'s values. -/
def headV (p : Vec Ideal ⟨3, ![128, 8, 3072]⟩ .f32) (b : Fin 128) (h t : Fin 8) (d : Fin 128) : EReal :=
  p (ix3 b t ⟨1024 + (h.val * 128 + d.val), by omega⟩)

/-- Head `h`'s output gates. -/
def headO (p : Vec Ideal ⟨3, ![128, 8, 3072]⟩ .f32) (b : Fin 128) (h t : Fin 8) (d : Fin 128) : EReal :=
  p (ix3 b t ⟨2048 + (h.val * 128 + d.val), by omega⟩)

/-- The matrix state after the chunk. -/
def resC (p : Vec Ideal ⟨3, ![128, 8, 3072]⟩ .f32) (g : Vec Ideal ⟨3, ![128, 8, 512]⟩ .f32) (bi : Vec Ideal ⟨1, ![16]⟩ .f32)
    (C : Vec Ideal ⟨4, ![128, 8, 128, 64]⟩ .f32) (m : Vec Ideal ⟨2, ![128, 8]⟩ .f32) (b : Fin 128) (h : Fin 8) (d : Fin 128) (x : Fin 64) : EReal :=
  cnew (headK p b h) (headV p b h) (headB g bi b h) (headI g bi b h) (fun d x => C (ix4 b h d x)) (m (ix2 b h)) d x

/-- The normaliser after the chunk. -/
def resN (p : Vec Ideal ⟨3, ![128, 8, 3072]⟩ .f32) (g : Vec Ideal ⟨3, ![128, 8, 512]⟩ .f32) (bi : Vec Ideal ⟨1, ![16]⟩ .f32)
    (n : Vec Ideal ⟨3, ![128, 8, 64]⟩ .f32) (m : Vec Ideal ⟨2, ![128, 8]⟩ .f32) (b : Fin 128) (h : Fin 8) (x : Fin 64) : EReal :=
  nnew (headK p b h) (headB g bi b h) (headI g bi b h) (fun x => n (ix3 b h x)) (m (ix2 b h)) x

/-- The stabiliser after the chunk. -/
def resM (g : Vec Ideal ⟨3, ![128, 8, 512]⟩ .f32) (bi : Vec Ideal ⟨1, ![16]⟩ .f32) (m : Vec Ideal ⟨2, ![128, 8]⟩ .f32) (b : Fin 128) (h : Fin 8) : EReal :=
  mtok (headB g bi b h) (headI g bi b h) (m (ix2 b h)) 7

/-- The gated output of the chunk, for head `h` and its entry `d`. -/
def resY (p : Vec Ideal ⟨3, ![128, 8, 3072]⟩ .f32) (g : Vec Ideal ⟨3, ![128, 8, 512]⟩ .f32) (bi : Vec Ideal ⟨1, ![16]⟩ .f32)
    (w : Vec Ideal ⟨1, ![1024]⟩ .f32) (C : Vec Ideal ⟨4, ![128, 8, 128, 64]⟩ .f32) (n : Vec Ideal ⟨3, ![128, 8, 64]⟩ .f32)
    (m : Vec Ideal ⟨2, ![128, 8]⟩ .f32) (b : Fin 128) (t h : Fin 8) (d : Fin 128) : EReal :=
  gated (fun e => hout (headQ p b h) (headK p b h) (headV p b h) (headB g bi b h) (headI g bi b h) (fun d x => C (ix4 b h d x))
      (fun x => n (ix3 b h x)) (m (ix2 b h)) t e)
    (fun e => headO p b h t e) (fun e => w (ix1 ⟨h.val * 128 + e.val, by omega⟩)) d

/-- The comparison of two small numbers as words. -/
theorem sle_word : ∀ s t : Fin 8, IntOp.cmpi .sle (BitVec.ofNat 32 s.val) (BitVec.ofNat 32 t.val) = if s ≤ t then 1#1 else 0#1 := by
  decide

/-- The same comparison the other way round, with a zero added. -/
theorem sge_word : ∀ s t : Fin 8, IntOp.cmpi .sge (IntOp.addi (BitVec.ofNat 32 t.val) 0#32) (BitVec.ofNat 32 s.val)
    = if s ≤ t then 1#1 else 0#1 := by
  decide

/-- Equality of two small numbers as words. -/
theorem eq_word : ∀ s t : Fin 8, IntOp.cmpi .eq (BitVec.ofNat 32 s.val) (BitVec.ofNat 32 t.val) = if s = t then 1#1 else 0#1 := by
  decide

/-- A selection by the word of a condition is the `if` of the condition. -/
theorem select_word {α : Type} (p : Prop) [Decidable p] (a b : α) : Scalar.select (if p then 1#1 else 0#1) a b = if p then a else b := by
  by_cases h : p <;> simp [h, Scalar.select]

/-- A diagonal sum picks one entry. -/
theorem sum_diag (f : Fin 8 → EReal) (s : Fin 8) : (∑ x : Fin 8, if s = x then f x else 0) = f s := by
  simp

/-- The product with the causal 0/1 matrix is the running sum. -/
theorem sum_causal (f : Fin 8 → EReal) (t : Fin 8) :
    (∑ s : Fin 8, FloatOps.sitofp (F := Ideal) FTy.f32 (BitVec.setWidth 32 (IntOp.cmpi .sle (BitVec.ofNat 32 s.val) (BitVec.ofNat 32 t.val))) * f s)
      = cum f t := by
  unfold cum
  refine Finset.sum_congr rfl fun s _ => ?_
  rw [sle_word]
  by_cases h : s ≤ t
  · rw [if_pos h, if_pos h]
    have : FloatOps.sitofp (F := Ideal) FTy.f32 (BitVec.setWidth 32 1#1) = (1 : EReal) := by
      show (((BitVec.setWidth 32 1#1).toInt : ℝ) : EReal) = 1
      norm_num
    rw [this, one_mul]
  · rw [if_neg h, if_neg h]
    have : FloatOps.sitofp (F := Ideal) FTy.f32 (BitVec.setWidth 32 0#1) = (0 : EReal) := by
      show (((BitVec.setWidth 32 0#1).toInt : ℝ) : EReal) = 0
      norm_num
    rw [this, zero_mul]

/-- A left fold of sums from zero is the sum. -/
theorem foldl_add_eq_sum {N : ℕ} (g : Fin N → EReal) : (List.finRange N).foldl (fun r n => r + g n) 0 = ∑ n, g n := by
  rw [← List.sum_ofFn, List.ofFn_eq_map, List.sum_eq_foldl, List.foldl_map]

/-- The padded window of 8 along the middle axis, one entry at a time. -/
theorem sum_shifted (f : Fin 8 → EReal) (t : Fin 8) :
    (∑ n : Fin 8, if h : 7 ≤ t.val + n.val then f ⟨t.val + n.val - 7, by omega⟩ else 0) = cum f t := by
  unfold cum
  fin_cases t <;> simp [Fin.sum_univ_succ, Fin.le_def] <;> rfl

end Cert.Mlstm
-- ==== Proof.MlstmState.lean ====
module

public import proofs.«01_k».proof.Proof.Gen.KernelIdeal.Value
public import proofs.«01_k».proof.Proof.MlstmSpec
public import Idealize.ShloMosaic.Lib.Pipeline.ValueKit
public import Idealize.ShloMosaic.Lib.Pipeline.ReadBack
public import Idealize.ShloMosaic.Lib.Pointwise

@[expose] public section

set_option maxRecDepth 16384

noncomputable section

/-! # What the mLSTM kernel's carried buffers read back

Each of the three buffers is filled with the state before the chunk, one head's part of it is read, overwritten, and read again with the rest. -/

namespace Cert.KernelIdeal.Value

open Cert.KernelIdeal Cert.KernelIdeal.Gen Idealize.ShloMosaic Idealize.ShloMosaic.TcCoe Idealize.SL.Sem

/-- The newest store, read at a place it holds. -/
theorem canon_hit {s : Shape} {e : EltTy} (r : Rect s) (w : r.shape.Idx → Elt Ideal e) (L : List (View.Piece (Elt Ideal) s e)) (x : r.shape.Idx) (y : s.Idx)
    (h : r.emb x = y) : View.canon (⟨r, w⟩ :: L) y = w x := by
  subst h
  exact View.canon_cons_emb r w L x

/-- A store that misses the place on one axis is passed over. -/
theorem canon_miss {s : Shape} {e : EltTy} (r : Rect s) (w : r.shape.Idx → Elt Ideal e) (L : List (View.Piece (Elt Ideal) s e)) (y : s.Idx)
    (a : Fin s.rank) (o n : ℕ) (ho : r.off a = o) (hs : r.stride a = 1) (hn : r.size a = n) (h : (y a).val < o ∨ o + n ≤ (y a).val) :
    View.canon (⟨r, w⟩ :: L) y = View.canon L y :=
  View.canon_cons_of_not_mem ⟨r, w⟩ L (Rect.not_mem_set_of_axis r y a o n ho hs hn h)

/-- The whole matrix buffer, and the two heads' parts of it. -/
abbrev cAll : Rect S2x128x64 := Rect.unit ![0, 0, 0] ![2, 128, 64] inb_S2x128x64_S2x128x64_0_0_0
/-- The first head's part. -/
abbrev cFst : Rect S2x128x64 := Rect.unit ![0, 0, 0] ![1, 128, 64] inb_S2x128x64_S1x128x64_0_0_0
/-- The second head's part. -/
abbrev cSnd : Rect S2x128x64 := Rect.unit ![1, 0, 0] ![1, 128, 64] inb_S2x128x64_S1x128x64_1_0_0

/-- Head `h`'s part of the matrix state of a pair. -/
def cpart (Z : Vec Ideal S2x128x64 .f32) (h : Fin 2) : Vec Ideal S1x128x64 .f32 := fun y => Z (ix3 h (y 1) (y 2))

/-- The first head's part, read after the fill. -/
theorem c_first (Z : Vec Ideal S2x128x64 .f32) :
    (View.readCov (sig := sig) (κ := (Proc.tc (τ := τ)).kind) (sp := .vmem) (s := S2x128x64) (e := .f32) (Val := Elt Ideal) (View.whole cc0_scratch0) [⟨cAll, Z⟩] (cFst).toLoadRect) = cpart Z 0 := by
  refine (View.readCov_fill _ _ _ _ _ (by decide)).trans ?_
  funext y
  unfold cpart
  pointwise

/-- The second head's part, read after the fill and the first head's store. -/
theorem c_second (w : Vec Ideal S1x128x64 .f32) (Z : Vec Ideal S2x128x64 .f32) :
    (View.readCov (sig := sig) (κ := (Proc.tc (τ := τ)).kind) (sp := .vmem) (s := S2x128x64) (e := .f32) (Val := Elt Ideal) (View.whole cc0_scratch0) [⟨cFst, w⟩, ⟨cAll, Z⟩] (cSnd).toLoadRect) = cpart Z 1 := by
  refine (View.readCov_skip _ _ _ _ _ (by decide)).trans ((View.readCov_fill _ _ _ _ _ (by decide)).trans ?_)
  funext y
  unfold cpart
  pointwise

/-- The matrix state of a pair from its heads' parts. -/
def cpair (w w' : Vec Ideal S1x128x64 .f32) : Vec Ideal S2x128x64 .f32 := fun y => if (y 0).val = 0 then w (ix3 0 (y 1) (y 2)) else w' (ix3 0 (y 1) (y 2))

/-- The whole buffer read after both heads' stores: each head's part is its store. -/
theorem c_whole (w w' : Vec Ideal S1x128x64 .f32) (Z : Vec Ideal S2x128x64 .f32) :
    View.readCov (sig := sig) (κ := (Proc.tc (τ := τ)).kind) (sp := .vmem) (s := S2x128x64) (e := .f32) (Val := Elt Ideal) (View.whole cc0_scratch0) [⟨cSnd, w'⟩, ⟨cFst, w⟩, ⟨cAll, Z⟩] (cAll).toLoadRect = cpair w w' := by
  funext y
  obtain ⟨h, a1, a2, rfl⟩ : ∃ (h : Fin 2) (a1 : Fin 128) (a2 : Fin 64), y = ix3 h a1 a2 := ⟨y 0, y 1, y 2, eq_ix3 y⟩
  refine (congrFun (View.readCov_eq_canon' _ _ _) _).trans ?_
  have hy : (cAll).toLoadRect.idx (show (cAll).shape.Idx from (ix3 h a1 a2)) = ((ix3 h a1 a2) : S2x128x64.Idx) := by
    funext a
    fin_cases a <;> exact Fin.ext (by simp [LoadRect.idx, Rect.toLoadRect, Rect.unit])
  refine (congrArg _ hy).trans ?_
  rcases (show h = 0 ∨ h = 1 by omega) with rfl | rfl
  · refine (canon_miss (cSnd) w' _ ((ix3 0 a1 a2) : S2x128x64.Idx) (0 : Fin 3) 1 1 rfl rfl rfl (Or.inl Nat.zero_lt_one)).trans ?_
    refine (canon_hit (cFst) w _ (show (cFst).shape.Idx from (ix3 0 a1 a2)) _ (Rect.emb_eq_of_coords _ _ _ ?_)).trans rfl
    intro a
    fin_cases a <;> simp [Rect.unit]
  · refine (canon_hit (cSnd) w' _ (show (cSnd).shape.Idx from (ix3 0 a1 a2)) _ (Rect.emb_eq_of_coords _ _ _ ?_)).trans rfl
    intro a
    fin_cases a <;> simp [Rect.unit]

/-- The whole normaliser buffer, and the two heads' parts of it. -/
abbrev nAll : Rect S2x64 := Rect.unit ![0, 0] ![2, 64] inb_S2x64_S2x64_0_0
/-- The first head's part. -/
abbrev nFst : Rect S2x64 := Rect.unit ![0, 0] ![1, 64] inb_S2x64_S1x64_0_0
/-- The second head's part. -/
abbrev nSnd : Rect S2x64 := Rect.unit ![1, 0] ![1, 64] inb_S2x64_S1x64_1_0

/-- Head `h`'s part of the normaliser state of a pair. -/
def npart (Z : Vec Ideal S2x64 .f32) (h : Fin 2) : Vec Ideal S1x64 .f32 := fun y => Z (ix2 h (y 1))

/-- The first head's part, read after the fill. -/
theorem n_first (Z : Vec Ideal S2x64 .f32) :
    (View.readCov (sig := sig) (κ := (Proc.tc (τ := τ)).kind) (sp := .vmem) (s := S2x64) (e := .f32) (Val := Elt Ideal) (View.whole cc0_scratch1) [⟨nAll, Z⟩] (nFst).toLoadRect) = npart Z 0 := by
  refine (View.readCov_fill _ _ _ _ _ (by decide)).trans ?_
  funext y
  unfold npart
  pointwise

/-- The second head's part, read after the fill and the first head's store. -/
theorem n_second (w : Vec Ideal S1x64 .f32) (Z : Vec Ideal S2x64 .f32) :
    (View.readCov (sig := sig) (κ := (Proc.tc (τ := τ)).kind) (sp := .vmem) (s := S2x64) (e := .f32) (Val := Elt Ideal) (View.whole cc0_scratch1) [⟨nFst, w⟩, ⟨nAll, Z⟩] (nSnd).toLoadRect) = npart Z 1 := by
  refine (View.readCov_skip _ _ _ _ _ (by decide)).trans ((View.readCov_fill _ _ _ _ _ (by decide)).trans ?_)
  funext y
  unfold npart
  pointwise

/-- The normaliser state of a pair from its heads' parts. -/
def npair (w w' : Vec Ideal S1x64 .f32) : Vec Ideal S2x64 .f32 := fun y => if (y 0).val = 0 then w (ix2 0 (y 1)) else w' (ix2 0 (y 1))

/-- The whole buffer read after both heads' stores: each head's part is its store. -/
theorem n_whole (w w' : Vec Ideal S1x64 .f32) (Z : Vec Ideal S2x64 .f32) :
    View.readCov (sig := sig) (κ := (Proc.tc (τ := τ)).kind) (sp := .vmem) (s := S2x64) (e := .f32) (Val := Elt Ideal) (View.whole cc0_scratch1) [⟨nSnd, w'⟩, ⟨nFst, w⟩, ⟨nAll, Z⟩] (nAll).toLoadRect = npair w w' := by
  funext y
  obtain ⟨h, a1, rfl⟩ : ∃ (h : Fin 2) (a1 : Fin 64), y = ix2 h a1 := ⟨y 0, y 1, eq_ix2 y⟩
  refine (congrFun (View.readCov_eq_canon' _ _ _) _).trans ?_
  have hy : (nAll).toLoadRect.idx (show (nAll).shape.Idx from (ix2 h a1)) = ((ix2 h a1) : S2x64.Idx) := by
    funext a
    fin_cases a <;> exact Fin.ext (by simp [LoadRect.idx, Rect.toLoadRect, Rect.unit])
  refine (congrArg _ hy).trans ?_
  rcases (show h = 0 ∨ h = 1 by omega) with rfl | rfl
  · refine (canon_miss (nSnd) w' _ ((ix2 0 a1) : S2x64.Idx) (0 : Fin 2) 1 1 rfl rfl rfl (Or.inl Nat.zero_lt_one)).trans ?_
    refine (canon_hit (nFst) w _ (show (nFst).shape.Idx from (ix2 0 a1)) _ (Rect.emb_eq_of_coords _ _ _ ?_)).trans rfl
    intro a
    fin_cases a <;> simp [Rect.unit]
  · refine (canon_hit (nSnd) w' _ (show (nSnd).shape.Idx from (ix2 0 a1)) _ (Rect.emb_eq_of_coords _ _ _ ?_)).trans rfl
    intro a
    fin_cases a <;> simp [Rect.unit]

/-- The whole stabiliser buffer, and the two heads' parts of it. -/
abbrev mAll : Rect S1x2 := Rect.unit ![0, 0] ![1, 2] inb_S1x2_S1x2_0_0
/-- The first head's part. -/
abbrev mFst : Rect S1x2 := Rect.unit ![0, 0] ![1, 1] inb_S1x2_S1x1_0_0
/-- The second head's part. -/
abbrev mSnd : Rect S1x2 := Rect.unit ![0, 1] ![1, 1] inb_S1x2_S1x1_0_1

/-- Head `h`'s part of the stabiliser state of a pair. -/
def mpart (Z : Vec Ideal S1x2 .f32) (h : Fin 2) : Vec Ideal S1x1 .f32 := fun y => Z (ix2 0 h)

/-- The first head's part, read after the fill. -/
theorem m_first (Z : Vec Ideal S1x2 .f32) :
    (View.readCov (sig := sig) (κ := (Proc.tc (τ := τ)).kind) (sp := .vmem) (s := S1x2) (e := .f32) (Val := Elt Ideal) (View.whole cc0_scratch2) [⟨mAll, Z⟩] (mFst).toLoadRect) = mpart Z 0 := by
  refine (View.readCov_fill _ _ _ _ _ (by decide)).trans ?_
  funext y
  unfold mpart
  pointwise

/-- The second head's part, read after the fill and the first head's store. -/
theorem m_second (w : Vec Ideal S1x1 .f32) (Z : Vec Ideal S1x2 .f32) :
    (View.readCov (sig := sig) (κ := (Proc.tc (τ := τ)).kind) (sp := .vmem) (s := S1x2) (e := .f32) (Val := Elt Ideal) (View.whole cc0_scratch2) [⟨mFst, w⟩, ⟨mAll, Z⟩] (mSnd).toLoadRect) = mpart Z 1 := by
  refine (View.readCov_skip _ _ _ _ _ (by decide)).trans ((View.readCov_fill _ _ _ _ _ (by decide)).trans ?_)
  funext y
  unfold mpart
  pointwise

/-- The stabiliser state of a pair from its heads' parts. -/
def mpair (w w' : Vec Ideal S1x1 .f32) : Vec Ideal S1x2 .f32 := fun y => if (y 1).val = 0 then w (ix2 0 0) else w' (ix2 0 0)

/-- The whole buffer read after both heads' stores: each head's part is its store. -/
theorem m_whole (w w' : Vec Ideal S1x1 .f32) (Z : Vec Ideal S1x2 .f32) :
    View.readCov (sig := sig) (κ := (Proc.tc (τ := τ)).kind) (sp := .vmem) (s := S1x2) (e := .f32) (Val := Elt Ideal) (View.whole cc0_scratch2) [⟨mSnd, w'⟩, ⟨mFst, w⟩, ⟨mAll, Z⟩] (mAll).toLoadRect = mpair w w' := by
  funext y
  obtain ⟨a0, h, rfl⟩ : ∃ (a0 : Fin 1) (h : Fin 2), y = ix2 a0 h := ⟨y 0, y 1, eq_ix2 y⟩
  obtain rfl : a0 = 0 := Subsingleton.elim _ _
  refine (congrFun (View.readCov_eq_canon' _ _ _) _).trans ?_
  have hy : (mAll).toLoadRect.idx (show (mAll).shape.Idx from (ix2 0 h)) = ((ix2 0 h) : S1x2.Idx) := by
    funext a
    fin_cases a <;> exact Fin.ext (by simp [LoadRect.idx, Rect.toLoadRect, Rect.unit])
  refine (congrArg _ hy).trans ?_
  rcases (show h = 0 ∨ h = 1 by omega) with rfl | rfl
  · refine (canon_miss (mSnd) w' _ ((ix2 0 0) : S1x2.Idx) (1 : Fin 2) 1 1 rfl rfl rfl (Or.inl Nat.zero_lt_one)).trans ?_
    refine (canon_hit (mFst) w _ (show (mFst).shape.Idx from (ix2 0 0)) _ (Rect.emb_eq_of_coords _ _ _ ?_)).trans rfl
    intro a
    fin_cases a <;> simp [Rect.unit]
  · refine (canon_hit (mSnd) w' _ (show (mSnd).shape.Idx from (ix2 0 0)) _ (Rect.emb_eq_of_coords _ _ _ ?_)).trans rfl
    intro a
    fin_cases a <;> simp [Rect.unit]

end Cert.KernelIdeal.Value
-- ==== Proof.MlstmVectors.lean ====
module

public import proofs.«01_k».proof.Proof.MlstmState

@[expose] public section

set_option maxRecDepth 16384

noncomputable section

/-! # The mLSTM kernel's vectors, entry by entry

Each lemma reads one vector of the kernel's body, for one head of a pair, as the function of the specification. -/

namespace Cert.KernelIdeal.Value

open Cert.KernelIdeal Cert.KernelIdeal.Gen Idealize.ShloMosaic Idealize.ShloMosaic.TcCoe Idealize.SL.Sem
open Cert.Mlstm

/-- A one-column vector as a function of the token. -/
def col (v : Vec Ideal S8x1 .f32) (t : Fin 8) : EReal := v (ix2 t 0)

/-- The gates with their bias. -/
theorem gate_apply (g : Vec Ideal S1x8x128 .f32) (bi : Vec Ideal S1x128 .f32) (t : Fin 8) (j : Fin 128) :
    k0_pay10 (F := Ideal) g bi (ix2 t j) = g (ix3 0 t j) + bi (ix2 0 j) := by
  pointwise [k0_pay10]

/-- The running sums of the log forget gates. -/
theorem cumgate_apply (g : Vec Ideal S1x8x128 .f32) (bi : Vec Ideal S1x128 .f32) (t : Fin 8) (j : Fin 128) :
    k0_pay11 (F := Ideal) g bi (ix2 t j) = cum (fun s => logsig (g (ix3 0 s j) + bi (ix2 0 j))) t := by
  rw [← sum_causal]
  pointwise [k0_pay11, k0_pay8, gate_apply, logsig, zero_sub]

/-- Head 0's log weights. -/
theorem dmat0_apply (i b : Vec Ideal S8x1 .f32) (t s : Fin 8) :
    k0_pay18 (F := Ideal) k0_pay8 k0_pay9 i b (ix2 t s) = dmat (col b) (col i) t s := by
  pointwise [k0_pay18, k0_pay8, k0_pay9]
  simp only [sle_word, eq_word, select_word, sum_diag]
  rfl

/-- Head 0's stabiliser. -/
theorem mtok0_apply (i b : Vec Ideal S8x1 .f32) (m : Vec Ideal S1x1 .f32) (t : Fin 8) :
    k0_pay20 (F := Ideal) k0_pay8 k0_pay9 i b m (ix2 t 0) = mtok (col b) (col i) (m (ix2 0 0)) t := by
  pointwise [k0_pay20, k0_pay19]
  simp only [dmat0_apply]
  rfl

/-- Head 0's weight of the state before the chunk. -/
theorem winter0_apply (i b : Vec Ideal S8x1 .f32) (m : Vec Ideal S1x1 .f32) (t : Fin 8) :
    k0_pay21 (F := Ideal) k0_pay8 k0_pay9 i b m (ix2 t 0) = winter (col b) (col i) (m (ix2 0 0)) t := by
  pointwise [k0_pay21, k0_pay19]
  simp only [mtok0_apply]
  rfl

/-- Head 0's scaled queries. -/
theorem q0_apply (q : Vec Ideal S1x8x128 .f32) (t : Fin 8) (x : Fin 64) :
    k0_pay14 (F := Ideal) q (ix2 t x) = q (ix3 0 t ⟨0 + x.val, by omega⟩) * Ideal.ofBits FTy.f32 0x3E000000#32 := by
  pointwise [k0_pay14]

/-- Head 0's keys. -/
theorem k0_apply (k : Vec Ideal S1x8x128 .f32) (t : Fin 8) (x : Fin 64) :
    k0_pay15 (F := Ideal) k (ix2 t x) = k (ix3 0 t ⟨0 + x.val, by omega⟩) := by
  pointwise [k0_pay15]

/-- Head 0's values. -/
theorem v0_apply (v : Vec Ideal S1x8x256 .f32) (t : Fin 8) (x : Fin 128) :
    k0_pay16 (F := Ideal) v (ix2 t x) = v (ix3 0 t ⟨0 + x.val, by omega⟩) := by
  pointwise [k0_pay16]

/-- Head 0's matrix state. -/
theorem c0_apply (C : Vec Ideal S1x128x64 .f32) (d : Fin 128) (x : Fin 64) :
    k0_pay17 (F := Ideal) C (ix2 d x) = C (ix3 0 d x) := by
  pointwise [k0_pay17]

/-- Head 1's log weights. -/
theorem dmat1_apply (i b : Vec Ideal S8x1 .f32) (t s : Fin 8) :
    k0_pay43 (F := Ideal) k0_pay8 k0_pay9 i b (ix2 t s) = dmat (col b) (col i) t s := by
  pointwise [k0_pay43, k0_pay8, k0_pay9]
  simp only [sle_word, eq_word, select_word, sum_diag]
  rfl

/-- Head 1's stabiliser. -/
theorem mtok1_apply (i b : Vec Ideal S8x1 .f32) (m : Vec Ideal S1x1 .f32) (t : Fin 8) :
    k0_pay45 (F := Ideal) k0_pay8 k0_pay9 i b m (ix2 t 0) = mtok (col b) (col i) (m (ix2 0 0)) t := by
  pointwise [k0_pay45, k0_pay44]
  simp only [dmat1_apply]
  rfl

/-- Head 1's weight of the state before the chunk. -/
theorem winter1_apply (i b : Vec Ideal S8x1 .f32) (m : Vec Ideal S1x1 .f32) (t : Fin 8) :
    k0_pay46 (F := Ideal) k0_pay8 k0_pay9 i b m (ix2 t 0) = winter (col b) (col i) (m (ix2 0 0)) t := by
  pointwise [k0_pay46, k0_pay44]
  simp only [mtok1_apply]
  rfl

/-- Head 1's scaled queries. -/
theorem q1_apply (q : Vec Ideal S1x8x128 .f32) (t : Fin 8) (x : Fin 64) :
    k0_pay39 (F := Ideal) (k0_pay38 q) (ix2 t x) = q (ix3 0 t ⟨64 + x.val, by omega⟩) * Ideal.ofBits FTy.f32 0x3E000000#32 := by
  pointwise [k0_pay39, k0_pay38]

/-- Head 1's keys. -/
theorem k1_apply (k : Vec Ideal S1x8x128 .f32) (t : Fin 8) (x : Fin 64) :
    k0_pay40 (F := Ideal) k (ix2 t x) = k (ix3 0 t ⟨64 + x.val, by omega⟩) := by
  pointwise [k0_pay40]

/-- Head 1's values. -/
theorem v1_apply (v : Vec Ideal S1x8x256 .f32) (t : Fin 8) (x : Fin 128) :
    k0_pay41 (F := Ideal) v (ix2 t x) = v (ix3 0 t ⟨128 + x.val, by omega⟩) := by
  pointwise [k0_pay41]

/-- Head 1's matrix state. -/
theorem c1_apply (C : Vec Ideal S1x128x64 .f32) (d : Fin 128) (x : Fin 64) :
    k0_pay42 (F := Ideal) C (ix2 d x) = C (ix3 0 d x) := by
  pointwise [k0_pay42]

/-- Head 0's weighted query-key products. -/
theorem qk0_apply (i b : Vec Ideal S8x1 .f32) (m : Vec Ideal S1x1 .f32) (q : Vec Ideal S8x64 .f32) (k : Vec Ideal S1x8x128 .f32) (t s : Fin 8) :
    k0_pay22 (F := Ideal) k0_pay8 k0_pay9 i b m q k (ix2 t s)
      = qk (fun t x => q (ix2 t x)) (fun s x => k (ix3 0 s ⟨0 + x.val, by omega⟩)) (col b) (col i) (m (ix2 0 0)) t s := by
  pointwise [k0_pay22, k0_apply]
  simp only [dmat0_apply, mtok0_apply]
  rfl

/-- Head 0's output. -/
theorem hout0_apply (i b : Vec Ideal S8x1 .f32) (m : Vec Ideal S1x1 .f32) (q : Vec Ideal S8x64 .f32) (k : Vec Ideal S1x8x128 .f32)
    (v : Vec Ideal S1x8x256 .f32) (C : Vec Ideal S128x64 .f32) (n : Vec Ideal S1x64 .f32) (t : Fin 8) (d : Fin 128) :
    k0_pay25 (F := Ideal) q C n (k0_pay20 k0_pay8 k0_pay9 i b m) (k0_pay21 k0_pay8 k0_pay9 i b m) (k0_pay22 k0_pay8 k0_pay9 i b m q k)
        (k0_pay23 k0_pay8 k0_pay9 i b m q k) (k0_pay24 v) (ix2 t d)
      = hout (fun t x => q (ix2 t x)) (fun s x => k (ix3 0 s ⟨0 + x.val, by omega⟩)) (fun s x => v (ix3 0 s ⟨0 + x.val, by omega⟩))
          (col b) (col i) (fun d x => C (ix2 d x)) (fun x => n (ix2 0 x)) (m (ix2 0 0)) t d := by
  pointwise [k0_pay25, k0_pay23, k0_pay24, v0_apply]
  simp only [mtok0_apply, winter0_apply, qk0_apply, zero_sub]
  rfl

/-- Head 0's matrix state after the chunk. -/
theorem cnew0_apply (i b : Vec Ideal S8x1 .f32) (m : Vec Ideal S1x1 .f32) (k : Vec Ideal S8x64 .f32) (v : Vec Ideal S8x128 .f32)
    (C : Vec Ideal S128x64 .f32) (d : Fin 128) (x : Fin 64) :
    k0_pay30 (F := Ideal) i b m k v C (k0_pay20 k0_pay8 k0_pay9 i b m) (ix3 0 d x)
      = cnew (fun s x => k (ix2 s x)) (fun s d => v (ix2 s d)) (col b) (col i) (fun d x => C (ix2 d x)) (m (ix2 0 0)) d x := by
  pointwise [k0_pay30, k0_pay29, k0_pay28, k0_pay27, k0_pay26]
  simp only [mtok0_apply]
  rfl

/-- Head 0's normaliser after the chunk. -/
theorem nnew0_apply (i b : Vec Ideal S8x1 .f32) (m : Vec Ideal S1x1 .f32) (k : Vec Ideal S8x64 .f32) (n : Vec Ideal S1x64 .f32) (x : Fin 64) :
    k0_pay33 (F := Ideal) (k0_pay31 b m n (k0_pay20 k0_pay8 k0_pay9 i b m)) (k0_pay32 i b k (k0_pay20 k0_pay8 k0_pay9 i b m)) (ix2 0 x)
      = nnew (fun s x => k (ix2 s x)) (col b) (col i) (fun x => n (ix2 0 x)) (m (ix2 0 0)) x := by
  pointwise [k0_pay33, k0_pay31, k0_pay32, k0_pay29, k0_pay28, k0_pay27, k0_pay26]
  simp only [mtok0_apply]
  rfl

/-- Head 0's stabiliser after the chunk. -/
theorem mnew0_apply (i b : Vec Ideal S8x1 .f32) (m : Vec Ideal S1x1 .f32) :
    k0_pay34 (F := Ideal) (k0_pay26 (k0_pay20 k0_pay8 k0_pay9 i b m)) (ix2 0 0) = mtok (col b) (col i) (m (ix2 0 0)) 7 := by
  pointwise [k0_pay34, k0_pay26]
  exact mtok0_apply i b m 7

/-- Head 1's output. -/
theorem hout1_apply (i b : Vec Ideal S8x1 .f32) (m : Vec Ideal S1x1 .f32) (q k : Vec Ideal S1x8x128 .f32) (v : Vec Ideal S8x128 .f32)
    (C : Vec Ideal S128x64 .f32) (n : Vec Ideal S1x64 .f32) (t : Fin 8) (d : Fin 128) :
    k0_pay48 (F := Ideal) (k0_pay39 (k0_pay38 q)) v C n (k0_pay43 k0_pay8 k0_pay9 i b) (k0_pay45 k0_pay8 k0_pay9 i b m)
        (k0_pay46 k0_pay8 k0_pay9 i b m) (k0_pay47 (k0_pay38 q) k) (ix2 t d)
      = hout (fun t x => q (ix3 0 t ⟨64 + x.val, by omega⟩) * Ideal.ofBits FTy.f32 0x3E000000#32) (fun s x => k (ix3 0 s ⟨64 + x.val, by omega⟩))
          (fun s x => v (ix2 s x)) (col b) (col i) (fun d x => C (ix2 d x)) (fun x => n (ix2 0 x)) (m (ix2 0 0)) t d := by
  pointwise [k0_pay48, k0_pay47, k1_apply]
  simp only [dmat1_apply, mtok1_apply, winter1_apply, q1_apply, zero_sub]
  rfl

/-- Head 1's matrix state after the chunk. -/
theorem cnew1_apply (i b : Vec Ideal S8x1 .f32) (m : Vec Ideal S1x1 .f32) (k : Vec Ideal S8x64 .f32) (v : Vec Ideal S8x128 .f32)
    (C : Vec Ideal S128x64 .f32) (d : Fin 128) (x : Fin 64) :
    k0_pay53 (F := Ideal) i b m k v C (k0_pay45 k0_pay8 k0_pay9 i b m) (ix3 0 d x)
      = cnew (fun s x => k (ix2 s x)) (fun s d => v (ix2 s d)) (col b) (col i) (fun d x => C (ix2 d x)) (m (ix2 0 0)) d x := by
  pointwise [k0_pay53, k0_pay52, k0_pay51, k0_pay50, k0_pay49]
  simp only [mtok1_apply]
  rfl

/-- Head 1's normaliser after the chunk. -/
theorem nnew1_apply (i b : Vec Ideal S8x1 .f32) (m : Vec Ideal S1x1 .f32) (k : Vec Ideal S8x64 .f32) (n : Vec Ideal S1x64 .f32) (x : Fin 64) :
    k0_pay54 (F := Ideal) k n (k0_pay51 i b (k0_pay45 k0_pay8 k0_pay9 i b m)) (k0_pay52 b m (k0_pay45 k0_pay8 k0_pay9 i b m)) (ix2 0 x)
      = nnew (fun s x => k (ix2 s x)) (col b) (col i) (fun x => n (ix2 0 x)) (m (ix2 0 0)) x := by
  pointwise [k0_pay54, k0_pay52, k0_pay51, k0_pay50, k0_pay49]
  simp only [mtok1_apply]
  rfl

/-- Head 1's stabiliser after the chunk. -/
theorem mnew1_apply (i b : Vec Ideal S8x1 .f32) (m : Vec Ideal S1x1 .f32) :
    k0_pay55 (F := Ideal) (k0_pay49 (k0_pay45 k0_pay8 k0_pay9 i b m)) (ix2 0 0) = mtok (col b) (col i) (m (ix2 0 0)) 7 := by
  pointwise [k0_pay55, k0_pay49]
  exact mtok1_apply i b m 7

/-- The first head's gated and normalised row. -/
theorem gated0_apply (h : Vec Ideal S8x128 .f32) (o : Vec Ideal S1x8x256 .f32) (w : Vec Ideal S1x128 .f32) (t : Fin 8) (d : Fin 128) :
    k0_pay35 (F := Ideal) h o w (ix2 t d)
      = gated (fun e => h (ix2 t e)) (fun e => o (ix3 0 t ⟨0 + e.val, by omega⟩)) (fun e => w (ix2 0 e)) d := by
  pointwise [k0_pay35, gated, zero_sub]

/-- The pair's rows side by side, at the first head. -/
theorem rows0_apply (h0 h1 : Vec Ideal S8x128 .f32) (o : Vec Ideal S1x8x256 .f32) (w : Vec Ideal S1x128 .f32) (t : Fin 8) (d : Fin 128) :
    k0_pay1 (F := Ideal) (k0_pay56 h0 h1 o w) (ix3 0 t ⟨0 + d.val, by omega⟩) = h0 (ix2 t d) := by
  pointwise [k0_pay1, k0_pay56]

/-- The pair's rows side by side, at the second head. -/
theorem rows1_apply (h0 h1 : Vec Ideal S8x128 .f32) (o : Vec Ideal S1x8x256 .f32) (w : Vec Ideal S1x128 .f32) (t : Fin 8) (d : Fin 128) :
    k0_pay1 (F := Ideal) (k0_pay56 h0 h1 o w) (ix3 0 t ⟨128 + d.val, by omega⟩)
      = gated (fun e => h1 (ix2 t e)) (fun e => o (ix3 0 t ⟨128 + e.val, by omega⟩)) (fun e => w (ix2 0 e)) d := by
  pointwise [k0_pay1, k0_pay56, gated, zero_sub]

end Cert.KernelIdeal.Value
-- ==== Proof.Mlstm.lean ====
module

public import proofs.«01_k».proof.Proof.MlstmVectors
public import Idealize.ShloMosaic.Lib.Claim

@[expose] public section

set_option maxRecDepth 16384

noncomputable section

/-! # The mLSTM kernel's results

Point `t` of the grid works on batch row `t / 4` and on the pair of heads `t % 4`. -/

namespace Cert.KernelIdeal.Value

open Cert.KernelIdeal Cert.KernelIdeal.Gen Idealize.ShloMosaic Idealize.ShloMosaic.TcCoe Idealize.SL.Sem
open Idealize.ShloMosaic.Pipeline (Dat)
open Cert.Mlstm

variable (m : (ℓ : Loc nD τ sig) → Buf (Elt Ideal) ℓ)

/-- Every window's block index at point `t`. -/
theorem idx : ∀ t : Fin cfg0.N, win0_0.index t = ![t.val / 4, 0, t.val % 4] ∧ win0_1.index t = ![t.val / 4, 0, t.val % 4 + 4]
    ∧ win0_2.index t = ![t.val / 4, 0, t.val % 4 + 4] ∧ win0_3.index t = ![t.val / 4, 0, t.val % 4 + 8]
    ∧ win0_4.index t = ![t.val / 4, 0, t.val % 4] ∧ win0_5.index t = ![0, t.val % 4] ∧ win0_6.index t = ![0, t.val % 4]
    ∧ win0_7.index t = ![t.val / 4, t.val % 4, 0, 0] ∧ win0_8.index t = ![t.val / 4, t.val % 4, 0, 0] ∧ win0_9.index t = ![t.val / 4, t.val % 4, 0, 0]
    ∧ win0_10.index t = ![t.val / 4, 0, t.val % 4] ∧ win0_11.index t = ![t.val / 4, t.val % 4, 0, 0]
    ∧ win0_12.index t = ![t.val / 4, t.val % 4, 0, 0] ∧ win0_13.index t = ![t.val / 4, t.val % 4, 0, 0] ∧ t.val < 512 :=
  (by decide +kernel : ∀ t : Fin grid0.N, _)

/-! ## The operands that host code prepares -/

/-- The bias as the kernel's host code lays it out. -/
theorem bias_eq (c : Dev nD) : (V m c main_v6 : Vec Ideal S1x512 .f32) = shapeCast S1x512 (pad S4x128 ![0, 0] ![0, 124] ![0, 0]
    (concatenate S4x4 1 [⟨S4x2, shapeCast S4x2 (extractStridedSlice S8 ![0] (m ((c : Thread nD τ).loc main_arg2) : Vec Ideal S16 .f32) slices_S16_S8_0) shapeCasts_S8_S4x2⟩,
      ⟨S4x2, shapeCast S4x2 (extractStridedSlice S8 ![8] (m ((c : Thread nD τ).loc main_arg2) : Vec Ideal S16 .f32) slices_S16_S8_8) shapeCasts_S8_S4x2⟩] concatenates_S4x2_S4x2_S4x4_d1 : Vec Ideal S4x4 .f32)
    (sitofp (F := Ideal) .f32 (constantI S_ 32 0#32) : Vec Ideal S_ .f32) pads_S4x4_S4x128_000_01240 h_S_) shapeCasts_S4x128_S1x512 := rfl

/-- The first two columns of a pair hold the input gates' bias. -/
theorem bias_i (c : Dev nD) (j : Fin 4) (h : Fin 2) : (V m c main_v6 : Vec Ideal S1x512 .f32) (ix2 0 ⟨j.val * 128 + h.val, by omega⟩)
    = (m ((c : Thread nD τ).loc main_arg2) : Vec Ideal S16 .f32) (ix1 ⟨j.val * 2 + h.val, by omega⟩) := by
  rw [bias_eq]
  pointwise
  rw [dif_pos (by omega), dif_pos (by omega)]
  exact congrArg (fun k : Fin 16 => m (c.tc.loc main_arg2) (ix1 k)) (Fin.ext (by show j.val * 2 + (j.val * 128 + h.val) % 128 = j.val * 2 + h.val; omega))

/-- The next two hold the forget gates' bias. -/
theorem bias_f (c : Dev nD) (j : Fin 4) (h : Fin 2) : (V m c main_v6 : Vec Ideal S1x512 .f32) (ix2 0 ⟨j.val * 128 + (2 + h.val), by omega⟩)
    = (m ((c : Thread nD τ).loc main_arg2) : Vec Ideal S16 .f32) (ix1 ⟨8 + (j.val * 2 + h.val), by omega⟩) := by
  rw [bias_eq]
  pointwise
  rw [dif_pos (by omega), dif_neg (by omega)]
  exact congrArg (fun k : Fin 16 => m (c.tc.loc main_arg2) (ix1 k))
    (Fin.ext (by show 8 + (j.val * 2 + ((j.val * 128 + (2 + h.val)) % 128 - 2)) = 8 + (j.val * 2 + h.val); omega))

/-- The norm's weight as one row. -/
theorem weight_at (c : Dev nD) (j : Fin 1024) : (V m c main_v7 : Vec Ideal S1x1024 .f32) (ix2 0 j)
    = (m ((c : Thread nD τ).loc main_arg3) : Vec Ideal S1024 .f32) (ix1 j) := by
  rw [show (V m c main_v7 : Vec Ideal S1x1024 .f32) = shapeCast S1x1024 (m ((c : Thread nD τ).loc main_arg3)) shapeCasts_S1024_S1x1024 from rfl]
  pointwise

/-- The normaliser by pairs. -/
theorem norm_at (c : Dev nD) (b : Fin 128) (j : Fin 4) (h : Fin 2) (x : Fin 64) : (V m c main_v8 : Vec Ideal S128x4x2x64 .f32) (ix4 b j h x)
    = (m ((c : Thread nD τ).loc main_arg5) : Vec Ideal S128x8x64 .f32) (ix3 b ⟨j.val * 2 + h.val, by omega⟩ x) := by
  rw [show (V m c main_v8 : Vec Ideal S128x4x2x64 .f32) = shapeCast S128x4x2x64 (m ((c : Thread nD τ).loc main_arg5)) shapeCasts_S128x8x64_S128x4x2x64 from rfl]
  refine shapeCast_apply _ _ _ _ ?_
  refine (Shape.rowMajor_val_three (d := ![128, 8, 64]) _).trans (Eq.trans ?_ (Shape.rowMajor_val_four (d := ![128, 4, 2, 64]) _).symm)
  show (b.val * 8 + (j.val * 2 + h.val)) * 64 + x.val = ((b.val * 4 + j.val) * 2 + h.val) * 64 + x.val
  omega

/-- The stabiliser by pairs. -/
theorem stab_at (c : Dev nD) (b : Fin 128) (j : Fin 4) (h : Fin 2) : (V m c main_v9 : Vec Ideal S128x4x1x2 .f32) (ix4 b j 0 h)
    = (m ((c : Thread nD τ).loc main_arg6) : Vec Ideal S128x8 .f32) (ix2 b ⟨j.val * 2 + h.val, by omega⟩) := by
  rw [show (V m c main_v9 : Vec Ideal S128x4x1x2 .f32) = shapeCast S128x4x1x2 (m ((c : Thread nD τ).loc main_arg6)) shapeCasts_S128x8_S128x4x1x2 from rfl]
  pointwise

/-- Head 0's part of the stored pair of matrix states. -/
theorem store_C0 (w w' : Vec Ideal S1x128x64 .f32) (d : Fin 128) (x : Fin 64) :
    k0_pay2 (F := Ideal) (cpair w w') (ix4 0 0 d x) = w (ix3 0 d x) := by
  pointwise [k0_pay2, cpair]

/-- Head 0's part of the stored pair of normalisers. -/
theorem store_n0 (w w' : Vec Ideal S1x64 .f32) (x : Fin 64) :
    k0_pay3 (F := Ideal) (npair w w') (ix4 0 0 0 x) = w (ix2 0 x) := by
  pointwise [k0_pay3, npair]

/-- Head 0's part of the stored pair of stabilisers. -/
theorem store_m0 (w w' : Vec Ideal S1x1 .f32) :
    k0_pay4 (F := Ideal) (mpair w w') (ix4 0 0 0 0) = w (ix2 0 0) := by
  pointwise [k0_pay4, mpair]

/-- Head 0's half of the norm weight's block. -/
theorem ld_w0 (w : Vec Ideal S1x256 .f32) (e : Fin 128) :
    (View.ld w (Rect.unit ![0, 0] ![1, 128] inb_S1x256_S1x128_0_0) : Vec Ideal S1x128 .f32) (ix2 0 e) = w (ix2 0 ⟨0 + e.val, by omega⟩) := by
  pointwise

/-- Head 1's part of the stored pair of matrix states. -/
theorem store_C1 (w w' : Vec Ideal S1x128x64 .f32) (d : Fin 128) (x : Fin 64) :
    k0_pay2 (F := Ideal) (cpair w w') (ix4 0 1 d x) = w' (ix3 0 d x) := by
  pointwise [k0_pay2, cpair]

/-- Head 1's part of the stored pair of normalisers. -/
theorem store_n1 (w w' : Vec Ideal S1x64 .f32) (x : Fin 64) :
    k0_pay3 (F := Ideal) (npair w w') (ix4 0 0 1 x) = w' (ix2 0 x) := by
  pointwise [k0_pay3, npair]

/-- Head 1's part of the stored pair of stabilisers. -/
theorem store_m1 (w w' : Vec Ideal S1x1 .f32) :
    k0_pay4 (F := Ideal) (mpair w w') (ix4 0 0 0 1) = w' (ix2 0 0) := by
  pointwise [k0_pay4, mpair]

/-- Head 1's half of the norm weight's block. -/
theorem ld_w1 (w : Vec Ideal S1x256 .f32) (e : Fin 128) :
    (View.ld w (Rect.unit ![0, 128] ![1, 128] inb_S1x256_S1x128_0_128) : Vec Ideal S1x128 .f32) (ix2 0 e) = w (ix2 0 ⟨128 + e.val, by omega⟩) := by
  pointwise

/-! ## The blocks of a point, head by head -/

section blocks

variable (c : Dev nD) (t : Fin cfg0.N) (b : Fin 128) (j : Fin 4) (hb : b.val = t.val / 4) (hj : j.val = t.val % 4)

include hb hj

/-- The queries' block. -/
theorem blk_q (s : Fin 8) (x : Fin 128) : iblk m c 0 t (ix3 0 s x) = m ((c : Thread nD τ).loc main_arg0) (ix3 b s ⟨j.val * 128 + x.val, by omega⟩) := by
  blk_point [iblk, V, idx t]

/-- The keys' block. -/
theorem blk_k (s : Fin 8) (x : Fin 128) : iblk m c 1 t (ix3 0 s x) = m ((c : Thread nD τ).loc main_arg0) (ix3 b s ⟨512 + (j.val * 128 + x.val), by omega⟩) := by
  blk_point [iblk, V, idx t]

/-- The values' block. -/
theorem blk_v (s : Fin 8) (x : Fin 256) : iblk m c 2 t (ix3 0 s x) = m ((c : Thread nD τ).loc main_arg0) (ix3 b s ⟨1024 + (j.val * 256 + x.val), by omega⟩) := by
  blk_point [iblk, V, idx t]

/-- The output gates' block. -/
theorem blk_o (s : Fin 8) (x : Fin 256) : iblk m c 3 t (ix3 0 s x) = m ((c : Thread nD τ).loc main_arg0) (ix3 b s ⟨2048 + (j.val * 256 + x.val), by omega⟩) := by
  blk_point [iblk, V, idx t]

/-- The gates' block. -/
theorem blk_g (s : Fin 8) (x : Fin 128) : iblk m c 4 t (ix3 0 s x) = m ((c : Thread nD τ).loc main_arg1) (ix3 b s ⟨j.val * 128 + x.val, by omega⟩) := by
  blk_point [iblk, V, idx t]

/-- The bias's block. -/
theorem blk_b (x : Fin 128) : iblk m c 5 t (ix2 0 x) = V m c main_v6 (ix2 0 ⟨j.val * 128 + x.val, by omega⟩) := by
  blk_simp [iblk]
  blk_ext [idx t]

/-- The norm weight's block. -/
theorem blk_w (x : Fin 256) : iblk m c 6 t (ix2 0 x) = m ((c : Thread nD τ).loc main_arg3) (ix1 ⟨j.val * 256 + x.val, by omega⟩) := by
  refine Eq.trans ?_ (weight_at m c ⟨j.val * 256 + x.val, by omega⟩)
  blk_simp [iblk]
  blk_ext [idx t]

/-- The matrix state's block. -/
theorem blk_C (h : Fin 2) (d : Fin 128) (x : Fin 64) : iblk m c 7 t (ix4 0 h d x)
    = m ((c : Thread nD τ).loc main_arg4) (ix4 b ⟨j.val * 2 + h.val, by omega⟩ d x) := by
  blk_point [iblk, V, idx t]

/-- The normaliser's block. -/
theorem blk_n (h : Fin 2) (x : Fin 64) : iblk m c 8 t (ix4 0 0 h x) = m ((c : Thread nD τ).loc main_arg5) (ix3 b ⟨j.val * 2 + h.val, by omega⟩ x) := by
  refine Eq.trans ?_ (norm_at m c b j h x)
  blk_simp [iblk]
  blk_ext [idx t]

/-- The stabiliser's block. -/
theorem blk_m (h : Fin 2) : iblk m c 9 t (ix4 0 0 0 h) = m ((c : Thread nD τ).loc main_arg6) (ix2 b ⟨j.val * 2 + h.val, by omega⟩) := by
  refine Eq.trans ?_ (stab_at m c b j h)
  blk_simp [iblk]
  blk_ext [idx t]

/-- Head 0 of the pair: its input gates. -/
theorem head0_i (h : Fin 8) (hh : h.val = j.val * 2 + 0) :
    col (k0_pay12 (F := Ideal) (iblk m c 4 t) (iblk m c 5 t)) = headI (m ((c : Thread nD τ).loc main_arg1)) (m ((c : Thread nD τ).loc main_arg2)) b h := by
  funext s
  refine (show k0_pay12 (F := Ideal) (iblk m c 4 t) (iblk m c 5 t) (ix2 s 0) = HAdd.hAdd (α := EReal) (β := EReal) (γ := EReal) (iblk m c 4 t (ix3 0 s 0)) (iblk m c 5 t (ix2 0 0)) by pointwise [k0_pay12, gate_apply]).trans ?_
  rw [blk_g m c t b j hb hj, blk_b m c t b j hb hj]
  refine congrArg₂ (· + ·) (congrArg (fun k => m ((c : Thread nD τ).loc main_arg1) (ix3 b s k)) (Fin.ext ?_))
    ((bias_i m c j 0).trans (congrArg (fun k => m ((c : Thread nD τ).loc main_arg2) (ix1 k)) (Fin.ext ?_)))
  · show j.val * 128 + 0 = h.val / 2 * 128 + h.val % 2
    omega
  · show j.val * 2 + 0 = h.val
    omega

/-- Head 0 of the pair: the running sums of its log forget gates. -/
theorem head0_b (h : Fin 8) (hh : h.val = j.val * 2 + 0) :
    col (k0_pay13 (F := Ideal) (iblk m c 4 t) (iblk m c 5 t)) = headB (m ((c : Thread nD τ).loc main_arg1)) (m ((c : Thread nD τ).loc main_arg2)) b h := by
  funext s
  refine (show k0_pay13 (F := Ideal) (iblk m c 4 t) (iblk m c 5 t) (ix2 s 0) = cum (fun s => logsig (HAdd.hAdd (α := EReal) (β := EReal) (γ := EReal) (iblk m c 4 t (ix3 0 s 2)) (iblk m c 5 t (ix2 0 2)))) s by pointwise [k0_pay13, cumgate_apply]).trans ?_
  unfold headB
  refine congrArg (fun f => cum f s) (funext fun s => congrArg logsig ?_)
  rw [blk_g m c t b j hb hj, blk_b m c t b j hb hj]
  refine congrArg₂ (· + ·) (congrArg (fun k => m ((c : Thread nD τ).loc main_arg1) (ix3 b s k)) (Fin.ext ?_))
    ((bias_f m c j 0).trans (congrArg (fun k => m ((c : Thread nD τ).loc main_arg2) (ix1 k)) (Fin.ext ?_)))
  · show j.val * 128 + 2 = h.val / 2 * 128 + (h.val % 2 + 2)
    omega
  · show 8 + (j.val * 2 + 0) = 8 + h.val
    omega

/-- Head 0 of the pair: its scaled queries. -/
theorem head0_q (h : Fin 8) (hh : h.val = j.val * 2 + 0) (s : Fin 8) (x : Fin 64) :
    HMul.hMul (α := EReal) (β := EReal) (γ := EReal) (iblk m c 0 t (ix3 0 s ⟨0 + x.val, by omega⟩)) (Ideal.ofBits FTy.f32 0x3E000000#32) = headQ (m ((c : Thread nD τ).loc main_arg0)) b h s x := by
  rw [blk_q m c t b j hb hj]
  refine congrArg (fun k => HMul.hMul (α := EReal) (β := EReal) (γ := EReal) (m ((c : Thread nD τ).loc main_arg0) (ix3 b s k)) (Ideal.ofBits FTy.f32 0x3E000000#32)) (Fin.ext ?_)
  show j.val * 128 + (0 + x.val) = h.val * 64 + x.val
  omega

/-- Head 0 of the pair: its keys. -/
theorem head0_k (h : Fin 8) (hh : h.val = j.val * 2 + 0) (s : Fin 8) (x : Fin 64) :
    iblk m c 1 t (ix3 0 s ⟨0 + x.val, by omega⟩) = headK (m ((c : Thread nD τ).loc main_arg0)) b h s x := by
  rw [blk_k m c t b j hb hj]
  refine congrArg (fun k => m ((c : Thread nD τ).loc main_arg0) (ix3 b s k)) (Fin.ext ?_)
  show 512 + (j.val * 128 + (0 + x.val)) = 512 + (h.val * 64 + x.val)
  omega

/-- Head 0 of the pair: its values. -/
theorem head0_v (h : Fin 8) (hh : h.val = j.val * 2 + 0) (s : Fin 8) (d : Fin 128) :
    iblk m c 2 t (ix3 0 s ⟨0 + d.val, by omega⟩) = headV (m ((c : Thread nD τ).loc main_arg0)) b h s d := by
  rw [blk_v m c t b j hb hj]
  refine congrArg (fun k => m ((c : Thread nD τ).loc main_arg0) (ix3 b s k)) (Fin.ext ?_)
  show 1024 + (j.val * 256 + (0 + d.val)) = 1024 + (h.val * 128 + d.val)
  omega

/-- Head 0 of the pair: its output gates. -/
theorem head0_o (h : Fin 8) (hh : h.val = j.val * 2 + 0) (s : Fin 8) (d : Fin 128) :
    iblk m c 3 t (ix3 0 s ⟨0 + d.val, by omega⟩) = headO (m ((c : Thread nD τ).loc main_arg0)) b h s d := by
  rw [blk_o m c t b j hb hj]
  refine congrArg (fun k => m ((c : Thread nD τ).loc main_arg0) (ix3 b s k)) (Fin.ext ?_)
  show 2048 + (j.val * 256 + (0 + d.val)) = 2048 + (h.val * 128 + d.val)
  omega

/-- Head 0 of the pair: its matrix state. -/
theorem head0_C (h : Fin 8) (hh : h.val = j.val * 2 + 0) (d : Fin 128) (x : Fin 64) :
    cpart (k0_pay5 (iblk m c 7 t)) 0 (ix3 0 d x) = m ((c : Thread nD τ).loc main_arg4) (ix4 b h d x) := by
  refine (show _ = iblk m c 7 t (ix4 0 0 d x) by pointwise [cpart, k0_pay5]).trans ?_
  rw [blk_C m c t b j hb hj]
  exact congrArg (fun k => m ((c : Thread nD τ).loc main_arg4) (ix4 b k d x)) (Fin.ext hh.symm)

/-- Head 0 of the pair: its normaliser. -/
theorem head0_n (h : Fin 8) (hh : h.val = j.val * 2 + 0) (x : Fin 64) :
    npart (k0_pay6 (iblk m c 8 t)) 0 (ix2 0 x) = m ((c : Thread nD τ).loc main_arg5) (ix3 b h x) := by
  refine (show _ = iblk m c 8 t (ix4 0 0 0 x) by pointwise [npart, k0_pay6]).trans ?_
  rw [blk_n m c t b j hb hj]
  exact congrArg (fun k => m ((c : Thread nD τ).loc main_arg5) (ix3 b k x)) (Fin.ext hh.symm)

/-- Head 0 of the pair: its stabiliser. -/
theorem head0_m (h : Fin 8) (hh : h.val = j.val * 2 + 0) :
    mpart (k0_pay7 (iblk m c 9 t)) 0 (ix2 0 0) = m ((c : Thread nD τ).loc main_arg6) (ix2 b h) := by
  refine (show _ = iblk m c 9 t (ix4 0 0 0 0) by pointwise [mpart, k0_pay7]).trans ?_
  rw [blk_m m c t b j hb hj]
  exact congrArg (fun k => m ((c : Thread nD τ).loc main_arg6) (ix2 b k)) (Fin.ext hh.symm)

/-- Head 0 of the pair: its part of the norm's weight. -/
theorem head0_w (h : Fin 8) (hh : h.val = j.val * 2 + 0) (e : Fin 128) :
    iblk m c 6 t (ix2 0 ⟨0 + e.val, by omega⟩) = m ((c : Thread nD τ).loc main_arg3) (ix1 ⟨h.val * 128 + e.val, by omega⟩) := by
  rw [blk_w m c t b j hb hj]
  refine congrArg (fun k => m ((c : Thread nD τ).loc main_arg3) (ix1 k)) (Fin.ext ?_)
  show j.val * 256 + (0 + e.val) = h.val * 128 + e.val
  omega

/-- Head 1 of the pair: its input gates. -/
theorem head1_i (h : Fin 8) (hh : h.val = j.val * 2 + 1) :
    col (k0_pay36 (F := Ideal) (k0_pay10 (iblk m c 4 t) (iblk m c 5 t))) = headI (m ((c : Thread nD τ).loc main_arg1)) (m ((c : Thread nD τ).loc main_arg2)) b h := by
  funext s
  refine (show k0_pay36 (F := Ideal) (k0_pay10 (iblk m c 4 t) (iblk m c 5 t)) (ix2 s 0) = HAdd.hAdd (α := EReal) (β := EReal) (γ := EReal) (iblk m c 4 t (ix3 0 s 1)) (iblk m c 5 t (ix2 0 1)) by pointwise [k0_pay36, gate_apply]).trans ?_
  rw [blk_g m c t b j hb hj, blk_b m c t b j hb hj]
  refine congrArg₂ (· + ·) (congrArg (fun k => m ((c : Thread nD τ).loc main_arg1) (ix3 b s k)) (Fin.ext ?_))
    ((bias_i m c j 1).trans (congrArg (fun k => m ((c : Thread nD τ).loc main_arg2) (ix1 k)) (Fin.ext ?_)))
  · show j.val * 128 + 1 = h.val / 2 * 128 + h.val % 2
    omega
  · show j.val * 2 + 1 = h.val
    omega

/-- Head 1 of the pair: the running sums of its log forget gates. -/
theorem head1_b (h : Fin 8) (hh : h.val = j.val * 2 + 1) :
    col (k0_pay37 (F := Ideal) (k0_pay11 (iblk m c 4 t) (iblk m c 5 t))) = headB (m ((c : Thread nD τ).loc main_arg1)) (m ((c : Thread nD τ).loc main_arg2)) b h := by
  funext s
  refine (show k0_pay37 (F := Ideal) (k0_pay11 (iblk m c 4 t) (iblk m c 5 t)) (ix2 s 0) = cum (fun s => logsig (HAdd.hAdd (α := EReal) (β := EReal) (γ := EReal) (iblk m c 4 t (ix3 0 s 3)) (iblk m c 5 t (ix2 0 3)))) s by pointwise [k0_pay37, cumgate_apply]).trans ?_
  unfold headB
  refine congrArg (fun f => cum f s) (funext fun s => congrArg logsig ?_)
  rw [blk_g m c t b j hb hj, blk_b m c t b j hb hj]
  refine congrArg₂ (· + ·) (congrArg (fun k => m ((c : Thread nD τ).loc main_arg1) (ix3 b s k)) (Fin.ext ?_))
    ((bias_f m c j 1).trans (congrArg (fun k => m ((c : Thread nD τ).loc main_arg2) (ix1 k)) (Fin.ext ?_)))
  · show j.val * 128 + 3 = h.val / 2 * 128 + (h.val % 2 + 2)
    omega
  · show 8 + (j.val * 2 + 1) = 8 + h.val
    omega

/-- Head 1 of the pair: its scaled queries. -/
theorem head1_q (h : Fin 8) (hh : h.val = j.val * 2 + 1) (s : Fin 8) (x : Fin 64) :
    HMul.hMul (α := EReal) (β := EReal) (γ := EReal) (iblk m c 0 t (ix3 0 s ⟨64 + x.val, by omega⟩)) (Ideal.ofBits FTy.f32 0x3E000000#32) = headQ (m ((c : Thread nD τ).loc main_arg0)) b h s x := by
  rw [blk_q m c t b j hb hj]
  refine congrArg (fun k => HMul.hMul (α := EReal) (β := EReal) (γ := EReal) (m ((c : Thread nD τ).loc main_arg0) (ix3 b s k)) (Ideal.ofBits FTy.f32 0x3E000000#32)) (Fin.ext ?_)
  show j.val * 128 + (64 + x.val) = h.val * 64 + x.val
  omega

/-- Head 1 of the pair: its keys. -/
theorem head1_k (h : Fin 8) (hh : h.val = j.val * 2 + 1) (s : Fin 8) (x : Fin 64) :
    iblk m c 1 t (ix3 0 s ⟨64 + x.val, by omega⟩) = headK (m ((c : Thread nD τ).loc main_arg0)) b h s x := by
  rw [blk_k m c t b j hb hj]
  refine congrArg (fun k => m ((c : Thread nD τ).loc main_arg0) (ix3 b s k)) (Fin.ext ?_)
  show 512 + (j.val * 128 + (64 + x.val)) = 512 + (h.val * 64 + x.val)
  omega

/-- Head 1 of the pair: its values. -/
theorem head1_v (h : Fin 8) (hh : h.val = j.val * 2 + 1) (s : Fin 8) (d : Fin 128) :
    iblk m c 2 t (ix3 0 s ⟨128 + d.val, by omega⟩) = headV (m ((c : Thread nD τ).loc main_arg0)) b h s d := by
  rw [blk_v m c t b j hb hj]
  refine congrArg (fun k => m ((c : Thread nD τ).loc main_arg0) (ix3 b s k)) (Fin.ext ?_)
  show 1024 + (j.val * 256 + (128 + d.val)) = 1024 + (h.val * 128 + d.val)
  omega

/-- Head 1 of the pair: its output gates. -/
theorem head1_o (h : Fin 8) (hh : h.val = j.val * 2 + 1) (s : Fin 8) (d : Fin 128) :
    iblk m c 3 t (ix3 0 s ⟨128 + d.val, by omega⟩) = headO (m ((c : Thread nD τ).loc main_arg0)) b h s d := by
  rw [blk_o m c t b j hb hj]
  refine congrArg (fun k => m ((c : Thread nD τ).loc main_arg0) (ix3 b s k)) (Fin.ext ?_)
  show 2048 + (j.val * 256 + (128 + d.val)) = 2048 + (h.val * 128 + d.val)
  omega

/-- Head 1 of the pair: its matrix state. -/
theorem head1_C (h : Fin 8) (hh : h.val = j.val * 2 + 1) (d : Fin 128) (x : Fin 64) :
    cpart (k0_pay5 (iblk m c 7 t)) 1 (ix3 0 d x) = m ((c : Thread nD τ).loc main_arg4) (ix4 b h d x) := by
  refine (show _ = iblk m c 7 t (ix4 0 1 d x) by pointwise [cpart, k0_pay5]).trans ?_
  rw [blk_C m c t b j hb hj]
  exact congrArg (fun k => m ((c : Thread nD τ).loc main_arg4) (ix4 b k d x)) (Fin.ext hh.symm)

/-- Head 1 of the pair: its normaliser. -/
theorem head1_n (h : Fin 8) (hh : h.val = j.val * 2 + 1) (x : Fin 64) :
    npart (k0_pay6 (iblk m c 8 t)) 1 (ix2 0 x) = m ((c : Thread nD τ).loc main_arg5) (ix3 b h x) := by
  refine (show _ = iblk m c 8 t (ix4 0 0 1 x) by pointwise [npart, k0_pay6]).trans ?_
  rw [blk_n m c t b j hb hj]
  exact congrArg (fun k => m ((c : Thread nD τ).loc main_arg5) (ix3 b k x)) (Fin.ext hh.symm)

/-- Head 1 of the pair: its stabiliser. -/
theorem head1_m (h : Fin 8) (hh : h.val = j.val * 2 + 1) :
    mpart (k0_pay7 (iblk m c 9 t)) 1 (ix2 0 0) = m ((c : Thread nD τ).loc main_arg6) (ix2 b h) := by
  refine (show _ = iblk m c 9 t (ix4 0 0 0 1) by pointwise [mpart, k0_pay7]).trans ?_
  rw [blk_m m c t b j hb hj]
  exact congrArg (fun k => m ((c : Thread nD τ).loc main_arg6) (ix2 b k)) (Fin.ext hh.symm)

/-- Head 1 of the pair: its part of the norm's weight. -/
theorem head1_w (h : Fin 8) (hh : h.val = j.val * 2 + 1) (e : Fin 128) :
    iblk m c 6 t (ix2 0 ⟨128 + e.val, by omega⟩) = m ((c : Thread nD τ).loc main_arg3) (ix1 ⟨h.val * 128 + e.val, by omega⟩) := by
  rw [blk_w m c t b j hb hj]
  refine congrArg (fun k => m ((c : Thread nD τ).loc main_arg3) (ix1 k)) (Fin.ext ?_)
  show j.val * 256 + (128 + e.val) = h.val * 128 + e.val
  omega

/-- Head 0's matrix state after point `t`. -/
theorem point_C0 (h : Fin 8) (hh : h.val = j.val * 2 + 0) (d : Fin 128) (x : Fin 64) :
    (outsAt0 m c t).2.1 (ix4 0 0 d x) = resC (m ((c : Thread nD τ).loc main_arg0)) (m ((c : Thread nD τ).loc main_arg1)) (m ((c : Thread nD τ).loc main_arg2))
      (m ((c : Thread nD τ).loc main_arg4)) (m ((c : Thread nD τ).loc main_arg6)) b h d x := by
  rw [outsAt0]
  frame_out
  simp only [c_first, c_second, c_whole, n_first, n_second, n_whole, m_first, m_second, m_whole]
  rw [store_C0, cnew0_apply]
  simp only [q0_apply, k0_apply, v0_apply, c0_apply, head0_i m c t b j hb hj h hh, head0_b m c t b j hb hj h hh, head0_q m c t b j hb hj h hh, head0_k m c t b j hb hj h hh, head0_v m c t b j hb hj h hh, head0_C m c t b j hb hj h hh, head0_n m c t b j hb hj h hh, head0_m m c t b j hb hj h hh]
  rfl

/-- Head 0's normaliser after point `t`. -/
theorem point_n0 (h : Fin 8) (hh : h.val = j.val * 2 + 0) (x : Fin 64) :
    (outsAt0 m c t).2.2.1 (ix4 0 0 0 x) = resN (m ((c : Thread nD τ).loc main_arg0)) (m ((c : Thread nD τ).loc main_arg1)) (m ((c : Thread nD τ).loc main_arg2))
      (m ((c : Thread nD τ).loc main_arg5)) (m ((c : Thread nD τ).loc main_arg6)) b h x := by
  rw [outsAt0]
  frame_out
  simp only [c_first, c_second, c_whole, n_first, n_second, n_whole, m_first, m_second, m_whole]
  rw [store_n0, nnew0_apply]
  simp only [q0_apply, k0_apply, v0_apply, c0_apply, head0_i m c t b j hb hj h hh, head0_b m c t b j hb hj h hh, head0_q m c t b j hb hj h hh, head0_k m c t b j hb hj h hh, head0_v m c t b j hb hj h hh, head0_C m c t b j hb hj h hh, head0_n m c t b j hb hj h hh, head0_m m c t b j hb hj h hh]
  rfl

/-- Head 0's stabiliser after point `t`. -/
theorem point_m0 (h : Fin 8) (hh : h.val = j.val * 2 + 0) :
    (outsAt0 m c t).2.2.2 (ix4 0 0 0 0) = resM (m ((c : Thread nD τ).loc main_arg1)) (m ((c : Thread nD τ).loc main_arg2))
      (m ((c : Thread nD τ).loc main_arg6)) b h := by
  rw [outsAt0]
  frame_out
  simp only [c_first, c_second, c_whole, n_first, n_second, n_whole, m_first, m_second, m_whole]
  rw [store_m0, mnew0_apply]
  simp only [q0_apply, k0_apply, v0_apply, c0_apply, head0_i m c t b j hb hj h hh, head0_b m c t b j hb hj h hh, head0_q m c t b j hb hj h hh, head0_k m c t b j hb hj h hh, head0_v m c t b j hb hj h hh, head0_C m c t b j hb hj h hh, head0_n m c t b j hb hj h hh, head0_m m c t b j hb hj h hh]
  rfl

/-- Head 0's output rows after point `t`. -/
theorem point_y0 (h : Fin 8) (hh : h.val = j.val * 2 + 0) (s : Fin 8) (d : Fin 128) :
    (outsAt0 m c t).1 (ix3 0 s ⟨0 + d.val, by omega⟩) = resY (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) b s h d := by
  rw [outsAt0]
  frame_out
  simp only [c_first, c_second, c_whole, n_first, n_second, n_whole, m_first, m_second, m_whole]
  rw [rows0_apply, gated0_apply]
  simp only [hout0_apply, head0_o m c t b j hb hj h hh, q0_apply, k0_apply, v0_apply, c0_apply, head0_i m c t b j hb hj h hh, head0_b m c t b j hb hj h hh, head0_q m c t b j hb hj h hh, head0_k m c t b j hb hj h hh, head0_v m c t b j hb hj h hh, head0_C m c t b j hb hj h hh, head0_n m c t b j hb hj h hh, head0_m m c t b j hb hj h hh]
  exact congrArg (fun w => gated _ _ w d) (funext fun e => (ld_w0 (iblk m c 6 t) e).trans (head0_w m c t b j hb hj h hh e))

/-- Head 1's matrix state after point `t`. -/
theorem point_C1 (h : Fin 8) (hh : h.val = j.val * 2 + 1) (d : Fin 128) (x : Fin 64) :
    (outsAt0 m c t).2.1 (ix4 0 1 d x) = resC (m ((c : Thread nD τ).loc main_arg0)) (m ((c : Thread nD τ).loc main_arg1)) (m ((c : Thread nD τ).loc main_arg2))
      (m ((c : Thread nD τ).loc main_arg4)) (m ((c : Thread nD τ).loc main_arg6)) b h d x := by
  rw [outsAt0]
  frame_out
  simp only [c_first, c_second, c_whole, n_first, n_second, n_whole, m_first, m_second, m_whole]
  rw [store_C1, cnew1_apply]
  simp only [q1_apply, k1_apply, v1_apply, c1_apply, head1_i m c t b j hb hj h hh, head1_b m c t b j hb hj h hh, head1_q m c t b j hb hj h hh, head1_k m c t b j hb hj h hh, head1_v m c t b j hb hj h hh, head1_C m c t b j hb hj h hh, head1_n m c t b j hb hj h hh, head1_m m c t b j hb hj h hh]
  rfl

/-- Head 1's normaliser after point `t`. -/
theorem point_n1 (h : Fin 8) (hh : h.val = j.val * 2 + 1) (x : Fin 64) :
    (outsAt0 m c t).2.2.1 (ix4 0 0 1 x) = resN (m ((c : Thread nD τ).loc main_arg0)) (m ((c : Thread nD τ).loc main_arg1)) (m ((c : Thread nD τ).loc main_arg2))
      (m ((c : Thread nD τ).loc main_arg5)) (m ((c : Thread nD τ).loc main_arg6)) b h x := by
  rw [outsAt0]
  frame_out
  simp only [c_first, c_second, c_whole, n_first, n_second, n_whole, m_first, m_second, m_whole]
  rw [store_n1, nnew1_apply]
  simp only [q1_apply, k1_apply, v1_apply, c1_apply, head1_i m c t b j hb hj h hh, head1_b m c t b j hb hj h hh, head1_q m c t b j hb hj h hh, head1_k m c t b j hb hj h hh, head1_v m c t b j hb hj h hh, head1_C m c t b j hb hj h hh, head1_n m c t b j hb hj h hh, head1_m m c t b j hb hj h hh]
  rfl

/-- Head 1's stabiliser after point `t`. -/
theorem point_m1 (h : Fin 8) (hh : h.val = j.val * 2 + 1) :
    (outsAt0 m c t).2.2.2 (ix4 0 0 0 1) = resM (m ((c : Thread nD τ).loc main_arg1)) (m ((c : Thread nD τ).loc main_arg2))
      (m ((c : Thread nD τ).loc main_arg6)) b h := by
  rw [outsAt0]
  frame_out
  simp only [c_first, c_second, c_whole, n_first, n_second, n_whole, m_first, m_second, m_whole]
  rw [store_m1, mnew1_apply]
  simp only [q1_apply, k1_apply, v1_apply, c1_apply, head1_i m c t b j hb hj h hh, head1_b m c t b j hb hj h hh, head1_q m c t b j hb hj h hh, head1_k m c t b j hb hj h hh, head1_v m c t b j hb hj h hh, head1_C m c t b j hb hj h hh, head1_n m c t b j hb hj h hh, head1_m m c t b j hb hj h hh]
  rfl

/-- Head 1's output rows after point `t`. -/
theorem point_y1 (h : Fin 8) (hh : h.val = j.val * 2 + 1) (s : Fin 8) (d : Fin 128) :
    (outsAt0 m c t).1 (ix3 0 s ⟨128 + d.val, by omega⟩) = resY (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) b s h d := by
  rw [outsAt0]
  frame_out
  simp only [c_first, c_second, c_whole, n_first, n_second, n_whole, m_first, m_second, m_whole]
  rw [rows1_apply]
  simp only [hout1_apply, head1_o m c t b j hb hj h hh, q1_apply, k1_apply, v1_apply, c1_apply, head1_i m c t b j hb hj h hh, head1_b m c t b j hb hj h hh, head1_q m c t b j hb hj h hh, head1_k m c t b j hb hj h hh, head1_v m c t b j hb hj h hh, head1_C m c t b j hb hj h hh, head1_n m c t b j hb hj h hh, head1_m m c t b j hb hj h hh]
  exact congrArg (fun w => gated _ _ w d) (funext fun e => (ld_w1 (iblk m c 6 t) e).trans (head1_w m c t b j hb hj h hh e))

end blocks

/-! ## The final arrays -/

/-- The output as an array. -/
def resultY (c : Dev nD) : Vec Ideal S128x8x1024 .f32 := fun i =>
  resY (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (i 0) (i 1) ⟨(i 2).val / 128, by have : (i 2).val < 1024 := (i 2).isLt; omega⟩ ⟨(i 2).val % 128, Nat.mod_lt _ (by decide)⟩

/-- The matrix state as an array. -/
def resultC (c : Dev nD) : Vec Ideal S128x8x128x64 .f32 := fun i =>
  resC (m ((c : Thread nD τ).loc main_arg0)) (m ((c : Thread nD τ).loc main_arg1)) (m ((c : Thread nD τ).loc main_arg2))
    (m ((c : Thread nD τ).loc main_arg4)) (m ((c : Thread nD τ).loc main_arg6)) (i 0) (i 1) (i 2) (i 3)

/-- The normaliser as an array, by pairs. -/
def resultN (c : Dev nD) : Vec Ideal S128x4x2x64 .f32 := fun i =>
  resN (m ((c : Thread nD τ).loc main_arg0)) (m ((c : Thread nD τ).loc main_arg1)) (m ((c : Thread nD τ).loc main_arg2))
    (m ((c : Thread nD τ).loc main_arg5)) (m ((c : Thread nD τ).loc main_arg6)) (i 0)
    ⟨(i 1).val * 2 + (i 2).val, by have : (i 1).val < 4 := (i 1).isLt; have : (i 2).val < 2 := (i 2).isLt; omega⟩ (i 3)

/-- The stabiliser as an array, by pairs. -/
def resultM (c : Dev nD) : Vec Ideal S128x4x1x2 .f32 := fun i =>
  resM (m ((c : Thread nD τ).loc main_arg1)) (m ((c : Thread nD τ).loc main_arg2)) (m ((c : Thread nD τ).loc main_arg6)) (i 0)
    ⟨(i 1).val * 2 + (i 3).val, by have : (i 1).val < 4 := (i 1).isLt; have : (i 3).val < 2 := (i 3).isLt; omega⟩

/-- The batch row and the pair of heads of a point. -/
theorem point_ix (t : Fin cfg0.N) : ∃ (b : Fin 128) (j : Fin 4), b.val = t.val / 4 ∧ j.val = t.val % 4 := by
  have hN : t.val < 512 := (idx t).2.2.2.2.2.2.2.2.2.2.2.2.2.2
  exact ⟨⟨t.val / 4, by omega⟩, ⟨t.val % 4, by omega⟩, rfl, rfl⟩

/-- The matrix states after the run. -/
theorem final_C (c : Dev nD) : (dats m 0 c).arrAt 11 cfg0.N = resultC m c := by
  refine (dats m 0 c).arrAt_eq_of_covers 11 _ (by decide +kernel) fun t hf y => ?_
  blk_simp
  rw [after0_11]
  obtain ⟨b, j, hb, hj⟩ := point_ix t
  obtain ⟨z, h, d, x, rfl⟩ : ∃ (z : Fin 1) (h : Fin 2) (d : Fin 128) (x : Fin 64), y = ix4 z h d x := ⟨y 0, y 1, y 2, y 3, eq_ix4 y⟩
  obtain rfl : z = 0 := Subsingleton.elim _ _
  refine Eq.trans (b := resultC m c (ix4 b ⟨j.val * 2 + h.val, by omega⟩ d x)) ?_ (congrArg (resultC m c) (by blk_ext [idx t]))
  rcases (show h = 0 ∨ h = 1 by omega) with rfl | rfl
  · exact point_C0 m c t b j hb hj _ rfl d x
  · exact point_C1 m c t b j hb hj _ rfl d x

/-- The normalisers after the run. -/
theorem final_n (c : Dev nD) : (dats m 0 c).arrAt 12 cfg0.N = resultN m c := by
  refine (dats m 0 c).arrAt_eq_of_covers 12 _ (by decide +kernel) fun t hf y => ?_
  blk_simp
  rw [after0_12]
  obtain ⟨b, j, hb, hj⟩ := point_ix t
  obtain ⟨z, z', h, x, rfl⟩ : ∃ (z z' : Fin 1) (h : Fin 2) (x : Fin 64), y = ix4 z z' h x := ⟨y 0, y 1, y 2, y 3, eq_ix4 y⟩
  obtain rfl : z = 0 := Subsingleton.elim _ _
  obtain rfl : z' = 0 := Subsingleton.elim _ _
  refine Eq.trans (b := resultN m c (ix4 b j h x)) ?_ (congrArg (resultN m c) (by blk_ext [idx t]))
  rcases (show h = 0 ∨ h = 1 by omega) with rfl | rfl
  · exact point_n0 m c t b j hb hj _ rfl x
  · exact point_n1 m c t b j hb hj _ rfl x

/-- The stabilisers after the run. -/
theorem final_m (c : Dev nD) : (dats m 0 c).arrAt 13 cfg0.N = resultM m c := by
  refine (dats m 0 c).arrAt_eq_of_covers 13 _ (by decide +kernel) fun t hf y => ?_
  blk_simp
  rw [after0_13]
  obtain ⟨b, j, hb, hj⟩ := point_ix t
  obtain ⟨z, z', z'', h, rfl⟩ : ∃ (z z' z'' : Fin 1) (h : Fin 2), y = ix4 z z' z'' h := ⟨y 0, y 1, y 2, y 3, eq_ix4 y⟩
  obtain rfl : z = 0 := Subsingleton.elim _ _
  obtain rfl : z' = 0 := Subsingleton.elim _ _
  obtain rfl : z'' = 0 := Subsingleton.elim _ _
  refine Eq.trans (b := resultM m c (ix4 b j 0 h)) ?_ (congrArg (resultM m c) (by blk_ext [idx t]))
  rcases (show h = 0 ∨ h = 1 by omega) with rfl | rfl
  · exact point_m0 m c t b j hb hj _ rfl
  · exact point_m1 m c t b j hb hj _ rfl

/-- The output after the run. -/
theorem final_y (c : Dev nD) : (dats m 0 c).arrAt 10 cfg0.N = resultY m c := by
  refine (dats m 0 c).arrAt_eq_of_covers 10 _ (by decide +kernel) fun t hf y => ?_
  blk_simp
  rw [after0_10]
  obtain ⟨b, j, hb, hj⟩ := point_ix t
  obtain ⟨z, s, e, rfl⟩ : ∃ (z : Fin 1) (s : Fin 8) (e : Fin 256), y = ix3 z s e := ⟨y 0, y 1, y 2, eq_ix3 y⟩
  obtain rfl : z = 0 := Subsingleton.elim _ _
  refine Eq.trans (b := resultY m c (ix3 b s ⟨j.val * 256 + e.val, by omega⟩)) ?_ (congrArg (resultY m c) (by blk_ext [idx t]))
  have key : ∀ (h : Fin 8) (d : Fin 128), h.val = (j.val * 256 + e.val) / 128 → d.val = (j.val * 256 + e.val) % 128 →
      resultY m c (ix3 b s ⟨j.val * 256 + e.val, by omega⟩) = resY (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) b s h d := by
    rintro ⟨h, hlt⟩ ⟨d, dlt⟩ h1 h2
    dsimp only at h1 h2
    subst h1 h2
    rfl
  by_cases he : e.val < 128
  · obtain ⟨d, rfl⟩ : ∃ d : Fin 128, e = ⟨0 + d.val, by have := d.isLt; clear * - this; omega⟩ := ⟨⟨e.val, he⟩, Fin.ext (by simp)⟩
    rw [key ⟨j.val * 2 + 0, by omega⟩ d (by dsimp only; omega) (by dsimp only; omega)]
    exact point_y0 m c t b j hb hj _ rfl s d
  · obtain ⟨d, rfl⟩ : ∃ d : Fin 128, e = ⟨128 + d.val, by have := d.isLt; clear * - this; omega⟩ := ⟨⟨e.val - 128, by omega⟩, Fin.ext (by dsimp only; omega)⟩
    rw [key ⟨j.val * 2 + 1, by omega⟩ d (by dsimp only; omega) (by dsimp only; omega)]
    exact point_y1 m c t b j hb hj _ rfl s d

/-- The kernel's run: the four result arrays hold the recurrence's results, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v10_0) = resultY m c
      ∧ r.2.mem ((c : Thread nD τ).loc main_v10_1) = resultC m c
      ∧ r.2.mem ((c : Thread nD τ).loc main_v10_2) = resultN m c
      ∧ r.2.mem ((c : Thread nD τ).loc main_v10_3) = resultM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_y m c), (h c).2.1.trans (final_C m c),
    (h c).2.2.1.trans (final_n m c), (h c).2.2.2.1.trans (final_m m c), (h c).2.2.2.2⟩) (run_blocks m ρ)

end Cert.KernelIdeal.Value
-- ==== Proof.MlstmRef.lean ====
module

public import proofs.«01_k».proof.Proof.Gen.ReferenceIdeal.Run
public import proofs.«01_k».proof.Proof.MlstmSpec

@[expose] public section

set_option maxRecDepth 16384

noncomputable section

/-! # The mLSTM reference, entry by entry -/

namespace Cert.ReferenceIdeal.Value

open Cert.ReferenceIdeal Cert.ReferenceIdeal.Gen Idealize.ShloMosaic Idealize.ShloMosaic.TcCoe Idealize.SL.Sem Cert.Mlstm

variable (V : Valuation τ sig (Elt Ideal))

/-- The projections. -/
abbrev aP : Vec Ideal ⟨3, ![128, 8, 3072]⟩ .f32 := V (Proc.devRef .tc main_arg0)
/-- The gates. -/
abbrev aG : Vec Ideal ⟨3, ![128, 8, 512]⟩ .f32 := V (Proc.devRef .tc main_arg1)
/-- The gates' bias. -/
abbrev aB : Vec Ideal ⟨1, ![16]⟩ .f32 := V (Proc.devRef .tc main_arg2)
/-- The norm's weight. -/
abbrev aW : Vec Ideal ⟨1, ![1024]⟩ .f32 := V (Proc.devRef .tc main_arg3)
/-- The matrix state before the chunk. -/
abbrev aC : Vec Ideal ⟨4, ![128, 8, 128, 64]⟩ .f32 := V (Proc.devRef .tc main_arg4)
/-- The normaliser before the chunk. -/
abbrev aN : Vec Ideal ⟨3, ![128, 8, 64]⟩ .f32 := V (Proc.devRef .tc main_arg5)
/-- The stabiliser before the chunk. -/
abbrev aM : Vec Ideal ⟨2, ![128, 8]⟩ .f32 := V (Proc.devRef .tc main_arg6)

/-- The queries. -/
theorem q_ref (b : Fin 128) (t h : Fin 8) (x : Fin 64) :
    (res_main_v3 V : Vec Ideal S128x8x8x64 .f32) (ix4 b t h x) = headQ (aP V) b h t x := by
  pointwise [res_main_v3]
  rfl

/-- The keys. -/
theorem k_ref (b : Fin 128) (t h : Fin 8) (x : Fin 64) :
    (res_main_v5 V : Vec Ideal S128x8x8x64 .f32) (ix4 b t h x) = headK (aP V) b h t x := by
  pointwise [res_main_v5]
  rfl

/-- The values. -/
theorem v_ref (b : Fin 128) (t h : Fin 8) (d : Fin 128) :
    (res_main_v7 V : Vec Ideal S128x8x8x128 .f32) (ix4 b t h d) = headV (aP V) b h t d := by
  pointwise [res_main_v7]
  rfl

/-- The input gates. -/
theorem i_ref (b : Fin 128) (t h : Fin 8) :
    (res_main_v21 V : Vec Ideal S128x8x8 .f32) (ix3 b t h) = headI (aG V) (aB V) b h t := by
  pointwise [res_main_v21, res_main_v15]
  rfl

/-- Minus the forget gates. -/
theorem negf_ref (b : Fin 128) (t h : Fin 8) :
    (res_main_call0_v0 V : Vec Ideal S128x8x8 .f32) (ix3 b t h)
      = -(HAdd.hAdd (α := EReal) (β := EReal) (γ := EReal) ((aG V) (ix3 b t ⟨h.val / 2 * 128 + (h.val % 2 + 2), by omega⟩)) ((aB V) (ix1 ⟨8 + h.val, by omega⟩))) := by
  pointwise [res_main_call0_v0, res_main_v15]
  refine congrArg (fun i => -(HAdd.hAdd (α := EReal) (β := EReal) (γ := EReal) ((aG V) (ix3 b t i)) ((aB V) (ix1 ⟨8 + h.val, by omega⟩)))) (Fin.ext ?_)
  dsimp only
  omega

/-- The log forget gates: the term summed by the running sum. -/
def lf : Vec Ideal S128x8x8 .f32 :=
  Host.negf (select (cmpf .une (res_main_call0_call0_v3 V) (res_main_call0_call0_v3 V)) (addf (res_main_call0_v0 V) (broadcastInDim S128x8x8 ![] bcast_S_S128x8x8 (res_main_call0_call0_cst V))) (addf (maximumf (res_main_call0_v0 V) (broadcastInDim S128x8x8 ![] bcast_S_S128x8x8 (res_main_call0_call0_cst V))) (Host.log1p (Host.exp (Host.negf (Host.absf (res_main_call0_call0_v3 V)))))))

/-- The log forget gates, entry by entry. -/
theorem lf_ref (b : Fin 128) (t h : Fin 8) :
    lf V (ix3 b t h) = logsig (HAdd.hAdd (α := EReal) (β := EReal) (γ := EReal) ((aG V) (ix3 b t ⟨h.val / 2 * 128 + (h.val % 2 + 2), by omega⟩)) ((aB V) (ix1 ⟨8 + h.val, by omega⟩))) := by
  pointwise [lf, res_main_call0_call0_v3, res_main_call0_call0_cst, negf_ref]
  rw [if_neg (fun h => h rfl)]
  rfl

/-- The sum over the window, as a sum over its 8 entries. -/
theorem foldl_window (g : Fin 8 → EReal) (z : EReal) (hz : z = 0) :
    (List.finRange (⟨3, ![1, 8, 1]⟩ : Shape).numel).foldl (fun r n => r + g n) z = ∑ n : Fin 8, g n := by
  rw [hz]
  exact foldl_add_eq_sum g

/-- The window's entries in order. -/
theorem window_at (n : Fin (⟨3, ![1, 8, 1]⟩ : Shape).numel) : (⟨3, ![1, 8, 1]⟩ : Shape).rowMajor.symm n = ix3 0 (⟨n.val, n.isLt⟩ : Fin 8) 0 := by
  refine (Equiv.symm_apply_eq _).mpr (Fin.ext ?_)
  rw [Shape.rowMajor_val_three (d := ![1, 8, 1])]
  simp

/-- One entry of the padded window: the token `t + n - 7` where there is one, zero before the first. -/
theorem window_entry (f : Vec Ideal S128x8x8 .f32) (z : EReal) (hz : z = 0) (b : Fin 128) (t h n : Fin 8) (p : Fin 3 → ℕ)
    (hp : p = ![b.val, t.val + n.val, h.val])
    (hd : Decidable (∀ a : Fin 3, (![0, 7, 0] : Fin 3 → ℕ) a ≤ p a ∧ p a - (![0, 7, 0] : Fin 3 → ℕ) a < S128x8x8.size a)) :
    (if hin : ∀ a : Fin 3, (![0, 7, 0] : Fin 3 → ℕ) a ≤ p a ∧ p a - (![0, 7, 0] : Fin 3 → ℕ) a < S128x8x8.size a then
        f (fun a => ⟨p a - (![0, 7, 0] : Fin 3 → ℕ) a, (hin a).2⟩) else z)
      = if h' : 7 ≤ t.val + n.val then f (ix3 b ⟨t.val + n.val - 7, by omega⟩ h) else (0 : EReal) := by
  subst hp hz
  by_cases h7 : 7 ≤ t.val + n.val
  · have hin : ∀ a : Fin 3, (![0, 7, 0] : Fin 3 → ℕ) a ≤ (![b.val, t.val + n.val, h.val] : Fin 3 → ℕ) a
        ∧ (![b.val, t.val + n.val, h.val] : Fin 3 → ℕ) a - (![0, 7, 0] : Fin 3 → ℕ) a < S128x8x8.size a := by
      intro a
      fin_cases a
      · exact ⟨Nat.zero_le _, b.isLt⟩
      · exact ⟨h7, show t.val + n.val - 7 < 8 by omega⟩
      · exact ⟨Nat.zero_le _, h.isLt⟩
    rw [dif_pos hin, dif_pos h7]
    refine congrArg f (funext fun a => Fin.ext ?_)
    fin_cases a <;> rfl
  · rw [dif_neg (fun hin => h7 (hin 1).1), dif_neg h7]

/-- The running sums. -/
theorem b_ref (b : Fin 128) (t h : Fin 8) :
    (res_main_v32 V : Vec Ideal S128x8x8 .f32) (ix3 b t h) = headB (aG V) (aB V) b h t := by
  unfold res_main_v32
  show Ideal.hostReduceWindowAdd ![1, 8, 1] ![1, 1, 1] ![0, 7, 0] ![0, 0, 0] reduceWindows_S128x8x8_S128x8x8_w1s1p0_0_w8s1p7_0_w1s1p0_0
    (lf V) (Ideal.ofBits .f32 0x00000000#32) (ix3 b t h) = _
  unfold Ideal.hostReduceWindowAdd Host.reduceWindow
  refine (foldl_window _ _ (Ideal.ofBits_zero .f32)).trans ?_
  refine Eq.trans ?_ (sum_shifted (fun s => lf V (ix3 b s h)) t |>.trans (congrArg (fun f => cum f t) (funext fun s => lf_ref V b s h)))
  refine Finset.sum_congr rfl fun n _ => ?_
  have hw : (⟨3, ![1, 8, 1]⟩ : Shape).rowMajor.symm n = ix3 0 n 0 := window_at n
  refine window_entry (lf V) _ (Ideal.ofBits_zero .f32) b t h n
    (fun a => (ix3 b t h a).val * (![1, 1, 1] : Fin 3 → ℕ) a + (({ rank := S128x8x8.rank, size := ![1, 8, 1] } : Shape).rowMajor.symm n a).val) (funext fun a => ?_) _
  rw [show ({ rank := S128x8x8.rank, size := ![1, 8, 1] } : Shape).rowMajor.symm n = ix3 0 n 0 from hw]
  fin_cases a
  · show b.val * 1 + 0 = b.val; omega
  · show t.val * 1 + n.val = t.val + n.val; omega
  · show h.val * 1 + 0 = h.val; omega

/-- The log weights. -/
theorem d_ref (b : Fin 128) (l s h : Fin 8) :
    (res_main_v41 V : Vec Ideal S128x8x8x8 .f32) (ix4 b l s h) = dmat (headB (aG V) (aB V) b h) (headI (aG V) (aB V) b h) l s := by
  pointwise [res_main_v41, b_ref, i_ref]
  rw [sge_word, select_word, select_word]
  by_cases hs : s ≤ l
  · simp [dmat, hs]
  · simp [dmat, hs]
    rfl

/-- The stabilisers. -/
theorem m_ref (b : Fin 128) (l h : Fin 8) :
    (res_main_v46 V : Vec Ideal S128x8x8 .f32) (ix3 b l h) = mtok (headB (aG V) (aB V) b h) (headI (aG V) (aB V) b h) ((aM V) (ix2 b h)) l := by
  pointwise [res_main_v46, res_main_v44, b_ref]
  refine congrArg (fun y => max (headB (aG V) (aB V) b h l + (aM V) (ix2 b h)) y) ?_
  refine (Shape.ReducesTo.fold_fiber_r4_a2 reducesTo_S128x8x8x8_S128x8x8_d2 (ix3 b l h) max ninf (res_main_v41 V)).trans ?_
  exact congrArg (fun f => Finset.univ.fold max ninf f) (funext fun s => d_ref V b l s h)

/-- The carried state's weights. -/
theorem w_ref (b : Fin 128) (l h : Fin 8) :
    (res_main_v52 V : Vec Ideal S128x8x8 .f32) (ix3 b l h) = winter (headB (aG V) (aB V) b h) (headI (aG V) (aB V) b h) ((aM V) (ix2 b h)) l := by
  pointwise [res_main_v52, res_main_v44, b_ref, m_ref]
  rfl

/-- The weighted products. -/
theorem qk_ref (b : Fin 128) (l s h : Fin 8) :
    (res_main_v55 V : Vec Ideal S128x8x8x8 .f32) (ix4 b l s h)
      = qk (headQ (aP V) b h) (headK (aP V) b h) (headB (aG V) (aB V) b h) (headI (aG V) (aB V) b h) ((aM V) (ix2 b h)) l s := by
  pointwise [res_main_v55, q_ref, k_ref, d_ref, m_ref]
  refine congrArg (· * Ideal.exp (dmat (headB (aG V) (aB V) b h) (headI (aG V) (aB V) b h) l s - mtok (headB (aG V) (aB V) b h) (headI (aG V) (aB V) b h) ((aM V) (ix2 b h)) l)) (Finset.sum_congr rfl fun x _ => mul_comm _ _)

/-- The recurrence's outputs. -/
theorem h_ref (b : Fin 128) (l h : Fin 8) (d : Fin 128) :
    (res_main_v75 V : Vec Ideal S128x8x8x128 .f32) (ix4 b l h d)
      = hout (headQ (aP V) b h) (headK (aP V) b h) (headV (aP V) b h) (headB (aG V) (aB V) b h) (headI (aG V) (aB V) b h)
          (fun d x => (aC V) (ix4 b h d x)) (fun x => (aN V) (ix3 b h x)) ((aM V) (ix2 b h)) l d := by
  pointwise [res_main_v75, q_ref, v_ref, qk_ref, w_ref, m_ref]
  simp only [mul_comm (headV (aP V) b h _ d)]
  rfl

/-- The new stabiliser. -/
theorem mn_ref (b : Fin 128) (h : Fin 8) :
    (res_main_v77 V : Vec Ideal S128x8 .f32) (ix2 b h) = resM (aG V) (aB V) (aM V) b h := by
  pointwise [res_main_v77, m_ref]
  rfl

/-- The tokens' weights in the new state. -/
theorem ws_ref (b : Fin 128) (l h : Fin 8) :
    (res_main_v85 V : Vec Ideal S128x8x8 .f32) (ix3 b l h) = wstate (headB (aG V) (aB V) b h) (headI (aG V) (aB V) b h) ((aM V) (ix2 b h)) l := by
  pointwise [res_main_v85, b_ref, i_ref, mn_ref]
  rfl

/-- The carried state's weight in the new state. -/
theorem dec_ref (b : Fin 128) (h : Fin 8) :
    (res_main_v90 V : Vec Ideal S128x8 .f32) (ix2 b h) = decay (headB (aG V) (aB V) b h) (headI (aG V) (aB V) b h) ((aM V) (ix2 b h)) := by
  pointwise [res_main_v90, b_ref, mn_ref]
  rfl

/-- The reference's matrix state. -/
theorem C_ref (b : Fin 128) (h : Fin 8) (d : Fin 128) (x : Fin 64) :
    (addf (mulf (broadcastInDim S128x8x128x64 ![0, 1, 2, 3] bcast_S128x8x1x1_S128x8x128x64_0_1_2_3 (broadcastInDim S128x8x1x1 ![0, 1] bcast_S128x8_S128x8x1x1_0_1 (res_main_v90 V))) (V (Proc.devRef .tc main_arg4))) (Host.dotGeneral (φ₁ := .f32) (φ₂ := .f32) dot_S128x8x8x128_S128x8x8x64_S128x8x128x64_1_1_3_3_02_02 none (mulf (φ := .f32) (broadcastInDim (α := Ideal .f32) S128x8x8x128 ![0, 1, 2, 3] bcast_S128x8x8x1_S128x8x8x128_0_1_2_3 (broadcastInDim (α := Ideal .f32) S128x8x8x1 ![0, 1, 2] bcast_S128x8x8_S128x8x8x1_0_1_2 (res_main_v85 V))) (res_main_v7 V)) (res_main_v5 V)) : Vec Ideal S128x8x128x64 .f32) (ix4 b h d x)
      = resC (aP V) (aG V) (aB V) (aC V) (aM V) b h d x := by
  pointwise [dec_ref, ws_ref, v_ref, k_ref]
  simp only [mul_comm (wstate _ _ _ _) (headV _ _ _ _ _)]
  rfl

/-- The reference's normaliser. -/
theorem N_ref (b : Fin 128) (j : Fin 4) (y : Fin 2) (x : Fin 64) :
    (shapeCast _ (addf (mulf (broadcastInDim S128x8x64 ![0, 1, 2] bcast_S128x8x1_S128x8x64_0_1_2 (broadcastInDim S128x8x1 ![0, 1] bcast_S128x8_S128x8x1_0_1 (res_main_v90 V))) (V (Proc.devRef .tc main_arg5))) (Host.dotGeneral (φ₁ := .f32) (φ₂ := .f32) dot_S128x8x8_S128x8x8x64_S128x8x64_1_1_n_3_02_02 none (res_main_v85 V) (res_main_v5 V))) shapeCasts_S128x8x64_S128x4x2x64 : Vec Ideal S128x4x2x64 .f32) (ix4 b j y x)
      = resN (aP V) (aG V) (aB V) (aN V) (aM V) b ⟨j.val * 2 + y.val, by omega⟩ x := by
  refine (shapeCast_apply _ _ _ (ix3 b ⟨j.val * 2 + y.val, by omega⟩ x) ?_).trans ?_
  · refine (Shape.rowMajor_val_three (d := ![128, 8, 64]) _).trans (Eq.trans ?_ (Shape.rowMajor_val_four (d := ![128, 4, 2, 64]) _).symm)
    simp
    omega
  · pointwise [dec_ref, ws_ref, k_ref]
    rfl

/-- The reference's stabiliser. -/
theorem M_ref (b : Fin 128) (j : Fin 4) (y : Fin 2) :
    (shapeCast _ (res_main_v77 V) shapeCasts_S128x8_S128x4x1x2 : Vec Ideal S128x4x1x2 .f32) (ix4 b j 0 y)
      = resM (aG V) (aB V) (aM V) b ⟨j.val * 2 + y.val, by omega⟩ := by
  refine (shapeCast_apply _ _ _ (ix2 b ⟨j.val * 2 + y.val, by omega⟩) ?_).trans (mn_ref V b _)
  refine (Shape.rowMajor_val_two (d := ![128, 8]) _).trans (Eq.trans ?_ (Shape.rowMajor_val_four (d := ![128, 4, 1, 2]) _).symm)
  simp
  omega

/-- The reference's gated output. -/
theorem Y_ref (b : Fin 128) (t h : Fin 8) (d : Fin 128) :
    (mulf (Host.divf (broadcastInDim S128x8x1024 ![] bcast_S_S128x8x1024 (constant S_ .f32 0x3F800000#32)) (addf (broadcastInDim S128x8x1024 ![] bcast_S_S128x8x1024 (constant S_ .f32 0x3F800000#32)) (Host.exp (Host.negf (extractStridedSlice S128x8x1024 ![0, 0, 2048] (V (Proc.devRef .tc main_arg0)) slices_S128x8x3072_S128x8x1024_0_0_2048))))) (shapeCast _ (mulf (mulf (res_main_v75 V) (broadcastInDim S128x8x8x128 ![0, 1, 2, 3] bcast_S128x8x8x1_S128x8x8x128_0_1_2_3 (Host.rsqrt (addf (Host.divf (broadcastInDim S128x8x8x1 ![0, 1, 2] bcast_S128x8x8_S128x8x8x1_0_1_2 (Host.reduceAdd (mulf (res_main_v75 V) (res_main_v75 V)) (constant S_ .f32 0x00000000#32) reducesTo_S128x8x8x128_S128x8x8_d3 h_S_)) (broadcastInDim S128x8x8x1 ![] bcast_S_S128x8x8x1 (constant S_ .f32 0x43000000#32))) (broadcastInDim S128x8x8x1 ![] bcast_S_S128x8x8x1 (constant S_ .f32 0x358637BD#32)))))) (broadcastInDim S128x8x8x128 ![0, 1, 2, 3] bcast_S1x1x8x128_S128x8x8x128_0_1_2_3 (broadcastInDim S1x1x8x128 ![2, 3] bcast_S8x128_S1x1x8x128_2_3 (shapeCast _ (V (Proc.devRef .tc main_arg3)) shapeCasts_S1024_S8x128)))) shapeCasts_S128x8x8x128_S128x8x1024) : Vec Ideal S128x8x1024 .f32) (ix3 b t ⟨h.val * 128 + d.val, by omega⟩)
      = resY (aP V) (aG V) (aB V) (aW V) (aC V) (aN V) (aM V) b t h d := by
  have hs (z : Vec Ideal S128x8x8x128 .f32) : (shapeCast S128x8x1024 z shapeCasts_S128x8x8x128_S128x8x1024) (ix3 b t ⟨h.val * 128 + d.val, by omega⟩) = z (ix4 b t h d) := by
    refine shapeCast_apply _ _ _ _ ?_
    refine (Shape.rowMajor_val_four (d := ![128, 8, 8, 128]) _).trans (Eq.trans ?_ (Shape.rowMajor_val_three (d := ![128, 8, 1024]) _).symm)
    simp
    omega
  pointwise [hs, h_ref]
  rfl

/-- The reference's run: the four results are the recurrence's, entry by entry, and the arguments are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v119) = (fun i => resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)
        ⟨(i 2).val / 128, by have : (i 2).val < 1024 := (i 2).isLt; omega⟩ ⟨(i 2).val % 128, Nat.mod_lt _ (by decide)⟩ : Vec Ideal S128x8x1024 .f32)
      ∧ r.2.mem ((c : Thread nD τ).loc main_v98) = (fun i => resC (m ((c : Thread nD τ).loc main_arg0)) (m ((c : Thread nD τ).loc main_arg1)) (m ((c : Thread nD τ).loc main_arg2)) (m ((c : Thread nD τ).loc main_arg4)) (m ((c : Thread nD τ).loc main_arg6)) (i 0) (i 1) (i 2) (i 3) : Vec Ideal S128x8x128x64 .f32)
      ∧ r.2.mem ((c : Thread nD τ).loc main_v120) = (fun i => resN (m ((c : Thread nD τ).loc main_arg0)) (m ((c : Thread nD τ).loc main_arg1)) (m ((c : Thread nD τ).loc main_arg2)) (m ((c : Thread nD τ).loc main_arg5)) (m ((c : Thread nD τ).loc main_arg6)) (i 0)
        ⟨(i 1).val * 2 + (i 2).val, by have : (i 1).val < 4 := (i 1).isLt; have : (i 2).val < 2 := (i 2).isLt; omega⟩ (i 3) : Vec Ideal S128x4x2x64 .f32)
      ∧ r.2.mem ((c : Thread nD τ).loc main_v121) = (fun i => resM (m ((c : Thread nD τ).loc main_arg1)) (m ((c : Thread nD τ).loc main_arg2)) (m ((c : Thread nD τ).loc main_arg6)) (i 0)
        ⟨(i 1).val * 2 + (i 3).val, by have : (i 1).val < 4 := (i 1).isLt; have : (i 3).val < 2 := (i 3).isLt; omega⟩ : Vec Ideal S128x4x1x2 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ⟨(h c).1.trans (funext fun i => ?_), (h c).2.1.trans (funext fun i => ?_),
    (h c).2.2.1.trans (funext fun i => ?_), (h c).2.2.2.1.trans (funext fun i => ?_), (h c).2.2.2.2⟩) (run m ρ)
  · obtain ⟨b, t, e, rfl⟩ : ∃ (b : Fin 128) (t : Fin 8) (e : Fin 1024), i = ix3 b t e := ⟨i 0, i 1, i 2, eq_ix3 i⟩
    have he : e = ⟨(⟨e.val / 128, by omega⟩ : Fin 8).val * 128 + (⟨e.val % 128, Nat.mod_lt _ (by decide)⟩ : Fin 128).val, by dsimp only; omega⟩ :=
      Fin.ext (by dsimp only; omega)
    exact (congrArg _ (congrArg (fun z => ix3 b t z) he)).trans (Y_ref (StableHlo.launchContents m c) b t ⟨e.val / 128, by omega⟩ ⟨e.val % 128, Nat.mod_lt _ (by decide)⟩)
  · obtain ⟨b, h', d, x, rfl⟩ : ∃ (b : Fin 128) (h : Fin 8) (d : Fin 128) (x : Fin 64), i = ix4 b h d x := ⟨i 0, i 1, i 2, i 3, eq_ix4 i⟩
    exact C_ref (StableHlo.launchContents m c) b h' d x
  · obtain ⟨b, j, y, x, rfl⟩ : ∃ (b : Fin 128) (j : Fin 4) (y : Fin 2) (x : Fin 64), i = ix4 b j y x := ⟨i 0, i 1, i 2, i 3, eq_ix4 i⟩
    exact N_ref (StableHlo.launchContents m c) b j y x
  · obtain ⟨b, j, z, y, rfl⟩ : ∃ (b : Fin 128) (j : Fin 4) (z : Fin 1) (y : Fin 2), i = ix4 b j z y := ⟨i 0, i 1, i 2, i 3, eq_ix4 i⟩
    obtain rfl : z = 0 := Subsingleton.elim _ _
    exact M_ref (StableHlo.launchContents m c) b j y

end Cert.ReferenceIdeal.Value

end
-- ==== Proof.ProjSpec.lean ====
module

public import Idealize.ShloMosaic.Lib.Pointwise
public import Idealize.ShloMosaic.Lib.Claim

@[expose] public section

noncomputable section

/-! # The layer's projections over the extended reals, entry by entry -/

namespace Cert.Projections

open Idealize.ShloMosaic

/-- A mixer's output projection at batch row `b`, token `l`, column `d`: the residual stream plus the gate times the row against
the column. -/
def outSpec {K : ℕ} (y : Vec Ideal ⟨3, ![2, 8192, K]⟩ .f32) (w : Vec Ideal ⟨2, ![K, 1024]⟩ .f32) (x : Vec Ideal ⟨3, ![2, 8192, 1024]⟩ .f32)
    (g : Vec Ideal ⟨3, ![2, 1, 1024]⟩ .f32) (b : Fin 2) (l : Fin 8192) (d : Fin 1024) : EReal :=
  x (ix3 b l d) + g (ix3 b 0 d) * ∑ k : Fin K, y (ix3 b l k) * w (ix2 k d)

/-- The same with the row multiplied by another, entry by entry, before the product. -/
def mulOutSpec {K : ℕ} (y z : Vec Ideal ⟨3, ![2, 8192, K]⟩ .f32) (w : Vec Ideal ⟨2, ![K, 1024]⟩ .f32) (x : Vec Ideal ⟨3, ![2, 8192, 1024]⟩ .f32)
    (g : Vec Ideal ⟨3, ![2, 1, 1024]⟩ .f32) (b : Fin 2) (l : Fin 8192) (d : Fin 1024) : EReal :=
  x (ix3 b l d) + g (ix3 b 0 d) * ∑ k : Fin K, y (ix3 b l k) * z (ix3 b l k) * w (ix2 k d)

/-- A plain projection at row `r` of the 16384 rows of both batch rows, column `j`. -/
def inSpec {N : ℕ} (h : Vec Ideal ⟨3, ![2, 8192, 1024]⟩ .bf16) (w : Vec Ideal ⟨2, ![1024, N]⟩ .f32) (r : Fin 16384) (j : Fin N) : EReal :=
  ∑ k : Fin 1024, HMul.hMul (α := EReal) (β := EReal) (γ := EReal)
    (h (ix3 ⟨r.val / 8192, by omega⟩ ⟨r.val % 8192, Nat.mod_lt _ (by decide)⟩ k)) (w (ix2 k j))

/-- The same at row `r` of the sample's 1024 rows. -/
def inSpecSample {N : ℕ} (h : Vec Ideal ⟨3, ![128, 8, 1024]⟩ .bf16) (w : Vec Ideal ⟨2, ![1024, N]⟩ .f32) (r : Fin 1024) (j : Fin N) : EReal :=
  ∑ k : Fin 1024, HMul.hMul (α := EReal) (β := EReal) (γ := EReal)
    (h (ix3 ⟨r.val / 8, by omega⟩ ⟨r.val % 8, Nat.mod_lt _ (by decide)⟩ k)) (w (ix2 k j))

end Cert.Projections

end
-- ==== Proof.Out.lean ====
module

public import proofs.«01_k».proof.Proof.Gen.OutKernelIdeal.Value
public import proofs.«01_k».proof.Proof.Gen.OutReferenceIdeal.Run
public import proofs.«01_k».proof.Proof.ProjSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.OutKernelIdeal.Value

open Cert.OutKernelIdeal Cert.OutKernelIdeal.Gen Idealize.ShloMosaic Idealize.ShloMosaic.TcCoe Idealize.SL.Sem Cert.Projections
open Idealize.ShloMosaic.Pipeline (Dat)

variable (m : (ℓ : Loc nD τ sig) → Buf (Elt Ideal) ℓ)

/-- Every window's block index at point `t`: `t / 16` is the batch row, `t % 16` the tile of tokens. -/
theorem idx : ∀ t : Fin cfg0.N, win0_0.index t = ![t.val / 16, t.val % 16, 0] ∧ win0_1.index t = ![0, 0] ∧ win0_2.index t = ![t.val / 16, t.val % 16, 0] ∧ win0_3.index t = ![t.val / 16, 0, 0] ∧ win0_4.index t = ![t.val / 16, t.val % 16, 0] ∧ t.val < 32 :=
  (by decide +kernel : ∀ t : Fin grid0.N, _)

/-- The weights as the launch prepares them: a cast, which changes nothing. -/
theorem weight_eq (c : Dev nD) : V m c main_v0 = truncf (F := Ideal) .bf16 (m ((c : Thread nD τ).loc main_arg1)) bitsLt_bf16_f32 := rfl

/-- The stored block, entry by entry. -/
theorem pay1_apply (y : Vec Ideal S1x512x1024 .f32) (w : Vec Ideal S1024x1024 .bf16) (x : Vec Ideal S1x512x1024 .f32) (g : Vec Ideal S1x1x1024 .f32)
    (r : Fin 512) (d : Fin 1024) :
    k0_pay1 (F := Ideal) y w x g (ix3 0 r d) = x (ix3 0 r d) + g (ix3 0 0 d) * ∑ k : Fin 1024, y (ix3 0 r k) * w (ix2 k d) := by
  pointwise [k0_pay1]

/-- The result as an array over the kernel's arguments. -/
def result (c : Dev nD) : Vec Ideal S2x8192x1024 .f32 := fun i =>
  outSpec (m ((c : Thread nD τ).loc main_arg0)) (m ((c : Thread nD τ).loc main_arg1)) (m ((c : Thread nD τ).loc main_arg2)) (m ((c : Thread nD τ).loc main_arg3)) (i 0) (i 1) (i 2)

/-- The block that point `t` leaves is the result at the rows of its tile. -/
theorem point (c : Dev nD) (t : Fin cfg0.N) (r : Fin 512) (d : Fin 1024) (b : Fin 2) (l : Fin 8192)
    (hb : b.val = t.val / 16) (hl : l.val = t.val % 16 * 512 + r.val) :
    out0_4 (iblk m c 0 t) (iblk m c 1 t) (iblk m c 2 t) (iblk m c 3 t) (ix3 0 r d) = result m c (ix3 b l d) := by
  rw [out0_4]
  frame_out
  rw [pay1_apply]
  show _ = outSpec (m ((c : Thread nD τ).loc main_arg0)) (m ((c : Thread nD τ).loc main_arg1)) (m ((c : Thread nD τ).loc main_arg2)) (m ((c : Thread nD τ).loc main_arg3)) b l d
  unfold outSpec
  blk_point [iblk, V, idx t]

/-- The result array after the run. -/
theorem final (c : Dev nD) : (dats m 0 c).arrAt 4 cfg0.N = result m c := by
  refine (dats m 0 c).arrAt_eq_of_covers 4 _ (by decide +kernel) fun t hf y => ?_
  blk_simp
  rw [after0_4]
  obtain ⟨z, r, d, rfl⟩ : ∃ (z : Fin 1) (r : Fin 512) (d : Fin 1024), y = ix3 z r d := ⟨y 0, y 1, y 2, eq_ix3 y⟩
  obtain rfl : z = 0 := Subsingleton.elim _ _
  have hN : t.val < 32 := (idx t).2.2.2.2.2
  refine (point m c t r d ⟨t.val / 16, by omega⟩ ⟨t.val % 16 * 512 + r.val, by omega⟩ rfl rfl).trans ?_
  refine congrArg (result m c) ?_
  blk_ext [idx t]

/-- The kernel's run: the result array holds the projection, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.OutKernelIdeal.Value

namespace Cert.OutReferenceIdeal.Value

open Cert.OutReferenceIdeal Cert.OutReferenceIdeal.Gen Idealize.ShloMosaic Idealize.ShloMosaic.TcCoe Idealize.SL.Sem Cert.Projections

/-- The reference's run: its result is the projection, entry by entry, and the arguments are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (fun i => outSpec (m ((c : Thread nD τ).loc main_arg0)) (m ((c : Thread nD τ).loc main_arg1)) (m ((c : Thread nD τ).loc main_arg2)) (m ((c : Thread nD τ).loc main_arg3)) (i 0) (i 1) (i 2) : Vec Ideal S2x8192x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans (funext fun i => ?_), (h c).2⟩) (run m ρ)
  obtain ⟨b, l, d, rfl⟩ : ∃ (b : Fin 2) (l : Fin 8192) (d : Fin 1024), i = ix3 b l d := ⟨i 0, i 1, i 2, eq_ix3 i⟩
  show _ = outSpec (m ((c : Thread nD τ).loc main_arg0)) (m ((c : Thread nD τ).loc main_arg1)) (m ((c : Thread nD τ).loc main_arg2)) (m ((c : Thread nD τ).loc main_arg3)) b l d
  unfold outSpec
  pointwise

end Cert.OutReferenceIdeal.Value

end
-- ==== Proof.SsdOut.lean ====
module

public import proofs.«01_k».proof.Proof.Gen.SsdOutKernelIdeal.Value
public import proofs.«01_k».proof.Proof.Gen.SsdOutReferenceIdeal.Run
public import proofs.«01_k».proof.Proof.ProjSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.SsdOutKernelIdeal.Value

open Cert.SsdOutKernelIdeal Cert.SsdOutKernelIdeal.Gen Idealize.ShloMosaic Idealize.ShloMosaic.TcCoe Idealize.SL.Sem Cert.Projections
open Idealize.ShloMosaic.Pipeline (Dat)

variable (m : (ℓ : Loc nD τ sig) → Buf (Elt Ideal) ℓ)

/-- Every window's block index at point `t`: `t / 16` is the batch row, `t % 16` the tile of tokens. -/
theorem idx : ∀ t : Fin cfg0.N, win0_0.index t = ![t.val / 16, t.val % 16, 0] ∧ win0_1.index t = ![0, 0] ∧ win0_2.index t = ![t.val / 16, t.val % 16, 0] ∧ win0_3.index t = ![t.val / 16, 0, 0] ∧ win0_4.index t = ![t.val / 16, t.val % 16, 0] ∧ t.val < 32 :=
  (by decide +kernel : ∀ t : Fin grid0.N, _)

/-- The weights as the launch prepares them: a cast, which changes nothing. -/
theorem weight_eq (c : Dev nD) : V m c main_v0 = truncf (F := Ideal) .bf16 (m ((c : Thread nD τ).loc main_arg1)) bitsLt_bf16_f32 := rfl

/-- The stored block, entry by entry. -/
theorem pay1_apply (y : Vec Ideal S1x512x2048 .f32) (w : Vec Ideal S2048x1024 .bf16) (x : Vec Ideal S1x512x1024 .f32) (g : Vec Ideal S1x1x1024 .f32)
    (r : Fin 512) (d : Fin 1024) :
    k0_pay1 (F := Ideal) y w x g (ix3 0 r d) = x (ix3 0 r d) + g (ix3 0 0 d) * ∑ k : Fin 2048, y (ix3 0 r k) * w (ix2 k d) := by
  pointwise [k0_pay1]

/-- The result as an array over the kernel's arguments. -/
def result (c : Dev nD) : Vec Ideal S2x8192x1024 .f32 := fun i =>
  outSpec (m ((c : Thread nD τ).loc main_arg0)) (m ((c : Thread nD τ).loc main_arg1)) (m ((c : Thread nD τ).loc main_arg2)) (m ((c : Thread nD τ).loc main_arg3)) (i 0) (i 1) (i 2)

/-- The block that point `t` leaves is the result at the rows of its tile. -/
theorem point (c : Dev nD) (t : Fin cfg0.N) (r : Fin 512) (d : Fin 1024) (b : Fin 2) (l : Fin 8192)
    (hb : b.val = t.val / 16) (hl : l.val = t.val % 16 * 512 + r.val) :
    out0_4 (iblk m c 0 t) (iblk m c 1 t) (iblk m c 2 t) (iblk m c 3 t) (ix3 0 r d) = result m c (ix3 b l d) := by
  rw [out0_4]
  frame_out
  rw [pay1_apply]
  show _ = outSpec (m ((c : Thread nD τ).loc main_arg0)) (m ((c : Thread nD τ).loc main_arg1)) (m ((c : Thread nD τ).loc main_arg2)) (m ((c : Thread nD τ).loc main_arg3)) b l d
  unfold outSpec
  blk_point [iblk, V, idx t]

/-- The result array after the run. -/
theorem final (c : Dev nD) : (dats m 0 c).arrAt 4 cfg0.N = result m c := by
  refine (dats m 0 c).arrAt_eq_of_covers 4 _ (by decide +kernel) fun t hf y => ?_
  blk_simp
  rw [after0_4]
  obtain ⟨z, r, d, rfl⟩ : ∃ (z : Fin 1) (r : Fin 512) (d : Fin 1024), y = ix3 z r d := ⟨y 0, y 1, y 2, eq_ix3 y⟩
  obtain rfl : z = 0 := Subsingleton.elim _ _
  have hN : t.val < 32 := (idx t).2.2.2.2.2
  refine (point m c t r d ⟨t.val / 16, by omega⟩ ⟨t.val % 16 * 512 + r.val, by omega⟩ rfl rfl).trans ?_
  refine congrArg (result m c) ?_
  blk_ext [idx t]

/-- The kernel's run: the result array holds the projection, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.SsdOutKernelIdeal.Value

namespace Cert.SsdOutReferenceIdeal.Value

open Cert.SsdOutReferenceIdeal Cert.SsdOutReferenceIdeal.Gen Idealize.ShloMosaic Idealize.ShloMosaic.TcCoe Idealize.SL.Sem Cert.Projections

/-- The reference's run: its result is the projection, entry by entry, and the arguments are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (fun i => outSpec (m ((c : Thread nD τ).loc main_arg0)) (m ((c : Thread nD τ).loc main_arg1)) (m ((c : Thread nD τ).loc main_arg2)) (m ((c : Thread nD τ).loc main_arg3)) (i 0) (i 1) (i 2) : Vec Ideal S2x8192x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans (funext fun i => ?_), (h c).2⟩) (run m ρ)
  obtain ⟨b, l, d, rfl⟩ : ∃ (b : Fin 2) (l : Fin 8192) (d : Fin 1024), i = ix3 b l d := ⟨i 0, i 1, i 2, eq_ix3 i⟩
  show _ = outSpec (m ((c : Thread nD τ).loc main_arg0)) (m ((c : Thread nD τ).loc main_arg1)) (m ((c : Thread nD τ).loc main_arg2)) (m ((c : Thread nD τ).loc main_arg3)) b l d
  unfold outSpec
  pointwise

end Cert.SsdOutReferenceIdeal.Value

end
-- ==== Proof.RwOut.lean ====
module

public import proofs.«01_k».proof.Proof.Gen.RwOutKernelIdeal.Value
public import proofs.«01_k».proof.Proof.Gen.RwOutReferenceIdeal.Run
public import proofs.«01_k».proof.Proof.ProjSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.RwOutKernelIdeal.Value

open Cert.RwOutKernelIdeal Cert.RwOutKernelIdeal.Gen Idealize.ShloMosaic Idealize.ShloMosaic.TcCoe Idealize.SL.Sem Cert.Projections
open Idealize.ShloMosaic.Pipeline (Dat)

variable (m : (ℓ : Loc nD τ sig) → Buf (Elt Ideal) ℓ)

/-- Every window's block index at point `t`: `t / 32` is the batch row, `t % 32` the tile of tokens. -/
theorem idx : ∀ t : Fin cfg0.N, win0_0.index t = ![t.val / 32, t.val % 32, 0] ∧ win0_1.index t = ![t.val / 32, t.val % 32, 0] ∧ win0_2.index t = ![0, 0] ∧ win0_3.index t = ![t.val / 32, t.val % 32, 0] ∧ win0_4.index t = ![t.val / 32, 0, 0] ∧ win0_5.index t = ![t.val / 32, t.val % 32, 0] ∧ t.val < 64 :=
  (by decide +kernel : ∀ t : Fin grid0.N, _)

/-- The weights as the launch prepares them: a cast, which changes nothing. -/
theorem weight_eq (c : Dev nD) : V m c main_v0 = truncf (F := Ideal) .bf16 (m ((c : Thread nD τ).loc main_arg2)) bitsLt_bf16_f32 := rfl

/-- The stored block, entry by entry. -/
theorem pay1_apply (y z : Vec Ideal S1x256x1024 .f32) (w : Vec Ideal S1024x1024 .bf16) (x : Vec Ideal S1x256x1024 .f32) (g : Vec Ideal S1x1x1024 .f32)
    (r : Fin 256) (d : Fin 1024) :
    k0_pay1 (F := Ideal) y z w x g (ix3 0 r d) = x (ix3 0 r d) + g (ix3 0 0 d) * ∑ k : Fin 1024, y (ix3 0 r k) * z (ix3 0 r k) * w (ix2 k d) := by
  pointwise [k0_pay1]

/-- The result as an array over the kernel's arguments. -/
def result (c : Dev nD) : Vec Ideal S2x8192x1024 .f32 := fun i =>
  mulOutSpec (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

/-- The block that point `t` leaves is the result at the rows of its tile. -/
theorem point (c : Dev nD) (t : Fin cfg0.N) (r : Fin 256) (d : Fin 1024) (b : Fin 2) (l : Fin 8192)
    (hb : b.val = t.val / 32) (hl : l.val = t.val % 32 * 256 + r.val) :
    out0_5 (iblk m c 0 t) (iblk m c 1 t) (iblk m c 2 t) (iblk m c 3 t) (iblk m c 4 t) (ix3 0 r d) = result m c (ix3 b l d) := by
  rw [out0_5]
  frame_out
  rw [pay1_apply]
  show _ = mulOutSpec (m ((c : Thread nD τ).loc main_arg0)) (m ((c : Thread nD τ).loc main_arg1)) (m ((c : Thread nD τ).loc main_arg2)) (m ((c : Thread nD τ).loc main_arg3)) (m ((c : Thread nD τ).loc main_arg4)) b l d
  unfold mulOutSpec
  blk_point [iblk, V, idx t]

/-- The result array after the run. -/
theorem final (c : Dev nD) : (dats m 0 c).arrAt 5 cfg0.N = result m c := by
  refine (dats m 0 c).arrAt_eq_of_covers 5 _ (by decide +kernel) fun t hf y => ?_
  blk_simp
  rw [after0_5]
  obtain ⟨z, r, d, rfl⟩ : ∃ (z : Fin 1) (r : Fin 256) (d : Fin 1024), y = ix3 z r d := ⟨y 0, y 1, y 2, eq_ix3 y⟩
  obtain rfl : z = 0 := Subsingleton.elim _ _
  have hN : t.val < 64 := (idx t).2.2.2.2.2.2
  refine (point m c t r d ⟨t.val / 32, by omega⟩ ⟨t.val % 32 * 256 + r.val, by omega⟩ rfl rfl).trans ?_
  refine congrArg (result m c) ?_
  blk_ext [idx t]

/-- The kernel's run: the result array holds the projection, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.RwOutKernelIdeal.Value

namespace Cert.RwOutReferenceIdeal.Value

open Cert.RwOutReferenceIdeal Cert.RwOutReferenceIdeal.Gen Idealize.ShloMosaic Idealize.ShloMosaic.TcCoe Idealize.SL.Sem Cert.Projections

/-- The reference's run: its result is the projection, entry by entry, and the arguments are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = (fun i => mulOutSpec (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) : Vec Ideal S2x8192x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨(h c).1.trans (funext fun i => ?_), (h c).2⟩) (run m ρ)
  obtain ⟨b, l, d, rfl⟩ : ∃ (b : Fin 2) (l : Fin 8192) (d : Fin 1024), i = ix3 b l d := ⟨i 0, i 1, i 2, eq_ix3 i⟩
  show _ = mulOutSpec (m ((c : Thread nD τ).loc main_arg0)) (m ((c : Thread nD τ).loc main_arg1)) (m ((c : Thread nD τ).loc main_arg2)) (m ((c : Thread nD τ).loc main_arg3)) (m ((c : Thread nD τ).loc main_arg4)) b l d
  unfold mulOutSpec
  pointwise

end Cert.RwOutReferenceIdeal.Value

end
-- ==== Proof.Zx.lean ====
module

public import proofs.«01_k».proof.Proof.Gen.ZxKernelIdeal.Value
public import proofs.«01_k».proof.Proof.Gen.ZxReferenceIdeal.Run
public import proofs.«01_k».proof.Proof.ProjSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ZxKernelIdeal.Value

open Cert.ZxKernelIdeal Cert.ZxKernelIdeal.Gen Idealize.ShloMosaic Idealize.ShloMosaic.TcCoe Idealize.SL.Sem Cert.Projections
open Idealize.ShloMosaic.Pipeline (Dat)

variable (m : (ℓ : Loc nD τ sig) → Buf (Elt Ideal) ℓ)

/-- Every window's block index at point `t`: `t / 5` is the tile of rows, `t % 5` the tile of columns. -/
theorem idx : ∀ t : Fin cfg0.N, win0_0.index t = ![t.val / 5, 0] ∧ win0_1.index t = ![0, t.val % 5] ∧ win0_2.index t = ![t.val / 5, t.val % 5] ∧ t.val < 160 :=
  (by decide +kernel : ∀ t : Fin grid0.N, _)

/-- The rows as the launch lays them out. -/
theorem rows_at (c : Dev nD) (r : Fin 16384) (k : Fin 1024) :
    (V m c main_v1 : Vec Ideal S16384x1024 .bf16) (ix2 r k)
      = (m ((c : Thread nD τ).loc main_arg0)) (ix3 ⟨r.val / 8192, by omega⟩ ⟨r.val % 8192, Nat.mod_lt _ (by decide)⟩ k) := by
  refine (congrFun (show V m c main_v1 = shapeCast S16384x1024 (m ((c : Thread nD τ).loc main_arg0)) shapeCasts_S2x8192x1024_S16384x1024 from rfl) _).trans ?_
  refine shapeCast_apply _ _ _ _ ?_
  refine (Shape.rowMajor_val_three (d := ![2, 8192, 1024]) _).trans (Eq.trans ?_ (Shape.rowMajor_val_two (d := ![16384, 1024]) _).symm)
  simp
  omega

/-- The weights as the launch prepares them. -/
theorem weight_at (c : Dev nD) (k : Fin 1024) (j : Fin 5120) :
    (V m c main_v2 : Vec Ideal S1024x5120 .bf16) (ix2 k j) = (m ((c : Thread nD τ).loc main_arg1)) (ix2 k ⟨j.val, by omega⟩) := by
  refine (congrFun (show V m c main_v2 = truncf (F := Ideal) .bf16 (extractStridedSlice S1024x5120 ![0, 0] (m ((c : Thread nD τ).loc main_arg1)) slices_S1024x5152_S1024x5120_0_0) bitsLt_bf16_f32 from rfl) _).trans ?_
  pointwise

/-- The stored block, entry by entry. -/
theorem pay1_apply (a : Vec Ideal S512x1024 .bf16) (w : Vec Ideal S1024x1024 .bf16) (r : Fin 512) (j : Fin 1024) :
    k0_pay1 (F := Ideal) a w (ix2 r j) = ∑ k : Fin 1024, HMul.hMul (α := EReal) (β := EReal) (γ := EReal) (a (ix2 r k)) (w (ix2 k j)) := by
  pointwise [k0_pay1]

/-- The result as an array over the kernel's arguments. -/
def result (c : Dev nD) : Vec Ideal S16384x5120 .f32 := fun i =>
  inSpec (m ((c : Thread nD τ).loc main_arg0)) (m ((c : Thread nD τ).loc main_arg1)) (i 0) ⟨(i 1).val, by have : (i 1).val < 5120 := (i 1).isLt; omega⟩

/-- The tile of rows at point `t`. -/
theorem blk_rows (c : Dev nD) (t : Fin cfg0.N) (r : Fin 512) (k : Fin 1024) (r' : Fin 16384) (hr : r'.val = t.val / 5 * 512 + r.val) :
    iblk m c 0 t (ix2 r k) = V m c main_v1 (ix2 r' k) := by
  blk_simp [iblk]
  blk_ext [idx t]

/-- The tile of weights at point `t`. -/
theorem blk_weight (c : Dev nD) (t : Fin cfg0.N) (k j : Fin 1024) (j' : Fin 5120) (hj : j'.val = t.val % 5 * 1024 + j.val) :
    iblk m c 1 t (ix2 k j) = V m c main_v2 (ix2 k j') := by
  blk_simp [iblk]
  blk_ext [idx t]

/-- The block that point `t` leaves is the result at its rows and columns. -/
theorem point (c : Dev nD) (t : Fin cfg0.N) (r : Fin 512) (j : Fin 1024) (r' : Fin 16384) (j' : Fin 5120)
    (hr : r'.val = t.val / 5 * 512 + r.val) (hj : j'.val = t.val % 5 * 1024 + j.val) :
    out0_2 (iblk m c 0 t) (iblk m c 1 t) (ix2 r j) = result m c (ix2 r' j') := by
  rw [out0_2]
  frame_out
  rw [pay1_apply]
  show _ = inSpec (m ((c : Thread nD τ).loc main_arg0)) (m ((c : Thread nD τ).loc main_arg1)) r' ⟨j'.val, by omega⟩
  unfold inSpec
  refine Finset.sum_congr rfl fun k _ => ?_
  rw [blk_rows m c t r k r' hr, blk_weight m c t k j j' hj, rows_at, weight_at]

/-- The result array after the run. -/
theorem final (c : Dev nD) : (dats m 0 c).arrAt 2 cfg0.N = result m c := by
  refine (dats m 0 c).arrAt_eq_of_covers 2 _ (by decide +kernel) fun t hf y => ?_
  blk_simp
  rw [after0_2]
  obtain ⟨r, j, rfl⟩ : ∃ (r : Fin 512) (j : Fin 1024), y = ix2 r j := ⟨y 0, y 1, eq_ix2 y⟩
  have hN : t.val < 160 := (idx t).2.2.2
  refine (point m c t r j ⟨t.val / 5 * 512 + r.val, by omega⟩ ⟨t.val % 5 * 1024 + j.val, by omega⟩ rfl rfl).trans ?_
  refine congrArg (result m c) ?_
  blk_ext [idx t]

/-- The kernel's run: the result array holds the projection, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.ZxKernelIdeal.Value

namespace Cert.ZxReferenceIdeal.Value

open Cert.ZxReferenceIdeal Cert.ZxReferenceIdeal.Gen Idealize.ShloMosaic Idealize.ShloMosaic.TcCoe Idealize.SL.Sem Cert.Projections

/-- Both batch rows' tokens in one axis. -/
theorem rows_apply (z : Vec Ideal S2x8192x5120 .f32) (r : Fin 16384) (j : Fin 5120) :
    shapeCast S16384x5120 z shapeCasts_S2x8192x5120_S16384x5120 (ix2 r j) = z (ix3 ⟨r.val / 8192, by omega⟩ ⟨r.val % 8192, Nat.mod_lt _ (by decide)⟩ j) := by
  refine shapeCast_apply _ _ _ _ ?_
  refine (Shape.rowMajor_val_three (d := ![2, 8192, 5120]) _).trans (Eq.trans ?_ (Shape.rowMajor_val_two (d := ![16384, 5120]) _).symm)
  simp
  omega

/-- The reference's run: its result is the projection, entry by entry, and the arguments are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (fun i => inSpec (m ((c : Thread nD τ).loc main_arg0)) (m ((c : Thread nD τ).loc main_arg1)) (i 0) ⟨(i 1).val, by have : (i 1).val < 5120 := (i 1).isLt; omega⟩ : Vec Ideal S16384x5120 .f32)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans (funext fun i => ?_), (h c).2⟩) (run m ρ)
  obtain ⟨r, j, rfl⟩ : ∃ (r : Fin 16384) (j : Fin 5120), i = ix2 r j := ⟨i 0, i 1, eq_ix2 i⟩
  refine (rows_apply _ r j).trans ?_
  show _ = inSpec (m ((c : Thread nD τ).loc main_arg0)) (m ((c : Thread nD τ).loc main_arg1)) r ⟨j.val, by omega⟩
  unfold inSpec
  pointwise
  try rfl

end Cert.ZxReferenceIdeal.Value

end
-- ==== Proof.Qkv.lean ====
module

public import proofs.«01_k».proof.Proof.Gen.QkvKernelIdeal.Value
public import proofs.«01_k».proof.Proof.Gen.QkvReferenceIdeal.Run
public import proofs.«01_k».proof.Proof.ProjSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.QkvKernelIdeal.Value

open Cert.QkvKernelIdeal Cert.QkvKernelIdeal.Gen Idealize.ShloMosaic Idealize.ShloMosaic.TcCoe Idealize.SL.Sem Cert.Projections
open Idealize.ShloMosaic.Pipeline (Dat)

variable (m : (ℓ : Loc nD τ sig) → Buf (Elt Ideal) ℓ)

/-- Every window's block index at point `t`: `t / 3` is the tile of rows, `t % 3` the tile of columns. -/
theorem idx : ∀ t : Fin cfg0.N, win0_0.index t = ![t.val / 3, 0] ∧ win0_1.index t = ![0, t.val % 3] ∧ win0_2.index t = ![t.val / 3, t.val % 3] ∧ t.val < 96 :=
  (by decide +kernel : ∀ t : Fin grid0.N, _)

/-- The rows as the launch lays them out. -/
theorem rows_at (c : Dev nD) (r : Fin 16384) (k : Fin 1024) :
    (V m c main_v0 : Vec Ideal S16384x1024 .bf16) (ix2 r k)
      = (m ((c : Thread nD τ).loc main_arg0)) (ix3 ⟨r.val / 8192, by omega⟩ ⟨r.val % 8192, Nat.mod_lt _ (by decide)⟩ k) := by
  refine (congrFun (show V m c main_v0 = shapeCast S16384x1024 (m ((c : Thread nD τ).loc main_arg0)) shapeCasts_S2x8192x1024_S16384x1024 from rfl) _).trans ?_
  refine shapeCast_apply _ _ _ _ ?_
  refine (Shape.rowMajor_val_three (d := ![2, 8192, 1024]) _).trans (Eq.trans ?_ (Shape.rowMajor_val_two (d := ![16384, 1024]) _).symm)
  simp
  omega

/-- The weights as the launch prepares them. -/
theorem weight_at (c : Dev nD) (k : Fin 1024) (j : Fin 3072) :
    (V m c main_v1 : Vec Ideal S1024x3072 .bf16) (ix2 k j) = (m ((c : Thread nD τ).loc main_arg1)) (ix2 k ⟨j.val, by omega⟩) := by
  refine (congrFun (show V m c main_v1 = truncf (F := Ideal) .bf16 ((m ((c : Thread nD τ).loc main_arg1))) bitsLt_bf16_f32 from rfl) _).trans ?_
  pointwise

/-- The stored block, entry by entry. -/
theorem pay1_apply (a : Vec Ideal S512x1024 .bf16) (w : Vec Ideal S1024x1024 .bf16) (r : Fin 512) (j : Fin 1024) :
    k0_pay1 (F := Ideal) a w (ix2 r j) = ∑ k : Fin 1024, HMul.hMul (α := EReal) (β := EReal) (γ := EReal) (a (ix2 r k)) (w (ix2 k j)) := by
  pointwise [k0_pay1]

/-- The result as an array over the kernel's arguments. -/
def result (c : Dev nD) : Vec Ideal S16384x3072 .f32 := fun i =>
  inSpec (m ((c : Thread nD τ).loc main_arg0)) (m ((c : Thread nD τ).loc main_arg1)) (i 0) ⟨(i 1).val, by have : (i 1).val < 3072 := (i 1).isLt; omega⟩

/-- The tile of rows at point `t`. -/
theorem blk_rows (c : Dev nD) (t : Fin cfg0.N) (r : Fin 512) (k : Fin 1024) (r' : Fin 16384) (hr : r'.val = t.val / 3 * 512 + r.val) :
    iblk m c 0 t (ix2 r k) = V m c main_v0 (ix2 r' k) := by
  blk_simp [iblk]
  blk_ext [idx t]

/-- The tile of weights at point `t`. -/
theorem blk_weight (c : Dev nD) (t : Fin cfg0.N) (k j : Fin 1024) (j' : Fin 3072) (hj : j'.val = t.val % 3 * 1024 + j.val) :
    iblk m c 1 t (ix2 k j) = V m c main_v1 (ix2 k j') := by
  blk_simp [iblk]
  blk_ext [idx t]

/-- The block that point `t` leaves is the result at its rows and columns. -/
theorem point (c : Dev nD) (t : Fin cfg0.N) (r : Fin 512) (j : Fin 1024) (r' : Fin 16384) (j' : Fin 3072)
    (hr : r'.val = t.val / 3 * 512 + r.val) (hj : j'.val = t.val % 3 * 1024 + j.val) :
    out0_2 (iblk m c 0 t) (iblk m c 1 t) (ix2 r j) = result m c (ix2 r' j') := by
  rw [out0_2]
  frame_out
  rw [pay1_apply]
  show _ = inSpec (m ((c : Thread nD τ).loc main_arg0)) (m ((c : Thread nD τ).loc main_arg1)) r' ⟨j'.val, by omega⟩
  unfold inSpec
  refine Finset.sum_congr rfl fun k _ => ?_
  rw [blk_rows m c t r k r' hr, blk_weight m c t k j j' hj, rows_at, weight_at]

/-- The result array after the run. -/
theorem final (c : Dev nD) : (dats m 0 c).arrAt 2 cfg0.N = result m c := by
  refine (dats m 0 c).arrAt_eq_of_covers 2 _ (by decide +kernel) fun t hf y => ?_
  blk_simp
  rw [after0_2]
  obtain ⟨r, j, rfl⟩ : ∃ (r : Fin 512) (j : Fin 1024), y = ix2 r j := ⟨y 0, y 1, eq_ix2 y⟩
  have hN : t.val < 96 := (idx t).2.2.2
  refine (point m c t r j ⟨t.val / 3 * 512 + r.val, by omega⟩ ⟨t.val % 3 * 1024 + j.val, by omega⟩ rfl rfl).trans ?_
  refine congrArg (result m c) ?_
  blk_ext [idx t]

/-- The kernel's run: the result array holds the projection, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.QkvKernelIdeal.Value

namespace Cert.QkvReferenceIdeal.Value

open Cert.QkvReferenceIdeal Cert.QkvReferenceIdeal.Gen Idealize.ShloMosaic Idealize.ShloMosaic.TcCoe Idealize.SL.Sem Cert.Projections

/-- Both batch rows' tokens in one axis. -/
theorem rows_apply (z : Vec Ideal S2x8192x3072 .f32) (r : Fin 16384) (j : Fin 3072) :
    shapeCast S16384x3072 z shapeCasts_S2x8192x3072_S16384x3072 (ix2 r j) = z (ix3 ⟨r.val / 8192, by omega⟩ ⟨r.val % 8192, Nat.mod_lt _ (by decide)⟩ j) := by
  refine shapeCast_apply _ _ _ _ ?_
  refine (Shape.rowMajor_val_three (d := ![2, 8192, 3072]) _).trans (Eq.trans ?_ (Shape.rowMajor_val_two (d := ![16384, 3072]) _).symm)
  simp
  omega

/-- The reference's run: its result is the projection, entry by entry, and the arguments are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (fun i => inSpec (m ((c : Thread nD τ).loc main_arg0)) (m ((c : Thread nD τ).loc main_arg1)) (i 0) ⟨(i 1).val, by have : (i 1).val < 3072 := (i 1).isLt; omega⟩ : Vec Ideal S16384x3072 .f32)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans (funext fun i => ?_), (h c).2⟩) (run m ρ)
  obtain ⟨r, j, rfl⟩ : ∃ (r : Fin 16384) (j : Fin 3072), i = ix2 r j := ⟨i 0, i 1, eq_ix2 i⟩
  refine (rows_apply _ r j).trans ?_
  show _ = inSpec (m ((c : Thread nD τ).loc main_arg0)) (m ((c : Thread nD τ).loc main_arg1)) r ⟨j.val, by omega⟩
  unfold inSpec
  pointwise
  try rfl

end Cert.QkvReferenceIdeal.Value

end
-- ==== Proof.Proj.lean ====
module

public import proofs.«01_k».proof.Proof.Gen.ProjKernelIdeal.Value
public import proofs.«01_k».proof.Proof.Gen.ProjReferenceIdeal.Run
public import proofs.«01_k».proof.Proof.ProjSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ProjKernelIdeal.Value

open Cert.ProjKernelIdeal Cert.ProjKernelIdeal.Gen Idealize.ShloMosaic Idealize.ShloMosaic.TcCoe Idealize.SL.Sem Cert.Projections
open Idealize.ShloMosaic.Pipeline (Dat)

variable (m : (ℓ : Loc nD τ sig) → Buf (Elt Ideal) ℓ)

/-- Every window's block index at point `t`: `t / 3` is the tile of rows, `t % 3` the tile of columns. -/
theorem idx : ∀ t : Fin cfg0.N, win0_0.index t = ![t.val / 3, 0] ∧ win0_1.index t = ![0, t.val % 3] ∧ win0_2.index t = ![t.val / 3, t.val % 3] ∧ t.val < 96 :=
  (by decide +kernel : ∀ t : Fin grid0.N, _)

/-- The rows as the launch lays them out. -/
theorem rows_at (c : Dev nD) (r : Fin 16384) (k : Fin 1024) :
    (V m c main_v1 : Vec Ideal S16384x1024 .bf16) (ix2 r k)
      = (m ((c : Thread nD τ).loc main_arg0)) (ix3 ⟨r.val / 8192, by omega⟩ ⟨r.val % 8192, Nat.mod_lt _ (by decide)⟩ k) := by
  refine (congrFun (show V m c main_v1 = shapeCast S16384x1024 (m ((c : Thread nD τ).loc main_arg0)) shapeCasts_S2x8192x1024_S16384x1024 from rfl) _).trans ?_
  refine shapeCast_apply _ _ _ _ ?_
  refine (Shape.rowMajor_val_three (d := ![2, 8192, 1024]) _).trans (Eq.trans ?_ (Shape.rowMajor_val_two (d := ![16384, 1024]) _).symm)
  simp
  omega

/-- The weights as the launch prepares them. -/
theorem weight_at (c : Dev nD) (k : Fin 1024) (j : Fin 3072) :
    (V m c main_v2 : Vec Ideal S1024x3072 .bf16) (ix2 k j) = (m ((c : Thread nD τ).loc main_arg1)) (ix2 k ⟨j.val, by omega⟩) := by
  refine (congrFun (show V m c main_v2 = truncf (F := Ideal) .bf16 (extractStridedSlice S1024x3072 ![0, 0] (m ((c : Thread nD τ).loc main_arg1)) slices_S1024x3088_S1024x3072_0_0) bitsLt_bf16_f32 from rfl) _).trans ?_
  pointwise

/-- The stored block, entry by entry. -/
theorem pay1_apply (a : Vec Ideal S512x1024 .bf16) (w : Vec Ideal S1024x1024 .bf16) (r : Fin 512) (j : Fin 1024) :
    k0_pay1 (F := Ideal) a w (ix2 r j) = ∑ k : Fin 1024, HMul.hMul (α := EReal) (β := EReal) (γ := EReal) (a (ix2 r k)) (w (ix2 k j)) := by
  pointwise [k0_pay1]

/-- The result as an array over the kernel's arguments. -/
def result (c : Dev nD) : Vec Ideal S16384x3072 .f32 := fun i =>
  inSpec (m ((c : Thread nD τ).loc main_arg0)) (m ((c : Thread nD τ).loc main_arg1)) (i 0) ⟨(i 1).val, by have : (i 1).val < 3072 := (i 1).isLt; omega⟩

/-- The tile of rows at point `t`. -/
theorem blk_rows (c : Dev nD) (t : Fin cfg0.N) (r : Fin 512) (k : Fin 1024) (r' : Fin 16384) (hr : r'.val = t.val / 3 * 512 + r.val) :
    iblk m c 0 t (ix2 r k) = V m c main_v1 (ix2 r' k) := by
  blk_simp [iblk]
  blk_ext [idx t]

/-- The tile of weights at point `t`. -/
theorem blk_weight (c : Dev nD) (t : Fin cfg0.N) (k j : Fin 1024) (j' : Fin 3072) (hj : j'.val = t.val % 3 * 1024 + j.val) :
    iblk m c 1 t (ix2 k j) = V m c main_v2 (ix2 k j') := by
  blk_simp [iblk]
  blk_ext [idx t]

/-- The block that point `t` leaves is the result at its rows and columns. -/
theorem point (c : Dev nD) (t : Fin cfg0.N) (r : Fin 512) (j : Fin 1024) (r' : Fin 16384) (j' : Fin 3072)
    (hr : r'.val = t.val / 3 * 512 + r.val) (hj : j'.val = t.val % 3 * 1024 + j.val) :
    out0_2 (iblk m c 0 t) (iblk m c 1 t) (ix2 r j) = result m c (ix2 r' j') := by
  rw [out0_2]
  frame_out
  rw [pay1_apply]
  show _ = inSpec (m ((c : Thread nD τ).loc main_arg0)) (m ((c : Thread nD τ).loc main_arg1)) r' ⟨j'.val, by omega⟩
  unfold inSpec
  refine Finset.sum_congr rfl fun k _ => ?_
  rw [blk_rows m c t r k r' hr, blk_weight m c t k j j' hj, rows_at, weight_at]

/-- The result array after the run. -/
theorem final (c : Dev nD) : (dats m 0 c).arrAt 2 cfg0.N = result m c := by
  refine (dats m 0 c).arrAt_eq_of_covers 2 _ (by decide +kernel) fun t hf y => ?_
  blk_simp
  rw [after0_2]
  obtain ⟨r, j, rfl⟩ : ∃ (r : Fin 512) (j : Fin 1024), y = ix2 r j := ⟨y 0, y 1, eq_ix2 y⟩
  have hN : t.val < 96 := (idx t).2.2.2
  refine (point m c t r j ⟨t.val / 3 * 512 + r.val, by omega⟩ ⟨t.val % 3 * 1024 + j.val, by omega⟩ rfl rfl).trans ?_
  refine congrArg (result m c) ?_
  blk_ext [idx t]

/-- The kernel's run: the result array holds the projection, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.ProjKernelIdeal.Value

namespace Cert.ProjReferenceIdeal.Value

open Cert.ProjReferenceIdeal Cert.ProjReferenceIdeal.Gen Idealize.ShloMosaic Idealize.ShloMosaic.TcCoe Idealize.SL.Sem Cert.Projections

/-- Both batch rows' tokens in one axis. -/
theorem rows_apply (z : Vec Ideal S2x8192x3072 .f32) (r : Fin 16384) (j : Fin 3072) :
    shapeCast S16384x3072 z shapeCasts_S2x8192x3072_S16384x3072 (ix2 r j) = z (ix3 ⟨r.val / 8192, by omega⟩ ⟨r.val % 8192, Nat.mod_lt _ (by decide)⟩ j) := by
  refine shapeCast_apply _ _ _ _ ?_
  refine (Shape.rowMajor_val_three (d := ![2, 8192, 3072]) _).trans (Eq.trans ?_ (Shape.rowMajor_val_two (d := ![16384, 3072]) _).symm)
  simp
  omega

/-- The reference's run: its result is the projection, entry by entry, and the arguments are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (fun i => inSpec (m ((c : Thread nD τ).loc main_arg0)) (m ((c : Thread nD τ).loc main_arg1)) (i 0) ⟨(i 1).val, by have : (i 1).val < 3072 := (i 1).isLt; omega⟩ : Vec Ideal S16384x3072 .f32)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans (funext fun i => ?_), (h c).2⟩) (run m ρ)
  obtain ⟨r, j, rfl⟩ : ∃ (r : Fin 16384) (j : Fin 3072), i = ix2 r j := ⟨i 0, i 1, eq_ix2 i⟩
  refine (rows_apply _ r j).trans ?_
  show _ = inSpec (m ((c : Thread nD τ).loc main_arg0)) (m ((c : Thread nD τ).loc main_arg1)) r ⟨j.val, by omega⟩
  unfold inSpec
  pointwise
  try rfl

end Cert.ProjReferenceIdeal.Value

end
-- ==== Proof.QkvSample.lean ====
module

public import proofs.«01_k».proof.Proof.Gen.QkvSampleKernelIdeal.Value
public import proofs.«01_k».proof.Proof.Gen.QkvSampleReferenceIdeal.Run
public import proofs.«01_k».proof.Proof.ProjSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.QkvSampleKernelIdeal.Value

open Cert.QkvSampleKernelIdeal Cert.QkvSampleKernelIdeal.Gen Idealize.ShloMosaic Idealize.ShloMosaic.TcCoe Idealize.SL.Sem Cert.Projections
open Idealize.ShloMosaic.Pipeline (Dat)

variable (m : (ℓ : Loc nD τ sig) → Buf (Elt Ideal) ℓ)

/-- Every window's block index at point `t`: `t / 3` is the tile of rows, `t % 3` the tile of columns. -/
theorem idx : ∀ t : Fin cfg0.N, win0_0.index t = ![t.val / 3, 0] ∧ win0_1.index t = ![0, t.val % 3] ∧ win0_2.index t = ![t.val / 3, t.val % 3] ∧ t.val < 6 :=
  (by decide +kernel : ∀ t : Fin grid0.N, _)

/-- The rows as the launch lays them out. -/
theorem rows_at (c : Dev nD) (r : Fin 1024) (k : Fin 1024) :
    (V m c main_v0 : Vec Ideal S1024x1024 .bf16) (ix2 r k)
      = (m ((c : Thread nD τ).loc main_arg0)) (ix3 ⟨r.val / 8, by omega⟩ ⟨r.val % 8, Nat.mod_lt _ (by decide)⟩ k) := by
  refine (congrFun (show V m c main_v0 = shapeCast S1024x1024 (m ((c : Thread nD τ).loc main_arg0)) shapeCasts_S128x8x1024_S1024x1024 from rfl) _).trans ?_
  refine shapeCast_apply _ _ _ _ ?_
  refine (Shape.rowMajor_val_three (d := ![128, 8, 1024]) _).trans (Eq.trans ?_ (Shape.rowMajor_val_two (d := ![1024, 1024]) _).symm)
  simp
  omega

/-- The weights as the launch prepares them. -/
theorem weight_at (c : Dev nD) (k : Fin 1024) (j : Fin 3072) :
    (V m c main_v1 : Vec Ideal S1024x3072 .bf16) (ix2 k j) = (m ((c : Thread nD τ).loc main_arg1)) (ix2 k ⟨j.val, by omega⟩) := by
  refine (congrFun (show V m c main_v1 = truncf (F := Ideal) .bf16 ((m ((c : Thread nD τ).loc main_arg1))) bitsLt_bf16_f32 from rfl) _).trans ?_
  pointwise

/-- The stored block, entry by entry. -/
theorem pay1_apply (a : Vec Ideal S512x1024 .bf16) (w : Vec Ideal S1024x1024 .bf16) (r : Fin 512) (j : Fin 1024) :
    k0_pay1 (F := Ideal) a w (ix2 r j) = ∑ k : Fin 1024, HMul.hMul (α := EReal) (β := EReal) (γ := EReal) (a (ix2 r k)) (w (ix2 k j)) := by
  pointwise [k0_pay1]

/-- The result as an array over the kernel's arguments. -/
def result (c : Dev nD) : Vec Ideal S1024x3072 .f32 := fun i =>
  inSpecSample (m ((c : Thread nD τ).loc main_arg0)) (m ((c : Thread nD τ).loc main_arg1)) (i 0) ⟨(i 1).val, by have : (i 1).val < 3072 := (i 1).isLt; omega⟩

/-- The tile of rows at point `t`. -/
theorem blk_rows (c : Dev nD) (t : Fin cfg0.N) (r : Fin 512) (k : Fin 1024) (r' : Fin 1024) (hr : r'.val = t.val / 3 * 512 + r.val) :
    iblk m c 0 t (ix2 r k) = V m c main_v0 (ix2 r' k) := by
  blk_simp [iblk]
  blk_ext [idx t]

/-- The tile of weights at point `t`. -/
theorem blk_weight (c : Dev nD) (t : Fin cfg0.N) (k j : Fin 1024) (j' : Fin 3072) (hj : j'.val = t.val % 3 * 1024 + j.val) :
    iblk m c 1 t (ix2 k j) = V m c main_v1 (ix2 k j') := by
  blk_simp [iblk]
  blk_ext [idx t]

/-- The block that point `t` leaves is the result at its rows and columns. -/
theorem point (c : Dev nD) (t : Fin cfg0.N) (r : Fin 512) (j : Fin 1024) (r' : Fin 1024) (j' : Fin 3072)
    (hr : r'.val = t.val / 3 * 512 + r.val) (hj : j'.val = t.val % 3 * 1024 + j.val) :
    out0_2 (iblk m c 0 t) (iblk m c 1 t) (ix2 r j) = result m c (ix2 r' j') := by
  rw [out0_2]
  frame_out
  rw [pay1_apply]
  show _ = inSpecSample (m ((c : Thread nD τ).loc main_arg0)) (m ((c : Thread nD τ).loc main_arg1)) r' ⟨j'.val, by omega⟩
  unfold inSpecSample
  refine Finset.sum_congr rfl fun k _ => ?_
  rw [blk_rows m c t r k r' hr, blk_weight m c t k j j' hj, rows_at, weight_at]

/-- The result array after the run. -/
theorem final (c : Dev nD) : (dats m 0 c).arrAt 2 cfg0.N = result m c := by
  refine (dats m 0 c).arrAt_eq_of_covers 2 _ (by decide +kernel) fun t hf y => ?_
  blk_simp
  rw [after0_2]
  obtain ⟨r, j, rfl⟩ : ∃ (r : Fin 512) (j : Fin 1024), y = ix2 r j := ⟨y 0, y 1, eq_ix2 y⟩
  have hN : t.val < 6 := (idx t).2.2.2
  refine (point m c t r j ⟨t.val / 3 * 512 + r.val, by omega⟩ ⟨t.val % 3 * 1024 + j.val, by omega⟩ rfl rfl).trans ?_
  refine congrArg (result m c) ?_
  blk_ext [idx t]

/-- The kernel's run: the result array holds the projection, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.QkvSampleKernelIdeal.Value

namespace Cert.QkvSampleReferenceIdeal.Value

open Cert.QkvSampleReferenceIdeal Cert.QkvSampleReferenceIdeal.Gen Idealize.ShloMosaic Idealize.ShloMosaic.TcCoe Idealize.SL.Sem Cert.Projections

/-- Both batch rows' tokens in one axis. -/
theorem rows_apply (z : Vec Ideal S128x8x3072 .f32) (r : Fin 1024) (j : Fin 3072) :
    shapeCast S1024x3072 z shapeCasts_S128x8x3072_S1024x3072 (ix2 r j) = z (ix3 ⟨r.val / 8, by omega⟩ ⟨r.val % 8, Nat.mod_lt _ (by decide)⟩ j) := by
  refine shapeCast_apply _ _ _ _ ?_
  refine (Shape.rowMajor_val_three (d := ![128, 8, 3072]) _).trans (Eq.trans ?_ (Shape.rowMajor_val_two (d := ![1024, 3072]) _).symm)
  simp
  omega

/-- The reference's run: its result is the projection, entry by entry, and the arguments are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = (fun i => inSpecSample (m ((c : Thread nD τ).loc main_arg0)) (m ((c : Thread nD τ).loc main_arg1)) (i 0) ⟨(i 1).val, by have : (i 1).val < 3072 := (i 1).isLt; omega⟩ : Vec Ideal S1024x3072 .f32)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans (funext fun i => ?_), (h c).2⟩) (run m ρ)
  obtain ⟨r, j, rfl⟩ : ∃ (r : Fin 1024) (j : Fin 3072), i = ix2 r j := ⟨i 0, i 1, eq_ix2 i⟩
  refine (rows_apply _ r j).trans ?_
  show _ = inSpecSample (m ((c : Thread nD τ).loc main_arg0)) (m ((c : Thread nD τ).loc main_arg1)) r ⟨j.val, by omega⟩
  unfold inSpecSample
  pointwise
  try rfl

end Cert.QkvSampleReferenceIdeal.Value

end
-- ==== Proof.ZxSample.lean ====
module

public import proofs.«01_k».proof.Proof.Gen.ZxSampleKernelIdeal.Value
public import proofs.«01_k».proof.Proof.Gen.ZxSampleReferenceIdeal.Run
public import proofs.«01_k».proof.Proof.ProjSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ZxSampleKernelIdeal.Value

open Cert.ZxSampleKernelIdeal Cert.ZxSampleKernelIdeal.Gen Idealize.ShloMosaic Idealize.ShloMosaic.TcCoe Idealize.SL.Sem Cert.Projections
open Idealize.ShloMosaic.Pipeline (Dat)

variable (m : (ℓ : Loc nD τ sig) → Buf (Elt Ideal) ℓ)

/-- Every window's block index at point `t`: `t / 5` is the tile of rows, `t % 5` the tile of columns. -/
theorem idx : ∀ t : Fin cfg0.N, win0_0.index t = ![t.val / 5, 0] ∧ win0_1.index t = ![0, t.val % 5] ∧ win0_2.index t = ![t.val / 5, t.val % 5] ∧ t.val < 10 :=
  (by decide +kernel : ∀ t : Fin grid0.N, _)

/-- The rows as the launch lays them out. -/
theorem rows_at (c : Dev nD) (r : Fin 1024) (k : Fin 1024) :
    (V m c main_v1 : Vec Ideal S1024x1024 .bf16) (ix2 r k)
      = (m ((c : Thread nD τ).loc main_arg0)) (ix3 ⟨r.val / 8, by omega⟩ ⟨r.val % 8, Nat.mod_lt _ (by decide)⟩ k) := by
  refine (congrFun (show V m c main_v1 = shapeCast S1024x1024 (m ((c : Thread nD τ).loc main_arg0)) shapeCasts_S128x8x1024_S1024x1024 from rfl) _).trans ?_
  refine shapeCast_apply _ _ _ _ ?_
  refine (Shape.rowMajor_val_three (d := ![128, 8, 1024]) _).trans (Eq.trans ?_ (Shape.rowMajor_val_two (d := ![1024, 1024]) _).symm)
  simp
  omega

/-- The weights as the launch prepares them. -/
theorem weight_at (c : Dev nD) (k : Fin 1024) (j : Fin 5120) :
    (V m c main_v2 : Vec Ideal S1024x5120 .bf16) (ix2 k j) = (m ((c : Thread nD τ).loc main_arg1)) (ix2 k ⟨j.val, by omega⟩) := by
  refine (congrFun (show V m c main_v2 = truncf (F := Ideal) .bf16 (extractStridedSlice S1024x5120 ![0, 0] (m ((c : Thread nD τ).loc main_arg1)) slices_S1024x5152_S1024x5120_0_0) bitsLt_bf16_f32 from rfl) _).trans ?_
  pointwise

/-- The stored block, entry by entry. -/
theorem pay1_apply (a : Vec Ideal S512x1024 .bf16) (w : Vec Ideal S1024x1024 .bf16) (r : Fin 512) (j : Fin 1024) :
    k0_pay1 (F := Ideal) a w (ix2 r j) = ∑ k : Fin 1024, HMul.hMul (α := EReal) (β := EReal) (γ := EReal) (a (ix2 r k)) (w (ix2 k j)) := by
  pointwise [k0_pay1]

/-- The result as an array over the kernel's arguments. -/
def result (c : Dev nD) : Vec Ideal S1024x5120 .f32 := fun i =>
  inSpecSample (m ((c : Thread nD τ).loc main_arg0)) (m ((c : Thread nD τ).loc main_arg1)) (i 0) ⟨(i 1).val, by have : (i 1).val < 5120 := (i 1).isLt; omega⟩

/-- The tile of rows at point `t`. -/
theorem blk_rows (c : Dev nD) (t : Fin cfg0.N) (r : Fin 512) (k : Fin 1024) (r' : Fin 1024) (hr : r'.val = t.val / 5 * 512 + r.val) :
    iblk m c 0 t (ix2 r k) = V m c main_v1 (ix2 r' k) := by
  blk_simp [iblk]
  blk_ext [idx t]

/-- The tile of weights at point `t`. -/
theorem blk_weight (c : Dev nD) (t : Fin cfg0.N) (k j : Fin 1024) (j' : Fin 5120) (hj : j'.val = t.val % 5 * 1024 + j.val) :
    iblk m c 1 t (ix2 k j) = V m c main_v2 (ix2 k j') := by
  blk_simp [iblk]
  blk_ext [idx t]

/-- The block that point `t` leaves is the result at its rows and columns. -/
theorem point (c : Dev nD) (t : Fin cfg0.N) (r : Fin 512) (j : Fin 1024) (r' : Fin 1024) (j' : Fin 5120)
    (hr : r'.val = t.val / 5 * 512 + r.val) (hj : j'.val = t.val % 5 * 1024 + j.val) :
    out0_2 (iblk m c 0 t) (iblk m c 1 t) (ix2 r j) = result m c (ix2 r' j') := by
  rw [out0_2]
  frame_out
  rw [pay1_apply]
  show _ = inSpecSample (m ((c : Thread nD τ).loc main_arg0)) (m ((c : Thread nD τ).loc main_arg1)) r' ⟨j'.val, by omega⟩
  unfold inSpecSample
  refine Finset.sum_congr rfl fun k _ => ?_
  rw [blk_rows m c t r k r' hr, blk_weight m c t k j j' hj, rows_at, weight_at]

/-- The result array after the run. -/
theorem final (c : Dev nD) : (dats m 0 c).arrAt 2 cfg0.N = result m c := by
  refine (dats m 0 c).arrAt_eq_of_covers 2 _ (by decide +kernel) fun t hf y => ?_
  blk_simp
  rw [after0_2]
  obtain ⟨r, j, rfl⟩ : ∃ (r : Fin 512) (j : Fin 1024), y = ix2 r j := ⟨y 0, y 1, eq_ix2 y⟩
  have hN : t.val < 10 := (idx t).2.2.2
  refine (point m c t r j ⟨t.val / 5 * 512 + r.val, by omega⟩ ⟨t.val % 5 * 1024 + j.val, by omega⟩ rfl rfl).trans ?_
  refine congrArg (result m c) ?_
  blk_ext [idx t]

/-- The kernel's run: the result array holds the projection, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.ZxSampleKernelIdeal.Value

namespace Cert.ZxSampleReferenceIdeal.Value

open Cert.ZxSampleReferenceIdeal Cert.ZxSampleReferenceIdeal.Gen Idealize.ShloMosaic Idealize.ShloMosaic.TcCoe Idealize.SL.Sem Cert.Projections

/-- Both batch rows' tokens in one axis. -/
theorem rows_apply (z : Vec Ideal S128x8x5120 .f32) (r : Fin 1024) (j : Fin 5120) :
    shapeCast S1024x5120 z shapeCasts_S128x8x5120_S1024x5120 (ix2 r j) = z (ix3 ⟨r.val / 8, by omega⟩ ⟨r.val % 8, Nat.mod_lt _ (by decide)⟩ j) := by
  refine shapeCast_apply _ _ _ _ ?_
  refine (Shape.rowMajor_val_three (d := ![128, 8, 5120]) _).trans (Eq.trans ?_ (Shape.rowMajor_val_two (d := ![1024, 5120]) _).symm)
  simp
  omega

/-- The reference's run: its result is the projection, entry by entry, and the arguments are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = (fun i => inSpecSample (m ((c : Thread nD τ).loc main_arg0)) (m ((c : Thread nD τ).loc main_arg1)) (i 0) ⟨(i 1).val, by have : (i 1).val < 5120 := (i 1).isLt; omega⟩ : Vec Ideal S1024x5120 .f32)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans (funext fun i => ?_), (h c).2⟩) (run m ρ)
  obtain ⟨r, j, rfl⟩ : ∃ (r : Fin 1024) (j : Fin 5120), i = ix2 r j := ⟨i 0, i 1, eq_ix2 i⟩
  refine (rows_apply _ r j).trans ?_
  show _ = inSpecSample (m ((c : Thread nD τ).loc main_arg0)) (m ((c : Thread nD τ).loc main_arg1)) r ⟨j.val, by omega⟩
  unfold inSpecSample
  pointwise
  try rfl

end Cert.ZxSampleReferenceIdeal.Value

end
-- ==== Proof.FfnSample.lean ====
module

public import proofs.«01_k».proof.Proof.Gen.FfnSampleKernelIdeal.Value
public import proofs.«01_k».proof.Proof.Gen.FfnSampleReferenceIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.FfnSampleKernelIdeal.Value

open Cert.FfnSampleKernelIdeal Cert.FfnSampleKernelIdeal.Gen Idealize.ShloMosaic Idealize.ShloMosaic.TcCoe Idealize.SL.Sem
open Idealize.ShloMosaic.Pipeline (Dat)

/-! ## The feed-forward layer as a function of its arguments, entry by entry -/

/-- The normalised, scaled and shifted input at row `(b, l)`, column `d`. -/
def hid (x : Vec Ideal S128x8x1024 .f32) (sh sc : Vec Ideal S128x1x1024 .f32) (nw : Vec Ideal S1024 .f32)
    (b : Fin 128) (l : Fin 8) (d : Fin 1024) : EReal :=
  x (ix3 b l d) * Ideal.rsqrt (Ideal.div (∑ e : Fin 1024, x (ix3 b l e) * x (ix3 b l e)) (Ideal.ofBits FTy.f32 0x44800000#32)
    + Ideal.ofBits FTy.f32 0x358637BD#32) * nw (ix1 d) * (1 + sc (ix3 b 0 d)) + sh (ix3 b 0 d)

/-- A gated unit: the gate's value times its logistic times the other value. -/
def unit (g u : EReal) : EReal := g * Ideal.logistic g * u

/-- A row of 1024 entries against column `j` of the input weights. -/
def proj (h : Fin 1024 → EReal) (w : Vec Ideal S1024x5632 .f32) (j : Fin 5632) : EReal := ∑ e : Fin 1024, h e * w (ix2 e j)

/-- Hidden unit `j` of a row: its gate is column `j` of the input weights, its value column `2816 + j`. -/
def act (h : Fin 1024 → EReal) (w : Vec Ideal S1024x5632 .f32) (j : Fin 2816) : EReal :=
  unit (proj h w ⟨j.val, by omega⟩) (proj h w ⟨2816 + j.val, by omega⟩)

/-- The layer's result at `(b, l, d)`: the input plus half the gate times the hidden units against the output weights. -/
def spec (x : Vec Ideal S128x8x1024 .f32) (sh sc gt : Vec Ideal S128x1x1024 .f32) (nw : Vec Ideal S1024 .f32)
    (wi : Vec Ideal S1024x5632 .f32) (wo : Vec Ideal S2816x1024 .f32) (b : Fin 128) (l : Fin 8) (d : Fin 1024) : EReal :=
  x (ix3 b l d) + Ideal.ofBits FTy.f32 0x3F000000#32 * gt (ix3 b 0 d)
    * ∑ j : Fin 2816, act (hid x sh sc nw b l) wi j * wo (ix2 j d)

/-! ## The kernel's stored values, entry by entry -/

variable (m : (ℓ : Loc nD τ sig) → Buf (Elt Ideal) ℓ)

/-- Every window's block index at point `t`: `t / 2` is the tile of 64 batch rows, `t % 2` the half of the hidden axis. -/
theorem idx : ∀ t : Fin cfg0.N, win0_0.index t = ![t.val / 2, 0, 0] ∧ win0_1.index t = ![t.val / 2, 0, 0]
    ∧ win0_2.index t = ![t.val / 2, 0, 0] ∧ win0_3.index t = ![t.val / 2, 0, 0] ∧ win0_4.index t = ![0, 0, 0]
    ∧ win0_5.index t = ![0, t.val % 2] ∧ win0_6.index t = ![0, t.val % 2 + 2] ∧ win0_7.index t = ![t.val % 2, 0]
    ∧ win0_8.index t = ![t.val / 2, 0, 0] ∧ t.val < 4 :=
  (by decide +kernel : ∀ t : Fin grid0.N, _)

/-- One half of the hidden axis: the units of 1408 columns against 1408 rows of the output weights. -/
theorem pay2_apply (h : Vec Ideal S512x1024 .bf16) (wg wu : Vec Ideal S1024x1408 .bf16) (wo : Vec Ideal S1408x1024 .bf16)
    (r : Fin 512) (d : Fin 1024) :
    k0_pay2 (F := Ideal) h wg wu wo (ix2 r d) = ∑ j : Fin 1408, unit (∑ e : Fin 1024, h (ix2 r e) * wg (ix2 e j))
      (∑ e : Fin 1024, h (ix2 r e) * wu (ix2 e j)) * wo (ix2 j d) := by
  pointwise [k0_pay2, unit]

/-- The normalised block stored at point `t`. -/
theorem pay1_point (c : Dev nD) (t : Fin cfg0.N) (r : Fin 512) (d : Fin 1024) (b : Fin 128) (l : Fin 8)
    (hb : b.val = t.val / 2 * 64 + r.val / 8) (hl : l.val = r.val % 8) :
    k0_pay1 (F := Ideal) (iblk m c 0 t) (iblk m c 4 t) (iblk m c 2 t) (iblk m c 1 t) (ix2 r d)
      = hid (m ((c : Thread nD τ).loc main_arg0)) (m ((c : Thread nD τ).loc main_arg1)) (m ((c : Thread nD τ).loc main_arg2))
          (m ((c : Thread nD τ).loc main_arg4)) b l d := by
  pointwise [k0_pay1, hid]
  blk_point [iblk, V, idx t]

/-- The half of the hidden axis that point `t` adds. -/
theorem pay2_point (c : Dev nD) (t : Fin cfg0.N) (h : Vec Ideal S512x1024 .bf16) (hr : Fin 1024 → EReal) (r : Fin 512) (d : Fin 1024)
    (hh : ∀ e : Fin 1024, h (ix2 r e) = hr e) (k : ℕ) (hk : t.val % 2 = k) (hk2 : k < 2) :
    k0_pay2 (F := Ideal) h (iblk m c 5 t) (iblk m c 6 t) (iblk m c 7 t) (ix2 r d)
      = ∑ j : Fin 1408, act hr (m ((c : Thread nD τ).loc main_arg5)) ⟨k * 1408 + j.val, by omega⟩
          * m ((c : Thread nD τ).loc main_arg6) (ix2 ⟨k * 1408 + j.val, by omega⟩ d) := by
  subst hk
  rw [pay2_apply]
  simp only [hh, act, proj]
  blk_point [iblk, V, idx t]

/-- The two scratch buffers after an even point: the normalised block, and the first half's product. -/
theorem outs_even (c : Dev nD) (t : Fin cfg0.N) (h : t.val % 2 = 0) : (outsAt0 m c t.val t.isLt).2 =
    (k0_pay1 (iblk m c 0 t) (iblk m c 4 t) (iblk m c 2 t) (iblk m c 1 t),
      k0_pay3 (k0_pay1 (iblk m c 0 t) (iblk m c 4 t) (iblk m c 2 t) (iblk m c 1 t)) (iblk m c 5 t) (iblk m c 6 t) (iblk m c 7 t)) := by
  rw [outsAt0_A m c t h h (by omega) (by omega)]
  frame_out

/-- The output block after an odd point, over the scratch that the point before left. -/
theorem outs_odd (c : Dev nD) (t : Fin cfg0.N) (h : t.val % 2 = 1) (p : Fin cfg0.N) (hp : p.val = t.val - 1) :
    (outsAt0 m c t.val t.isLt).1 = k0_pay5 (iblk m c 0 t) (iblk m c 3 t)
      (k0_pay4 (outsAt0 m c p.val p.isLt).2.1 (iblk m c 5 t) (iblk m c 6 t) (iblk m c 7 t) (outsAt0 m c p.val p.isLt).2.2) := by
  obtain ⟨p, hlt⟩ := p
  dsimp only at hp
  subst hp
  rw [outsAt0_B m c t (by omega) (by omega) h h]
  frame_out
  simp only [read_unread_whole]

/-- What the last step of a row tile makes of the input, the gate and the two halves' products. -/
theorem pay5_apply (x : Vec Ideal S64x8x1024 .f32) (g : Vec Ideal S64x1x1024 .f32) (a : Vec Ideal S512x1024 .f32) (s : Fin 64) (l : Fin 8) (d : Fin 1024) :
    k0_pay5 (F := Ideal) x g a (ix3 s l d)
      = x (ix3 s l d) + Ideal.ofBits FTy.f32 0x3F000000#32 * g (ix3 s 0 d) * a (ix2 ⟨s.val * 8 + l.val, by omega⟩ d) := by
  pointwise [k0_pay5]

/-- What the second half's step adds to the scratch. -/
theorem pay4_apply (h : Vec Ideal S512x1024 .bf16) (wg wu : Vec Ideal S1024x1408 .bf16) (wo : Vec Ideal S1408x1024 .bf16)
    (a : Vec Ideal S512x1024 .f32) (r : Fin 512) (d : Fin 1024) :
    k0_pay4 (F := Ideal) h wg wu wo a (ix2 r d) = a (ix2 r d) + k0_pay2 (F := Ideal) h wg wu wo (ix2 r d) := by
  pointwise [k0_pay4]

/-- What the first half's step stores in the scratch. -/
theorem pay3_apply (h : Vec Ideal S512x1024 .bf16) (wg wu : Vec Ideal S1024x1408 .bf16) (wo : Vec Ideal S1408x1024 .bf16)
    (r : Fin 512) (d : Fin 1024) :
    k0_pay3 (F := Ideal) h wg wu wo (ix2 r d) = k0_pay2 (F := Ideal) h wg wu wo (ix2 r d) := by
  pointwise [k0_pay3]

/-- The layer's result as an array over the kernel's arguments. -/
def result (c : Dev nD) : Vec Ideal S128x8x1024 .f32 := fun i =>
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 2)

/-- The output block after an odd point is the layer's result at the rows of its tile. -/
theorem point (c : Dev nD) (t : Fin cfg0.N) (h : t.val % 2 = 1) (s : Fin 64) (l : Fin 8) (d : Fin 1024) (b : Fin 128)
    (hb : b.val = t.val / 2 * 64 + s.val) :
    (outsAt0 m c t.val t.isLt).1 (ix3 s l d) = result m c (ix3 b l d) := by
  have hN : t.val < 4 := (idx t).2.2.2.2.2.2.2.2.2
  obtain ⟨p, hp⟩ : ∃ p : Fin cfg0.N, p.val = t.val - 1 := ⟨⟨t.val - 1, by have := t.isLt; omega⟩, rfl⟩
  have hpe : p.val % 2 = 0 := by omega
  rw [outs_odd m c t h p hp, outs_even m c p hpe, pay5_apply, pay4_apply]
  dsimp only
  have h1 := fun e => pay1_point m c p ⟨s.val * 8 + l.val, by omega⟩ e b l (by simp only; omega) (by simp only; omega)
  rw [pay3_apply, pay2_point m c t _ _ _ d h1 1 h (by omega), pay2_point m c p _ _ _ d h1 0 hpe (by omega)]
  show _ = spec _ _ _ _ _ _ _ b l d
  unfold spec
  rw [Fin.sum_univ_two_halves 1408 1408 rfl]
  blk_point [iblk, V, idx t]

/-- The result array after the run. -/
theorem final (c : Dev nD) : (dats m 0 c).arrAt 8 cfg0.N = result m c := by
  refine (dats m 0 c).arrAt_eq_of_covers 8 _ (by decide +kernel) fun t hf y => ?_
  have hm : t.val % 2 = 1 := (flush0_8 t).mp hf
  blk_simp
  rw [after0_8]
  obtain ⟨s, l, d, rfl⟩ : ∃ (s : Fin 64) (l : Fin 8) (d : Fin 1024), y = ix3 s l d := ⟨y 0, y 1, y 2, eq_ix3 y⟩
  have hN : t.val < 4 := (idx t).2.2.2.2.2.2.2.2.2
  refine (point m c t hm s l d ⟨t.val / 2 * 64 + s.val, by omega⟩ rfl).trans ?_
  refine congrArg (result m c) ?_
  blk_ext [idx t]

/-- The kernel's run: the result array holds the layer's result, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final8 m c).symm.trans (final m c)), (h c).2⟩) (run m ρ)

end Cert.FfnSampleKernelIdeal.Value

namespace Cert.FfnSampleReferenceIdeal.Value

open Cert.FfnSampleReferenceIdeal Cert.FfnSampleReferenceIdeal.Gen Idealize.ShloMosaic Idealize.ShloMosaic.TcCoe Idealize.SL.Sem

/-- The reference's term is the same function, entry by entry. -/
theorem ref_apply (m : (ℓ : Loc nD τ sig) → Buf (Elt Ideal) ℓ) (c : Dev nD) (b : Fin 128) (l : Fin 8) (d : Fin 1024) :
   (res_main_v29 (F := Ideal) m c : Vec Ideal S128x8x1024 .f32) (ix3 b l d) =
    Cert.FfnSampleKernelIdeal.Value.spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b l d := by
  pointwise [res_main_v29]
  rfl

/-- The reference's run: its result is the layer's, entry by entry, and the arguments are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v29) = (fun i => Cert.FfnSampleKernelIdeal.Value.spec (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (i 0) (i 1) (i 2) : Vec Ideal S128x8x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ⟨(h c).1.trans (funext fun i => ?_), (h c).2⟩) (run m ρ)
  obtain ⟨b, l, d, rfl⟩ : ∃ (b : Fin 128) (l : Fin 8) (d : Fin 1024), i = ix3 b l d := ⟨i 0, i 1, i 2, eq_ix3 i⟩
  exact ref_apply m c b l d

end Cert.FfnSampleReferenceIdeal.Value

end
-- ==== Proof.RotarySpec.lean ====
module

public import Idealize.ShloMosaic.Lib.Pointwise
public import Idealize.ShloMosaic.Lib.Claim

@[expose] public section

noncomputable section

/-! # The norm and rotation of the attention's queries and keys over the extended reals, entry by entry -/

namespace Cert.Rotation

open Idealize.ShloMosaic

/-- Entry `d` of a head of 64 entries, normalised by its root mean square and weighted. -/
def normed (x : Fin 64 → EReal) (w : EReal) (d : Fin 64) : EReal :=
  x d * Ideal.rsqrt (Ideal.div (∑ e : Fin 64, x e * x e) (Ideal.ofBits FTy.f32 0x42800000#32) + Ideal.ofBits FTy.f32 0x358637BD#32) * w

/-- Entry `d` of a head whose first sixteen entries are rotated, eight pairs, by angles of given cosines and sines. -/
def rotated (y : Fin 64 → EReal) (co si : Fin 8 → EReal) (d : Fin 64) : EReal :=
  if h : d.val < 8 then y d * co ⟨d.val, h⟩ - y ⟨d.val + 8, by omega⟩ * si ⟨d.val, h⟩
  else if h' : d.val < 16 then y d * co ⟨d.val - 8, by omega⟩ + y ⟨d.val - 8, by omega⟩ * si ⟨d.val - 8, by omega⟩
  else y d

/-- A head's row of cosines: once for each half of the pairs, then ones. -/
def cosRow (co : Fin 8 → EReal) (d : Fin 64) : EReal :=
  if h : d.val < 8 then co ⟨d.val, h⟩ else if h' : d.val < 16 then co ⟨d.val - 8, by omega⟩ else 1

/-- A head's row of sines: negated for the first half of the pairs, as they are for the second, then zeros. -/
def sinRow (si : Fin 8 → EReal) (d : Fin 64) : EReal :=
  if h : d.val < 8 then -si ⟨d.val, h⟩ else if h' : d.val < 16 then si ⟨d.val - 8, by omega⟩ else 0

/-- The angle of pair `j` at a position: the position times the base to the power minus `j / 8`. -/
def angle (p : BitVec 32) (j : Fin 8) : EReal :=
  FloatOps.mulf (F := Ideal) (φ := .f32) (FloatOps.sitofp (F := Ideal) .f32 p) (Ideal.pow (Ideal.ofBits FTy.f32 0x48F42400#32)
    (Ideal.div (-(FloatOps.sitofp (F := Ideal) .f32 (BitVec.ofNat 32 j.val))) (Ideal.ofBits FTy.f32 0x41000000#32)))

/-- Part `o` of the projection (0 the queries, 1 the keys) at batch row `b`, token `l`, head `h`, entry `d`. -/
def entry {B L : ℕ} (x : Vec Ideal ⟨3, ![B, L, 3072]⟩ .f32) (pos : Vec Ideal ⟨1, ![L]⟩ .i32) (w : Vec Ideal ⟨1, ![64]⟩ .f32)
    (o : Fin 2) (b : Fin B) (l : Fin L) (h : Fin 16) (d : Fin 64) : EReal :=
  rotated (fun e => normed (fun e' => x (ix3 b l ⟨o.val * 1024 + h.val * 64 + e'.val, by omega⟩)) (w (ix1 e)) e)
    (fun j => Ideal.cos (angle (pos (ix1 l)) j)) (fun j => Ideal.sin (angle (pos (ix1 l)) j)) d

/-- The word of 64 is 64. -/
theorem word_64 : Ideal.ofBits FTy.f32 0x42800000#32 = ((64 : ℝ) : EReal) := by
  simp [Ideal.ofBits, Ideal.ieee, -EReal.coe_mul]; norm_num

/-- The word of a sixty-fourth is a sixty-fourth. -/
theorem word_inv_64 : Ideal.ofBits FTy.f32 0x3C800000#32 = ((1 / 64 : ℝ) : EReal) := by
  simp [Ideal.ofBits, Ideal.ieee, -EReal.coe_mul]; norm_num

/-- Division by 64 is multiplication by a sixty-fourth. -/
theorem div_64 (x : EReal) : x * Ideal.ofBits FTy.f32 0x3C800000#32 = Ideal.div x (Ideal.ofBits FTy.f32 0x42800000#32) := by
  rw [word_64, word_inv_64]
  exact (Ideal.div_coe (by norm_num : (64 : ℝ) ≠ 0) x).symm

/-- A choice by a decided bit. -/
theorem choice (p : Prop) [Decidable p] (a b : EReal) : Scalar.select (if p then 1#1 else 0#1) a b = if p then a else b := by
  by_cases h : p <;> simp [h, Scalar.select]

/-- Of two masked sums over a pair of heads the one chosen at a lane is the sum over that lane's head. -/
theorem pair_sum (f : Fin 128 → EReal) (q : Fin 2) (i : Fin 128) (hi : i.val / 64 = q.val) :
    (if i.val < 64 then ∑ k : Fin 128, (if k.val < 64 then f k else 0) else ∑ k : Fin 128, (if k.val < 64 then 0 else f k))
      = ∑ e : Fin 64, f ⟨q.val * 64 + e.val, by omega⟩ := by
  have hl : ∀ k : Fin 64, k.val < 64 := fun k => k.isLt
  have hr : ∀ k : Fin 64, ¬ (64 + k.val < 64) := fun k => by omega
  rw [Fin.sum_univ_two_halves 64 64 rfl, Fin.sum_univ_two_halves 64 64 rfl]
  simp only [hl, hr, if_true, if_false, Finset.sum_const_zero, add_zero, zero_add]
  by_cases h : i.val < 64
  · rw [if_pos h]
    refine Finset.sum_congr rfl fun e _ => congrArg f (Fin.ext ?_)
    simp only
    omega
  · rw [if_neg h]
    refine Finset.sum_congr rfl fun e _ => congrArg f (Fin.ext ?_)
    simp only
    omega

/-- A lane's value: its entry times the cosine, plus the entry eight lanes on or back times the sine, both taken from tables laid
    out over a pair of heads, is the rotated entry. -/
theorem lane (Y c s : Fin 128 → EReal) (co si : Fin 8 → EReal) (q : Fin 2) (d : Fin 64) (i u v : Fin 128)
    (hi : i.val = q.val * 64 + d.val) (hu : u.val = (i.val + 128 - 120) % 128) (hv : v.val = (i.val + 128 - 8) % 128)
    (hc : c i = cosRow co d) (hs : s i = sinRow si d) :
    Y i * c i + (if i.val % 64 < 8 then Y u else Y v) * s i = rotated (fun e => Y ⟨q.val * 64 + e.val, by omega⟩) co si d := by
  rw [hc, hs]
  unfold cosRow sinRow rotated
  have hY : Y i = Y ⟨q.val * 64 + d.val, by omega⟩ := congrArg Y (Fin.ext hi)
  by_cases h : d.val < 8
  · have hlt : i.val % 64 < 8 := by omega
    have huu : u = ⟨q.val * 64 + (d.val + 8), by omega⟩ := Fin.ext (by simp only; omega)
    rw [dif_pos h, dif_pos h, dif_pos h, if_pos hlt, huu, hY, mul_neg, ← sub_eq_add_neg]
  · have hlt : ¬ i.val % 64 < 8 := by omega
    rw [dif_neg h, dif_neg h, dif_neg h, if_neg hlt]
    by_cases h' : d.val < 16
    · have hvv : v = ⟨q.val * 64 + (d.val - 8), by omega⟩ := Fin.ext (by simp only; omega)
      rw [dif_pos h', dif_pos h', dif_pos h', hvv, hY]
    · rw [dif_neg h', dif_neg h', dif_neg h', mul_one, mul_zero, add_zero, hY]

end Cert.Rotation

end
-- ==== Proof.Rotary.lean ====
module

public import proofs.«01_k».proof.Proof.Gen.RotaryKernelIdeal.Value
public import proofs.«01_k».proof.Proof.Gen.RotaryReferenceIdeal.Run
public import proofs.«01_k».proof.Proof.RotarySpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

/-! # The norm and rotation of queries and keys: what the kernel and the reference compute -/

namespace Cert.RotaryKernelIdeal.Value

open Cert.RotaryKernelIdeal Cert.RotaryKernelIdeal.Gen Idealize.ShloMosaic Idealize.ShloMosaic.TcCoe Idealize.SL.Sem Cert.Rotation
open Idealize.ShloMosaic.Pipeline (Dat)

variable (m : (ℓ : Loc nD τ sig) → Buf (Elt Ideal) ℓ)

/-- The windows' block indices at point `t`: a tile of batch rows, a tile of tokens, a pair of heads. -/
theorem idx : ∀ t : Fin cfg0.N, win0_0.index t = ![t.val / 128, t.val / 8 % 16, t.val % 8] ∧ win0_1.index t = ![t.val / 128, t.val / 8 % 16, t.val % 8 + 8]
    ∧ win0_2.index t = ![t.val / 8 % 16, 0] ∧ win0_3.index t = ![t.val / 8 % 16, 0] ∧ win0_4.index t = ![0, 0] ∧ win0_5.index t = ![0, 0]
    ∧ win0_6.index t = ![t.val / 128, t.val / 8 % 16, t.val % 8] ∧ win0_7.index t = ![t.val / 128, t.val / 8 % 16, t.val % 8] ∧ t.val < 256 :=
  (by decide +kernel : ∀ t : Fin grid0.N, _)

/-- The bit that tells the first head of a pair. -/
theorem low_apply (r : Fin 512) (i : Fin 128) : k0_pay2 (ix2 r i) = if i.val < 64 then 1#1 else 0#1 := by
  pointwise [k0_pay2]
  revert i; decide +kernel

/-- The bit that tells the first eight entries of a head. -/
theorem first_apply (r : Fin 512) (i : Fin 128) : k0_pay3 (ix2 r i) = if i.val % 64 < 8 then 1#1 else 0#1 := by
  pointwise [k0_pay3]
  revert i; decide +kernel

/-- The normalised lane. -/
def norm (x : Fin 128 → EReal) (w : Fin 128 → EReal) (i : Fin 128) : EReal :=
  x i * Ideal.rsqrt ((if i.val < 64 then ∑ k : Fin 128, (if k.val < 64 then x k * x k else 0) else ∑ k : Fin 128, (if k.val < 64 then 0 else x k * x k))
    * Ideal.ofBits FTy.f32 0x3C800000#32 + Ideal.ofBits FTy.f32 0x358637BD#32) * w i

/-- A normalised lane is the head's normalised entry. -/
theorem norm_eq (x w : Fin 128 → EReal) (q : Fin 2) (d : Fin 64) :
    norm x w ⟨q.val * 64 + d.val, by omega⟩ = normed (fun e => x ⟨q.val * 64 + e.val, by omega⟩) (w ⟨q.val * 64 + d.val, by omega⟩) d := by
  unfold norm normed
  rw [pair_sum (fun k => x k * x k) q _ (by simp only; omega), div_64]

/-- The queries' stored value, lane by lane. -/
theorem pay10_apply (co si : Vec Ideal S512x128 .f32) (x : Vec Ideal S1x512x128 .f32) (w : Vec Ideal S1x128 .f32) (r : Fin 512) (i : Fin 128) :
    k0_pay10 (F := Ideal) k0_pay2 k0_pay3 (k0_pay4 co) (k0_pay5 si) (k0_pay6 x) (k0_pay7 w) (k0_pay8 x) (k0_pay9 x) (ix3 0 r i)
      = norm (fun i => x (ix3 0 r i)) (fun i => w (ix2 0 i)) i * co (ix2 r i)
        + (if i.val % 64 < 8 then norm (fun i => x (ix3 0 r i)) (fun i => w (ix2 0 i)) ⟨(i.val + 128 - 120) % 128, Nat.mod_lt _ (by decide)⟩
          else norm (fun i => x (ix3 0 r i)) (fun i => w (ix2 0 i)) ⟨(i.val + 128 - 8) % 128, Nat.mod_lt _ (by decide)⟩) * si (ix2 r i) := by
  pointwise [k0_pay10, k0_pay4, k0_pay5, k0_pay6, k0_pay7, k0_pay8, k0_pay9]
  simp only [low_apply, first_apply, choice]
  rfl

/-- The keys' stored value, lane by lane. -/
theorem pay1_apply (co si : Vec Ideal S512x128 .f32) (x : Vec Ideal S1x512x128 .f32) (w : Vec Ideal S1x128 .f32) (r : Fin 512) (i : Fin 128) :
    k0_pay1 (F := Ideal) k0_pay2 k0_pay3 (k0_pay4 co) (k0_pay5 si) (k0_pay11 x) (k0_pay12 w) (k0_pay14 k0_pay2 x) (k0_pay15 k0_pay2 x) (ix3 0 r i)
      = norm (fun i => x (ix3 0 r i)) (fun i => w (ix2 0 i)) i * co (ix2 r i)
        + (if i.val % 64 < 8 then norm (fun i => x (ix3 0 r i)) (fun i => w (ix2 0 i)) ⟨(i.val + 128 - 120) % 128, Nat.mod_lt _ (by decide)⟩
          else norm (fun i => x (ix3 0 r i)) (fun i => w (ix2 0 i)) ⟨(i.val + 128 - 8) % 128, Nat.mod_lt _ (by decide)⟩) * si (ix2 r i) := by
  pointwise [k0_pay1, k0_pay4, k0_pay5, k0_pay11, k0_pay12, k0_pay13, k0_pay14, k0_pay15]
  simp only [low_apply, first_apply, choice]
  rfl

/-! ## The tables -/

/-- The angles of the positions. -/
def angles (pos : Vec Ideal S8192 .i32) : FVec Ideal S8192x8 .f32 :=
  (mulf (broadcastInDim S8192x8 ![0, 1] bcast_S8192x1_S8192x8_0_1 (broadcastInDim S8192x1 ![0] bcast_S8192_S8192x1_0 (sitofp .f32 pos))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))))

theorem angles_apply (pos : Vec Ideal S8192 .i32) (l : Fin 8192) (j : Fin 8) : angles pos (ix2 l j) = angle (pos (ix1 l)) j := by
  pointwise [angles, angle]

/-- The cosines of one head. -/
def cosHead (pos : Vec Ideal S8192 .i32) : FVec Ideal S8192x64 .f32 :=
  concatenate S8192x64 1 [⟨S8192x8, Host.cos (angles pos)⟩, ⟨S8192x8, Host.cos (angles pos)⟩, ⟨S8192x48, broadcastInDim S8192x48 ![] bcast_S_S8192x48 (constant S_ .f32 0x3F800000#32)⟩] concatenates_S8192x8_S8192x8_S8192x48_S8192x64_d1

/-- The sines of one head. -/
def sinHead (pos : Vec Ideal S8192 .i32) : FVec Ideal S8192x64 .f32 :=
  concatenate S8192x64 1 [⟨S8192x8, Host.negf (Host.sin (angles pos))⟩, ⟨S8192x8, Host.sin (angles pos)⟩, ⟨S8192x48, mulf (broadcastInDim S8192x48 ![] bcast_S_S8192x48 (constant S_ .f32 0x00000000#32)) (broadcastInDim S8192x48 ![] bcast_S_S8192x48 (constant S_ .f32 0x3F800000#32))⟩] concatenates_S8192x8_S8192x8_S8192x48_S8192x64_d1

theorem cosHead_apply (pos : Vec Ideal S8192 .i32) (l : Fin 8192) (d : Fin 64) :
    cosHead pos (ix2 l d) = cosRow (fun j => Ideal.cos (angle (pos (ix1 l)) j)) d := by
  pointwise [cosHead, cosRow]
  simp only [angles_apply]
  by_cases h : d.val < 8
  · rw [dif_pos h, dif_pos h]
  · rw [dif_neg h, dif_neg h]
    by_cases h' : d.val < 16
    · rw [dif_pos h', dif_pos (by omega)]
    · rw [dif_neg h', dif_neg (by omega)]

theorem sinHead_apply (pos : Vec Ideal S8192 .i32) (l : Fin 8192) (d : Fin 64) :
    sinHead pos (ix2 l d) = sinRow (fun j => Ideal.sin (angle (pos (ix1 l)) j)) d := by
  pointwise [sinHead, sinRow]
  simp only [angles_apply]
  by_cases h : d.val < 8
  · rw [dif_pos h, dif_pos h]
  · rw [dif_neg h, dif_neg h]
    by_cases h' : d.val < 16
    · rw [dif_pos h', dif_pos (by omega)]
    · rw [dif_neg h', dif_neg (by omega)]

/-- The table of cosines, over a pair of heads. -/
theorem cos_at (c : Dev nD) (l : Fin 8192) (q : Fin 2) (d : Fin 64) :
    (V m c main_v20 : Vec Ideal S8192x128 .f32) (ix2 l ⟨q.val * 64 + d.val, by omega⟩)
      = cosRow (fun j => Ideal.cos (angle ((m ((c : Thread nD τ).loc main_arg1) : Vec Ideal S8192 .i32) (ix1 l)) j)) d := by
  refine (congrFun (show V m c main_v20 = concatenate S8192x128 1 [⟨S8192x64, cosHead (m ((c : Thread nD τ).loc main_arg1))⟩, ⟨S8192x64, cosHead (m ((c : Thread nD τ).loc main_arg1))⟩] concatenates_S8192x64_S8192x64_S8192x128_d1 from rfl) _).trans ?_
  rw [← cosHead_apply]
  generalize cosHead _ = z
  pointwise
  split <;> exact congrArg (fun e => z (ix2 l e)) (Fin.ext (by simp only; omega))

/-- The table of sines, over a pair of heads. -/
theorem sin_at (c : Dev nD) (l : Fin 8192) (q : Fin 2) (d : Fin 64) :
    (V m c main_v21 : Vec Ideal S8192x128 .f32) (ix2 l ⟨q.val * 64 + d.val, by omega⟩)
      = sinRow (fun j => Ideal.sin (angle ((m ((c : Thread nD τ).loc main_arg1) : Vec Ideal S8192 .i32) (ix1 l)) j)) d := by
  refine (congrFun (show V m c main_v21 = concatenate S8192x128 1 [⟨S8192x64, sinHead (m ((c : Thread nD τ).loc main_arg1))⟩, ⟨S8192x64, sinHead (m ((c : Thread nD τ).loc main_arg1))⟩] concatenates_S8192x64_S8192x64_S8192x128_d1 from rfl) _).trans ?_
  rw [← sinHead_apply]
  generalize sinHead _ = z
  pointwise
  split <;> exact congrArg (fun e => z (ix2 l e)) (Fin.ext (by simp only; omega))

/-- A head's weights, once for each head of the pair. -/
def twice (w : Vec Ideal S64 .f32) : Vec Ideal S1x128 .f32 :=
  shapeCast S1x128 (shapeCast S128 (broadcastInDim S2x64 ![0, 1] bcast_S1x64_S2x64_0_1 (shapeCast S1x64 w shapeCasts_S64_S1x64)) shapeCasts_S2x64_S128) shapeCasts_S128_S1x128

theorem twice_apply (w : Vec Ideal S64 .f32) (q : Fin 2) (d : Fin 64) : twice w (ix2 0 ⟨q.val * 64 + d.val, by omega⟩) = w (ix1 d) := by
  pointwise [twice]

/-- The queries' tile at point `t`. -/
theorem blk_x0 (c : Dev nD) (t : Fin cfg0.N) (r : Fin 512) (q : Fin 2) (e : Fin 64) (b : Fin 2) (l : Fin 8192) (h : Fin 16)
    (hb : b.val = t.val / 128) (hl : l.val = t.val / 8 % 16 * 512 + r.val) (hh : h.val = t.val % 8 * 2 + q.val) :
    iblk m c 0 t (ix3 0 r ⟨q.val * 64 + e.val, by omega⟩) = (m ((c : Thread nD τ).loc main_arg0)) (ix3 b l ⟨(0 : Fin 2).val * 1024 + h.val * 64 + e.val, by show 0 * 1024 + h.val * 64 + e.val < 3072; omega⟩) := by
  blk_simp [iblk]
  refine congrArg (m ((c : Thread nD τ).loc main_arg0)) ?_
  blk_ext [idx t]

/-- The queries' weights at point `t`. -/
theorem blk_w0 (c : Dev nD) (t : Fin cfg0.N) (q : Fin 2) (d : Fin 64) :
    iblk m c 4 t (ix2 0 ⟨q.val * 64 + d.val, by omega⟩) = (m ((c : Thread nD τ).loc main_arg2)) (ix1 d) := by
  refine Eq.trans ?_ (twice_apply (m ((c : Thread nD τ).loc main_arg2)) q d)
  show _ = V m c main_v25 _
  blk_simp [iblk]
  blk_ext [idx t]

/-- The keys' tile at point `t`. -/
theorem blk_x1 (c : Dev nD) (t : Fin cfg0.N) (r : Fin 512) (q : Fin 2) (e : Fin 64) (b : Fin 2) (l : Fin 8192) (h : Fin 16)
    (hb : b.val = t.val / 128) (hl : l.val = t.val / 8 % 16 * 512 + r.val) (hh : h.val = t.val % 8 * 2 + q.val) :
    iblk m c 1 t (ix3 0 r ⟨q.val * 64 + e.val, by omega⟩) = (m ((c : Thread nD τ).loc main_arg0)) (ix3 b l ⟨(1 : Fin 2).val * 1024 + h.val * 64 + e.val, by show 1 * 1024 + h.val * 64 + e.val < 3072; omega⟩) := by
  blk_simp [iblk]
  refine congrArg (m ((c : Thread nD τ).loc main_arg0)) ?_
  blk_ext [idx t]

/-- The keys' weights at point `t`. -/
theorem blk_w1 (c : Dev nD) (t : Fin cfg0.N) (q : Fin 2) (d : Fin 64) :
    iblk m c 5 t (ix2 0 ⟨q.val * 64 + d.val, by omega⟩) = (m ((c : Thread nD τ).loc main_arg3)) (ix1 d) := by
  refine Eq.trans ?_ (twice_apply (m ((c : Thread nD τ).loc main_arg3)) q d)
  show _ = V m c main_v29 _
  blk_simp [iblk]
  blk_ext [idx t]

/-- The tile of coses at point `t`. -/
theorem blk_cos (c : Dev nD) (t : Fin cfg0.N) (r : Fin 512) (q : Fin 2) (d : Fin 64) (l : Fin 8192) (hl : l.val = t.val / 8 % 16 * 512 + r.val) :
    iblk m c 2 t (ix2 r ⟨q.val * 64 + d.val, by omega⟩)
      = cosRow (fun j => Ideal.cos (angle (((m ((c : Thread nD τ).loc main_arg1)) : Vec Ideal S8192 .i32) (ix1 l)) j)) d := by
  refine Eq.trans ?_ (cos_at m c l q d)
  blk_simp [iblk]
  blk_ext [idx t]

/-- The tile of sines at point `t`. -/
theorem blk_sin (c : Dev nD) (t : Fin cfg0.N) (r : Fin 512) (q : Fin 2) (d : Fin 64) (l : Fin 8192) (hl : l.val = t.val / 8 % 16 * 512 + r.val) :
    iblk m c 3 t (ix2 r ⟨q.val * 64 + d.val, by omega⟩)
      = sinRow (fun j => Ideal.sin (angle (((m ((c : Thread nD τ).loc main_arg1)) : Vec Ideal S8192 .i32) (ix1 l)) j)) d := by
  refine Eq.trans ?_ (sin_at m c l q d)
  blk_simp [iblk]
  blk_ext [idx t]

/-- The queries as an array over the kernel's arguments. -/
def result0 (c : Dev nD) : Vec Ideal S2x8192x1024 .f32 := fun i =>
  entry (m ((c : Thread nD τ).loc main_arg0)) (m ((c : Thread nD τ).loc main_arg1)) (m ((c : Thread nD τ).loc main_arg2)) 0 (i 0) (i 1) ⟨(i 2).val / 64, by have : (i 2).val < 1024 := (i 2).isLt; omega⟩ ⟨(i 2).val % 64, Nat.mod_lt _ (by decide)⟩

/-- The tile of queries that point `t` leaves. -/
theorem point0 (c : Dev nD) (t : Fin cfg0.N) (r : Fin 512) (q : Fin 2) (d : Fin 64) (b : Fin 2) (l : Fin 8192) (h : Fin 16)
    (hb : b.val = t.val / 128) (hl : l.val = t.val / 8 % 16 * 512 + r.val) (hh : h.val = t.val % 8 * 2 + q.val) :
    out0_6 (iblk m c 0 t) (iblk m c 1 t) (iblk m c 2 t) (iblk m c 3 t) (iblk m c 4 t) (iblk m c 5 t) (ix3 0 r ⟨q.val * 64 + d.val, by omega⟩)
      = entry (m ((c : Thread nD τ).loc main_arg0)) (m ((c : Thread nD τ).loc main_arg1)) (m ((c : Thread nD τ).loc main_arg2)) 0 b l h d := by
  unfold out0_6 k0_pay19 k0_pay18 k0_pay17 k0_pay16
  frame_out
  refine (pay10_apply _ _ _ _ r _).trans ?_
  refine (lane (norm _ _) (fun i => iblk m c 2 t (ix2 r i)) (fun i => iblk m c 3 t (ix2 r i)) _ _ q d _ _ _ rfl rfl rfl
    (blk_cos m c t r q d l hl) (blk_sin m c t r q d l hl)).trans ?_
  refine congrArg (fun f => rotated f _ _ d) (funext fun e => ?_)
  refine (norm_eq _ _ q e).trans ?_
  exact congr (congr (congrArg normed (funext fun e' => blk_x0 m c t r q e' b l h hb hl hh)) (blk_w0 m c t q e)) rfl

/-- The queries after the run. -/
theorem final0 (c : Dev nD) : (dats m 0 c).arrAt 6 cfg0.N = result0 m c := by
  refine (dats m 0 c).arrAt_eq_of_covers 6 _ (by decide +kernel) fun t hf y => ?_
  blk_simp
  rw [after0_6]
  obtain ⟨s, r, i, rfl⟩ : ∃ (s : Fin 1) (r : Fin 512) (i : Fin 128), y = ix3 s r i := ⟨y 0, y 1, y 2, eq_ix3 y⟩
  have hN : t.val < 256 := (idx t).2.2.2.2.2.2.2.2
  obtain ⟨q, d, rfl⟩ : ∃ (q : Fin 2) (d : Fin 64), i = ⟨q.val * 64 + d.val, by omega⟩ :=
    ⟨⟨i.val / 64, by omega⟩, ⟨i.val % 64, Nat.mod_lt _ (by decide)⟩, Fin.ext (by simp only; omega)⟩
  obtain rfl : s = 0 := Subsingleton.elim _ _
  refine (point0 m c t r q d ⟨t.val / 128, by omega⟩ ⟨t.val / 8 % 16 * 512 + r.val, by omega⟩ ⟨t.val % 8 * 2 + q.val, by omega⟩ rfl rfl rfl).trans ?_
  have hj : t.val % 8 * 128 + (q.val * 64 + d.val) < 1024 := by omega
  refine Eq.trans ?_ (congrArg (result0 m c) (a₁ := ix3 ⟨t.val / 128, by omega⟩ ⟨t.val / 8 % 16 * 512 + r.val, by omega⟩ ⟨t.val % 8 * 128 + (q.val * 64 + d.val), hj⟩) ?_)
  · show _ = entry (m ((c : Thread nD τ).loc main_arg0)) (m ((c : Thread nD τ).loc main_arg1)) (m ((c : Thread nD τ).loc main_arg2)) 0 _ _ _ _
    exact congr (congrArg (entry (m ((c : Thread nD τ).loc main_arg0)) (m ((c : Thread nD τ).loc main_arg1)) (m ((c : Thread nD τ).loc main_arg2)) 0 _ _) (Fin.ext (by show t.val % 8 * 2 + q.val = (t.val % 8 * 128 + (q.val * 64 + d.val)) / 64; omega)))
      (Fin.ext (by show d.val = (t.val % 8 * 128 + (q.val * 64 + d.val)) % 64; omega))
  · blk_ext [idx t]

/-- The keys as an array over the kernel's arguments. -/
def result1 (c : Dev nD) : Vec Ideal S2x8192x1024 .f32 := fun i =>
  entry (m ((c : Thread nD τ).loc main_arg0)) (m ((c : Thread nD τ).loc main_arg1)) (m ((c : Thread nD τ).loc main_arg3)) 1 (i 0) (i 1) ⟨(i 2).val / 64, by have : (i 2).val < 1024 := (i 2).isLt; omega⟩ ⟨(i 2).val % 64, Nat.mod_lt _ (by decide)⟩

/-- The tile of keys that point `t` leaves. -/
theorem point1 (c : Dev nD) (t : Fin cfg0.N) (r : Fin 512) (q : Fin 2) (d : Fin 64) (b : Fin 2) (l : Fin 8192) (h : Fin 16)
    (hb : b.val = t.val / 128) (hl : l.val = t.val / 8 % 16 * 512 + r.val) (hh : h.val = t.val % 8 * 2 + q.val) :
    out0_7 (iblk m c 0 t) (iblk m c 1 t) (iblk m c 2 t) (iblk m c 3 t) (iblk m c 4 t) (iblk m c 5 t) (ix3 0 r ⟨q.val * 64 + d.val, by omega⟩)
      = entry (m ((c : Thread nD τ).loc main_arg0)) (m ((c : Thread nD τ).loc main_arg1)) (m ((c : Thread nD τ).loc main_arg3)) 1 b l h d := by
  unfold out0_7 k0_pay19 k0_pay18 k0_pay17 k0_pay16
  frame_out
  refine (pay1_apply _ _ _ _ r _).trans ?_
  refine (lane (norm _ _) (fun i => iblk m c 2 t (ix2 r i)) (fun i => iblk m c 3 t (ix2 r i)) _ _ q d _ _ _ rfl rfl rfl
    (blk_cos m c t r q d l hl) (blk_sin m c t r q d l hl)).trans ?_
  refine congrArg (fun f => rotated f _ _ d) (funext fun e => ?_)
  refine (norm_eq _ _ q e).trans ?_
  exact congr (congr (congrArg normed (funext fun e' => blk_x1 m c t r q e' b l h hb hl hh)) (blk_w1 m c t q e)) rfl

/-- The keys after the run. -/
theorem final1 (c : Dev nD) : (dats m 0 c).arrAt 7 cfg0.N = result1 m c := by
  refine (dats m 0 c).arrAt_eq_of_covers 7 _ (by decide +kernel) fun t hf y => ?_
  blk_simp
  rw [after0_7]
  obtain ⟨s, r, i, rfl⟩ : ∃ (s : Fin 1) (r : Fin 512) (i : Fin 128), y = ix3 s r i := ⟨y 0, y 1, y 2, eq_ix3 y⟩
  have hN : t.val < 256 := (idx t).2.2.2.2.2.2.2.2
  obtain ⟨q, d, rfl⟩ : ∃ (q : Fin 2) (d : Fin 64), i = ⟨q.val * 64 + d.val, by omega⟩ :=
    ⟨⟨i.val / 64, by omega⟩, ⟨i.val % 64, Nat.mod_lt _ (by decide)⟩, Fin.ext (by simp only; omega)⟩
  obtain rfl : s = 0 := Subsingleton.elim _ _
  refine (point1 m c t r q d ⟨t.val / 128, by omega⟩ ⟨t.val / 8 % 16 * 512 + r.val, by omega⟩ ⟨t.val % 8 * 2 + q.val, by omega⟩ rfl rfl rfl).trans ?_
  have hj : t.val % 8 * 128 + (q.val * 64 + d.val) < 1024 := by omega
  refine Eq.trans ?_ (congrArg (result1 m c) (a₁ := ix3 ⟨t.val / 128, by omega⟩ ⟨t.val / 8 % 16 * 512 + r.val, by omega⟩ ⟨t.val % 8 * 128 + (q.val * 64 + d.val), hj⟩) ?_)
  · show _ = entry (m ((c : Thread nD τ).loc main_arg0)) (m ((c : Thread nD τ).loc main_arg1)) (m ((c : Thread nD τ).loc main_arg3)) 1 _ _ _ _
    exact congr (congrArg (entry (m ((c : Thread nD τ).loc main_arg0)) (m ((c : Thread nD τ).loc main_arg1)) (m ((c : Thread nD τ).loc main_arg3)) 1 _ _) (Fin.ext (by show t.val % 8 * 2 + q.val = (t.val % 8 * 128 + (q.val * 64 + d.val)) / 64; omega)))
      (Fin.ext (by show d.val = (t.val % 8 * 128 + (q.val * 64 + d.val)) % 64; omega))
  · blk_ext [idx t]

/-- The kernel's run: the result arrays hold queries and keys, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v30_0) = result0 m c
      ∧ r.2.mem ((c : Thread nD τ).loc main_v30_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final0 m c), (h c).2.1.trans (final1 m c), (h c).2.2⟩) (run_blocks m ρ)

end Cert.RotaryKernelIdeal.Value

namespace Cert.RotaryReferenceIdeal.Value

open Cert.RotaryReferenceIdeal Cert.RotaryReferenceIdeal.Gen Idealize.ShloMosaic Idealize.ShloMosaic.TcCoe Idealize.SL.Sem Cert.Rotation

/-- The positions' angles in the reference. -/
def angles (pos : Vec Ideal S8192 .i32) : FVec Ideal S8192x8 .f32 :=
  (mulf (broadcastInDim S8192x8 ![0, 1] bcast_S8192x1_S8192x8_0_1 (broadcastInDim S8192x1 ![0] bcast_S8192_S8192x1_0 (sitofp .f32 pos))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))))

theorem angles_apply (pos : Vec Ideal S8192 .i32) (l : Fin 8192) (j : Fin 8) : angles pos (ix2 l j) = angle (pos (ix1 l)) j := by
  pointwise [angles, angle]

/-- The queries' heads, normalised and weighted. -/
def heads0 (x : FVec Ideal S2x8192x3072 .f32) (w : FVec Ideal S64 .f32) : FVec Ideal S2x8192x16x64 .f32 :=
  (mulf (mulf (shapeCast _ (extractStridedSlice S2x8192x1x16x64 ![0, 0, 0, 0, 0] (shapeCast _ x shapeCasts_S2x8192x3072_S2x8192x3x16x64) slices_S2x8192x3x16x64_S2x8192x1x16x64_0_0_0_0_0) shapeCasts_S2x8192x1x16x64_S2x8192x16x64) (broadcastInDim S2x8192x16x64 ![0, 1, 2, 3] bcast_S2x8192x16x1_S2x8192x16x64_0_1_2_3 (Host.rsqrt (addf (Host.divf (broadcastInDim S2x8192x16x1 ![0, 1, 2] bcast_S2x8192x16_S2x8192x16x1_0_1_2 (Host.reduceAdd (mulf (shapeCast _ (extractStridedSlice S2x8192x1x16x64 ![0, 0, 0, 0, 0] (shapeCast _ x shapeCasts_S2x8192x3072_S2x8192x3x16x64) slices_S2x8192x3x16x64_S2x8192x1x16x64_0_0_0_0_0) shapeCasts_S2x8192x1x16x64_S2x8192x16x64) (shapeCast _ (extractStridedSlice S2x8192x1x16x64 ![0, 0, 0, 0, 0] (shapeCast _ x shapeCasts_S2x8192x3072_S2x8192x3x16x64) slices_S2x8192x3x16x64_S2x8192x1x16x64_0_0_0_0_0) shapeCasts_S2x8192x1x16x64_S2x8192x16x64)) (constant S_ .f32 0x00000000#32) reducesTo_S2x8192x16x64_S2x8192x16_d3 h_S_)) (broadcastInDim S2x8192x16x1 ![] bcast_S_S2x8192x16x1 (constant S_ .f32 0x42800000#32))) (broadcastInDim S2x8192x16x1 ![] bcast_S_S2x8192x16x1 (constant S_ .f32 0x358637BD#32)))))) (broadcastInDim S2x8192x16x64 ![0, 1, 2, 3] bcast_S1x1x1x64_S2x8192x16x64_0_1_2_3 (broadcastInDim S1x1x1x64 ![3] bcast_S64_S1x1x1x64_3 w)))

/-- The keys' heads, normalised and weighted. -/
def heads1 (x : FVec Ideal S2x8192x3072 .f32) (w : FVec Ideal S64 .f32) : FVec Ideal S2x8192x16x64 .f32 :=
  (mulf (mulf (shapeCast _ (extractStridedSlice S2x8192x1x16x64 ![0, 0, 1, 0, 0] (shapeCast _ x shapeCasts_S2x8192x3072_S2x8192x3x16x64) slices_S2x8192x3x16x64_S2x8192x1x16x64_0_0_1_0_0) shapeCasts_S2x8192x1x16x64_S2x8192x16x64) (broadcastInDim S2x8192x16x64 ![0, 1, 2, 3] bcast_S2x8192x16x1_S2x8192x16x64_0_1_2_3 (Host.rsqrt (addf (Host.divf (broadcastInDim S2x8192x16x1 ![0, 1, 2] bcast_S2x8192x16_S2x8192x16x1_0_1_2 (Host.reduceAdd (mulf (shapeCast _ (extractStridedSlice S2x8192x1x16x64 ![0, 0, 1, 0, 0] (shapeCast _ x shapeCasts_S2x8192x3072_S2x8192x3x16x64) slices_S2x8192x3x16x64_S2x8192x1x16x64_0_0_1_0_0) shapeCasts_S2x8192x1x16x64_S2x8192x16x64) (shapeCast _ (extractStridedSlice S2x8192x1x16x64 ![0, 0, 1, 0, 0] (shapeCast _ x shapeCasts_S2x8192x3072_S2x8192x3x16x64) slices_S2x8192x3x16x64_S2x8192x1x16x64_0_0_1_0_0) shapeCasts_S2x8192x1x16x64_S2x8192x16x64)) (constant S_ .f32 0x00000000#32) reducesTo_S2x8192x16x64_S2x8192x16_d3 h_S_)) (broadcastInDim S2x8192x16x1 ![] bcast_S_S2x8192x16x1 (constant S_ .f32 0x42800000#32))) (broadcastInDim S2x8192x16x1 ![] bcast_S_S2x8192x16x1 (constant S_ .f32 0x358637BD#32)))))) (broadcastInDim S2x8192x16x64 ![0, 1, 2, 3] bcast_S1x1x1x64_S2x8192x16x64_0_1_2_3 (broadcastInDim S1x1x1x64 ![3] bcast_S64_S1x1x1x64_3 w)))

/-- Heads rotated. -/
def turned (y : FVec Ideal S2x8192x16x64 .f32) (co si : FVec Ideal S8192x8 .f32) : FVec Ideal S2x8192x16x64 .f32 :=
  (concatenate S2x8192x16x64 3 [⟨S2x8192x16x16, (concatenate S2x8192x16x16 3 [⟨S2x8192x16x8, (subf (mulf (extractStridedSlice S2x8192x16x8 ![0, 0, 0, 0] y slices_S2x8192x16x64_S2x8192x16x8_0_0_0_0) (broadcastInDim S2x8192x16x8 ![0, 1, 2, 3] bcast_S1x8192x1x8_S2x8192x16x8_0_1_2_3 (broadcastInDim S1x8192x1x8 ![1, 2, 3] bcast_S8192x1x8_S1x8192x1x8_1_2_3 (broadcastInDim S8192x1x8 ![0, 2] bcast_S8192x8_S8192x1x8_0_2 co)))) (mulf (extractStridedSlice S2x8192x16x8 ![0, 0, 0, 8] y slices_S2x8192x16x64_S2x8192x16x8_0_0_0_8) (broadcastInDim S2x8192x16x8 ![0, 1, 2, 3] bcast_S1x8192x1x8_S2x8192x16x8_0_1_2_3 (broadcastInDim S1x8192x1x8 ![1, 2, 3] bcast_S8192x1x8_S1x8192x1x8_1_2_3 (broadcastInDim S8192x1x8 ![0, 2] bcast_S8192x8_S8192x1x8_0_2 si)))))⟩, ⟨S2x8192x16x8, (addf (mulf (extractStridedSlice S2x8192x16x8 ![0, 0, 0, 8] y slices_S2x8192x16x64_S2x8192x16x8_0_0_0_8) (broadcastInDim S2x8192x16x8 ![0, 1, 2, 3] bcast_S1x8192x1x8_S2x8192x16x8_0_1_2_3 (broadcastInDim S1x8192x1x8 ![1, 2, 3] bcast_S8192x1x8_S1x8192x1x8_1_2_3 (broadcastInDim S8192x1x8 ![0, 2] bcast_S8192x8_S8192x1x8_0_2 co)))) (mulf (extractStridedSlice S2x8192x16x8 ![0, 0, 0, 0] y slices_S2x8192x16x64_S2x8192x16x8_0_0_0_0) (broadcastInDim S2x8192x16x8 ![0, 1, 2, 3] bcast_S1x8192x1x8_S2x8192x16x8_0_1_2_3 (broadcastInDim S1x8192x1x8 ![1, 2, 3] bcast_S8192x1x8_S1x8192x1x8_1_2_3 (broadcastInDim S8192x1x8 ![0, 2] bcast_S8192x8_S8192x1x8_0_2 si)))))⟩] concatenates_S2x8192x16x8_S2x8192x16x8_S2x8192x16x16_d3)⟩, ⟨S2x8192x16x48, (extractStridedSlice S2x8192x16x48 ![0, 0, 0, 16] y slices_S2x8192x16x64_S2x8192x16x48_0_0_0_16)⟩] concatenates_S2x8192x16x16_S2x8192x16x48_S2x8192x16x64_d3)

theorem heads0_apply (x : FVec Ideal S2x8192x3072 .f32) (w : FVec Ideal S64 .f32) (b : Fin 2) (l : Fin 8192) (h : Fin 16) (d : Fin 64) :
    heads0 x w (ix4 b l h d) = normed (fun e => x (ix3 b l ⟨h.val * 64 + e.val, by omega⟩)) (w (ix1 d)) d := by
  pointwise [heads0, normed]

theorem heads1_apply (x : FVec Ideal S2x8192x3072 .f32) (w : FVec Ideal S64 .f32) (b : Fin 2) (l : Fin 8192) (h : Fin 16) (d : Fin 64) :
    heads1 x w (ix4 b l h d) = normed (fun e => x (ix3 b l ⟨1024 + h.val * 64 + e.val, by omega⟩)) (w (ix1 d)) d := by
  pointwise [heads1, normed]

theorem turned_apply (y : FVec Ideal S2x8192x16x64 .f32) (co si : FVec Ideal S8192x8 .f32) (b : Fin 2) (l : Fin 8192) (h : Fin 16) (d : Fin 64) :
    turned y co si (ix4 b l h d) = rotated (fun e => y (ix4 b l h e)) (fun j => co (ix2 l j)) (fun j => si (ix2 l j)) d := by
  pointwise [turned, rotated]
  by_cases h1 : d.val < 8
  · have e : (⟨8 + d.val, by omega⟩ : Fin 64) = ⟨d.val + 8, by omega⟩ := Fin.ext (by simp only; omega)
    rw [dif_pos (by omega), dif_pos h1, dif_pos h1, e]
  · by_cases h2 : d.val < 16
    · have e : (⟨8 + (d.val - 8), by omega⟩ : Fin 64) = d := Fin.ext (by simp only; omega)
      rw [dif_pos h2, dif_neg h1, dif_neg h1, dif_pos h2, e]
    · have e : (⟨16 + (d.val - 16), by omega⟩ : Fin 64) = d := Fin.ext (by simp only; omega)
      rw [dif_neg h2, dif_neg h1, dif_neg h2, e]

/-- Heads side by side. -/
theorem flat_apply (y : FVec Ideal S2x8192x16x64 .f32) (b : Fin 2) (l : Fin 8192) (j : Fin 1024) :
    shapeCast S2x8192x1024 y shapeCasts_S2x8192x16x64_S2x8192x1024 (ix3 b l j) = y (ix4 b l ⟨j.val / 64, by omega⟩ ⟨j.val % 64, Nat.mod_lt _ (by decide)⟩) := by
  pointwise

theorem queries_eq (m : (ℓ : Loc nD τ sig) → Buf (Elt Ideal) ℓ) (c : Dev nD) :
    res_main_v101 (F := Ideal) m c = shapeCast S2x8192x1024 (turned (heads0 (m ((c : Thread nD τ).loc main_arg0)) (m ((c : Thread nD τ).loc main_arg2)))
      (Host.cos (angles (m ((c : Thread nD τ).loc main_arg1)))) (Host.sin (angles (m ((c : Thread nD τ).loc main_arg1))))) shapeCasts_S2x8192x16x64_S2x8192x1024 := rfl

theorem keys_eq (m : (ℓ : Loc nD τ sig) → Buf (Elt Ideal) ℓ) (c : Dev nD) :
    res_main_v102 (F := Ideal) m c = shapeCast S2x8192x1024 (turned (heads1 (m ((c : Thread nD τ).loc main_arg0)) (m ((c : Thread nD τ).loc main_arg3)))
      (Host.cos (angles (m ((c : Thread nD τ).loc main_arg1)))) (Host.sin (angles (m ((c : Thread nD τ).loc main_arg1))))) shapeCasts_S2x8192x16x64_S2x8192x1024 := rfl

/-- The reference's queries, entry by entry. -/
theorem queries_apply (m : (ℓ : Loc nD τ sig) → Buf (Elt Ideal) ℓ) (c : Dev nD) (i : S2x8192x1024.Idx) :
    (res_main_v101 (F := Ideal) m c : Vec Ideal S2x8192x1024 .f32) i = entry (m ((c : Thread nD τ).loc main_arg0)) (m ((c : Thread nD τ).loc main_arg1)) (m ((c : Thread nD τ).loc main_arg2)) 0 (i 0) (i 1)
      ⟨(i 2).val / 64, by have : (i 2).val < 1024 := (i 2).isLt; omega⟩ ⟨(i 2).val % 64, Nat.mod_lt _ (by decide)⟩ := by
  obtain ⟨b, l, j, rfl⟩ : ∃ (b : Fin 2) (l : Fin 8192) (j : Fin 1024), i = ix3 b l j := ⟨i 0, i 1, i 2, eq_ix3 i⟩
  refine (congrFun (queries_eq m c) _).trans ?_
  refine (flat_apply _ b l j).trans ((turned_apply _ _ _ b l _ _).trans ?_)
  show _ = entry (m ((c : Thread nD τ).loc main_arg0)) (m ((c : Thread nD τ).loc main_arg1)) (m ((c : Thread nD τ).loc main_arg2)) 0 b l ⟨j.val / 64, by omega⟩ ⟨j.val % 64, Nat.mod_lt _ (by decide)⟩
  have hy : ∀ e : Fin 64, heads0 (m ((c : Thread nD τ).loc main_arg0)) (m ((c : Thread nD τ).loc main_arg2)) (ix4 b l ⟨j.val / 64, by omega⟩ e)
      = normed (fun e' => (m ((c : Thread nD τ).loc main_arg0)) (ix3 b l ⟨(0 : Fin 2).val * 1024 + j.val / 64 * 64 + e'.val, by show 0 * 1024 + j.val / 64 * 64 + e'.val < 3072; omega⟩)) ((m ((c : Thread nD τ).loc main_arg2)) (ix1 e)) e := fun e =>
    (heads0_apply _ _ b l _ e).trans (congr (congr (congrArg normed (funext fun e' => congrArg (fun z => (m ((c : Thread nD τ).loc main_arg0)) (ix3 b l z)) (Fin.ext (by show j.val / 64 * 64 + e'.val = 0 * 1024 + j.val / 64 * 64 + e'.val; omega)))) rfl) rfl)
  have hc : ∀ k : Fin 8, Host.cos (angles (m ((c : Thread nD τ).loc main_arg1))) (ix2 l k) = Ideal.cos (angle (((m ((c : Thread nD τ).loc main_arg1)) : Vec Ideal S8192 .i32) (ix1 l)) k) := fun k =>
    congrArg Ideal.cos (angles_apply _ l k)
  have hs : ∀ k : Fin 8, Host.sin (angles (m ((c : Thread nD τ).loc main_arg1))) (ix2 l k) = Ideal.sin (angle (((m ((c : Thread nD τ).loc main_arg1)) : Vec Ideal S8192 .i32) (ix1 l)) k) := fun k =>
    congrArg Ideal.sin (angles_apply _ l k)
  exact congr (congr (congr (congrArg rotated (funext hy)) (funext hc)) (funext hs)) rfl

/-- The reference's keys, entry by entry. -/
theorem keys_apply (m : (ℓ : Loc nD τ sig) → Buf (Elt Ideal) ℓ) (c : Dev nD) (i : S2x8192x1024.Idx) :
    (res_main_v102 (F := Ideal) m c : Vec Ideal S2x8192x1024 .f32) i = entry (m ((c : Thread nD τ).loc main_arg0)) (m ((c : Thread nD τ).loc main_arg1)) (m ((c : Thread nD τ).loc main_arg3)) 1 (i 0) (i 1)
      ⟨(i 2).val / 64, by have : (i 2).val < 1024 := (i 2).isLt; omega⟩ ⟨(i 2).val % 64, Nat.mod_lt _ (by decide)⟩ := by
  obtain ⟨b, l, j, rfl⟩ : ∃ (b : Fin 2) (l : Fin 8192) (j : Fin 1024), i = ix3 b l j := ⟨i 0, i 1, i 2, eq_ix3 i⟩
  refine (congrFun (keys_eq m c) _).trans ?_
  refine (flat_apply _ b l j).trans ((turned_apply _ _ _ b l _ _).trans ?_)
  show _ = entry (m ((c : Thread nD τ).loc main_arg0)) (m ((c : Thread nD τ).loc main_arg1)) (m ((c : Thread nD τ).loc main_arg3)) 1 b l ⟨j.val / 64, by omega⟩ ⟨j.val % 64, Nat.mod_lt _ (by decide)⟩
  have hy : ∀ e : Fin 64, heads1 (m ((c : Thread nD τ).loc main_arg0)) (m ((c : Thread nD τ).loc main_arg3)) (ix4 b l ⟨j.val / 64, by omega⟩ e)
      = normed (fun e' => (m ((c : Thread nD τ).loc main_arg0)) (ix3 b l ⟨(1 : Fin 2).val * 1024 + j.val / 64 * 64 + e'.val, by show 1 * 1024 + j.val / 64 * 64 + e'.val < 3072; omega⟩)) ((m ((c : Thread nD τ).loc main_arg3)) (ix1 e)) e := fun e =>
    (heads1_apply _ _ b l _ e).trans (congr (congr (congrArg normed (funext fun e' => congrArg (fun z => (m ((c : Thread nD τ).loc main_arg0)) (ix3 b l z)) (Fin.ext (by show 1024 + j.val / 64 * 64 + e'.val = 1 * 1024 + j.val / 64 * 64 + e'.val; omega)))) rfl) rfl)
  have hc : ∀ k : Fin 8, Host.cos (angles (m ((c : Thread nD τ).loc main_arg1))) (ix2 l k) = Ideal.cos (angle (((m ((c : Thread nD τ).loc main_arg1)) : Vec Ideal S8192 .i32) (ix1 l)) k) := fun k =>
    congrArg Ideal.cos (angles_apply _ l k)
  have hs : ∀ k : Fin 8, Host.sin (angles (m ((c : Thread nD τ).loc main_arg1))) (ix2 l k) = Ideal.sin (angle (((m ((c : Thread nD τ).loc main_arg1)) : Vec Ideal S8192 .i32) (ix1 l)) k) := fun k =>
    congrArg Ideal.sin (angles_apply _ l k)
  exact congr (congr (congr (congrArg rotated (funext hy)) (funext hc)) (funext hs)) rfl

/-- The reference's run: its results are queries and keys, entry by entry, and the arguments are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v101) = (fun i => entry (m ((c : Thread nD τ).loc main_arg0)) (m ((c : Thread nD τ).loc main_arg1)) (m ((c : Thread nD τ).loc main_arg2)) 0 (i 0) (i 1) ⟨(i 2).val / 64, by have : (i 2).val < 1024 := (i 2).isLt; omega⟩ ⟨(i 2).val % 64, Nat.mod_lt _ (by decide)⟩ : Vec Ideal S2x8192x1024 .f32)
      ∧ r.2.mem ((c : Thread nD τ).loc main_v102) = (fun i => entry (m ((c : Thread nD τ).loc main_arg0)) (m ((c : Thread nD τ).loc main_arg1)) (m ((c : Thread nD τ).loc main_arg3)) 1 (i 0) (i 1) ⟨(i 2).val / 64, by have : (i 2).val < 1024 := (i 2).isLt; omega⟩ ⟨(i 2).val % 64, Nat.mod_lt _ (by decide)⟩ : Vec Ideal S2x8192x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (funext fun i => queries_apply m c i), (h c).2.1.trans (funext fun i => keys_apply m c i), (h c).2.2⟩) (run m ρ)

end Cert.RotaryReferenceIdeal.Value

end
-- ==== Proof.RotarySample.lean ====
module

public import proofs.«01_k».proof.Proof.Gen.RotarySampleKernelIdeal.Value
public import proofs.«01_k».proof.Proof.Gen.RotarySampleReferenceIdeal.Run
public import proofs.«01_k».proof.Proof.RotarySpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

/-! # The norm and rotation of queries and keys at the sample's shapes: what the kernel and the reference compute -/

namespace Cert.RotarySampleKernelIdeal.Value

open Cert.RotarySampleKernelIdeal Cert.RotarySampleKernelIdeal.Gen Idealize.ShloMosaic Idealize.ShloMosaic.TcCoe Idealize.SL.Sem Cert.Rotation
open Idealize.ShloMosaic.Pipeline (Dat)

variable (m : (ℓ : Loc nD τ sig) → Buf (Elt Ideal) ℓ)

/-- The windows' block indices at point `t`: a tile of batch rows, a tile of tokens, a pair of heads. -/
theorem idx : ∀ t : Fin cfg0.N, win0_0.index t = ![t.val / 8, t.val / 8 % 1, t.val % 8] ∧ win0_1.index t = ![t.val / 8, t.val / 8 % 1, t.val % 8 + 8]
    ∧ win0_2.index t = ![t.val / 8 % 1, 0] ∧ win0_3.index t = ![t.val / 8 % 1, 0] ∧ win0_4.index t = ![0, 0] ∧ win0_5.index t = ![0, 0]
    ∧ win0_6.index t = ![t.val / 8, t.val / 8 % 1, t.val % 8] ∧ win0_7.index t = ![t.val / 8, t.val / 8 % 1, t.val % 8] ∧ t.val < 64 :=
  (by decide +kernel : ∀ t : Fin grid0.N, _)

/-- The bit that tells the first head of a pair. -/
theorem low_apply (r : Fin 128) (i : Fin 128) : k0_pay2 (ix2 r i) = if i.val < 64 then 1#1 else 0#1 := by
  pointwise [k0_pay2]
  revert i; decide +kernel

/-- The bit that tells the first eight entries of a head. -/
theorem first_apply (r : Fin 128) (i : Fin 128) : k0_pay3 (ix2 r i) = if i.val % 64 < 8 then 1#1 else 0#1 := by
  pointwise [k0_pay3]
  revert i; decide +kernel

/-- The normalised lane. -/
def norm (x : Fin 128 → EReal) (w : Fin 128 → EReal) (i : Fin 128) : EReal :=
  x i * Ideal.rsqrt ((if i.val < 64 then ∑ k : Fin 128, (if k.val < 64 then x k * x k else 0) else ∑ k : Fin 128, (if k.val < 64 then 0 else x k * x k))
    * Ideal.ofBits FTy.f32 0x3C800000#32 + Ideal.ofBits FTy.f32 0x358637BD#32) * w i

/-- A normalised lane is the head's normalised entry. -/
theorem norm_eq (x w : Fin 128 → EReal) (q : Fin 2) (d : Fin 64) :
    norm x w ⟨q.val * 64 + d.val, by omega⟩ = normed (fun e => x ⟨q.val * 64 + e.val, by omega⟩) (w ⟨q.val * 64 + d.val, by omega⟩) d := by
  unfold norm normed
  rw [pair_sum (fun k => x k * x k) q _ (by simp only; omega), div_64]

/-- The queries' stored value, lane by lane. -/
theorem pay10_apply (co si : Vec Ideal S8x128 .f32) (x : Vec Ideal S16x8x128 .f32) (w : Vec Ideal S1x128 .f32) (s : Fin 16) (l : Fin 8) (i : Fin 128) :
    k0_pay10 (F := Ideal) k0_pay2 k0_pay3 (k0_pay4 co) (k0_pay5 si) (k0_pay6 x) (k0_pay7 w) (k0_pay8 x) k0_pay9 (ix3 s l i)
      = norm (fun i => x (ix3 s l i)) (fun i => w (ix2 0 i)) i * co (ix2 l i)
        + (if i.val % 64 < 8 then norm (fun i => x (ix3 s l i)) (fun i => w (ix2 0 i)) ⟨(i.val + 128 - 120) % 128, Nat.mod_lt _ (by decide)⟩
          else norm (fun i => x (ix3 s l i)) (fun i => w (ix2 0 i)) ⟨(i.val + 128 - 8) % 128, Nat.mod_lt _ (by decide)⟩) * si (ix2 l i) := by
  pointwise [k0_pay10, k0_pay4, k0_pay5, k0_pay6, k0_pay7, k0_pay8, k0_pay9]
  simp only [low_apply, first_apply, choice]
  rfl

/-- The keys' stored value, lane by lane. -/
theorem pay1_apply (co si : Vec Ideal S8x128 .f32) (x : Vec Ideal S16x8x128 .f32) (w : Vec Ideal S1x128 .f32) (s : Fin 16) (l : Fin 8) (i : Fin 128) :
    k0_pay1 (F := Ideal) k0_pay2 k0_pay3 (k0_pay4 co) (k0_pay5 si) (k0_pay11 x) (k0_pay12 w) (k0_pay14 k0_pay2 x) (k0_pay15 k0_pay2 x) (ix3 s l i)
      = norm (fun i => x (ix3 s l i)) (fun i => w (ix2 0 i)) i * co (ix2 l i)
        + (if i.val % 64 < 8 then norm (fun i => x (ix3 s l i)) (fun i => w (ix2 0 i)) ⟨(i.val + 128 - 120) % 128, Nat.mod_lt _ (by decide)⟩
          else norm (fun i => x (ix3 s l i)) (fun i => w (ix2 0 i)) ⟨(i.val + 128 - 8) % 128, Nat.mod_lt _ (by decide)⟩) * si (ix2 l i) := by
  pointwise [k0_pay1, k0_pay4, k0_pay5, k0_pay11, k0_pay12, k0_pay13, k0_pay14, k0_pay15]
  simp only [low_apply, first_apply, choice]
  rfl

/-! ## The tables -/

/-- The angles of the positions. -/
def angles (pos : Vec Ideal S8 .i32) : FVec Ideal S8x8 .f32 :=
  (mulf (broadcastInDim S8x8 ![0, 1] bcast_S8x1_S8x8_0_1 (broadcastInDim S8x1 ![0] bcast_S8_S8x1_0 (sitofp .f32 pos))) (broadcastInDim S8x8 ![0, 1] bcast_S1x8_S8x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))))

theorem angles_apply (pos : Vec Ideal S8 .i32) (l : Fin 8) (j : Fin 8) : angles pos (ix2 l j) = angle (pos (ix1 l)) j := by
  pointwise [angles, angle]

/-- The cosines of one head. -/
def cosHead (pos : Vec Ideal S8 .i32) : FVec Ideal S8x64 .f32 :=
  concatenate S8x64 1 [⟨S8x8, Host.cos (angles pos)⟩, ⟨S8x8, Host.cos (angles pos)⟩, ⟨S8x48, broadcastInDim S8x48 ![] bcast_S_S8x48 (constant S_ .f32 0x3F800000#32)⟩] concatenates_S8x8_S8x8_S8x48_S8x64_d1

/-- The sines of one head. -/
def sinHead (pos : Vec Ideal S8 .i32) : FVec Ideal S8x64 .f32 :=
  concatenate S8x64 1 [⟨S8x8, Host.negf (Host.sin (angles pos))⟩, ⟨S8x8, Host.sin (angles pos)⟩, ⟨S8x48, mulf (broadcastInDim S8x48 ![] bcast_S_S8x48 (constant S_ .f32 0x00000000#32)) (broadcastInDim S8x48 ![] bcast_S_S8x48 (constant S_ .f32 0x3F800000#32))⟩] concatenates_S8x8_S8x8_S8x48_S8x64_d1

theorem cosHead_apply (pos : Vec Ideal S8 .i32) (l : Fin 8) (d : Fin 64) :
    cosHead pos (ix2 l d) = cosRow (fun j => Ideal.cos (angle (pos (ix1 l)) j)) d := by
  pointwise [cosHead, cosRow]
  simp only [angles_apply]
  by_cases h : d.val < 8
  · rw [dif_pos h, dif_pos h]
  · rw [dif_neg h, dif_neg h]
    by_cases h' : d.val < 16
    · rw [dif_pos h', dif_pos (by omega)]
    · rw [dif_neg h', dif_neg (by omega)]

theorem sinHead_apply (pos : Vec Ideal S8 .i32) (l : Fin 8) (d : Fin 64) :
    sinHead pos (ix2 l d) = sinRow (fun j => Ideal.sin (angle (pos (ix1 l)) j)) d := by
  pointwise [sinHead, sinRow]
  simp only [angles_apply]
  by_cases h : d.val < 8
  · rw [dif_pos h, dif_pos h]
  · rw [dif_neg h, dif_neg h]
    by_cases h' : d.val < 16
    · rw [dif_pos h', dif_pos (by omega)]
    · rw [dif_neg h', dif_neg (by omega)]

/-- The table of cosines, over a pair of heads. -/
theorem cos_at (c : Dev nD) (l : Fin 8) (q : Fin 2) (d : Fin 64) :
    (V m c main_v20 : Vec Ideal S8x128 .f32) (ix2 l ⟨q.val * 64 + d.val, by omega⟩)
      = cosRow (fun j => Ideal.cos (angle ((m ((c : Thread nD τ).loc main_arg1) : Vec Ideal S8 .i32) (ix1 l)) j)) d := by
  refine (congrFun (show V m c main_v20 = concatenate S8x128 1 [⟨S8x64, cosHead (m ((c : Thread nD τ).loc main_arg1))⟩, ⟨S8x64, cosHead (m ((c : Thread nD τ).loc main_arg1))⟩] concatenates_S8x64_S8x64_S8x128_d1 from rfl) _).trans ?_
  rw [← cosHead_apply]
  generalize cosHead _ = z
  pointwise
  split <;> exact congrArg (fun e => z (ix2 l e)) (Fin.ext (by simp only; omega))

/-- The table of sines, over a pair of heads. -/
theorem sin_at (c : Dev nD) (l : Fin 8) (q : Fin 2) (d : Fin 64) :
    (V m c main_v21 : Vec Ideal S8x128 .f32) (ix2 l ⟨q.val * 64 + d.val, by omega⟩)
      = sinRow (fun j => Ideal.sin (angle ((m ((c : Thread nD τ).loc main_arg1) : Vec Ideal S8 .i32) (ix1 l)) j)) d := by
  refine (congrFun (show V m c main_v21 = concatenate S8x128 1 [⟨S8x64, sinHead (m ((c : Thread nD τ).loc main_arg1))⟩, ⟨S8x64, sinHead (m ((c : Thread nD τ).loc main_arg1))⟩] concatenates_S8x64_S8x64_S8x128_d1 from rfl) _).trans ?_
  rw [← sinHead_apply]
  generalize sinHead _ = z
  pointwise
  split <;> exact congrArg (fun e => z (ix2 l e)) (Fin.ext (by simp only; omega))

/-- A head's weights, once for each head of the pair. -/
def twice (w : Vec Ideal S64 .f32) : Vec Ideal S1x128 .f32 :=
  shapeCast S1x128 (shapeCast S128 (broadcastInDim S2x64 ![0, 1] bcast_S1x64_S2x64_0_1 (shapeCast S1x64 w shapeCasts_S64_S1x64)) shapeCasts_S2x64_S128) shapeCasts_S128_S1x128

theorem twice_apply (w : Vec Ideal S64 .f32) (q : Fin 2) (d : Fin 64) : twice w (ix2 0 ⟨q.val * 64 + d.val, by omega⟩) = w (ix1 d) := by
  pointwise [twice]

/-- The queries' tile at point `t`. -/
theorem blk_x0 (c : Dev nD) (t : Fin cfg0.N) (s : Fin 16) (r : Fin 8) (q : Fin 2) (e : Fin 64) (b : Fin 128) (l : Fin 8) (h : Fin 16)
    (hb : b.val = t.val / 8 * 16 + s.val) (hl : l.val = t.val / 8 % 1 * 8 + r.val) (hh : h.val = t.val % 8 * 2 + q.val) :
    iblk m c 0 t (ix3 s r ⟨q.val * 64 + e.val, by omega⟩) = (m ((c : Thread nD τ).loc main_arg0)) (ix3 b l ⟨(0 : Fin 2).val * 1024 + h.val * 64 + e.val, by show 0 * 1024 + h.val * 64 + e.val < 3072; omega⟩) := by
  blk_simp [iblk]
  refine congrArg (m ((c : Thread nD τ).loc main_arg0)) ?_
  blk_ext [idx t]

/-- The queries' weights at point `t`. -/
theorem blk_w0 (c : Dev nD) (t : Fin cfg0.N) (q : Fin 2) (d : Fin 64) :
    iblk m c 4 t (ix2 0 ⟨q.val * 64 + d.val, by omega⟩) = (m ((c : Thread nD τ).loc main_arg2)) (ix1 d) := by
  refine Eq.trans ?_ (twice_apply (m ((c : Thread nD τ).loc main_arg2)) q d)
  show _ = V m c main_v25 _
  blk_simp [iblk]
  blk_ext [idx t]

/-- The keys' tile at point `t`. -/
theorem blk_x1 (c : Dev nD) (t : Fin cfg0.N) (s : Fin 16) (r : Fin 8) (q : Fin 2) (e : Fin 64) (b : Fin 128) (l : Fin 8) (h : Fin 16)
    (hb : b.val = t.val / 8 * 16 + s.val) (hl : l.val = t.val / 8 % 1 * 8 + r.val) (hh : h.val = t.val % 8 * 2 + q.val) :
    iblk m c 1 t (ix3 s r ⟨q.val * 64 + e.val, by omega⟩) = (m ((c : Thread nD τ).loc main_arg0)) (ix3 b l ⟨(1 : Fin 2).val * 1024 + h.val * 64 + e.val, by show 1 * 1024 + h.val * 64 + e.val < 3072; omega⟩) := by
  blk_simp [iblk]
  refine congrArg (m ((c : Thread nD τ).loc main_arg0)) ?_
  blk_ext [idx t]

/-- The keys' weights at point `t`. -/
theorem blk_w1 (c : Dev nD) (t : Fin cfg0.N) (q : Fin 2) (d : Fin 64) :
    iblk m c 5 t (ix2 0 ⟨q.val * 64 + d.val, by omega⟩) = (m ((c : Thread nD τ).loc main_arg3)) (ix1 d) := by
  refine Eq.trans ?_ (twice_apply (m ((c : Thread nD τ).loc main_arg3)) q d)
  show _ = V m c main_v29 _
  blk_simp [iblk]
  blk_ext [idx t]

/-- The tile of coses at point `t`. -/
theorem blk_cos (c : Dev nD) (t : Fin cfg0.N) (r : Fin 8) (q : Fin 2) (d : Fin 64) (l : Fin 8) (hl : l.val = t.val / 8 % 1 * 8 + r.val) :
    iblk m c 2 t (ix2 r ⟨q.val * 64 + d.val, by omega⟩)
      = cosRow (fun j => Ideal.cos (angle (((m ((c : Thread nD τ).loc main_arg1)) : Vec Ideal S8 .i32) (ix1 l)) j)) d := by
  refine Eq.trans ?_ (cos_at m c l q d)
  blk_simp [iblk]
  blk_ext [idx t]

/-- The tile of sines at point `t`. -/
theorem blk_sin (c : Dev nD) (t : Fin cfg0.N) (r : Fin 8) (q : Fin 2) (d : Fin 64) (l : Fin 8) (hl : l.val = t.val / 8 % 1 * 8 + r.val) :
    iblk m c 3 t (ix2 r ⟨q.val * 64 + d.val, by omega⟩)
      = sinRow (fun j => Ideal.sin (angle (((m ((c : Thread nD τ).loc main_arg1)) : Vec Ideal S8 .i32) (ix1 l)) j)) d := by
  refine Eq.trans ?_ (sin_at m c l q d)
  blk_simp [iblk]
  blk_ext [idx t]

/-- The queries as an array over the kernel's arguments. -/
def result0 (c : Dev nD) : Vec Ideal S128x8x1024 .f32 := fun i =>
  entry (m ((c : Thread nD τ).loc main_arg0)) (m ((c : Thread nD τ).loc main_arg1)) (m ((c : Thread nD τ).loc main_arg2)) 0 (i 0) (i 1) ⟨(i 2).val / 64, by have : (i 2).val < 1024 := (i 2).isLt; omega⟩ ⟨(i 2).val % 64, Nat.mod_lt _ (by decide)⟩

/-- The tile of queries that point `t` leaves. -/
theorem point0 (c : Dev nD) (t : Fin cfg0.N) (s : Fin 16) (r : Fin 8) (q : Fin 2) (d : Fin 64) (b : Fin 128) (l : Fin 8) (h : Fin 16)
    (hb : b.val = t.val / 8 * 16 + s.val) (hl : l.val = t.val / 8 % 1 * 8 + r.val) (hh : h.val = t.val % 8 * 2 + q.val) :
    out0_6 (iblk m c 0 t) (iblk m c 1 t) (iblk m c 2 t) (iblk m c 3 t) (iblk m c 4 t) (iblk m c 5 t) (ix3 s r ⟨q.val * 64 + d.val, by omega⟩)
      = entry (m ((c : Thread nD τ).loc main_arg0)) (m ((c : Thread nD τ).loc main_arg1)) (m ((c : Thread nD τ).loc main_arg2)) 0 b l h d := by
  unfold out0_6 k0_pay19 k0_pay18 k0_pay17 k0_pay16
  frame_out
  refine (pay10_apply _ _ _ _ s r _).trans ?_
  refine (lane (norm _ _) (fun i => iblk m c 2 t (ix2 r i)) (fun i => iblk m c 3 t (ix2 r i)) _ _ q d _ _ _ rfl rfl rfl
    (blk_cos m c t r q d l hl) (blk_sin m c t r q d l hl)).trans ?_
  refine congrArg (fun f => rotated f _ _ d) (funext fun e => ?_)
  refine (norm_eq _ _ q e).trans ?_
  exact congr (congr (congrArg normed (funext fun e' => blk_x0 m c t s r q e' b l h hb hl hh)) (blk_w0 m c t q e)) rfl

/-- The queries after the run. -/
theorem final0 (c : Dev nD) : (dats m 0 c).arrAt 6 cfg0.N = result0 m c := by
  refine (dats m 0 c).arrAt_eq_of_covers 6 _ (by decide +kernel) fun t hf y => ?_
  blk_simp
  rw [after0_6]
  obtain ⟨s, r, i, rfl⟩ : ∃ (s : Fin 16) (r : Fin 8) (i : Fin 128), y = ix3 s r i := ⟨y 0, y 1, y 2, eq_ix3 y⟩
  have hN : t.val < 64 := (idx t).2.2.2.2.2.2.2.2
  obtain ⟨q, d, rfl⟩ : ∃ (q : Fin 2) (d : Fin 64), i = ⟨q.val * 64 + d.val, by omega⟩ :=
    ⟨⟨i.val / 64, by omega⟩, ⟨i.val % 64, Nat.mod_lt _ (by decide)⟩, Fin.ext (by simp only; omega)⟩
  refine (point0 m c t s r q d ⟨t.val / 8 * 16 + s.val, by omega⟩ ⟨t.val / 8 % 1 * 8 + r.val, by omega⟩ ⟨t.val % 8 * 2 + q.val, by omega⟩ rfl rfl rfl).trans ?_
  have hj : t.val % 8 * 128 + (q.val * 64 + d.val) < 1024 := by omega
  refine Eq.trans ?_ (congrArg (result0 m c) (a₁ := ix3 ⟨t.val / 8 * 16 + s.val, by omega⟩ ⟨t.val / 8 % 1 * 8 + r.val, by omega⟩ ⟨t.val % 8 * 128 + (q.val * 64 + d.val), hj⟩) ?_)
  · show _ = entry (m ((c : Thread nD τ).loc main_arg0)) (m ((c : Thread nD τ).loc main_arg1)) (m ((c : Thread nD τ).loc main_arg2)) 0 _ _ _ _
    exact congr (congrArg (entry (m ((c : Thread nD τ).loc main_arg0)) (m ((c : Thread nD τ).loc main_arg1)) (m ((c : Thread nD τ).loc main_arg2)) 0 _ _) (Fin.ext (by show t.val % 8 * 2 + q.val = (t.val % 8 * 128 + (q.val * 64 + d.val)) / 64; omega)))
      (Fin.ext (by show d.val = (t.val % 8 * 128 + (q.val * 64 + d.val)) % 64; omega))
  · blk_ext [idx t]

/-- The keys as an array over the kernel's arguments. -/
def result1 (c : Dev nD) : Vec Ideal S128x8x1024 .f32 := fun i =>
  entry (m ((c : Thread nD τ).loc main_arg0)) (m ((c : Thread nD τ).loc main_arg1)) (m ((c : Thread nD τ).loc main_arg3)) 1 (i 0) (i 1) ⟨(i 2).val / 64, by have : (i 2).val < 1024 := (i 2).isLt; omega⟩ ⟨(i 2).val % 64, Nat.mod_lt _ (by decide)⟩

/-- The tile of keys that point `t` leaves. -/
theorem point1 (c : Dev nD) (t : Fin cfg0.N) (s : Fin 16) (r : Fin 8) (q : Fin 2) (d : Fin 64) (b : Fin 128) (l : Fin 8) (h : Fin 16)
    (hb : b.val = t.val / 8 * 16 + s.val) (hl : l.val = t.val / 8 % 1 * 8 + r.val) (hh : h.val = t.val % 8 * 2 + q.val) :
    out0_7 (iblk m c 0 t) (iblk m c 1 t) (iblk m c 2 t) (iblk m c 3 t) (iblk m c 4 t) (iblk m c 5 t) (ix3 s r ⟨q.val * 64 + d.val, by omega⟩)
      = entry (m ((c : Thread nD τ).loc main_arg0)) (m ((c : Thread nD τ).loc main_arg1)) (m ((c : Thread nD τ).loc main_arg3)) 1 b l h d := by
  unfold out0_7 k0_pay19 k0_pay18 k0_pay17 k0_pay16
  frame_out
  refine (pay1_apply _ _ _ _ s r _).trans ?_
  refine (lane (norm _ _) (fun i => iblk m c 2 t (ix2 r i)) (fun i => iblk m c 3 t (ix2 r i)) _ _ q d _ _ _ rfl rfl rfl
    (blk_cos m c t r q d l hl) (blk_sin m c t r q d l hl)).trans ?_
  refine congrArg (fun f => rotated f _ _ d) (funext fun e => ?_)
  refine (norm_eq _ _ q e).trans ?_
  exact congr (congr (congrArg normed (funext fun e' => blk_x1 m c t s r q e' b l h hb hl hh)) (blk_w1 m c t q e)) rfl

/-- The keys after the run. -/
theorem final1 (c : Dev nD) : (dats m 0 c).arrAt 7 cfg0.N = result1 m c := by
  refine (dats m 0 c).arrAt_eq_of_covers 7 _ (by decide +kernel) fun t hf y => ?_
  blk_simp
  rw [after0_7]
  obtain ⟨s, r, i, rfl⟩ : ∃ (s : Fin 16) (r : Fin 8) (i : Fin 128), y = ix3 s r i := ⟨y 0, y 1, y 2, eq_ix3 y⟩
  have hN : t.val < 64 := (idx t).2.2.2.2.2.2.2.2
  obtain ⟨q, d, rfl⟩ : ∃ (q : Fin 2) (d : Fin 64), i = ⟨q.val * 64 + d.val, by omega⟩ :=
    ⟨⟨i.val / 64, by omega⟩, ⟨i.val % 64, Nat.mod_lt _ (by decide)⟩, Fin.ext (by simp only; omega)⟩
  refine (point1 m c t s r q d ⟨t.val / 8 * 16 + s.val, by omega⟩ ⟨t.val / 8 % 1 * 8 + r.val, by omega⟩ ⟨t.val % 8 * 2 + q.val, by omega⟩ rfl rfl rfl).trans ?_
  have hj : t.val % 8 * 128 + (q.val * 64 + d.val) < 1024 := by omega
  refine Eq.trans ?_ (congrArg (result1 m c) (a₁ := ix3 ⟨t.val / 8 * 16 + s.val, by omega⟩ ⟨t.val / 8 % 1 * 8 + r.val, by omega⟩ ⟨t.val % 8 * 128 + (q.val * 64 + d.val), hj⟩) ?_)
  · show _ = entry (m ((c : Thread nD τ).loc main_arg0)) (m ((c : Thread nD τ).loc main_arg1)) (m ((c : Thread nD τ).loc main_arg3)) 1 _ _ _ _
    exact congr (congrArg (entry (m ((c : Thread nD τ).loc main_arg0)) (m ((c : Thread nD τ).loc main_arg1)) (m ((c : Thread nD τ).loc main_arg3)) 1 _ _) (Fin.ext (by show t.val % 8 * 2 + q.val = (t.val % 8 * 128 + (q.val * 64 + d.val)) / 64; omega)))
      (Fin.ext (by show d.val = (t.val % 8 * 128 + (q.val * 64 + d.val)) % 64; omega))
  · blk_ext [idx t]

/-- The kernel's run: the result arrays hold queries and keys, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v30_0) = result0 m c
      ∧ r.2.mem ((c : Thread nD τ).loc main_v30_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final0 m c), (h c).2.1.trans (final1 m c), (h c).2.2⟩) (run_blocks m ρ)

end Cert.RotarySampleKernelIdeal.Value

namespace Cert.RotarySampleReferenceIdeal.Value

open Cert.RotarySampleReferenceIdeal Cert.RotarySampleReferenceIdeal.Gen Idealize.ShloMosaic Idealize.ShloMosaic.TcCoe Idealize.SL.Sem Cert.Rotation

/-- The positions' angles in the reference. -/
def angles (pos : Vec Ideal S8 .i32) : FVec Ideal S8x8 .f32 :=
  (mulf (broadcastInDim S8x8 ![0, 1] bcast_S8x1_S8x8_0_1 (broadcastInDim S8x1 ![0] bcast_S8_S8x1_0 (sitofp .f32 pos))) (broadcastInDim S8x8 ![0, 1] bcast_S1x8_S8x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))))

theorem angles_apply (pos : Vec Ideal S8 .i32) (l : Fin 8) (j : Fin 8) : angles pos (ix2 l j) = angle (pos (ix1 l)) j := by
  pointwise [angles, angle]

/-- The queries' heads, normalised and weighted. -/
def heads0 (x : FVec Ideal S128x8x3072 .f32) (w : FVec Ideal S64 .f32) : FVec Ideal S128x8x16x64 .f32 :=
  (mulf (mulf (shapeCast _ (extractStridedSlice S128x8x1x16x64 ![0, 0, 0, 0, 0] (shapeCast _ x shapeCasts_S128x8x3072_S128x8x3x16x64) slices_S128x8x3x16x64_S128x8x1x16x64_0_0_0_0_0) shapeCasts_S128x8x1x16x64_S128x8x16x64) (broadcastInDim S128x8x16x64 ![0, 1, 2, 3] bcast_S128x8x16x1_S128x8x16x64_0_1_2_3 (Host.rsqrt (addf (Host.divf (broadcastInDim S128x8x16x1 ![0, 1, 2] bcast_S128x8x16_S128x8x16x1_0_1_2 (Host.reduceAdd (mulf (shapeCast _ (extractStridedSlice S128x8x1x16x64 ![0, 0, 0, 0, 0] (shapeCast _ x shapeCasts_S128x8x3072_S128x8x3x16x64) slices_S128x8x3x16x64_S128x8x1x16x64_0_0_0_0_0) shapeCasts_S128x8x1x16x64_S128x8x16x64) (shapeCast _ (extractStridedSlice S128x8x1x16x64 ![0, 0, 0, 0, 0] (shapeCast _ x shapeCasts_S128x8x3072_S128x8x3x16x64) slices_S128x8x3x16x64_S128x8x1x16x64_0_0_0_0_0) shapeCasts_S128x8x1x16x64_S128x8x16x64)) (constant S_ .f32 0x00000000#32) reducesTo_S128x8x16x64_S128x8x16_d3 h_S_)) (broadcastInDim S128x8x16x1 ![] bcast_S_S128x8x16x1 (constant S_ .f32 0x42800000#32))) (broadcastInDim S128x8x16x1 ![] bcast_S_S128x8x16x1 (constant S_ .f32 0x358637BD#32)))))) (broadcastInDim S128x8x16x64 ![0, 1, 2, 3] bcast_S1x1x1x64_S128x8x16x64_0_1_2_3 (broadcastInDim S1x1x1x64 ![3] bcast_S64_S1x1x1x64_3 w)))

/-- The keys' heads, normalised and weighted. -/
def heads1 (x : FVec Ideal S128x8x3072 .f32) (w : FVec Ideal S64 .f32) : FVec Ideal S128x8x16x64 .f32 :=
  (mulf (mulf (shapeCast _ (extractStridedSlice S128x8x1x16x64 ![0, 0, 1, 0, 0] (shapeCast _ x shapeCasts_S128x8x3072_S128x8x3x16x64) slices_S128x8x3x16x64_S128x8x1x16x64_0_0_1_0_0) shapeCasts_S128x8x1x16x64_S128x8x16x64) (broadcastInDim S128x8x16x64 ![0, 1, 2, 3] bcast_S128x8x16x1_S128x8x16x64_0_1_2_3 (Host.rsqrt (addf (Host.divf (broadcastInDim S128x8x16x1 ![0, 1, 2] bcast_S128x8x16_S128x8x16x1_0_1_2 (Host.reduceAdd (mulf (shapeCast _ (extractStridedSlice S128x8x1x16x64 ![0, 0, 1, 0, 0] (shapeCast _ x shapeCasts_S128x8x3072_S128x8x3x16x64) slices_S128x8x3x16x64_S128x8x1x16x64_0_0_1_0_0) shapeCasts_S128x8x1x16x64_S128x8x16x64) (shapeCast _ (extractStridedSlice S128x8x1x16x64 ![0, 0, 1, 0, 0] (shapeCast _ x shapeCasts_S128x8x3072_S128x8x3x16x64) slices_S128x8x3x16x64_S128x8x1x16x64_0_0_1_0_0) shapeCasts_S128x8x1x16x64_S128x8x16x64)) (constant S_ .f32 0x00000000#32) reducesTo_S128x8x16x64_S128x8x16_d3 h_S_)) (broadcastInDim S128x8x16x1 ![] bcast_S_S128x8x16x1 (constant S_ .f32 0x42800000#32))) (broadcastInDim S128x8x16x1 ![] bcast_S_S128x8x16x1 (constant S_ .f32 0x358637BD#32)))))) (broadcastInDim S128x8x16x64 ![0, 1, 2, 3] bcast_S1x1x1x64_S128x8x16x64_0_1_2_3 (broadcastInDim S1x1x1x64 ![3] bcast_S64_S1x1x1x64_3 w)))

/-- Heads rotated. -/
def turned (y : FVec Ideal S128x8x16x64 .f32) (co si : FVec Ideal S8x8 .f32) : FVec Ideal S128x8x16x64 .f32 :=
  (concatenate S128x8x16x64 3 [⟨S128x8x16x16, (concatenate S128x8x16x16 3 [⟨S128x8x16x8, (subf (mulf (extractStridedSlice S128x8x16x8 ![0, 0, 0, 0] y slices_S128x8x16x64_S128x8x16x8_0_0_0_0) (broadcastInDim S128x8x16x8 ![0, 1, 2, 3] bcast_S1x8x1x8_S128x8x16x8_0_1_2_3 (broadcastInDim S1x8x1x8 ![1, 2, 3] bcast_S8x1x8_S1x8x1x8_1_2_3 (broadcastInDim S8x1x8 ![0, 2] bcast_S8x8_S8x1x8_0_2 co)))) (mulf (extractStridedSlice S128x8x16x8 ![0, 0, 0, 8] y slices_S128x8x16x64_S128x8x16x8_0_0_0_8) (broadcastInDim S128x8x16x8 ![0, 1, 2, 3] bcast_S1x8x1x8_S128x8x16x8_0_1_2_3 (broadcastInDim S1x8x1x8 ![1, 2, 3] bcast_S8x1x8_S1x8x1x8_1_2_3 (broadcastInDim S8x1x8 ![0, 2] bcast_S8x8_S8x1x8_0_2 si)))))⟩, ⟨S128x8x16x8, (addf (mulf (extractStridedSlice S128x8x16x8 ![0, 0, 0, 8] y slices_S128x8x16x64_S128x8x16x8_0_0_0_8) (broadcastInDim S128x8x16x8 ![0, 1, 2, 3] bcast_S1x8x1x8_S128x8x16x8_0_1_2_3 (broadcastInDim S1x8x1x8 ![1, 2, 3] bcast_S8x1x8_S1x8x1x8_1_2_3 (broadcastInDim S8x1x8 ![0, 2] bcast_S8x8_S8x1x8_0_2 co)))) (mulf (extractStridedSlice S128x8x16x8 ![0, 0, 0, 0] y slices_S128x8x16x64_S128x8x16x8_0_0_0_0) (broadcastInDim S128x8x16x8 ![0, 1, 2, 3] bcast_S1x8x1x8_S128x8x16x8_0_1_2_3 (broadcastInDim S1x8x1x8 ![1, 2, 3] bcast_S8x1x8_S1x8x1x8_1_2_3 (broadcastInDim S8x1x8 ![0, 2] bcast_S8x8_S8x1x8_0_2 si)))))⟩] concatenates_S128x8x16x8_S128x8x16x8_S128x8x16x16_d3)⟩, ⟨S128x8x16x48, (extractStridedSlice S128x8x16x48 ![0, 0, 0, 16] y slices_S128x8x16x64_S128x8x16x48_0_0_0_16)⟩] concatenates_S128x8x16x16_S128x8x16x48_S128x8x16x64_d3)

theorem heads0_apply (x : FVec Ideal S128x8x3072 .f32) (w : FVec Ideal S64 .f32) (b : Fin 128) (l : Fin 8) (h : Fin 16) (d : Fin 64) :
    heads0 x w (ix4 b l h d) = normed (fun e => x (ix3 b l ⟨h.val * 64 + e.val, by omega⟩)) (w (ix1 d)) d := by
  pointwise [heads0, normed]

theorem heads1_apply (x : FVec Ideal S128x8x3072 .f32) (w : FVec Ideal S64 .f32) (b : Fin 128) (l : Fin 8) (h : Fin 16) (d : Fin 64) :
    heads1 x w (ix4 b l h d) = normed (fun e => x (ix3 b l ⟨1024 + h.val * 64 + e.val, by omega⟩)) (w (ix1 d)) d := by
  pointwise [heads1, normed]

theorem turned_apply (y : FVec Ideal S128x8x16x64 .f32) (co si : FVec Ideal S8x8 .f32) (b : Fin 128) (l : Fin 8) (h : Fin 16) (d : Fin 64) :
    turned y co si (ix4 b l h d) = rotated (fun e => y (ix4 b l h e)) (fun j => co (ix2 l j)) (fun j => si (ix2 l j)) d := by
  pointwise [turned, rotated]
  by_cases h1 : d.val < 8
  · have e : (⟨8 + d.val, by omega⟩ : Fin 64) = ⟨d.val + 8, by omega⟩ := Fin.ext (by simp only; omega)
    rw [dif_pos (by omega), dif_pos h1, dif_pos h1, e]
  · by_cases h2 : d.val < 16
    · have e : (⟨8 + (d.val - 8), by omega⟩ : Fin 64) = d := Fin.ext (by simp only; omega)
      rw [dif_pos h2, dif_neg h1, dif_neg h1, dif_pos h2, e]
    · have e : (⟨16 + (d.val - 16), by omega⟩ : Fin 64) = d := Fin.ext (by simp only; omega)
      rw [dif_neg h2, dif_neg h1, dif_neg h2, e]

/-- Heads side by side. -/
theorem flat_apply (y : FVec Ideal S128x8x16x64 .f32) (b : Fin 128) (l : Fin 8) (j : Fin 1024) :
    shapeCast S128x8x1024 y shapeCasts_S128x8x16x64_S128x8x1024 (ix3 b l j) = y (ix4 b l ⟨j.val / 64, by omega⟩ ⟨j.val % 64, Nat.mod_lt _ (by decide)⟩) := by
  pointwise

theorem queries_eq (m : (ℓ : Loc nD τ sig) → Buf (Elt Ideal) ℓ) (c : Dev nD) :
    res_main_v101 (F := Ideal) m c = shapeCast S128x8x1024 (turned (heads0 (m ((c : Thread nD τ).loc main_arg0)) (m ((c : Thread nD τ).loc main_arg2)))
      (Host.cos (angles (m ((c : Thread nD τ).loc main_arg1)))) (Host.sin (angles (m ((c : Thread nD τ).loc main_arg1))))) shapeCasts_S128x8x16x64_S128x8x1024 := rfl

theorem keys_eq (m : (ℓ : Loc nD τ sig) → Buf (Elt Ideal) ℓ) (c : Dev nD) :
    res_main_v102 (F := Ideal) m c = shapeCast S128x8x1024 (turned (heads1 (m ((c : Thread nD τ).loc main_arg0)) (m ((c : Thread nD τ).loc main_arg3)))
      (Host.cos (angles (m ((c : Thread nD τ).loc main_arg1)))) (Host.sin (angles (m ((c : Thread nD τ).loc main_arg1))))) shapeCasts_S128x8x16x64_S128x8x1024 := rfl

/-- The reference's queries, entry by entry. -/
theorem queries_apply (m : (ℓ : Loc nD τ sig) → Buf (Elt Ideal) ℓ) (c : Dev nD) (i : S128x8x1024.Idx) :
    (res_main_v101 (F := Ideal) m c : Vec Ideal S128x8x1024 .f32) i = entry (m ((c : Thread nD τ).loc main_arg0)) (m ((c : Thread nD τ).loc main_arg1)) (m ((c : Thread nD τ).loc main_arg2)) 0 (i 0) (i 1)
      ⟨(i 2).val / 64, by have : (i 2).val < 1024 := (i 2).isLt; omega⟩ ⟨(i 2).val % 64, Nat.mod_lt _ (by decide)⟩ := by
  obtain ⟨b, l, j, rfl⟩ : ∃ (b : Fin 128) (l : Fin 8) (j : Fin 1024), i = ix3 b l j := ⟨i 0, i 1, i 2, eq_ix3 i⟩
  refine (congrFun (queries_eq m c) _).trans ?_
  refine (flat_apply _ b l j).trans ((turned_apply _ _ _ b l _ _).trans ?_)
  show _ = entry (m ((c : Thread nD τ).loc main_arg0)) (m ((c : Thread nD τ).loc main_arg1)) (m ((c : Thread nD τ).loc main_arg2)) 0 b l ⟨j.val / 64, by omega⟩ ⟨j.val % 64, Nat.mod_lt _ (by decide)⟩
  have hy : ∀ e : Fin 64, heads0 (m ((c : Thread nD τ).loc main_arg0)) (m ((c : Thread nD τ).loc main_arg2)) (ix4 b l ⟨j.val / 64, by omega⟩ e)
      = normed (fun e' => (m ((c : Thread nD τ).loc main_arg0)) (ix3 b l ⟨(0 : Fin 2).val * 1024 + j.val / 64 * 64 + e'.val, by show 0 * 1024 + j.val / 64 * 64 + e'.val < 3072; omega⟩)) ((m ((c : Thread nD τ).loc main_arg2)) (ix1 e)) e := fun e =>
    (heads0_apply _ _ b l _ e).trans (congr (congr (congrArg normed (funext fun e' => congrArg (fun z => (m ((c : Thread nD τ).loc main_arg0)) (ix3 b l z)) (Fin.ext (by show j.val / 64 * 64 + e'.val = 0 * 1024 + j.val / 64 * 64 + e'.val; omega)))) rfl) rfl)
  have hc : ∀ k : Fin 8, Host.cos (angles (m ((c : Thread nD τ).loc main_arg1))) (ix2 l k) = Ideal.cos (angle (((m ((c : Thread nD τ).loc main_arg1)) : Vec Ideal S8 .i32) (ix1 l)) k) := fun k =>
    congrArg Ideal.cos (angles_apply _ l k)
  have hs : ∀ k : Fin 8, Host.sin (angles (m ((c : Thread nD τ).loc main_arg1))) (ix2 l k) = Ideal.sin (angle (((m ((c : Thread nD τ).loc main_arg1)) : Vec Ideal S8 .i32) (ix1 l)) k) := fun k =>
    congrArg Ideal.sin (angles_apply _ l k)
  exact congr (congr (congr (congrArg rotated (funext hy)) (funext hc)) (funext hs)) rfl

/-- The reference's keys, entry by entry. -/
theorem keys_apply (m : (ℓ : Loc nD τ sig) → Buf (Elt Ideal) ℓ) (c : Dev nD) (i : S128x8x1024.Idx) :
    (res_main_v102 (F := Ideal) m c : Vec Ideal S128x8x1024 .f32) i = entry (m ((c : Thread nD τ).loc main_arg0)) (m ((c : Thread nD τ).loc main_arg1)) (m ((c : Thread nD τ).loc main_arg3)) 1 (i 0) (i 1)
      ⟨(i 2).val / 64, by have : (i 2).val < 1024 := (i 2).isLt; omega⟩ ⟨(i 2).val % 64, Nat.mod_lt _ (by decide)⟩ := by
  obtain ⟨b, l, j, rfl⟩ : ∃ (b : Fin 128) (l : Fin 8) (j : Fin 1024), i = ix3 b l j := ⟨i 0, i 1, i 2, eq_ix3 i⟩
  refine (congrFun (keys_eq m c) _).trans ?_
  refine (flat_apply _ b l j).trans ((turned_apply _ _ _ b l _ _).trans ?_)
  show _ = entry (m ((c : Thread nD τ).loc main_arg0)) (m ((c : Thread nD τ).loc main_arg1)) (m ((c : Thread nD τ).loc main_arg3)) 1 b l ⟨j.val / 64, by omega⟩ ⟨j.val % 64, Nat.mod_lt _ (by decide)⟩
  have hy : ∀ e : Fin 64, heads1 (m ((c : Thread nD τ).loc main_arg0)) (m ((c : Thread nD τ).loc main_arg3)) (ix4 b l ⟨j.val / 64, by omega⟩ e)
      = normed (fun e' => (m ((c : Thread nD τ).loc main_arg0)) (ix3 b l ⟨(1 : Fin 2).val * 1024 + j.val / 64 * 64 + e'.val, by show 1 * 1024 + j.val / 64 * 64 + e'.val < 3072; omega⟩)) ((m ((c : Thread nD τ).loc main_arg3)) (ix1 e)) e := fun e =>
    (heads1_apply _ _ b l _ e).trans (congr (congr (congrArg normed (funext fun e' => congrArg (fun z => (m ((c : Thread nD τ).loc main_arg0)) (ix3 b l z)) (Fin.ext (by show 1024 + j.val / 64 * 64 + e'.val = 1 * 1024 + j.val / 64 * 64 + e'.val; omega)))) rfl) rfl)
  have hc : ∀ k : Fin 8, Host.cos (angles (m ((c : Thread nD τ).loc main_arg1))) (ix2 l k) = Ideal.cos (angle (((m ((c : Thread nD τ).loc main_arg1)) : Vec Ideal S8 .i32) (ix1 l)) k) := fun k =>
    congrArg Ideal.cos (angles_apply _ l k)
  have hs : ∀ k : Fin 8, Host.sin (angles (m ((c : Thread nD τ).loc main_arg1))) (ix2 l k) = Ideal.sin (angle (((m ((c : Thread nD τ).loc main_arg1)) : Vec Ideal S8 .i32) (ix1 l)) k) := fun k =>
    congrArg Ideal.sin (angles_apply _ l k)
  exact congr (congr (congr (congrArg rotated (funext hy)) (funext hc)) (funext hs)) rfl

/-- The reference's run: its results are queries and keys, entry by entry, and the arguments are unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v101) = (fun i => entry (m ((c : Thread nD τ).loc main_arg0)) (m ((c : Thread nD τ).loc main_arg1)) (m ((c : Thread nD τ).loc main_arg2)) 0 (i 0) (i 1) ⟨(i 2).val / 64, by have : (i 2).val < 1024 := (i 2).isLt; omega⟩ ⟨(i 2).val % 64, Nat.mod_lt _ (by decide)⟩ : Vec Ideal S128x8x1024 .f32)
      ∧ r.2.mem ((c : Thread nD τ).loc main_v102) = (fun i => entry (m ((c : Thread nD τ).loc main_arg0)) (m ((c : Thread nD τ).loc main_arg1)) (m ((c : Thread nD τ).loc main_arg3)) 1 (i 0) (i 1) ⟨(i 2).val / 64, by have : (i 2).val < 1024 := (i 2).isLt; omega⟩ ⟨(i 2).val % 64, Nat.mod_lt _ (by decide)⟩ : Vec Ideal S128x8x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (funext fun i => queries_apply m c i), (h c).2.1.trans (funext fun i => keys_apply m c i), (h c).2.2⟩) (run m ρ)

end Cert.RotarySampleReferenceIdeal.Value

end
-- ==== Proof.SsdSpec.lean ====
module

public import proofs.«01_k».proof.Proof.MlstmSpec

@[expose] public section

set_option maxRecDepth 16384

noncomputable section

/-! # One chunk of the state space recurrence, over the extended reals

A chunk has 8 tokens. The 32 heads stand in 4 groups of 8; a head has 64 channels, and a state of 128 entries for each of them; a group's
heads share the input and output matrices `B` and `C`. `cs` is the running sum of a head's step widths `dt`, times its rate. -/

namespace Cert.Ssd

open Idealize.ShloMosaic Cert.Mlstm

/-- The softplus. -/
def softplus (x : EReal) : EReal := max x 0 + Ideal.log1p (Ideal.exp (-(FloatOps.absf (F := Ideal) (φ := .f32) x)))

/-- One channel's output at token `t`, from the products `cb` of the group's output and input rows, the head's running sums and step widths,
the channel's inputs `x`, its part `ys` of the state before the chunk, and the direct weight `d`. -/
def yhead (cb : Fin 8 → Fin 8 → EReal) (cs dt x : Fin 8 → EReal) (ys d : EReal) (t : Fin 8) : EReal :=
  (∑ s : Fin 8, cb t s * Ideal.exp (if s ≤ t then cs t - cs s else ninf) * dt s * x s) + ys * Ideal.exp (cs t) + x t * d

/-- One entry of the state after the chunk, from the entry before it. -/
def snew (S : EReal) (cs dt x bm : Fin 8 → EReal) : EReal :=
  S * Ideal.exp (cs 7) + ∑ s : Fin 8, x s * (Ideal.exp (cs 7 - cs s) * dt s) * bm s

/-- A row gated by `z` times its logistic. -/
def gate (y z : Fin 512 → EReal) (e : Fin 512) : EReal := y e * (z e * Ideal.div 1 (1 + Ideal.exp (-z e)))

/-- A group's row, gated, normalised by its root mean square, and weighted. -/
def grow (y z w : Fin 512 → EReal) (e : Fin 512) : EReal :=
  gate y z e * Ideal.rsqrt (Ideal.div (∑ e : Fin 512, gate y z e * gate y z e) (Ideal.ofBits FTy.f32 0x44000000#32)
    + Ideal.ofBits FTy.f32 0x358637BD#32) * w e

/-! The layer's results from the arrays: the convolved projections `x` (the heads' channels, then the groups' input rows, then their output
rows), the gates `z`, the step widths `d` (each group's in its own 128 columns) with their bias `db`, the rates `al`, the direct weights
`dk`, the norm's weight `w`, and the state `S` before the chunk. -/

/-- Head `g * 8 + r`'s step widths. -/
def headDt (d : Vec Ideal ⟨3, ![128, 8, 512]⟩ .f32) (db : Vec Ideal ⟨1, ![32]⟩ .f32) (b : Fin 128) (g : Fin 4) (r t : Fin 8) : EReal :=
  softplus (d (ix3 b t ⟨g.val * 128 + r.val, by omega⟩) + db (ix1 ⟨g.val * 8 + r.val, by omega⟩))

/-- The running sums of the head's step widths, times its rate. -/
def headCs (d : Vec Ideal ⟨3, ![128, 8, 512]⟩ .f32) (db al : Vec Ideal ⟨1, ![32]⟩ .f32) (b : Fin 128) (g : Fin 4) (r : Fin 8) : Fin 8 → EReal :=
  cum fun s => headDt d db b g r s * -Ideal.exp (al (ix1 ⟨g.val * 8 + r.val, by omega⟩))

/-- The group's input rows. -/
def groupB (x : Vec Ideal ⟨3, ![128, 8, 3072]⟩ .f32) (b : Fin 128) (g : Fin 4) (t : Fin 8) (n : Fin 128) : EReal :=
  x (ix3 b t ⟨2048 + (g.val * 128 + n.val), by omega⟩)

/-- The group's output rows. -/
def groupC (x : Vec Ideal ⟨3, ![128, 8, 3072]⟩ .f32) (b : Fin 128) (g : Fin 4) (t : Fin 8) (n : Fin 128) : EReal :=
  x (ix3 b t ⟨2560 + (g.val * 128 + n.val), by omega⟩)

/-- Channel `p` of head `g * 8 + r`. -/
def headX (x : Vec Ideal ⟨3, ![128, 8, 3072]⟩ .f32) (b : Fin 128) (g : Fin 4) (r : Fin 8) (p : Fin 64) (t : Fin 8) : EReal :=
  x (ix3 b t ⟨g.val * 512 + (r.val * 64 + p.val), by omega⟩)

/-- The state after the chunk. -/
def resS (x : Vec Ideal ⟨3, ![128, 8, 3072]⟩ .f32) (d : Vec Ideal ⟨3, ![128, 8, 512]⟩ .f32) (db al : Vec Ideal ⟨1, ![32]⟩ .f32)
    (S : Vec Ideal ⟨4, ![128, 32, 64, 128]⟩ .f32) (b : Fin 128) (g : Fin 4) (r : Fin 8) (p : Fin 64) (n : Fin 128) : EReal :=
  snew (S (ix4 b ⟨g.val * 8 + r.val, by omega⟩ p n)) (headCs d db al b g r) (headDt d db b g r) (headX x b g r p) fun s => groupB x b g s n

/-- The recurrence's output before the gate. -/
def resH (x : Vec Ideal ⟨3, ![128, 8, 3072]⟩ .f32) (d : Vec Ideal ⟨3, ![128, 8, 512]⟩ .f32) (db al dk : Vec Ideal ⟨1, ![32]⟩ .f32)
    (S : Vec Ideal ⟨4, ![128, 32, 64, 128]⟩ .f32) (b : Fin 128) (t : Fin 8) (g : Fin 4) (r : Fin 8) (p : Fin 64) : EReal :=
  yhead (fun t s => ∑ n : Fin 128, groupC x b g t n * groupB x b g s n) (headCs d db al b g r) (headDt d db b g r) (headX x b g r p)
    (∑ n : Fin 128, groupC x b g t n * S (ix4 b ⟨g.val * 8 + r.val, by omega⟩ p n)) (dk (ix1 ⟨g.val * 8 + r.val, by omega⟩)) t

/-- The gated and normalised output, for group `g` and its entry `e`. -/
def resY (x : Vec Ideal ⟨3, ![128, 8, 3072]⟩ .f32) (z : Vec Ideal ⟨3, ![128, 8, 5120]⟩ .f32) (d : Vec Ideal ⟨3, ![128, 8, 512]⟩ .f32)
    (db al dk : Vec Ideal ⟨1, ![32]⟩ .f32) (w : Vec Ideal ⟨1, ![2048]⟩ .f32) (S : Vec Ideal ⟨4, ![128, 32, 64, 128]⟩ .f32)
    (b : Fin 128) (t : Fin 8) (g : Fin 4) (e : Fin 512) : EReal :=
  grow (fun e => resH x d db al dk S b t g ⟨e.val / 64, by omega⟩ ⟨e.val % 64, Nat.mod_lt _ (by decide)⟩)
    (fun e => z (ix3 b t ⟨g.val * 512 + e.val, by omega⟩)) (fun e => w (ix1 ⟨g.val * 512 + e.val, by omega⟩)) e

/-- The comparison of a lane with 64, as words. -/
theorem lane_word : ∀ l : Fin 128, IntOp.cmpi .slt (BitVec.ofNat 32 l.val) 64#32 = if l.val < 64 then 1#1 else 0#1 := by
  decide

end Cert.Ssd
-- ==== Proof.SsdVectors.lean ====
module

public import proofs.«01_k».proof.Proof.Gen.SsdKernelIdeal.Value
public import proofs.«01_k».proof.Proof.SsdSpec
public import Idealize.ShloMosaic.Lib.Pipeline.ValueKit
public import Idealize.ShloMosaic.Lib.Pipeline.ReadBack
public import Idealize.ShloMosaic.Lib.Pointwise

@[expose] public section

set_option maxRecDepth 16384

noncomputable section

/-! # The state space kernel's vectors, entry by entry

The body works on the 8 heads of a group two at a time: a pair's channels fill 128 lanes, the first head's in the lower 64. -/

namespace Cert.SsdKernelIdeal.Value

open Cert.SsdKernelIdeal Cert.SsdKernelIdeal.Gen Idealize.ShloMosaic Idealize.ShloMosaic.TcCoe Idealize.SL.Sem
open Cert.Mlstm Cert.Ssd

/-- A head's column as a function of the token. -/
def hd (A : Vec Ideal S8x128 .f32) (r : Fin 128) (t : Fin 8) : EReal := A (ix2 t r)

/-- The step widths. -/
theorem dt_apply (d : Vec Ideal S1x8x128 .f32) (db : Vec Ideal S1x128 .f32) (t : Fin 8) (r : Fin 128) :
    k0_pay6 (F := Ideal) d db (ix2 t r) = softplus (d (ix3 0 t r) + db (ix2 0 r)) := by
  pointwise [k0_pay6, softplus, zero_sub]

/-- The running sums. -/
theorem cs_apply (d : Vec Ideal S1x8x128 .f32) (db al : Vec Ideal S1x128 .f32) (t : Fin 8) (r : Fin 128) :
    k0_pay7 (F := Ideal) d db al (ix2 t r) = cum (fun s => softplus (d (ix3 0 s r) + db (ix2 0 r)) * -Ideal.exp (al (ix2 0 r))) t := by
  rw [← sum_causal]
  pointwise [k0_pay7, k0_pay3, dt_apply, zero_sub]

/-- The products of the group's output and input rows. -/
theorem cb_apply (B C : Vec Ideal S1x8x128 .f32) (t s : Fin 8) :
    k0_pay11 (F := Ideal) B C (ix2 t s) = ∑ n : Fin 128, C (ix3 0 t n) * B (ix3 0 s n) := by
  pointwise [k0_pay11, k0_pay9, k0_pay10]

/-- Head 0's part of the state before the chunk, at the tokens. -/
theorem ys0_apply (C : Vec Ideal S1x8x128 .f32) (S : Vec Ideal S1x8x64x128 .f32) (t : Fin 8) (p : Fin 64) :
    k0_pay12 (F := Ideal) C (k0_pay2 S) (ix2 t ⟨0 + p.val, by omega⟩) = ∑ n : Fin 128, C (ix3 0 t n) * S (ix4 0 0 p n) := by
  pointwise [k0_pay12, k0_pay10, k0_pay2]
  refine Finset.sum_congr rfl fun n _ => ?_
  exact congrArg₂ (fun (i : Fin 8) (k : Fin 64) => C (ix3 0 t n) * S (ix4 0 i k n)) (Fin.ext (by show (p.val) / 64 = 0; omega)) (Fin.ext (by show p.val % 64 = p.val; omega))

/-- Head 1's part of the state before the chunk, at the tokens. -/
theorem ys1_apply (C : Vec Ideal S1x8x128 .f32) (S : Vec Ideal S1x8x64x128 .f32) (t : Fin 8) (p : Fin 64) :
    k0_pay12 (F := Ideal) C (k0_pay2 S) (ix2 t ⟨64 + p.val, by omega⟩) = ∑ n : Fin 128, C (ix3 0 t n) * S (ix4 0 1 p n) := by
  pointwise [k0_pay12, k0_pay10, k0_pay2]
  refine Finset.sum_congr rfl fun n _ => ?_
  exact congrArg₂ (fun (i : Fin 8) (k : Fin 64) => C (ix3 0 t n) * S (ix4 0 i k n)) (Fin.ext (by show (64 + p.val) / 64 = 1; omega)) rfl

/-- Head 2's part of the state before the chunk, at the tokens. -/
theorem ys2_apply (C : Vec Ideal S1x8x128 .f32) (S : Vec Ideal S1x8x64x128 .f32) (t : Fin 8) (p : Fin 64) :
    k0_pay12 (F := Ideal) C (k0_pay2 S) (ix2 t ⟨128 + p.val, by omega⟩) = ∑ n : Fin 128, C (ix3 0 t n) * S (ix4 0 2 p n) := by
  pointwise [k0_pay12, k0_pay10, k0_pay2]
  refine Finset.sum_congr rfl fun n _ => ?_
  exact congrArg₂ (fun (i : Fin 8) (k : Fin 64) => C (ix3 0 t n) * S (ix4 0 i k n)) (Fin.ext (by show (128 + p.val) / 64 = 2; omega)) rfl

/-- Head 3's part of the state before the chunk, at the tokens. -/
theorem ys3_apply (C : Vec Ideal S1x8x128 .f32) (S : Vec Ideal S1x8x64x128 .f32) (t : Fin 8) (p : Fin 64) :
    k0_pay12 (F := Ideal) C (k0_pay2 S) (ix2 t ⟨192 + p.val, by omega⟩) = ∑ n : Fin 128, C (ix3 0 t n) * S (ix4 0 3 p n) := by
  pointwise [k0_pay12, k0_pay10, k0_pay2]
  refine Finset.sum_congr rfl fun n _ => ?_
  exact congrArg₂ (fun (i : Fin 8) (k : Fin 64) => C (ix3 0 t n) * S (ix4 0 i k n)) (Fin.ext (by show (192 + p.val) / 64 = 3; omega)) rfl

/-- Head 4's part of the state before the chunk, at the tokens. -/
theorem ys4_apply (C : Vec Ideal S1x8x128 .f32) (S : Vec Ideal S1x8x64x128 .f32) (t : Fin 8) (p : Fin 64) :
    k0_pay12 (F := Ideal) C (k0_pay2 S) (ix2 t ⟨256 + p.val, by omega⟩) = ∑ n : Fin 128, C (ix3 0 t n) * S (ix4 0 4 p n) := by
  pointwise [k0_pay12, k0_pay10, k0_pay2]
  refine Finset.sum_congr rfl fun n _ => ?_
  exact congrArg₂ (fun (i : Fin 8) (k : Fin 64) => C (ix3 0 t n) * S (ix4 0 i k n)) (Fin.ext (by show (256 + p.val) / 64 = 4; omega)) rfl

/-- Head 5's part of the state before the chunk, at the tokens. -/
theorem ys5_apply (C : Vec Ideal S1x8x128 .f32) (S : Vec Ideal S1x8x64x128 .f32) (t : Fin 8) (p : Fin 64) :
    k0_pay12 (F := Ideal) C (k0_pay2 S) (ix2 t ⟨320 + p.val, by omega⟩) = ∑ n : Fin 128, C (ix3 0 t n) * S (ix4 0 5 p n) := by
  pointwise [k0_pay12, k0_pay10, k0_pay2]
  refine Finset.sum_congr rfl fun n _ => ?_
  exact congrArg₂ (fun (i : Fin 8) (k : Fin 64) => C (ix3 0 t n) * S (ix4 0 i k n)) (Fin.ext (by show (320 + p.val) / 64 = 5; omega)) rfl

/-- Head 6's part of the state before the chunk, at the tokens. -/
theorem ys6_apply (C : Vec Ideal S1x8x128 .f32) (S : Vec Ideal S1x8x64x128 .f32) (t : Fin 8) (p : Fin 64) :
    k0_pay12 (F := Ideal) C (k0_pay2 S) (ix2 t ⟨384 + p.val, by omega⟩) = ∑ n : Fin 128, C (ix3 0 t n) * S (ix4 0 6 p n) := by
  pointwise [k0_pay12, k0_pay10, k0_pay2]
  refine Finset.sum_congr rfl fun n _ => ?_
  exact congrArg₂ (fun (i : Fin 8) (k : Fin 64) => C (ix3 0 t n) * S (ix4 0 i k n)) (Fin.ext (by show (384 + p.val) / 64 = 6; omega)) rfl

/-- Head 7's part of the state before the chunk, at the tokens. -/
theorem ys7_apply (C : Vec Ideal S1x8x128 .f32) (S : Vec Ideal S1x8x64x128 .f32) (t : Fin 8) (p : Fin 64) :
    k0_pay12 (F := Ideal) C (k0_pay2 S) (ix2 t ⟨448 + p.val, by omega⟩) = ∑ n : Fin 128, C (ix3 0 t n) * S (ix4 0 7 p n) := by
  pointwise [k0_pay12, k0_pay10, k0_pay2]
  refine Finset.sum_congr rfl fun n _ => ?_
  exact congrArg₂ (fun (i : Fin 8) (k : Fin 64) => C (ix3 0 t n) * S (ix4 0 i k n)) (Fin.ext (by show (448 + p.val) / 64 = 7; omega)) rfl

/-- The first pair's outputs, at its first head. -/
theorem y0_apply (dt cs : Vec Ideal S8x128 .f32) (X : Vec Ideal S1x8x512 .f32) (B C : Vec Ideal S1x8x128 .f32) (Y : Vec Ideal S8x512 .f32)
    (K : Vec Ideal S1x128 .f32) (t : Fin 8) (l : Fin 128) (hl : l.val < 64) :
    k0_pay25 (F := Ideal) k0_pay3 k0_pay4 k0_pay5 dt cs (k0_pay11 B C) Y (k0_pay13 (k0_pay8 X)) (k0_pay17 k0_pay3 k0_pay4 dt cs (k0_pay8 X) B C) (k0_pay18 cs) K (ix2 t l)
      = yhead (fun t s => k0_pay11 (F := Ideal) B C (ix2 t s)) (hd cs 0) (hd dt 0) (fun s => X (ix3 0 s ⟨0 + l.val, by omega⟩))
          (Y (ix2 t ⟨0 + l.val, by omega⟩)) (K (ix2 0 l)) t := by
  pointwise [k0_pay3, k0_pay4, k0_pay5, k0_pay8, k0_pay25, k0_pay21, k0_pay22, k0_pay17, k0_pay14, k0_pay15, k0_pay13, k0_pay18]
  simp only [sle_word, eq_word, lane_word, select_word, sum_diag, if_pos hl]
  rfl

/-- The first pair's outputs, at its second head. -/
theorem y1_apply (dt cs : Vec Ideal S8x128 .f32) (X : Vec Ideal S1x8x512 .f32) (B C : Vec Ideal S1x8x128 .f32) (Y : Vec Ideal S8x512 .f32)
    (K : Vec Ideal S1x128 .f32) (t : Fin 8) (l : Fin 128) (hl : ¬ l.val < 64) :
    k0_pay25 (F := Ideal) k0_pay3 k0_pay4 k0_pay5 dt cs (k0_pay11 B C) Y (k0_pay13 (k0_pay8 X)) (k0_pay17 k0_pay3 k0_pay4 dt cs (k0_pay8 X) B C) (k0_pay18 cs) K (ix2 t l)
      = yhead (fun t s => k0_pay11 (F := Ideal) B C (ix2 t s)) (hd cs 1) (hd dt 1) (fun s => X (ix3 0 s ⟨0 + l.val, by omega⟩))
          (Y (ix2 t ⟨0 + l.val, by omega⟩)) (K (ix2 0 l)) t := by
  pointwise [k0_pay3, k0_pay4, k0_pay5, k0_pay8, k0_pay25, k0_pay21, k0_pay22, k0_pay17, k0_pay14, k0_pay15, k0_pay13, k0_pay18]
  simp only [sle_word, eq_word, lane_word, select_word, sum_diag, if_neg hl]
  rfl

/-- The second pair's outputs, at its first head. -/
theorem y2_apply (dt cs : Vec Ideal S8x128 .f32) (X : Vec Ideal S1x8x512 .f32) (B C : Vec Ideal S1x8x128 .f32) (Y : Vec Ideal S8x512 .f32)
    (K : Vec Ideal S1x128 .f32) (t : Fin 8) (l : Fin 128) (hl : l.val < 64) :
    k0_pay41 (F := Ideal) k0_pay4 k0_pay5 Y (k0_pay28 (k0_pay8 X)) (k0_pay32 k0_pay3 k0_pay4 dt cs (k0_pay8 X) (k0_pay11 B C)) (k0_pay33 cs) (k0_pay36 cs) (k0_pay37 dt) (k0_pay39 k0_pay3 k0_pay4 cs (k0_pay11 B C)) K (ix2 t l)
      = yhead (fun t s => k0_pay11 (F := Ideal) B C (ix2 t s)) (hd cs 2) (hd dt 2) (fun s => X (ix3 0 s ⟨128 + l.val, by omega⟩))
          (Y (ix2 t ⟨128 + l.val, by omega⟩)) (K (ix2 0 l)) t := by
  pointwise [k0_pay3, k0_pay4, k0_pay5, k0_pay8, k0_pay41, k0_pay28, k0_pay32, k0_pay29, k0_pay30, k0_pay33, k0_pay36, k0_pay37, k0_pay39]
  simp only [sle_word, eq_word, lane_word, select_word, sum_diag, if_pos hl]
  rfl

/-- The second pair's outputs, at its second head. -/
theorem y3_apply (dt cs : Vec Ideal S8x128 .f32) (X : Vec Ideal S1x8x512 .f32) (B C : Vec Ideal S1x8x128 .f32) (Y : Vec Ideal S8x512 .f32)
    (K : Vec Ideal S1x128 .f32) (t : Fin 8) (l : Fin 128) (hl : ¬ l.val < 64) :
    k0_pay41 (F := Ideal) k0_pay4 k0_pay5 Y (k0_pay28 (k0_pay8 X)) (k0_pay32 k0_pay3 k0_pay4 dt cs (k0_pay8 X) (k0_pay11 B C)) (k0_pay33 cs) (k0_pay36 cs) (k0_pay37 dt) (k0_pay39 k0_pay3 k0_pay4 cs (k0_pay11 B C)) K (ix2 t l)
      = yhead (fun t s => k0_pay11 (F := Ideal) B C (ix2 t s)) (hd cs 3) (hd dt 3) (fun s => X (ix3 0 s ⟨128 + l.val, by omega⟩))
          (Y (ix2 t ⟨128 + l.val, by omega⟩)) (K (ix2 0 l)) t := by
  pointwise [k0_pay3, k0_pay4, k0_pay5, k0_pay8, k0_pay41, k0_pay28, k0_pay32, k0_pay29, k0_pay30, k0_pay33, k0_pay36, k0_pay37, k0_pay39]
  simp only [sle_word, eq_word, lane_word, select_word, sum_diag, if_neg hl]
  rfl

/-- The third pair's outputs, at its first head. -/
theorem y4_apply (dt cs : Vec Ideal S8x128 .f32) (X : Vec Ideal S1x8x512 .f32) (B C : Vec Ideal S1x8x128 .f32) (Y : Vec Ideal S8x512 .f32)
    (K : Vec Ideal S1x128 .f32) (t : Fin 8) (l : Fin 128) (hl : l.val < 64) :
    k0_pay59 (F := Ideal) k0_pay5 Y (k0_pay43 (k0_pay8 X)) (k0_pay48 k0_pay4 (k0_pay11 B C) (k0_pay43 (k0_pay8 X)) (k0_pay45 dt) (k0_pay47 k0_pay3 k0_pay4 cs)) (k0_pay49 (k0_pay44 cs)) (k0_pay55 k0_pay3 k0_pay4 dt cs (k0_pay11 B C) (k0_pay43 (k0_pay8 X))) (k0_pay56 cs) K (ix2 t l)
      = yhead (fun t s => k0_pay11 (F := Ideal) B C (ix2 t s)) (hd cs 4) (hd dt 4) (fun s => X (ix3 0 s ⟨256 + l.val, by omega⟩))
          (Y (ix2 t ⟨256 + l.val, by omega⟩)) (K (ix2 0 l)) t := by
  pointwise [k0_pay3, k0_pay4, k0_pay5, k0_pay8, k0_pay59, k0_pay43, k0_pay48, k0_pay44, k0_pay45, k0_pay47, k0_pay49, k0_pay55, k0_pay52, k0_pay53, k0_pay56]
  simp only [sle_word, eq_word, lane_word, select_word, sum_diag, if_pos hl]
  rfl

/-- The third pair's outputs, at its second head. -/
theorem y5_apply (dt cs : Vec Ideal S8x128 .f32) (X : Vec Ideal S1x8x512 .f32) (B C : Vec Ideal S1x8x128 .f32) (Y : Vec Ideal S8x512 .f32)
    (K : Vec Ideal S1x128 .f32) (t : Fin 8) (l : Fin 128) (hl : ¬ l.val < 64) :
    k0_pay59 (F := Ideal) k0_pay5 Y (k0_pay43 (k0_pay8 X)) (k0_pay48 k0_pay4 (k0_pay11 B C) (k0_pay43 (k0_pay8 X)) (k0_pay45 dt) (k0_pay47 k0_pay3 k0_pay4 cs)) (k0_pay49 (k0_pay44 cs)) (k0_pay55 k0_pay3 k0_pay4 dt cs (k0_pay11 B C) (k0_pay43 (k0_pay8 X))) (k0_pay56 cs) K (ix2 t l)
      = yhead (fun t s => k0_pay11 (F := Ideal) B C (ix2 t s)) (hd cs 5) (hd dt 5) (fun s => X (ix3 0 s ⟨256 + l.val, by omega⟩))
          (Y (ix2 t ⟨256 + l.val, by omega⟩)) (K (ix2 0 l)) t := by
  pointwise [k0_pay3, k0_pay4, k0_pay5, k0_pay8, k0_pay59, k0_pay43, k0_pay48, k0_pay44, k0_pay45, k0_pay47, k0_pay49, k0_pay55, k0_pay52, k0_pay53, k0_pay56]
  simp only [sle_word, eq_word, lane_word, select_word, sum_diag, if_neg hl]
  rfl

/-- The fourth pair's outputs, at its first head. -/
theorem y6_apply (dt cs : Vec Ideal S8x128 .f32) (X : Vec Ideal S1x8x512 .f32) (B C : Vec Ideal S1x8x128 .f32) (Y : Vec Ideal S8x512 .f32)
    (K : Vec Ideal S1x128 .f32) (t : Fin 8) (l : Fin 128) (hl : l.val < 64) :
    k0_pay74 (F := Ideal) k0_pay3 k0_pay4 k0_pay5 dt cs (k0_pay11 B C) Y (k0_pay61 (k0_pay8 X)) (k0_pay65 k0_pay3 k0_pay4 dt cs (k0_pay8 X) (k0_pay11 B C)) (k0_pay66 cs) K (ix2 t l)
      = yhead (fun t s => k0_pay11 (F := Ideal) B C (ix2 t s)) (hd cs 6) (hd dt 6) (fun s => X (ix3 0 s ⟨384 + l.val, by omega⟩))
          (Y (ix2 t ⟨384 + l.val, by omega⟩)) (K (ix2 0 l)) t := by
  pointwise [k0_pay3, k0_pay4, k0_pay5, k0_pay8, k0_pay74, k0_pay69, k0_pay70, k0_pay61, k0_pay65, k0_pay62, k0_pay63, k0_pay66]
  simp only [sle_word, eq_word, lane_word, select_word, sum_diag, if_pos hl]
  rfl

/-- The fourth pair's outputs, at its second head. -/
theorem y7_apply (dt cs : Vec Ideal S8x128 .f32) (X : Vec Ideal S1x8x512 .f32) (B C : Vec Ideal S1x8x128 .f32) (Y : Vec Ideal S8x512 .f32)
    (K : Vec Ideal S1x128 .f32) (t : Fin 8) (l : Fin 128) (hl : ¬ l.val < 64) :
    k0_pay74 (F := Ideal) k0_pay3 k0_pay4 k0_pay5 dt cs (k0_pay11 B C) Y (k0_pay61 (k0_pay8 X)) (k0_pay65 k0_pay3 k0_pay4 dt cs (k0_pay8 X) (k0_pay11 B C)) (k0_pay66 cs) K (ix2 t l)
      = yhead (fun t s => k0_pay11 (F := Ideal) B C (ix2 t s)) (hd cs 7) (hd dt 7) (fun s => X (ix3 0 s ⟨384 + l.val, by omega⟩))
          (Y (ix2 t ⟨384 + l.val, by omega⟩)) (K (ix2 0 l)) t := by
  pointwise [k0_pay3, k0_pay4, k0_pay5, k0_pay8, k0_pay74, k0_pay69, k0_pay70, k0_pay61, k0_pay65, k0_pay62, k0_pay63, k0_pay66]
  simp only [sle_word, eq_word, lane_word, select_word, sum_diag, if_neg hl]
  rfl

/-- The fourth pair's weighted inputs. -/
def x3v (dt cs : Vec Ideal S8x128 .f32) (X : Vec Ideal S1x8x512 .f32) : Vec Ideal S8x128 .f32 :=
  mulf (k0_pay61 (F := Ideal) (k0_pay8 X)) (select k0_pay5 (k0_pay75 (k0_pay63 dt) (k0_pay67 cs))
    (broadcastTo S8x128 (shapeCast S8x1 (k0_pay72 dt cs) shapeCasts_S8x1_S8x1) broadcasts_S8x1_S8x128))

/-- The first pair's weighted inputs, at its first head. -/
theorem xw0_apply (dt cs : Vec Ideal S8x128 .f32) (X : Vec Ideal S1x8x512 .f32) (s : Fin 8) (l : Fin 128) (hl : l.val < 64) :
    k0_pay27 (F := Ideal) (k0_pay13 (k0_pay8 X)) (k0_pay26 k0_pay5 dt cs (k0_pay19 dt cs)) (ix2 s l)
      = X (ix3 0 s ⟨0 + l.val, by omega⟩) * (Ideal.exp (hd cs 0 7 - hd cs 0 s) * hd dt 0 s) := by
  pointwise [k0_pay5, k0_pay8, k0_pay27, k0_pay13, k0_pay26, k0_pay19, k0_pay16, k0_pay14, k0_pay15, k0_pay21, k0_pay22, k0_pay23]
  simp only [lane_word, select_word, if_pos hl]
  rfl

/-- The first pair's weighted inputs, at its second head. -/
theorem xw1_apply (dt cs : Vec Ideal S8x128 .f32) (X : Vec Ideal S1x8x512 .f32) (s : Fin 8) (l : Fin 128) (hl : ¬ l.val < 64) :
    k0_pay27 (F := Ideal) (k0_pay13 (k0_pay8 X)) (k0_pay26 k0_pay5 dt cs (k0_pay19 dt cs)) (ix2 s l)
      = X (ix3 0 s ⟨0 + l.val, by omega⟩) * (Ideal.exp (hd cs 1 7 - hd cs 1 s) * hd dt 1 s) := by
  pointwise [k0_pay5, k0_pay8, k0_pay27, k0_pay13, k0_pay26, k0_pay19, k0_pay16, k0_pay14, k0_pay15, k0_pay21, k0_pay22, k0_pay23]
  simp only [lane_word, select_word, if_neg hl]
  rfl

/-- The second pair's weighted inputs, at its first head. -/
theorem xw2_apply (dt cs : Vec Ideal S8x128 .f32) (X : Vec Ideal S1x8x512 .f32) (s : Fin 8) (l : Fin 128) (hl : l.val < 64) :
    k0_pay42 (F := Ideal) k0_pay5 (k0_pay28 (k0_pay8 X)) (k0_pay34 dt cs) (k0_pay36 cs) (k0_pay37 dt) (k0_pay38 cs) (ix2 s l)
      = X (ix3 0 s ⟨128 + l.val, by omega⟩) * (Ideal.exp (hd cs 2 7 - hd cs 2 s) * hd dt 2 s) := by
  pointwise [k0_pay5, k0_pay8, k0_pay42, k0_pay28, k0_pay34, k0_pay36, k0_pay37, k0_pay38, k0_pay29, k0_pay30, k0_pay31]
  simp only [lane_word, select_word, if_pos hl]
  rfl

/-- The second pair's weighted inputs, at its second head. -/
theorem xw3_apply (dt cs : Vec Ideal S8x128 .f32) (X : Vec Ideal S1x8x512 .f32) (s : Fin 8) (l : Fin 128) (hl : ¬ l.val < 64) :
    k0_pay42 (F := Ideal) k0_pay5 (k0_pay28 (k0_pay8 X)) (k0_pay34 dt cs) (k0_pay36 cs) (k0_pay37 dt) (k0_pay38 cs) (ix2 s l)
      = X (ix3 0 s ⟨128 + l.val, by omega⟩) * (Ideal.exp (hd cs 3 7 - hd cs 3 s) * hd dt 3 s) := by
  pointwise [k0_pay5, k0_pay8, k0_pay42, k0_pay28, k0_pay34, k0_pay36, k0_pay37, k0_pay38, k0_pay29, k0_pay30, k0_pay31]
  simp only [lane_word, select_word, if_neg hl]
  rfl

/-- The third pair's weighted inputs, at its first head. -/
theorem xw4_apply (dt cs : Vec Ideal S8x128 .f32) (X : Vec Ideal S1x8x512 .f32) (s : Fin 8) (l : Fin 128) (hl : l.val < 64) :
    k0_pay60 (F := Ideal) k0_pay5 (k0_pay43 (k0_pay8 X)) (k0_pay50 (k0_pay44 cs) (k0_pay45 dt) (k0_pay46 cs)) (k0_pay57 dt cs) (ix2 s l)
      = X (ix3 0 s ⟨256 + l.val, by omega⟩) * (Ideal.exp (hd cs 4 7 - hd cs 4 s) * hd dt 4 s) := by
  pointwise [k0_pay5, k0_pay8, k0_pay60, k0_pay43, k0_pay50, k0_pay44, k0_pay45, k0_pay46, k0_pay57, k0_pay52, k0_pay53, k0_pay54]
  simp only [lane_word, select_word, if_pos hl]
  rfl

/-- The third pair's weighted inputs, at its second head. -/
theorem xw5_apply (dt cs : Vec Ideal S8x128 .f32) (X : Vec Ideal S1x8x512 .f32) (s : Fin 8) (l : Fin 128) (hl : ¬ l.val < 64) :
    k0_pay60 (F := Ideal) k0_pay5 (k0_pay43 (k0_pay8 X)) (k0_pay50 (k0_pay44 cs) (k0_pay45 dt) (k0_pay46 cs)) (k0_pay57 dt cs) (ix2 s l)
      = X (ix3 0 s ⟨256 + l.val, by omega⟩) * (Ideal.exp (hd cs 5 7 - hd cs 5 s) * hd dt 5 s) := by
  pointwise [k0_pay5, k0_pay8, k0_pay60, k0_pay43, k0_pay50, k0_pay44, k0_pay45, k0_pay46, k0_pay57, k0_pay52, k0_pay53, k0_pay54]
  simp only [lane_word, select_word, if_neg hl]
  rfl

/-- The fourth pair's weighted inputs, at its first head. -/
theorem xw6_apply (dt cs : Vec Ideal S8x128 .f32) (X : Vec Ideal S1x8x512 .f32) (s : Fin 8) (l : Fin 128) (hl : l.val < 64) :
    x3v dt cs X (ix2 s l)
      = X (ix3 0 s ⟨384 + l.val, by omega⟩) * (Ideal.exp (hd cs 6 7 - hd cs 6 s) * hd dt 6 s) := by
  pointwise [k0_pay5, k0_pay8, k0_pay61, k0_pay72, k0_pay75, k0_pay63, k0_pay67, k0_pay62, k0_pay64, k0_pay69, k0_pay70, k0_pay71, x3v]
  simp only [lane_word, select_word, if_pos hl]
  rfl

/-- The fourth pair's weighted inputs, at its second head. -/
theorem xw7_apply (dt cs : Vec Ideal S8x128 .f32) (X : Vec Ideal S1x8x512 .f32) (s : Fin 8) (l : Fin 128) (hl : ¬ l.val < 64) :
    x3v dt cs X (ix2 s l)
      = X (ix3 0 s ⟨384 + l.val, by omega⟩) * (Ideal.exp (hd cs 7 7 - hd cs 7 s) * hd dt 7 s) := by
  pointwise [k0_pay5, k0_pay8, k0_pay61, k0_pay72, k0_pay75, k0_pay63, k0_pay67, k0_pay62, k0_pay64, k0_pay69, k0_pay70, k0_pay71, x3v]
  simp only [lane_word, select_word, if_neg hl]
  rfl

/-- Head 0's sum over the chunk, of weighted inputs and input rows. -/
theorem upd0_apply (dt cs x0 x1 x2 : Vec Ideal S8x128 .f32) (X : Vec Ideal S1x8x512 .f32) (B : Vec Ideal S1x8x128 .f32) (p : Fin 64) (n : Fin 128) :
    k0_pay76 (F := Ideal) k0_pay5 (k0_pay9 B) x0 x1 x2 (k0_pay61 (k0_pay8 X)) (k0_pay72 dt cs) (k0_pay75 (k0_pay63 dt) (k0_pay67 cs)) (ix2 ⟨0 + p.val, by omega⟩ n)
      = ∑ s : Fin 8, x0 (ix2 s ⟨0 + p.val, by omega⟩) * B (ix3 0 s n) := by
  pointwise [k0_pay76, k0_pay9]
  refine Finset.sum_congr rfl fun s _ => congrArg (· * B (ix3 0 s n)) ?_
  split_ifs <;> first
    | (exfalso; omega)
    | exact congrArg (fun k : Fin 128 => x0 (ix2 s k)) (Fin.ext (by (try dsimp only) <;> omega))

/-- Head 1's sum over the chunk, of weighted inputs and input rows. -/
theorem upd1_apply (dt cs x0 x1 x2 : Vec Ideal S8x128 .f32) (X : Vec Ideal S1x8x512 .f32) (B : Vec Ideal S1x8x128 .f32) (p : Fin 64) (n : Fin 128) :
    k0_pay76 (F := Ideal) k0_pay5 (k0_pay9 B) x0 x1 x2 (k0_pay61 (k0_pay8 X)) (k0_pay72 dt cs) (k0_pay75 (k0_pay63 dt) (k0_pay67 cs)) (ix2 ⟨64 + p.val, by omega⟩ n)
      = ∑ s : Fin 8, x0 (ix2 s ⟨64 + p.val, by omega⟩) * B (ix3 0 s n) := by
  pointwise [k0_pay76, k0_pay9]
  refine Finset.sum_congr rfl fun s _ => congrArg (· * B (ix3 0 s n)) ?_
  split_ifs <;> first
    | (exfalso; omega)
    | exact congrArg (fun k : Fin 128 => x0 (ix2 s k)) (Fin.ext (by (try dsimp only) <;> omega))

/-- Head 2's sum over the chunk, of weighted inputs and input rows. -/
theorem upd2_apply (dt cs x0 x1 x2 : Vec Ideal S8x128 .f32) (X : Vec Ideal S1x8x512 .f32) (B : Vec Ideal S1x8x128 .f32) (p : Fin 64) (n : Fin 128) :
    k0_pay76 (F := Ideal) k0_pay5 (k0_pay9 B) x0 x1 x2 (k0_pay61 (k0_pay8 X)) (k0_pay72 dt cs) (k0_pay75 (k0_pay63 dt) (k0_pay67 cs)) (ix2 ⟨128 + p.val, by omega⟩ n)
      = ∑ s : Fin 8, x1 (ix2 s ⟨0 + p.val, by omega⟩) * B (ix3 0 s n) := by
  pointwise [k0_pay76, k0_pay9]
  refine Finset.sum_congr rfl fun s _ => congrArg (· * B (ix3 0 s n)) ?_
  split_ifs <;> first
    | (exfalso; omega)
    | exact congrArg (fun k : Fin 128 => x1 (ix2 s k)) (Fin.ext (by (try dsimp only) <;> omega))

/-- Head 3's sum over the chunk, of weighted inputs and input rows. -/
theorem upd3_apply (dt cs x0 x1 x2 : Vec Ideal S8x128 .f32) (X : Vec Ideal S1x8x512 .f32) (B : Vec Ideal S1x8x128 .f32) (p : Fin 64) (n : Fin 128) :
    k0_pay76 (F := Ideal) k0_pay5 (k0_pay9 B) x0 x1 x2 (k0_pay61 (k0_pay8 X)) (k0_pay72 dt cs) (k0_pay75 (k0_pay63 dt) (k0_pay67 cs)) (ix2 ⟨192 + p.val, by omega⟩ n)
      = ∑ s : Fin 8, x1 (ix2 s ⟨64 + p.val, by omega⟩) * B (ix3 0 s n) := by
  pointwise [k0_pay76, k0_pay9]
  refine Finset.sum_congr rfl fun s _ => congrArg (· * B (ix3 0 s n)) ?_
  split_ifs <;> first
    | (exfalso; omega)
    | exact congrArg (fun k : Fin 128 => x1 (ix2 s k)) (Fin.ext (by (try dsimp only) <;> omega))

/-- Head 4's sum over the chunk, of weighted inputs and input rows. -/
theorem upd4_apply (dt cs x0 x1 x2 : Vec Ideal S8x128 .f32) (X : Vec Ideal S1x8x512 .f32) (B : Vec Ideal S1x8x128 .f32) (p : Fin 64) (n : Fin 128) :
    k0_pay76 (F := Ideal) k0_pay5 (k0_pay9 B) x0 x1 x2 (k0_pay61 (k0_pay8 X)) (k0_pay72 dt cs) (k0_pay75 (k0_pay63 dt) (k0_pay67 cs)) (ix2 ⟨256 + p.val, by omega⟩ n)
      = ∑ s : Fin 8, x2 (ix2 s ⟨0 + p.val, by omega⟩) * B (ix3 0 s n) := by
  pointwise [k0_pay76, k0_pay9]
  refine Finset.sum_congr rfl fun s _ => congrArg (· * B (ix3 0 s n)) ?_
  split_ifs <;> first
    | (exfalso; omega)
    | exact congrArg (fun k : Fin 128 => x2 (ix2 s k)) (Fin.ext (by (try dsimp only) <;> omega))

/-- Head 5's sum over the chunk, of weighted inputs and input rows. -/
theorem upd5_apply (dt cs x0 x1 x2 : Vec Ideal S8x128 .f32) (X : Vec Ideal S1x8x512 .f32) (B : Vec Ideal S1x8x128 .f32) (p : Fin 64) (n : Fin 128) :
    k0_pay76 (F := Ideal) k0_pay5 (k0_pay9 B) x0 x1 x2 (k0_pay61 (k0_pay8 X)) (k0_pay72 dt cs) (k0_pay75 (k0_pay63 dt) (k0_pay67 cs)) (ix2 ⟨320 + p.val, by omega⟩ n)
      = ∑ s : Fin 8, x2 (ix2 s ⟨64 + p.val, by omega⟩) * B (ix3 0 s n) := by
  pointwise [k0_pay76, k0_pay9]
  refine Finset.sum_congr rfl fun s _ => congrArg (· * B (ix3 0 s n)) ?_
  split_ifs <;> first
    | (exfalso; omega)
    | exact congrArg (fun k : Fin 128 => x2 (ix2 s k)) (Fin.ext (by (try dsimp only) <;> omega))

/-- Head 6's sum over the chunk, of weighted inputs and input rows. -/
theorem upd6_apply (dt cs x0 x1 x2 : Vec Ideal S8x128 .f32) (X : Vec Ideal S1x8x512 .f32) (B : Vec Ideal S1x8x128 .f32) (p : Fin 64) (n : Fin 128) :
    k0_pay76 (F := Ideal) k0_pay5 (k0_pay9 B) x0 x1 x2 (k0_pay61 (k0_pay8 X)) (k0_pay72 dt cs) (k0_pay75 (k0_pay63 dt) (k0_pay67 cs)) (ix2 ⟨384 + p.val, by omega⟩ n)
      = ∑ s : Fin 8, x3v dt cs X (ix2 s ⟨0 + p.val, by omega⟩) * B (ix3 0 s n) := by
  pointwise [k0_pay76, k0_pay9, x3v]
  refine Finset.sum_congr rfl fun s _ => congrArg (· * B (ix3 0 s n)) ?_
  split_ifs <;> first
    | (exfalso; omega)
    | exact congrArg (fun k : Fin 128 => k0_pay61 (F := Ideal) (k0_pay8 X) (ix2 s k)
        * Scalar.select (k0_pay5 (ix2 s k)) (k0_pay75 (F := Ideal) (k0_pay63 dt) (k0_pay67 cs) (ix2 s k)) (k0_pay72 dt cs (ix2 s 0))) (Fin.ext (by (try dsimp only) <;> omega))

/-- Head 7's sum over the chunk, of weighted inputs and input rows. -/
theorem upd7_apply (dt cs x0 x1 x2 : Vec Ideal S8x128 .f32) (X : Vec Ideal S1x8x512 .f32) (B : Vec Ideal S1x8x128 .f32) (p : Fin 64) (n : Fin 128) :
    k0_pay76 (F := Ideal) k0_pay5 (k0_pay9 B) x0 x1 x2 (k0_pay61 (k0_pay8 X)) (k0_pay72 dt cs) (k0_pay75 (k0_pay63 dt) (k0_pay67 cs)) (ix2 ⟨448 + p.val, by omega⟩ n)
      = ∑ s : Fin 8, x3v dt cs X (ix2 s ⟨64 + p.val, by omega⟩) * B (ix3 0 s n) := by
  pointwise [k0_pay76, k0_pay9, x3v]
  refine Finset.sum_congr rfl fun s _ => congrArg (· * B (ix3 0 s n)) ?_
  split_ifs <;> first
    | (exfalso; omega)
    | exact congrArg (fun k : Fin 128 => k0_pay61 (F := Ideal) (k0_pay8 X) (ix2 s k)
        * Scalar.select (k0_pay5 (ix2 s k)) (k0_pay75 (F := Ideal) (k0_pay63 dt) (k0_pay67 cs) (ix2 s k)) (k0_pay72 dt cs (ix2 s 0))) (Fin.ext (by (try dsimp only) <;> omega))

/-- Four pairs' rows side by side. -/
def cat4 (v0 v1 v2 v3 : Vec Ideal S8x128 .f32) : Vec Ideal S8x512 .f32 :=
  concatenate S8x512 1 [⟨S8x128, v0⟩, ⟨S8x128, v1⟩, ⟨S8x128, v2⟩, ⟨S8x128, v3⟩] concatenates_S8x128_S8x128_S8x128_S8x128_S8x512_d1

/-- The first pair of four. -/
theorem cat4_0 (v0 v1 v2 v3 : Vec Ideal S8x128 .f32) (t : Fin 8) (l : Fin 128) :
    cat4 v0 v1 v2 v3 (ix2 t ⟨0 + l.val, by omega⟩) = v0 (ix2 t l) := by
  pointwise [cat4]

/-- The second pair of four. -/
theorem cat4_1 (v0 v1 v2 v3 : Vec Ideal S8x128 .f32) (t : Fin 8) (l : Fin 128) :
    cat4 v0 v1 v2 v3 (ix2 t ⟨128 + l.val, by omega⟩) = v1 (ix2 t l) := by
  pointwise [cat4]

/-- The third pair of four. -/
theorem cat4_2 (v0 v1 v2 v3 : Vec Ideal S8x128 .f32) (t : Fin 8) (l : Fin 128) :
    cat4 v0 v1 v2 v3 (ix2 t ⟨256 + l.val, by omega⟩) = v2 (ix2 t l) := by
  pointwise [cat4]
  split_ifs <;> first
    | (exfalso; omega)
    | exact congrArg (fun k : Fin 128 => v2 (ix2 t k)) (Fin.ext (by (try dsimp only) <;> omega))

/-- The fourth pair of four. -/
theorem cat4_3 (v0 v1 v2 v3 : Vec Ideal S8x128 .f32) (t : Fin 8) (l : Fin 128) :
    cat4 v0 v1 v2 v3 (ix2 t ⟨384 + l.val, by omega⟩) = v3 (ix2 t l) := by
  pointwise [cat4]
  split_ifs <;> first
    | (exfalso; omega)
    | exact congrArg (fun k : Fin 128 => v3 (ix2 t k)) (Fin.ext (by (try dsimp only) <;> omega))

/-- The gated and normalised row. -/
theorem row_apply (v0 v1 v2 v3 : Vec Ideal S8x128 .f32) (z : Vec Ideal S1x8x512 .f32) (w : Vec Ideal S1x512 .f32) (t : Fin 8) (e : Fin 512) :
    k0_pay85 (F := Ideal) v0 v1 v2 v3 z w (ix3 0 t e)
      = grow (fun e => cat4 v0 v1 v2 v3 (ix2 t e)) (fun e => z (ix3 0 t e)) (fun e => w (ix2 0 e)) e := by
  pointwise [k0_pay85, cat4, grow, gate, zero_sub]

end Cert.SsdKernelIdeal.Value
-- ==== Proof.SsdState.lean ====
module

public import proofs.«01_k».proof.Proof.SsdVectors

@[expose] public section

set_option maxRecDepth 16384

noncomputable section

/-! # What the state space kernel's carried buffer reads back

The buffer is filled with the state before the chunk; then, head by head, one head's part of it is read and overwritten; at the end the whole of
it is read. -/

namespace Cert.SsdKernelIdeal.Value

open Cert.SsdKernelIdeal Cert.SsdKernelIdeal.Gen Idealize.ShloMosaic Idealize.ShloMosaic.TcCoe Idealize.SL.Sem
open Cert.Mlstm Cert.Ssd

/-- The newest store, read at a place it holds. -/
theorem canon_hit {s : Shape} {e : EltTy} (r : Rect s) (w : r.shape.Idx → Elt Ideal e) (L : List (View.Piece (Elt Ideal) s e)) (x : r.shape.Idx) (y : s.Idx)
    (h : r.emb x = y) : View.canon (⟨r, w⟩ :: L) y = w x := by
  subst h
  exact View.canon_cons_emb r w L x

/-- A store that misses the place on one axis is passed over. -/
theorem canon_miss {s : Shape} {e : EltTy} (r : Rect s) (w : r.shape.Idx → Elt Ideal e) (L : List (View.Piece (Elt Ideal) s e)) (y : s.Idx)
    (a : Fin s.rank) (o n : ℕ) (ho : r.off a = o) (hs : r.stride a = 1) (hn : r.size a = n) (h : (y a).val < o ∨ o + n ≤ (y a).val) :
    View.canon (⟨r, w⟩ :: L) y = View.canon L y :=
  View.canon_cons_of_not_mem ⟨r, w⟩ L (Rect.not_mem_set_of_axis r y a o n ho hs hn h)

/-- The whole buffer. -/
abbrev sAll : Rect S8x64x128 := Rect.unit ![0, 0, 0] ![8, 64, 128] inb_S8x64x128_S8x64x128_0_0_0
/-- Head 0's part of it. -/
abbrev sAt0 : Rect S8x64x128 := Rect.unit ![0, 0, 0] ![1, 64, 128] inb_S8x64x128_S1x64x128_0_0_0
/-- Head 1's part of it. -/
abbrev sAt1 : Rect S8x64x128 := Rect.unit ![1, 0, 0] ![1, 64, 128] inb_S8x64x128_S1x64x128_1_0_0
/-- Head 2's part of it. -/
abbrev sAt2 : Rect S8x64x128 := Rect.unit ![2, 0, 0] ![1, 64, 128] inb_S8x64x128_S1x64x128_2_0_0
/-- Head 3's part of it. -/
abbrev sAt3 : Rect S8x64x128 := Rect.unit ![3, 0, 0] ![1, 64, 128] inb_S8x64x128_S1x64x128_3_0_0
/-- Head 4's part of it. -/
abbrev sAt4 : Rect S8x64x128 := Rect.unit ![4, 0, 0] ![1, 64, 128] inb_S8x64x128_S1x64x128_4_0_0
/-- Head 5's part of it. -/
abbrev sAt5 : Rect S8x64x128 := Rect.unit ![5, 0, 0] ![1, 64, 128] inb_S8x64x128_S1x64x128_5_0_0
/-- Head 6's part of it. -/
abbrev sAt6 : Rect S8x64x128 := Rect.unit ![6, 0, 0] ![1, 64, 128] inb_S8x64x128_S1x64x128_6_0_0
/-- Head 7's part of it. -/
abbrev sAt7 : Rect S8x64x128 := Rect.unit ![7, 0, 0] ![1, 64, 128] inb_S8x64x128_S1x64x128_7_0_0

/-- Head `r`'s part of a group's state. -/
def spart (Z : Vec Ideal S8x64x128 .f32) (r : Fin 8) : Vec Ideal S1x64x128 .f32 := fun y => Z (ix3 r (y 1) (y 2))

/-- Head 0's part, read after the stores of the heads before it. -/
theorem s_read0 (Z : Vec Ideal S8x64x128 .f32) :
    View.readCov (sig := sig) (κ := (Proc.tc (τ := τ)).kind) (sp := .vmem) (s := S8x64x128) (e := .f32) (Val := Elt Ideal) (View.whole cc0_scratch0) [⟨sAll, Z⟩] (sAt0).toLoadRect = spart Z 0 := by
  refine (View.readCov_fill _ _ _ _ _ (by decide)).trans ?_
  funext y
  unfold spart
  pointwise

/-- Head 1's part, read after the stores of the heads before it. -/
theorem s_read1 (w0 : Vec Ideal S1x64x128 .f32) (Z : Vec Ideal S8x64x128 .f32) :
    View.readCov (sig := sig) (κ := (Proc.tc (τ := τ)).kind) (sp := .vmem) (s := S8x64x128) (e := .f32) (Val := Elt Ideal) (View.whole cc0_scratch0) [⟨sAt0, w0⟩, ⟨sAll, Z⟩] (sAt1).toLoadRect = spart Z 1 := by
  refine (View.readCov_skip _ _ _ _ _ (by decide)).trans ((View.readCov_fill _ _ _ _ _ (by decide)).trans ?_)
  funext y
  unfold spart
  pointwise

/-- Head 2's part, read after the stores of the heads before it. -/
theorem s_read2 (w0 w1 : Vec Ideal S1x64x128 .f32) (Z : Vec Ideal S8x64x128 .f32) :
    View.readCov (sig := sig) (κ := (Proc.tc (τ := τ)).kind) (sp := .vmem) (s := S8x64x128) (e := .f32) (Val := Elt Ideal) (View.whole cc0_scratch0) [⟨sAt1, w1⟩, ⟨sAt0, w0⟩, ⟨sAll, Z⟩] (sAt2).toLoadRect = spart Z 2 := by
  refine (View.readCov_skip _ _ _ _ _ (by decide)).trans ((View.readCov_skip _ _ _ _ _ (by decide)).trans ((View.readCov_fill _ _ _ _ _ (by decide)).trans ?_))
  funext y
  unfold spart
  pointwise

/-- Head 3's part, read after the stores of the heads before it. -/
theorem s_read3 (w0 w1 w2 : Vec Ideal S1x64x128 .f32) (Z : Vec Ideal S8x64x128 .f32) :
    View.readCov (sig := sig) (κ := (Proc.tc (τ := τ)).kind) (sp := .vmem) (s := S8x64x128) (e := .f32) (Val := Elt Ideal) (View.whole cc0_scratch0) [⟨sAt2, w2⟩, ⟨sAt1, w1⟩, ⟨sAt0, w0⟩, ⟨sAll, Z⟩] (sAt3).toLoadRect = spart Z 3 := by
  refine (View.readCov_skip _ _ _ _ _ (by decide)).trans ((View.readCov_skip _ _ _ _ _ (by decide)).trans ((View.readCov_skip _ _ _ _ _ (by decide)).trans ((View.readCov_fill _ _ _ _ _ (by decide)).trans ?_)))
  funext y
  unfold spart
  pointwise

/-- Head 4's part, read after the stores of the heads before it. -/
theorem s_read4 (w0 w1 w2 w3 : Vec Ideal S1x64x128 .f32) (Z : Vec Ideal S8x64x128 .f32) :
    View.readCov (sig := sig) (κ := (Proc.tc (τ := τ)).kind) (sp := .vmem) (s := S8x64x128) (e := .f32) (Val := Elt Ideal) (View.whole cc0_scratch0) [⟨sAt3, w3⟩, ⟨sAt2, w2⟩, ⟨sAt1, w1⟩, ⟨sAt0, w0⟩, ⟨sAll, Z⟩] (sAt4).toLoadRect = spart Z 4 := by
  refine (View.readCov_skip _ _ _ _ _ (by decide)).trans ((View.readCov_skip _ _ _ _ _ (by decide)).trans ((View.readCov_skip _ _ _ _ _ (by decide)).trans ((View.readCov_skip _ _ _ _ _ (by decide)).trans ((View.readCov_fill _ _ _ _ _ (by decide)).trans ?_))))
  funext y
  unfold spart
  pointwise

/-- Head 5's part, read after the stores of the heads before it. -/
theorem s_read5 (w0 w1 w2 w3 w4 : Vec Ideal S1x64x128 .f32) (Z : Vec Ideal S8x64x128 .f32) :
    View.readCov (sig := sig) (κ := (Proc.tc (τ := τ)).kind) (sp := .vmem) (s := S8x64x128) (e := .f32) (Val := Elt Ideal) (View.whole cc0_scratch0) [⟨sAt4, w4⟩, ⟨sAt3, w3⟩, ⟨sAt2, w2⟩, ⟨sAt1, w1⟩, ⟨sAt0, w0⟩, ⟨sAll, Z⟩] (sAt5).toLoadRect = spart Z 5 := by
  refine (View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_fill _ _ _ _ _ (by decide)).trans ?_)))))
  funext y
  unfold spart
  pointwise

/-- Head 6's part, read after the stores of the heads before it. -/
theorem s_read6 (w0 w1 w2 w3 w4 w5 : Vec Ideal S1x64x128 .f32) (Z : Vec Ideal S8x64x128 .f32) :
    View.readCov (sig := sig) (κ := (Proc.tc (τ := τ)).kind) (sp := .vmem) (s := S8x64x128) (e := .f32) (Val := Elt Ideal) (View.whole cc0_scratch0) [⟨sAt5, w5⟩, ⟨sAt4, w4⟩, ⟨sAt3, w3⟩, ⟨sAt2, w2⟩, ⟨sAt1, w1⟩, ⟨sAt0, w0⟩, ⟨sAll, Z⟩] (sAt6).toLoadRect = spart Z 6 := by
  refine (View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_fill _ _ _ _ _ (by decide)).trans ?_))))))
  funext y
  unfold spart
  pointwise

/-- Head 7's part, read after the stores of the heads before it. -/
theorem s_read7 (w0 w1 w2 w3 w4 w5 w6 : Vec Ideal S1x64x128 .f32) (Z : Vec Ideal S8x64x128 .f32) :
    View.readCov (sig := sig) (κ := (Proc.tc (τ := τ)).kind) (sp := .vmem) (s := S8x64x128) (e := .f32) (Val := Elt Ideal) (View.whole cc0_scratch0) [⟨sAt6, w6⟩, ⟨sAt5, w5⟩, ⟨sAt4, w4⟩, ⟨sAt3, w3⟩, ⟨sAt2, w2⟩, ⟨sAt1, w1⟩, ⟨sAt0, w0⟩, ⟨sAll, Z⟩] (sAt7).toLoadRect = spart Z 7 := by
  refine (View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_fill _ _ _ _ _ (by decide)).trans ?_)))))))
  funext y
  unfold spart
  pointwise

/-- A group's state from its heads' parts. -/
def sall (w0 w1 w2 w3 w4 w5 w6 w7 : Vec Ideal S1x64x128 .f32) : Vec Ideal S8x64x128 .f32 := fun y =>
  (![w0, w1, w2, w3, w4, w5, w6, w7] : Fin 8 → Vec Ideal S1x64x128 .f32) (y 0) (ix3 0 (y 1) (y 2))

/-- The whole buffer read after the eight stores: each head's part is its store. -/
theorem s_whole (w0 w1 w2 w3 w4 w5 w6 w7 : Vec Ideal S1x64x128 .f32) (Z : Vec Ideal S8x64x128 .f32) :
    View.readCov (sig := sig) (κ := (Proc.tc (τ := τ)).kind) (sp := .vmem) (s := S8x64x128) (e := .f32) (Val := Elt Ideal) (View.whole cc0_scratch0) [⟨sAt7, w7⟩, ⟨sAt6, w6⟩, ⟨sAt5, w5⟩, ⟨sAt4, w4⟩, ⟨sAt3, w3⟩, ⟨sAt2, w2⟩, ⟨sAt1, w1⟩, ⟨sAt0, w0⟩, ⟨sAll, Z⟩] (sAll).toLoadRect = sall w0 w1 w2 w3 w4 w5 w6 w7 := by
  funext y
  obtain ⟨h, a1, a2, rfl⟩ : ∃ (h : Fin 8) (a1 : Fin 64) (a2 : Fin 128), y = ix3 h a1 a2 := ⟨y 0, y 1, y 2, eq_ix3 y⟩
  refine (congrFun (View.readCov_eq_canon' _ _ _) _).trans ?_
  have hy : (sAll).toLoadRect.idx (show (sAll).shape.Idx from (ix3 h a1 a2)) = ((ix3 h a1 a2) : S8x64x128.Idx) := by
    funext a
    fin_cases a <;> exact Fin.ext (by simp [LoadRect.idx, Rect.toLoadRect, Rect.unit])
  refine (congrArg _ hy).trans ?_
  rcases (show h = 0 ∨ h = 1 ∨ h = 2 ∨ h = 3 ∨ h = 4 ∨ h = 5 ∨ h = 6 ∨ h = 7 by omega) with rfl | rfl | rfl | rfl | rfl | rfl | rfl | rfl
  · refine (canon_miss (sAt7) w7 _ ((ix3 0 a1 a2) : S8x64x128.Idx) (0 : Fin 3) 7 1 rfl rfl rfl (Or.inl (by decide : 0 < 7))).trans ?_
    refine (canon_miss (sAt6) w6 _ ((ix3 0 a1 a2) : S8x64x128.Idx) (0 : Fin 3) 6 1 rfl rfl rfl (Or.inl (by decide : 0 < 6))).trans ?_
    refine (canon_miss (sAt5) w5 _ ((ix3 0 a1 a2) : S8x64x128.Idx) (0 : Fin 3) 5 1 rfl rfl rfl (Or.inl (by decide : 0 < 5))).trans ?_
    refine (canon_miss (sAt4) w4 _ ((ix3 0 a1 a2) : S8x64x128.Idx) (0 : Fin 3) 4 1 rfl rfl rfl (Or.inl (by decide : 0 < 4))).trans ?_
    refine (canon_miss (sAt3) w3 _ ((ix3 0 a1 a2) : S8x64x128.Idx) (0 : Fin 3) 3 1 rfl rfl rfl (Or.inl (by decide : 0 < 3))).trans ?_
    refine (canon_miss (sAt2) w2 _ ((ix3 0 a1 a2) : S8x64x128.Idx) (0 : Fin 3) 2 1 rfl rfl rfl (Or.inl (by decide : 0 < 2))).trans ?_
    refine (canon_miss (sAt1) w1 _ ((ix3 0 a1 a2) : S8x64x128.Idx) (0 : Fin 3) 1 1 rfl rfl rfl (Or.inl (by decide : 0 < 1))).trans ?_
    refine (canon_hit (sAt0) w0 _ (show (sAt0).shape.Idx from (ix3 0 a1 a2)) _ (Rect.emb_eq_of_coords _ _ _ ?_)).trans rfl
    intro a
    fin_cases a <;> simp [Rect.unit]
  · refine (canon_miss (sAt7) w7 _ ((ix3 1 a1 a2) : S8x64x128.Idx) (0 : Fin 3) 7 1 rfl rfl rfl (Or.inl (by decide : 1 < 7))).trans ?_
    refine (canon_miss (sAt6) w6 _ ((ix3 1 a1 a2) : S8x64x128.Idx) (0 : Fin 3) 6 1 rfl rfl rfl (Or.inl (by decide : 1 < 6))).trans ?_
    refine (canon_miss (sAt5) w5 _ ((ix3 1 a1 a2) : S8x64x128.Idx) (0 : Fin 3) 5 1 rfl rfl rfl (Or.inl (by decide : 1 < 5))).trans ?_
    refine (canon_miss (sAt4) w4 _ ((ix3 1 a1 a2) : S8x64x128.Idx) (0 : Fin 3) 4 1 rfl rfl rfl (Or.inl (by decide : 1 < 4))).trans ?_
    refine (canon_miss (sAt3) w3 _ ((ix3 1 a1 a2) : S8x64x128.Idx) (0 : Fin 3) 3 1 rfl rfl rfl (Or.inl (by decide : 1 < 3))).trans ?_
    refine (canon_miss (sAt2) w2 _ ((ix3 1 a1 a2) : S8x64x128.Idx) (0 : Fin 3) 2 1 rfl rfl rfl (Or.inl (by decide : 1 < 2))).trans ?_
    refine (canon_hit (sAt1) w1 _ (show (sAt1).shape.Idx from (ix3 0 a1 a2)) _ (Rect.emb_eq_of_coords _ _ _ ?_)).trans rfl
    intro a
    fin_cases a <;> simp [Rect.unit]
  · refine (canon_miss (sAt7) w7 _ ((ix3 2 a1 a2) : S8x64x128.Idx) (0 : Fin 3) 7 1 rfl rfl rfl (Or.inl (by decide : 2 < 7))).trans ?_
    refine (canon_miss (sAt6) w6 _ ((ix3 2 a1 a2) : S8x64x128.Idx) (0 : Fin 3) 6 1 rfl rfl rfl (Or.inl (by decide : 2 < 6))).trans ?_
    refine (canon_miss (sAt5) w5 _ ((ix3 2 a1 a2) : S8x64x128.Idx) (0 : Fin 3) 5 1 rfl rfl rfl (Or.inl (by decide : 2 < 5))).trans ?_
    refine (canon_miss (sAt4) w4 _ ((ix3 2 a1 a2) : S8x64x128.Idx) (0 : Fin 3) 4 1 rfl rfl rfl (Or.inl (by decide : 2 < 4))).trans ?_
    refine (canon_miss (sAt3) w3 _ ((ix3 2 a1 a2) : S8x64x128.Idx) (0 : Fin 3) 3 1 rfl rfl rfl (Or.inl (by decide : 2 < 3))).trans ?_
    refine (canon_hit (sAt2) w2 _ (show (sAt2).shape.Idx from (ix3 0 a1 a2)) _ (Rect.emb_eq_of_coords _ _ _ ?_)).trans rfl
    intro a
    fin_cases a <;> simp [Rect.unit]
  · refine (canon_miss (sAt7) w7 _ ((ix3 3 a1 a2) : S8x64x128.Idx) (0 : Fin 3) 7 1 rfl rfl rfl (Or.inl (by decide : 3 < 7))).trans ?_
    refine (canon_miss (sAt6) w6 _ ((ix3 3 a1 a2) : S8x64x128.Idx) (0 : Fin 3) 6 1 rfl rfl rfl (Or.inl (by decide : 3 < 6))).trans ?_
    refine (canon_miss (sAt5) w5 _ ((ix3 3 a1 a2) : S8x64x128.Idx) (0 : Fin 3) 5 1 rfl rfl rfl (Or.inl (by decide : 3 < 5))).trans ?_
    refine (canon_miss (sAt4) w4 _ ((ix3 3 a1 a2) : S8x64x128.Idx) (0 : Fin 3) 4 1 rfl rfl rfl (Or.inl (by decide : 3 < 4))).trans ?_
    refine (canon_hit (sAt3) w3 _ (show (sAt3).shape.Idx from (ix3 0 a1 a2)) _ (Rect.emb_eq_of_coords _ _ _ ?_)).trans rfl
    intro a
    fin_cases a <;> simp [Rect.unit]
  · refine (canon_miss (sAt7) w7 _ ((ix3 4 a1 a2) : S8x64x128.Idx) (0 : Fin 3) 7 1 rfl rfl rfl (Or.inl (by decide : 4 < 7))).trans ?_
    refine (canon_miss (sAt6) w6 _ ((ix3 4 a1 a2) : S8x64x128.Idx) (0 : Fin 3) 6 1 rfl rfl rfl (Or.inl (by decide : 4 < 6))).trans ?_
    refine (canon_miss (sAt5) w5 _ ((ix3 4 a1 a2) : S8x64x128.Idx) (0 : Fin 3) 5 1 rfl rfl rfl (Or.inl (by decide : 4 < 5))).trans ?_
    refine (canon_hit (sAt4) w4 _ (show (sAt4).shape.Idx from (ix3 0 a1 a2)) _ (Rect.emb_eq_of_coords _ _ _ ?_)).trans rfl
    intro a
    fin_cases a <;> simp [Rect.unit]
  · refine (canon_miss (sAt7) w7 _ ((ix3 5 a1 a2) : S8x64x128.Idx) (0 : Fin 3) 7 1 rfl rfl rfl (Or.inl (by decide : 5 < 7))).trans ?_
    refine (canon_miss (sAt6) w6 _ ((ix3 5 a1 a2) : S8x64x128.Idx) (0 : Fin 3) 6 1 rfl rfl rfl (Or.inl (by decide : 5 < 6))).trans ?_
    refine (canon_hit (sAt5) w5 _ (show (sAt5).shape.Idx from (ix3 0 a1 a2)) _ (Rect.emb_eq_of_coords _ _ _ ?_)).trans rfl
    intro a
    fin_cases a <;> simp [Rect.unit]
  · refine (canon_miss (sAt7) w7 _ ((ix3 6 a1 a2) : S8x64x128.Idx) (0 : Fin 3) 7 1 rfl rfl rfl (Or.inl (by decide : 6 < 7))).trans ?_
    refine (canon_hit (sAt6) w6 _ (show (sAt6).shape.Idx from (ix3 0 a1 a2)) _ (Rect.emb_eq_of_coords _ _ _ ?_)).trans rfl
    intro a
    fin_cases a <;> simp [Rect.unit]
  · refine (canon_hit (sAt7) w7 _ (show (sAt7).shape.Idx from (ix3 0 a1 a2)) _ (Rect.emb_eq_of_coords _ _ _ ?_)).trans rfl
    intro a
    fin_cases a <;> simp [Rect.unit]

/-- Head 0's part of the stored state. -/
theorem store_0 (w0 w1 w2 w3 w4 w5 w6 w7 : Vec Ideal S1x64x128 .f32) (p : Fin 64) (n : Fin 128) :
    k0_pay1 (F := Ideal) (sall w0 w1 w2 w3 w4 w5 w6 w7) (ix4 0 0 p n) = w0 (ix3 0 p n) := by
  pointwise [k0_pay1, sall]

/-- Head 1's part of the stored state. -/
theorem store_1 (w0 w1 w2 w3 w4 w5 w6 w7 : Vec Ideal S1x64x128 .f32) (p : Fin 64) (n : Fin 128) :
    k0_pay1 (F := Ideal) (sall w0 w1 w2 w3 w4 w5 w6 w7) (ix4 0 1 p n) = w1 (ix3 0 p n) := by
  pointwise [k0_pay1, sall]

/-- Head 2's part of the stored state. -/
theorem store_2 (w0 w1 w2 w3 w4 w5 w6 w7 : Vec Ideal S1x64x128 .f32) (p : Fin 64) (n : Fin 128) :
    k0_pay1 (F := Ideal) (sall w0 w1 w2 w3 w4 w5 w6 w7) (ix4 0 2 p n) = w2 (ix3 0 p n) := by
  pointwise [k0_pay1, sall]

/-- Head 3's part of the stored state. -/
theorem store_3 (w0 w1 w2 w3 w4 w5 w6 w7 : Vec Ideal S1x64x128 .f32) (p : Fin 64) (n : Fin 128) :
    k0_pay1 (F := Ideal) (sall w0 w1 w2 w3 w4 w5 w6 w7) (ix4 0 3 p n) = w3 (ix3 0 p n) := by
  pointwise [k0_pay1, sall]

/-- Head 4's part of the stored state. -/
theorem store_4 (w0 w1 w2 w3 w4 w5 w6 w7 : Vec Ideal S1x64x128 .f32) (p : Fin 64) (n : Fin 128) :
    k0_pay1 (F := Ideal) (sall w0 w1 w2 w3 w4 w5 w6 w7) (ix4 0 4 p n) = w4 (ix3 0 p n) := by
  pointwise [k0_pay1, sall]

/-- Head 5's part of the stored state. -/
theorem store_5 (w0 w1 w2 w3 w4 w5 w6 w7 : Vec Ideal S1x64x128 .f32) (p : Fin 64) (n : Fin 128) :
    k0_pay1 (F := Ideal) (sall w0 w1 w2 w3 w4 w5 w6 w7) (ix4 0 5 p n) = w5 (ix3 0 p n) := by
  pointwise [k0_pay1, sall]

/-- Head 6's part of the stored state. -/
theorem store_6 (w0 w1 w2 w3 w4 w5 w6 w7 : Vec Ideal S1x64x128 .f32) (p : Fin 64) (n : Fin 128) :
    k0_pay1 (F := Ideal) (sall w0 w1 w2 w3 w4 w5 w6 w7) (ix4 0 6 p n) = w6 (ix3 0 p n) := by
  pointwise [k0_pay1, sall]

/-- Head 7's part of the stored state. -/
theorem store_7 (w0 w1 w2 w3 w4 w5 w6 w7 : Vec Ideal S1x64x128 .f32) (p : Fin 64) (n : Fin 128) :
    k0_pay1 (F := Ideal) (sall w0 w1 w2 w3 w4 w5 w6 w7) (ix4 0 7 p n) = w7 (ix3 0 p n) := by
  pointwise [k0_pay1, sall]

/-- Head 0's state after the chunk. -/
theorem snew0_apply (dt cs x0 x1 x2 : Vec Ideal S8x128 .f32) (X : Vec Ideal S1x8x512 .f32) (B : Vec Ideal S1x8x128 .f32) (Z : Vec Ideal S8x64x128 .f32)
    (p : Fin 64) (n : Fin 128) :
    k0_pay77 (F := Ideal) k0_pay5 (k0_pay9 B) (k0_pay20 cs) x0 x1 x2 (k0_pay61 (k0_pay8 X)) (k0_pay72 dt cs) (k0_pay75 (k0_pay63 dt) (k0_pay67 cs)) (spart Z 0) (ix3 0 p n)
      = Z (ix3 0 p n) * Ideal.exp (hd cs 0 7) + ∑ s : Fin 8, x0 (ix2 s ⟨0 + p.val, by omega⟩) * B (ix3 0 s n) := by
  refine Eq.trans ?_ (congrArg (fun u => Z (ix3 0 p n) * Ideal.exp (hd cs 0 7) + u) (upd0_apply dt cs x0 x1 x2 X B p n))
  pointwise [k0_pay77, k0_pay20, k0_pay16, spart, hd]

/-- Head 1's state after the chunk. -/
theorem snew1_apply (dt cs x0 x1 x2 : Vec Ideal S8x128 .f32) (X : Vec Ideal S1x8x512 .f32) (B : Vec Ideal S1x8x128 .f32) (Z : Vec Ideal S8x64x128 .f32)
    (p : Fin 64) (n : Fin 128) :
    k0_pay78 (F := Ideal) k0_pay5 (k0_pay9 B) (k0_pay24 cs) x0 x1 x2 (k0_pay61 (k0_pay8 X)) (k0_pay72 dt cs) (k0_pay75 (k0_pay63 dt) (k0_pay67 cs)) (spart Z 1) (ix3 0 p n)
      = Z (ix3 1 p n) * Ideal.exp (hd cs 1 7) + ∑ s : Fin 8, x0 (ix2 s ⟨64 + p.val, by omega⟩) * B (ix3 0 s n) := by
  refine Eq.trans ?_ (congrArg (fun u => Z (ix3 1 p n) * Ideal.exp (hd cs 1 7) + u) (upd1_apply dt cs x0 x1 x2 X B p n))
  pointwise [k0_pay78, k0_pay24, k0_pay23, spart, hd]

/-- Head 2's state after the chunk. -/
theorem snew2_apply (dt cs x0 x1 x2 : Vec Ideal S8x128 .f32) (X : Vec Ideal S1x8x512 .f32) (B : Vec Ideal S1x8x128 .f32) (Z : Vec Ideal S8x64x128 .f32)
    (p : Fin 64) (n : Fin 128) :
    k0_pay79 (F := Ideal) k0_pay5 (k0_pay9 B) x0 (k0_pay35 cs) x1 x2 (k0_pay61 (k0_pay8 X)) (k0_pay72 dt cs) (k0_pay75 (k0_pay63 dt) (k0_pay67 cs)) (spart Z 2) (ix3 0 p n)
      = Z (ix3 2 p n) * Ideal.exp (hd cs 2 7) + ∑ s : Fin 8, x1 (ix2 s ⟨0 + p.val, by omega⟩) * B (ix3 0 s n) := by
  refine Eq.trans ?_ (congrArg (fun u => Z (ix3 2 p n) * Ideal.exp (hd cs 2 7) + u) (upd2_apply dt cs x0 x1 x2 X B p n))
  pointwise [k0_pay79, k0_pay35, k0_pay31, spart, hd]

/-- Head 3's state after the chunk. -/
theorem snew3_apply (dt cs x0 x1 x2 : Vec Ideal S8x128 .f32) (X : Vec Ideal S1x8x512 .f32) (B : Vec Ideal S1x8x128 .f32) (Z : Vec Ideal S8x64x128 .f32)
    (p : Fin 64) (n : Fin 128) :
    k0_pay80 (F := Ideal) (k0_pay40 (k0_pay38 cs)) (k0_pay76 (F := Ideal) k0_pay5 (k0_pay9 B) x0 x1 x2 (k0_pay61 (k0_pay8 X)) (k0_pay72 dt cs) (k0_pay75 (k0_pay63 dt) (k0_pay67 cs))) (spart Z 3) (ix3 0 p n)
      = Z (ix3 3 p n) * Ideal.exp (hd cs 3 7) + ∑ s : Fin 8, x1 (ix2 s ⟨64 + p.val, by omega⟩) * B (ix3 0 s n) := by
  refine Eq.trans ?_ (congrArg (fun u => Z (ix3 3 p n) * Ideal.exp (hd cs 3 7) + u) (upd3_apply dt cs x0 x1 x2 X B p n))
  pointwise [k0_pay80, k0_pay40, k0_pay38, spart, hd]

/-- Head 4's state after the chunk. -/
theorem snew4_apply (dt cs x0 x1 x2 : Vec Ideal S8x128 .f32) (X : Vec Ideal S1x8x512 .f32) (B : Vec Ideal S1x8x128 .f32) (Z : Vec Ideal S8x64x128 .f32)
    (p : Fin 64) (n : Fin 128) :
    k0_pay81 (F := Ideal) (k0_pay51 (k0_pay46 cs)) (k0_pay76 (F := Ideal) k0_pay5 (k0_pay9 B) x0 x1 x2 (k0_pay61 (k0_pay8 X)) (k0_pay72 dt cs) (k0_pay75 (k0_pay63 dt) (k0_pay67 cs))) (spart Z 4) (ix3 0 p n)
      = Z (ix3 4 p n) * Ideal.exp (hd cs 4 7) + ∑ s : Fin 8, x2 (ix2 s ⟨0 + p.val, by omega⟩) * B (ix3 0 s n) := by
  refine Eq.trans ?_ (congrArg (fun u => Z (ix3 4 p n) * Ideal.exp (hd cs 4 7) + u) (upd4_apply dt cs x0 x1 x2 X B p n))
  pointwise [k0_pay81, k0_pay51, k0_pay46, spart, hd]

/-- Head 5's state after the chunk. -/
theorem snew5_apply (dt cs x0 x1 x2 : Vec Ideal S8x128 .f32) (X : Vec Ideal S1x8x512 .f32) (B : Vec Ideal S1x8x128 .f32) (Z : Vec Ideal S8x64x128 .f32)
    (p : Fin 64) (n : Fin 128) :
    k0_pay82 (F := Ideal) (k0_pay58 (k0_pay54 cs)) (k0_pay76 (F := Ideal) k0_pay5 (k0_pay9 B) x0 x1 x2 (k0_pay61 (k0_pay8 X)) (k0_pay72 dt cs) (k0_pay75 (k0_pay63 dt) (k0_pay67 cs))) (spart Z 5) (ix3 0 p n)
      = Z (ix3 5 p n) * Ideal.exp (hd cs 5 7) + ∑ s : Fin 8, x2 (ix2 s ⟨64 + p.val, by omega⟩) * B (ix3 0 s n) := by
  refine Eq.trans ?_ (congrArg (fun u => Z (ix3 5 p n) * Ideal.exp (hd cs 5 7) + u) (upd5_apply dt cs x0 x1 x2 X B p n))
  pointwise [k0_pay82, k0_pay58, k0_pay54, spart, hd]

/-- Head 6's state after the chunk. -/
theorem snew6_apply (dt cs x0 x1 x2 : Vec Ideal S8x128 .f32) (X : Vec Ideal S1x8x512 .f32) (B : Vec Ideal S1x8x128 .f32) (Z : Vec Ideal S8x64x128 .f32)
    (p : Fin 64) (n : Fin 128) :
    k0_pay83 (F := Ideal) (k0_pay68 (k0_pay64 cs)) (k0_pay76 (F := Ideal) k0_pay5 (k0_pay9 B) x0 x1 x2 (k0_pay61 (k0_pay8 X)) (k0_pay72 dt cs) (k0_pay75 (k0_pay63 dt) (k0_pay67 cs))) (spart Z 6) (ix3 0 p n)
      = Z (ix3 6 p n) * Ideal.exp (hd cs 6 7) + ∑ s : Fin 8, x3v dt cs X (ix2 s ⟨0 + p.val, by omega⟩) * B (ix3 0 s n) := by
  refine Eq.trans ?_ (congrArg (fun u => Z (ix3 6 p n) * Ideal.exp (hd cs 6 7) + u) (upd6_apply dt cs x0 x1 x2 X B p n))
  pointwise [k0_pay83, k0_pay68, k0_pay64, spart, hd]

/-- Head 7's state after the chunk. -/
theorem snew7_apply (dt cs x0 x1 x2 : Vec Ideal S8x128 .f32) (X : Vec Ideal S1x8x512 .f32) (B : Vec Ideal S1x8x128 .f32) (Z : Vec Ideal S8x64x128 .f32)
    (p : Fin 64) (n : Fin 128) :
    k0_pay84 (F := Ideal) (k0_pay73 cs) (k0_pay76 (F := Ideal) k0_pay5 (k0_pay9 B) x0 x1 x2 (k0_pay61 (k0_pay8 X)) (k0_pay72 dt cs) (k0_pay75 (k0_pay63 dt) (k0_pay67 cs))) (spart Z 7) (ix3 0 p n)
      = Z (ix3 7 p n) * Ideal.exp (hd cs 7 7) + ∑ s : Fin 8, x3v dt cs X (ix2 s ⟨64 + p.val, by omega⟩) * B (ix3 0 s n) := by
  refine Eq.trans ?_ (congrArg (fun u => Z (ix3 7 p n) * Ideal.exp (hd cs 7 7) + u) (upd7_apply dt cs x0 x1 x2 X B p n))
  pointwise [k0_pay84, k0_pay73, k0_pay71, spart, hd]

end Cert.SsdKernelIdeal.Value
-- ==== Proof.SsdScan.lean ====
module

public import proofs.«01_k».proof.Proof.SsdState
public import Idealize.ShloMosaic.Lib.Claim

@[expose] public section

set_option maxRecDepth 16384

noncomputable section

/-! # The state space kernel's results

Point `t` of the grid works on batch row `t / 4` and on group `t % 4`. -/

namespace Cert.SsdKernelIdeal.Value

open Cert.SsdKernelIdeal Cert.SsdKernelIdeal.Gen Idealize.ShloMosaic Idealize.ShloMosaic.TcCoe Idealize.SL.Sem
open Idealize.ShloMosaic.Pipeline (Dat)
open Cert.Mlstm Cert.Ssd

variable (m : (ℓ : Loc nD τ sig) → Buf (Elt Ideal) ℓ)

/-- Every window's block index at point `t`. -/
theorem idx : ∀ t : Fin cfg0.N, win0_0.index t = ![t.val / 4, 0, t.val % 4] ∧ win0_1.index t = ![t.val / 4, 0, t.val % 4 + 16]
    ∧ win0_2.index t = ![t.val / 4, 0, t.val % 4 + 20] ∧ win0_3.index t = ![t.val / 4, 0, t.val % 4]
    ∧ win0_4.index t = ![t.val / 4, 0, t.val % 4] ∧ win0_5.index t = ![0, t.val % 4] ∧ win0_6.index t = ![0, t.val % 4]
    ∧ win0_7.index t = ![0, t.val % 4] ∧ win0_8.index t = ![0, t.val % 4] ∧ win0_9.index t = ![t.val / 4, t.val % 4, 0, 0]
    ∧ win0_10.index t = ![t.val / 4, 0, t.val % 4] ∧ win0_11.index t = ![t.val / 4, t.val % 4, 0, 0] ∧ t.val < 512 :=
  (by decide +kernel : ∀ t : Fin grid0.N, _)

/-! ## The operands that host code prepares -/

/-- The step widths' bias, each group's in its own 128 columns. -/
theorem bias_at (c : Dev nD) (g : Fin 4) (r : Fin 8) : (V m c main_v2 : Vec Ideal S1x512 .f32) (ix2 0 ⟨g.val * 128 + r.val, by omega⟩)
    = (m ((c : Thread nD τ).loc main_arg3) : Vec Ideal S32 .f32) (ix1 ⟨g.val * 8 + r.val, by omega⟩) := by
  rw [show (V m c main_v2 : Vec Ideal S1x512 .f32) = shapeCast S1x512 (pad S4x128 ![0, 0] ![0, 120] ![0, 0]
    (shapeCast S4x8 (m ((c : Thread nD τ).loc main_arg3) : Vec Ideal S32 .f32) shapeCasts_S32_S4x8)
    (sitofp (F := Ideal) .f32 (constantI S_ 32 0#32) : Vec Ideal S_ .f32) pads_S4x8_S4x128_000_01200 h_S_) shapeCasts_S4x128_S1x512 from rfl]
  pointwise
  rw [dif_pos (by omega)]
  exact congrArg (fun k : Fin 32 => m (c.tc.loc main_arg3) (ix1 k)) (Fin.ext (by show g.val * 8 + (g.val * 128 + r.val) % 128 = g.val * 8 + r.val; omega))

/-- The rates, each group's in its own 128 columns. -/
theorem rate_at (c : Dev nD) (g : Fin 4) (r : Fin 8) : (V m c main_v5 : Vec Ideal S1x512 .f32) (ix2 0 ⟨g.val * 128 + r.val, by omega⟩)
    = (m ((c : Thread nD τ).loc main_arg4) : Vec Ideal S32 .f32) (ix1 ⟨g.val * 8 + r.val, by omega⟩) := by
  rw [show (V m c main_v5 : Vec Ideal S1x512 .f32) = shapeCast S1x512 (pad S4x128 ![0, 0] ![0, 120] ![0, 0]
    (shapeCast S4x8 (m ((c : Thread nD τ).loc main_arg4) : Vec Ideal S32 .f32) shapeCasts_S32_S4x8)
    (sitofp (F := Ideal) .f32 (constantI S_ 32 0#32) : Vec Ideal S_ .f32) pads_S4x8_S4x128_000_01200 h_S_) shapeCasts_S4x128_S1x512 from rfl]
  pointwise
  rw [dif_pos (by omega)]
  exact congrArg (fun k : Fin 32 => m (c.tc.loc main_arg4) (ix1 k)) (Fin.ext (by show g.val * 8 + (g.val * 128 + r.val) % 128 = g.val * 8 + r.val; omega))

/-- The direct weights, repeated over each head's channels. -/
theorem direct_at (c : Dev nD) (h : Fin 32) (p : Fin 64) : (V m c main_v8 : Vec Ideal S1x2048 .f32) (ix2 0 ⟨h.val * 64 + p.val, by omega⟩)
    = (m ((c : Thread nD τ).loc main_arg5) : Vec Ideal S32 .f32) (ix1 h) := by
  rw [show (V m c main_v8 : Vec Ideal S1x2048 .f32) = shapeCast S1x2048 (shapeCast S2048 (broadcastInDim S32x64 ![0] bcast_S32_S32x64_0
    (m ((c : Thread nD τ).loc main_arg5) : Vec Ideal S32 .f32)) shapeCasts_S32x64_S2048) shapeCasts_S2048_S1x2048 from rfl]
  pointwise

/-- The norm's weight as one row. -/
theorem weight_at (c : Dev nD) (e : Fin 2048) : (V m c main_v9 : Vec Ideal S1x2048 .f32) (ix2 0 e)
    = (m ((c : Thread nD τ).loc main_arg6) : Vec Ideal S2048 .f32) (ix1 e) := by
  rw [show (V m c main_v9 : Vec Ideal S1x2048 .f32) = shapeCast S1x2048 (m ((c : Thread nD τ).loc main_arg6)) shapeCasts_S2048_S1x2048 from rfl]
  pointwise

/-- A channel's place in its group's row. -/
theorem head_lt (r : Fin 8) (p : Fin 64) : r.val * 64 + p.val < 512 := by omega

/-- Equal parts make equal outputs. -/
theorem yhead_congr {cb cb' : Fin 8 → Fin 8 → EReal} {cs cs' dt dt' x x' : Fin 8 → EReal} {ys ys' d d' : EReal} (h1 : ∀ t s, cb t s = cb' t s)
    (h2 : cs = cs') (h3 : dt = dt') (h4 : ∀ s, x s = x' s) (h5 : ys = ys') (h6 : d = d') (t : Fin 8) :
    yhead cb cs dt x ys d t = yhead cb' cs' dt' x' ys' d' t := by
  obtain rfl : cb = cb' := funext fun t => funext fun s => h1 t s
  obtain rfl : x = x' := funext h4
  subst h2 h3 h5 h6
  rfl

/-- Equal parts make equal states. -/
theorem snew_congr {S S' : EReal} {cs cs' dt dt' x x' bm bm' : Fin 8 → EReal} (h1 : S = S') (h2 : cs = cs') (h3 : dt = dt') (h4 : ∀ s, x s = x' s)
    (h5 : ∀ s, bm s = bm' s) : snew S cs dt x bm = snew S' cs' dt' x' bm' := by
  obtain rfl : x = x' := funext h4
  obtain rfl : bm = bm' := funext h5
  subst h1 h2 h3
  rfl

/-- Equal parts make equal rows. -/
theorem grow_congr {y y' z z' w w' : Fin 512 → EReal} (h1 : ∀ e, y e = y' e) (h2 : ∀ e, z e = z' e) (h3 : ∀ e, w e = w' e) (e : Fin 512) :
    grow y z w e = grow y' z' w' e := by
  obtain rfl : y = y' := funext h1
  obtain rfl : z = z' := funext h2
  obtain rfl : w = w' := funext h3
  rfl

/-- The first pair's part of the direct weights' block. -/
theorem ld_0 (w : Vec Ideal S1x512 .f32) (l : Fin 128) :
    (View.ld w (Rect.unit ![0, 0] ![1, 128] inb_S1x512_S1x128_0_0) : Vec Ideal S1x128 .f32) (ix2 0 l) = w (ix2 0 ⟨0 + l.val, by omega⟩) := by
  pointwise

/-- The second pair's part of the direct weights' block. -/
theorem ld_1 (w : Vec Ideal S1x512 .f32) (l : Fin 128) :
    (View.ld w (Rect.unit ![0, 128] ![1, 128] inb_S1x512_S1x128_0_128) : Vec Ideal S1x128 .f32) (ix2 0 l) = w (ix2 0 ⟨128 + l.val, by omega⟩) := by
  pointwise

/-- The third pair's part of the direct weights' block. -/
theorem ld_2 (w : Vec Ideal S1x512 .f32) (l : Fin 128) :
    (View.ld w (Rect.unit ![0, 256] ![1, 128] inb_S1x512_S1x128_0_256) : Vec Ideal S1x128 .f32) (ix2 0 l) = w (ix2 0 ⟨256 + l.val, by omega⟩) := by
  pointwise

/-- The fourth pair's part of the direct weights' block. -/
theorem ld_3 (w : Vec Ideal S1x512 .f32) (l : Fin 128) :
    (View.ld w (Rect.unit ![0, 384] ![1, 128] inb_S1x512_S1x128_0_384) : Vec Ideal S1x128 .f32) (ix2 0 l) = w (ix2 0 ⟨384 + l.val, by omega⟩) := by
  pointwise

/-- The pairs' outputs side by side, at head 0. -/
theorem cat_h0 (dt cs : Vec Ideal S8x128 .f32) (X : Vec Ideal S1x8x512 .f32) (B C : Vec Ideal S1x8x128 .f32) (Y : Vec Ideal S8x512 .f32)
    (K0 K1 K2 K3 : Vec Ideal S1x128 .f32) (t : Fin 8) (p : Fin 64) :
    cat4 (k0_pay25 (F := Ideal) k0_pay3 k0_pay4 k0_pay5 dt cs (k0_pay11 B C) Y (k0_pay13 (k0_pay8 X)) (k0_pay17 k0_pay3 k0_pay4 dt cs (k0_pay8 X) B C) (k0_pay18 cs) K0) (k0_pay41 (F := Ideal) k0_pay4 k0_pay5 Y (k0_pay28 (k0_pay8 X)) (k0_pay32 k0_pay3 k0_pay4 dt cs (k0_pay8 X) (k0_pay11 B C)) (k0_pay33 cs) (k0_pay36 cs) (k0_pay37 dt) (k0_pay39 k0_pay3 k0_pay4 cs (k0_pay11 B C)) K1) (k0_pay59 (F := Ideal) k0_pay5 Y (k0_pay43 (k0_pay8 X)) (k0_pay48 k0_pay4 (k0_pay11 B C) (k0_pay43 (k0_pay8 X)) (k0_pay45 dt) (k0_pay47 k0_pay3 k0_pay4 cs)) (k0_pay49 (k0_pay44 cs)) (k0_pay55 k0_pay3 k0_pay4 dt cs (k0_pay11 B C) (k0_pay43 (k0_pay8 X))) (k0_pay56 cs) K2) (k0_pay74 (F := Ideal) k0_pay3 k0_pay4 k0_pay5 dt cs (k0_pay11 B C) Y (k0_pay61 (k0_pay8 X)) (k0_pay65 k0_pay3 k0_pay4 dt cs (k0_pay8 X) (k0_pay11 B C)) (k0_pay66 cs) K3) (ix2 t ⟨0 + p.val, by omega⟩)
      = yhead (fun t s => k0_pay11 (F := Ideal) B C (ix2 t s)) (hd cs 0) (hd dt 0) (fun s => X (ix3 0 s ⟨0 + p.val, by omega⟩))
          (Y (ix2 t ⟨0 + p.val, by omega⟩)) (K0 (ix2 0 ⟨0 + p.val, by omega⟩)) t := by
  have he : (⟨0 + p.val, by omega⟩ : Fin 512) = ⟨0 + (⟨0 + p.val, by omega⟩ : Fin 128).val, by dsimp only; omega⟩ := Fin.ext (by show 0 + p.val = 0 + (0 + p.val); omega)
  rw [he, cat4_0]
  exact y0_apply dt cs X B C Y K0 t ⟨0 + p.val, by omega⟩ (by show 0 + p.val < 64; omega)

/-- The pairs' outputs side by side, at head 1. -/
theorem cat_h1 (dt cs : Vec Ideal S8x128 .f32) (X : Vec Ideal S1x8x512 .f32) (B C : Vec Ideal S1x8x128 .f32) (Y : Vec Ideal S8x512 .f32)
    (K0 K1 K2 K3 : Vec Ideal S1x128 .f32) (t : Fin 8) (p : Fin 64) :
    cat4 (k0_pay25 (F := Ideal) k0_pay3 k0_pay4 k0_pay5 dt cs (k0_pay11 B C) Y (k0_pay13 (k0_pay8 X)) (k0_pay17 k0_pay3 k0_pay4 dt cs (k0_pay8 X) B C) (k0_pay18 cs) K0) (k0_pay41 (F := Ideal) k0_pay4 k0_pay5 Y (k0_pay28 (k0_pay8 X)) (k0_pay32 k0_pay3 k0_pay4 dt cs (k0_pay8 X) (k0_pay11 B C)) (k0_pay33 cs) (k0_pay36 cs) (k0_pay37 dt) (k0_pay39 k0_pay3 k0_pay4 cs (k0_pay11 B C)) K1) (k0_pay59 (F := Ideal) k0_pay5 Y (k0_pay43 (k0_pay8 X)) (k0_pay48 k0_pay4 (k0_pay11 B C) (k0_pay43 (k0_pay8 X)) (k0_pay45 dt) (k0_pay47 k0_pay3 k0_pay4 cs)) (k0_pay49 (k0_pay44 cs)) (k0_pay55 k0_pay3 k0_pay4 dt cs (k0_pay11 B C) (k0_pay43 (k0_pay8 X))) (k0_pay56 cs) K2) (k0_pay74 (F := Ideal) k0_pay3 k0_pay4 k0_pay5 dt cs (k0_pay11 B C) Y (k0_pay61 (k0_pay8 X)) (k0_pay65 k0_pay3 k0_pay4 dt cs (k0_pay8 X) (k0_pay11 B C)) (k0_pay66 cs) K3) (ix2 t ⟨64 + p.val, by omega⟩)
      = yhead (fun t s => k0_pay11 (F := Ideal) B C (ix2 t s)) (hd cs 1) (hd dt 1) (fun s => X (ix3 0 s ⟨64 + p.val, by omega⟩))
          (Y (ix2 t ⟨64 + p.val, by omega⟩)) (K0 (ix2 0 ⟨64 + p.val, by omega⟩)) t := by
  have he : (⟨64 + p.val, by omega⟩ : Fin 512) = ⟨0 + (⟨64 + p.val, by omega⟩ : Fin 128).val, by dsimp only; omega⟩ := Fin.ext (by show 64 + p.val = 0 + (64 + p.val); omega)
  rw [he, cat4_0]
  exact y1_apply dt cs X B C Y K0 t ⟨64 + p.val, by omega⟩ (by show ¬ 64 + p.val < 64; omega)

/-- The pairs' outputs side by side, at head 2. -/
theorem cat_h2 (dt cs : Vec Ideal S8x128 .f32) (X : Vec Ideal S1x8x512 .f32) (B C : Vec Ideal S1x8x128 .f32) (Y : Vec Ideal S8x512 .f32)
    (K0 K1 K2 K3 : Vec Ideal S1x128 .f32) (t : Fin 8) (p : Fin 64) :
    cat4 (k0_pay25 (F := Ideal) k0_pay3 k0_pay4 k0_pay5 dt cs (k0_pay11 B C) Y (k0_pay13 (k0_pay8 X)) (k0_pay17 k0_pay3 k0_pay4 dt cs (k0_pay8 X) B C) (k0_pay18 cs) K0) (k0_pay41 (F := Ideal) k0_pay4 k0_pay5 Y (k0_pay28 (k0_pay8 X)) (k0_pay32 k0_pay3 k0_pay4 dt cs (k0_pay8 X) (k0_pay11 B C)) (k0_pay33 cs) (k0_pay36 cs) (k0_pay37 dt) (k0_pay39 k0_pay3 k0_pay4 cs (k0_pay11 B C)) K1) (k0_pay59 (F := Ideal) k0_pay5 Y (k0_pay43 (k0_pay8 X)) (k0_pay48 k0_pay4 (k0_pay11 B C) (k0_pay43 (k0_pay8 X)) (k0_pay45 dt) (k0_pay47 k0_pay3 k0_pay4 cs)) (k0_pay49 (k0_pay44 cs)) (k0_pay55 k0_pay3 k0_pay4 dt cs (k0_pay11 B C) (k0_pay43 (k0_pay8 X))) (k0_pay56 cs) K2) (k0_pay74 (F := Ideal) k0_pay3 k0_pay4 k0_pay5 dt cs (k0_pay11 B C) Y (k0_pay61 (k0_pay8 X)) (k0_pay65 k0_pay3 k0_pay4 dt cs (k0_pay8 X) (k0_pay11 B C)) (k0_pay66 cs) K3) (ix2 t ⟨128 + p.val, by omega⟩)
      = yhead (fun t s => k0_pay11 (F := Ideal) B C (ix2 t s)) (hd cs 2) (hd dt 2) (fun s => X (ix3 0 s ⟨128 + p.val, by omega⟩))
          (Y (ix2 t ⟨128 + p.val, by omega⟩)) (K1 (ix2 0 ⟨0 + p.val, by omega⟩)) t := by
  have he : (⟨128 + p.val, by omega⟩ : Fin 512) = ⟨128 + (⟨0 + p.val, by omega⟩ : Fin 128).val, by dsimp only; omega⟩ := Fin.ext (by show 128 + p.val = 128 + (0 + p.val); omega)
  rw [he, cat4_1]
  exact y2_apply dt cs X B C Y K1 t ⟨0 + p.val, by omega⟩ (by show 0 + p.val < 64; omega)

/-- The pairs' outputs side by side, at head 3. -/
theorem cat_h3 (dt cs : Vec Ideal S8x128 .f32) (X : Vec Ideal S1x8x512 .f32) (B C : Vec Ideal S1x8x128 .f32) (Y : Vec Ideal S8x512 .f32)
    (K0 K1 K2 K3 : Vec Ideal S1x128 .f32) (t : Fin 8) (p : Fin 64) :
    cat4 (k0_pay25 (F := Ideal) k0_pay3 k0_pay4 k0_pay5 dt cs (k0_pay11 B C) Y (k0_pay13 (k0_pay8 X)) (k0_pay17 k0_pay3 k0_pay4 dt cs (k0_pay8 X) B C) (k0_pay18 cs) K0) (k0_pay41 (F := Ideal) k0_pay4 k0_pay5 Y (k0_pay28 (k0_pay8 X)) (k0_pay32 k0_pay3 k0_pay4 dt cs (k0_pay8 X) (k0_pay11 B C)) (k0_pay33 cs) (k0_pay36 cs) (k0_pay37 dt) (k0_pay39 k0_pay3 k0_pay4 cs (k0_pay11 B C)) K1) (k0_pay59 (F := Ideal) k0_pay5 Y (k0_pay43 (k0_pay8 X)) (k0_pay48 k0_pay4 (k0_pay11 B C) (k0_pay43 (k0_pay8 X)) (k0_pay45 dt) (k0_pay47 k0_pay3 k0_pay4 cs)) (k0_pay49 (k0_pay44 cs)) (k0_pay55 k0_pay3 k0_pay4 dt cs (k0_pay11 B C) (k0_pay43 (k0_pay8 X))) (k0_pay56 cs) K2) (k0_pay74 (F := Ideal) k0_pay3 k0_pay4 k0_pay5 dt cs (k0_pay11 B C) Y (k0_pay61 (k0_pay8 X)) (k0_pay65 k0_pay3 k0_pay4 dt cs (k0_pay8 X) (k0_pay11 B C)) (k0_pay66 cs) K3) (ix2 t ⟨192 + p.val, by omega⟩)
      = yhead (fun t s => k0_pay11 (F := Ideal) B C (ix2 t s)) (hd cs 3) (hd dt 3) (fun s => X (ix3 0 s ⟨192 + p.val, by omega⟩))
          (Y (ix2 t ⟨192 + p.val, by omega⟩)) (K1 (ix2 0 ⟨64 + p.val, by omega⟩)) t := by
  have he : (⟨192 + p.val, by omega⟩ : Fin 512) = ⟨128 + (⟨64 + p.val, by omega⟩ : Fin 128).val, by dsimp only; omega⟩ := Fin.ext (by show 192 + p.val = 128 + (64 + p.val); omega)
  rw [he, cat4_1]
  exact y3_apply dt cs X B C Y K1 t ⟨64 + p.val, by omega⟩ (by show ¬ 64 + p.val < 64; omega)

/-- The pairs' outputs side by side, at head 4. -/
theorem cat_h4 (dt cs : Vec Ideal S8x128 .f32) (X : Vec Ideal S1x8x512 .f32) (B C : Vec Ideal S1x8x128 .f32) (Y : Vec Ideal S8x512 .f32)
    (K0 K1 K2 K3 : Vec Ideal S1x128 .f32) (t : Fin 8) (p : Fin 64) :
    cat4 (k0_pay25 (F := Ideal) k0_pay3 k0_pay4 k0_pay5 dt cs (k0_pay11 B C) Y (k0_pay13 (k0_pay8 X)) (k0_pay17 k0_pay3 k0_pay4 dt cs (k0_pay8 X) B C) (k0_pay18 cs) K0) (k0_pay41 (F := Ideal) k0_pay4 k0_pay5 Y (k0_pay28 (k0_pay8 X)) (k0_pay32 k0_pay3 k0_pay4 dt cs (k0_pay8 X) (k0_pay11 B C)) (k0_pay33 cs) (k0_pay36 cs) (k0_pay37 dt) (k0_pay39 k0_pay3 k0_pay4 cs (k0_pay11 B C)) K1) (k0_pay59 (F := Ideal) k0_pay5 Y (k0_pay43 (k0_pay8 X)) (k0_pay48 k0_pay4 (k0_pay11 B C) (k0_pay43 (k0_pay8 X)) (k0_pay45 dt) (k0_pay47 k0_pay3 k0_pay4 cs)) (k0_pay49 (k0_pay44 cs)) (k0_pay55 k0_pay3 k0_pay4 dt cs (k0_pay11 B C) (k0_pay43 (k0_pay8 X))) (k0_pay56 cs) K2) (k0_pay74 (F := Ideal) k0_pay3 k0_pay4 k0_pay5 dt cs (k0_pay11 B C) Y (k0_pay61 (k0_pay8 X)) (k0_pay65 k0_pay3 k0_pay4 dt cs (k0_pay8 X) (k0_pay11 B C)) (k0_pay66 cs) K3) (ix2 t ⟨256 + p.val, by omega⟩)
      = yhead (fun t s => k0_pay11 (F := Ideal) B C (ix2 t s)) (hd cs 4) (hd dt 4) (fun s => X (ix3 0 s ⟨256 + p.val, by omega⟩))
          (Y (ix2 t ⟨256 + p.val, by omega⟩)) (K2 (ix2 0 ⟨0 + p.val, by omega⟩)) t := by
  have he : (⟨256 + p.val, by omega⟩ : Fin 512) = ⟨256 + (⟨0 + p.val, by omega⟩ : Fin 128).val, by dsimp only; omega⟩ := Fin.ext (by show 256 + p.val = 256 + (0 + p.val); omega)
  rw [he, cat4_2]
  exact y4_apply dt cs X B C Y K2 t ⟨0 + p.val, by omega⟩ (by show 0 + p.val < 64; omega)

/-- The pairs' outputs side by side, at head 5. -/
theorem cat_h5 (dt cs : Vec Ideal S8x128 .f32) (X : Vec Ideal S1x8x512 .f32) (B C : Vec Ideal S1x8x128 .f32) (Y : Vec Ideal S8x512 .f32)
    (K0 K1 K2 K3 : Vec Ideal S1x128 .f32) (t : Fin 8) (p : Fin 64) :
    cat4 (k0_pay25 (F := Ideal) k0_pay3 k0_pay4 k0_pay5 dt cs (k0_pay11 B C) Y (k0_pay13 (k0_pay8 X)) (k0_pay17 k0_pay3 k0_pay4 dt cs (k0_pay8 X) B C) (k0_pay18 cs) K0) (k0_pay41 (F := Ideal) k0_pay4 k0_pay5 Y (k0_pay28 (k0_pay8 X)) (k0_pay32 k0_pay3 k0_pay4 dt cs (k0_pay8 X) (k0_pay11 B C)) (k0_pay33 cs) (k0_pay36 cs) (k0_pay37 dt) (k0_pay39 k0_pay3 k0_pay4 cs (k0_pay11 B C)) K1) (k0_pay59 (F := Ideal) k0_pay5 Y (k0_pay43 (k0_pay8 X)) (k0_pay48 k0_pay4 (k0_pay11 B C) (k0_pay43 (k0_pay8 X)) (k0_pay45 dt) (k0_pay47 k0_pay3 k0_pay4 cs)) (k0_pay49 (k0_pay44 cs)) (k0_pay55 k0_pay3 k0_pay4 dt cs (k0_pay11 B C) (k0_pay43 (k0_pay8 X))) (k0_pay56 cs) K2) (k0_pay74 (F := Ideal) k0_pay3 k0_pay4 k0_pay5 dt cs (k0_pay11 B C) Y (k0_pay61 (k0_pay8 X)) (k0_pay65 k0_pay3 k0_pay4 dt cs (k0_pay8 X) (k0_pay11 B C)) (k0_pay66 cs) K3) (ix2 t ⟨320 + p.val, by omega⟩)
      = yhead (fun t s => k0_pay11 (F := Ideal) B C (ix2 t s)) (hd cs 5) (hd dt 5) (fun s => X (ix3 0 s ⟨320 + p.val, by omega⟩))
          (Y (ix2 t ⟨320 + p.val, by omega⟩)) (K2 (ix2 0 ⟨64 + p.val, by omega⟩)) t := by
  have he : (⟨320 + p.val, by omega⟩ : Fin 512) = ⟨256 + (⟨64 + p.val, by omega⟩ : Fin 128).val, by dsimp only; omega⟩ := Fin.ext (by show 320 + p.val = 256 + (64 + p.val); omega)
  rw [he, cat4_2]
  exact y5_apply dt cs X B C Y K2 t ⟨64 + p.val, by omega⟩ (by show ¬ 64 + p.val < 64; omega)

/-- The pairs' outputs side by side, at head 6. -/
theorem cat_h6 (dt cs : Vec Ideal S8x128 .f32) (X : Vec Ideal S1x8x512 .f32) (B C : Vec Ideal S1x8x128 .f32) (Y : Vec Ideal S8x512 .f32)
    (K0 K1 K2 K3 : Vec Ideal S1x128 .f32) (t : Fin 8) (p : Fin 64) :
    cat4 (k0_pay25 (F := Ideal) k0_pay3 k0_pay4 k0_pay5 dt cs (k0_pay11 B C) Y (k0_pay13 (k0_pay8 X)) (k0_pay17 k0_pay3 k0_pay4 dt cs (k0_pay8 X) B C) (k0_pay18 cs) K0) (k0_pay41 (F := Ideal) k0_pay4 k0_pay5 Y (k0_pay28 (k0_pay8 X)) (k0_pay32 k0_pay3 k0_pay4 dt cs (k0_pay8 X) (k0_pay11 B C)) (k0_pay33 cs) (k0_pay36 cs) (k0_pay37 dt) (k0_pay39 k0_pay3 k0_pay4 cs (k0_pay11 B C)) K1) (k0_pay59 (F := Ideal) k0_pay5 Y (k0_pay43 (k0_pay8 X)) (k0_pay48 k0_pay4 (k0_pay11 B C) (k0_pay43 (k0_pay8 X)) (k0_pay45 dt) (k0_pay47 k0_pay3 k0_pay4 cs)) (k0_pay49 (k0_pay44 cs)) (k0_pay55 k0_pay3 k0_pay4 dt cs (k0_pay11 B C) (k0_pay43 (k0_pay8 X))) (k0_pay56 cs) K2) (k0_pay74 (F := Ideal) k0_pay3 k0_pay4 k0_pay5 dt cs (k0_pay11 B C) Y (k0_pay61 (k0_pay8 X)) (k0_pay65 k0_pay3 k0_pay4 dt cs (k0_pay8 X) (k0_pay11 B C)) (k0_pay66 cs) K3) (ix2 t ⟨384 + p.val, by omega⟩)
      = yhead (fun t s => k0_pay11 (F := Ideal) B C (ix2 t s)) (hd cs 6) (hd dt 6) (fun s => X (ix3 0 s ⟨384 + p.val, by omega⟩))
          (Y (ix2 t ⟨384 + p.val, by omega⟩)) (K3 (ix2 0 ⟨0 + p.val, by omega⟩)) t := by
  have he : (⟨384 + p.val, by omega⟩ : Fin 512) = ⟨384 + (⟨0 + p.val, by omega⟩ : Fin 128).val, by dsimp only; omega⟩ := Fin.ext (by show 384 + p.val = 384 + (0 + p.val); omega)
  rw [he, cat4_3]
  exact y6_apply dt cs X B C Y K3 t ⟨0 + p.val, by omega⟩ (by show 0 + p.val < 64; omega)

/-- The pairs' outputs side by side, at head 7. -/
theorem cat_h7 (dt cs : Vec Ideal S8x128 .f32) (X : Vec Ideal S1x8x512 .f32) (B C : Vec Ideal S1x8x128 .f32) (Y : Vec Ideal S8x512 .f32)
    (K0 K1 K2 K3 : Vec Ideal S1x128 .f32) (t : Fin 8) (p : Fin 64) :
    cat4 (k0_pay25 (F := Ideal) k0_pay3 k0_pay4 k0_pay5 dt cs (k0_pay11 B C) Y (k0_pay13 (k0_pay8 X)) (k0_pay17 k0_pay3 k0_pay4 dt cs (k0_pay8 X) B C) (k0_pay18 cs) K0) (k0_pay41 (F := Ideal) k0_pay4 k0_pay5 Y (k0_pay28 (k0_pay8 X)) (k0_pay32 k0_pay3 k0_pay4 dt cs (k0_pay8 X) (k0_pay11 B C)) (k0_pay33 cs) (k0_pay36 cs) (k0_pay37 dt) (k0_pay39 k0_pay3 k0_pay4 cs (k0_pay11 B C)) K1) (k0_pay59 (F := Ideal) k0_pay5 Y (k0_pay43 (k0_pay8 X)) (k0_pay48 k0_pay4 (k0_pay11 B C) (k0_pay43 (k0_pay8 X)) (k0_pay45 dt) (k0_pay47 k0_pay3 k0_pay4 cs)) (k0_pay49 (k0_pay44 cs)) (k0_pay55 k0_pay3 k0_pay4 dt cs (k0_pay11 B C) (k0_pay43 (k0_pay8 X))) (k0_pay56 cs) K2) (k0_pay74 (F := Ideal) k0_pay3 k0_pay4 k0_pay5 dt cs (k0_pay11 B C) Y (k0_pay61 (k0_pay8 X)) (k0_pay65 k0_pay3 k0_pay4 dt cs (k0_pay8 X) (k0_pay11 B C)) (k0_pay66 cs) K3) (ix2 t ⟨448 + p.val, by omega⟩)
      = yhead (fun t s => k0_pay11 (F := Ideal) B C (ix2 t s)) (hd cs 7) (hd dt 7) (fun s => X (ix3 0 s ⟨448 + p.val, by omega⟩))
          (Y (ix2 t ⟨448 + p.val, by omega⟩)) (K3 (ix2 0 ⟨64 + p.val, by omega⟩)) t := by
  have he : (⟨448 + p.val, by omega⟩ : Fin 512) = ⟨384 + (⟨64 + p.val, by omega⟩ : Fin 128).val, by dsimp only; omega⟩ := Fin.ext (by show 448 + p.val = 384 + (64 + p.val); omega)
  rw [he, cat4_3]
  exact y7_apply dt cs X B C Y K3 t ⟨64 + p.val, by omega⟩ (by show ¬ 64 + p.val < 64; omega)

/-! ## The blocks of a point -/

section blocks

variable (c : Dev nD) (t : Fin cfg0.N) (b : Fin 128) (g : Fin 4) (hb : b.val = t.val / 4) (hg : g.val = t.val % 4)

include hb hg

/-- The channels' block. -/
theorem blk_x (s : Fin 8) (e : Fin 512) : iblk m c 0 t (ix3 0 s e) = m ((c : Thread nD τ).loc main_arg0) (ix3 b s ⟨g.val * 512 + e.val, by omega⟩) := by
  blk_point [iblk, V, idx t]

/-- The input rows' block. -/
theorem blk_B (s : Fin 8) (n : Fin 128) : iblk m c 1 t (ix3 0 s n) = groupB (m ((c : Thread nD τ).loc main_arg0)) b g s n := by
  unfold groupB
  blk_point [iblk, V, idx t]

/-- The output rows' block. -/
theorem blk_C (s : Fin 8) (n : Fin 128) : iblk m c 2 t (ix3 0 s n) = groupC (m ((c : Thread nD τ).loc main_arg0)) b g s n := by
  unfold groupC
  blk_point [iblk, V, idx t]

/-- The gates' block. -/
theorem blk_z (s : Fin 8) (e : Fin 512) : iblk m c 3 t (ix3 0 s e) = m ((c : Thread nD τ).loc main_arg1) (ix3 b s ⟨g.val * 512 + e.val, by omega⟩) := by
  blk_point [iblk, V, idx t]

/-- The step widths' block. -/
theorem blk_d (s : Fin 8) (r : Fin 128) : iblk m c 4 t (ix3 0 s r) = m ((c : Thread nD τ).loc main_arg2) (ix3 b s ⟨g.val * 128 + r.val, by omega⟩) := by
  blk_point [iblk, V, idx t]

/-- The bias's block. -/
theorem blk_db (r : Fin 8) : iblk m c 5 t (ix2 0 ⟨r.val, by omega⟩) = m ((c : Thread nD τ).loc main_arg3) (ix1 ⟨g.val * 8 + r.val, by omega⟩) := by
  refine Eq.trans ?_ (bias_at m c g r)
  blk_simp [iblk]
  blk_ext [idx t]

/-- The rates' block. -/
theorem blk_al (r : Fin 8) : iblk m c 6 t (ix2 0 ⟨r.val, by omega⟩) = m ((c : Thread nD τ).loc main_arg4) (ix1 ⟨g.val * 8 + r.val, by omega⟩) := by
  refine Eq.trans ?_ (rate_at m c g r)
  blk_simp [iblk]
  blk_ext [idx t]

/-- The direct weights' block. -/
theorem blk_dk (r : Fin 8) (p : Fin 64) : iblk m c 7 t (ix2 0 ⟨r.val * 64 + p.val, by omega⟩)
    = m ((c : Thread nD τ).loc main_arg5) (ix1 ⟨g.val * 8 + r.val, by omega⟩) := by
  refine Eq.trans ?_ (direct_at m c ⟨g.val * 8 + r.val, by omega⟩ p)
  blk_simp [iblk]
  blk_ext [idx t]

/-- The norm weight's block. -/
theorem blk_w (e : Fin 512) : iblk m c 8 t (ix2 0 e) = m ((c : Thread nD τ).loc main_arg6) (ix1 ⟨g.val * 512 + e.val, by omega⟩) := by
  refine Eq.trans ?_ (weight_at m c ⟨g.val * 512 + e.val, by omega⟩)
  blk_simp [iblk]
  blk_ext [idx t]

/-- The state's block. -/
theorem blk_S (r : Fin 8) (p : Fin 64) (n : Fin 128) : iblk m c 9 t (ix4 0 r p n)
    = m ((c : Thread nD τ).loc main_arg7) (ix4 b ⟨g.val * 8 + r.val, by omega⟩ p n) := by
  blk_point [iblk, V, idx t]

/-- A head's step widths at the point. -/
theorem head_dt (r : Fin 8) : hd (k0_pay6 (F := Ideal) (iblk m c 4 t) (iblk m c 5 t)) ⟨r.val, by omega⟩
    = headDt (m ((c : Thread nD τ).loc main_arg2)) (m ((c : Thread nD τ).loc main_arg3)) b g r := by
  funext s
  unfold hd headDt
  rw [dt_apply, blk_d m c t b g hb hg, blk_db m c t b g hb hg]

/-- A head's running sums at the point. -/
theorem head_cs (r : Fin 8) : hd (k0_pay7 (F := Ideal) (iblk m c 4 t) (iblk m c 5 t) (iblk m c 6 t)) ⟨r.val, by omega⟩
    = headCs (m ((c : Thread nD τ).loc main_arg2)) (m ((c : Thread nD τ).loc main_arg3)) (m ((c : Thread nD τ).loc main_arg4)) b g r := by
  funext s
  unfold hd headCs headDt
  rw [cs_apply, blk_db m c t b g hb hg, blk_al m c t b g hb hg]
  simp only [blk_d m c t b g hb hg]

/-- A head's channel at the point. -/
theorem head_x (r : Fin 8) (p : Fin 64) (k : ℕ) (hk : k = r.val * 64) (s : Fin 8) : iblk m c 0 t (ix3 0 s ⟨k + p.val, by omega⟩)
    = headX (m ((c : Thread nD τ).loc main_arg0)) b g r p s := by
  subst hk
  exact blk_x m c t b g hb hg s ⟨r.val * 64 + p.val, by omega⟩

/-- Head 0's state after point `t`. -/
theorem point_s0 (p : Fin 64) (n : Fin 128) :
    (outsAt0 m c t).2 (ix4 0 0 p n) = resS (m ((c : Thread nD τ).loc main_arg0)) (m ((c : Thread nD τ).loc main_arg2)) (m ((c : Thread nD τ).loc main_arg3)) (m ((c : Thread nD τ).loc main_arg4)) (m ((c : Thread nD τ).loc main_arg7)) b g 0 p n := by
  rw [outsAt0]
  frame_out
  simp only [s_read0, s_read1, s_read2, s_read3, s_read4, s_read5, s_read6, s_read7, s_whole, store_0]
  rw [snew0_apply]
  simp only [xw0_apply _ _ _ _ (⟨0 + p.val, by omega⟩ : Fin 128) (by show 0 + p.val < 64; omega)]
  refine Eq.trans (b := snew _ _ _ _ _) rfl (snew_congr ?_ (head_cs m c t b g hb hg 0) (head_dt m c t b g hb hg 0) (fun s => ?_) (fun s => blk_B m c t b g hb hg s n))
  · refine (show _ = iblk m c 9 t (ix4 0 0 p n) by pointwise [k0_pay2]).trans (blk_S m c t b g hb hg 0 p n)
  · exact (congrArg (fun k : Fin 512 => iblk m c 0 t (ix3 0 s k)) (Fin.ext (by show 0 + (0 + p.val) = 0 + p.val; omega))).trans (head_x m c t b g hb hg 0 p 0 rfl s)

/-- Head 1's state after point `t`. -/
theorem point_s1 (p : Fin 64) (n : Fin 128) :
    (outsAt0 m c t).2 (ix4 0 1 p n) = resS (m ((c : Thread nD τ).loc main_arg0)) (m ((c : Thread nD τ).loc main_arg2)) (m ((c : Thread nD τ).loc main_arg3)) (m ((c : Thread nD τ).loc main_arg4)) (m ((c : Thread nD τ).loc main_arg7)) b g 1 p n := by
  rw [outsAt0]
  frame_out
  simp only [s_read0, s_read1, s_read2, s_read3, s_read4, s_read5, s_read6, s_read7, s_whole, store_1]
  rw [snew1_apply]
  simp only [xw1_apply _ _ _ _ (⟨64 + p.val, by omega⟩ : Fin 128) (by show ¬ 64 + p.val < 64; omega)]
  refine Eq.trans (b := snew _ _ _ _ _) rfl (snew_congr ?_ (head_cs m c t b g hb hg 1) (head_dt m c t b g hb hg 1) (fun s => ?_) (fun s => blk_B m c t b g hb hg s n))
  · refine (show _ = iblk m c 9 t (ix4 0 1 p n) by pointwise [k0_pay2]).trans (blk_S m c t b g hb hg 1 p n)
  · exact (congrArg (fun k : Fin 512 => iblk m c 0 t (ix3 0 s k)) (Fin.ext (by show 0 + (64 + p.val) = 64 + p.val; omega))).trans (head_x m c t b g hb hg 1 p 64 rfl s)

/-- Head 2's state after point `t`. -/
theorem point_s2 (p : Fin 64) (n : Fin 128) :
    (outsAt0 m c t).2 (ix4 0 2 p n) = resS (m ((c : Thread nD τ).loc main_arg0)) (m ((c : Thread nD τ).loc main_arg2)) (m ((c : Thread nD τ).loc main_arg3)) (m ((c : Thread nD τ).loc main_arg4)) (m ((c : Thread nD τ).loc main_arg7)) b g 2 p n := by
  rw [outsAt0]
  frame_out
  simp only [s_read0, s_read1, s_read2, s_read3, s_read4, s_read5, s_read6, s_read7, s_whole, store_2]
  rw [snew2_apply]
  simp only [xw2_apply _ _ _ _ (⟨0 + p.val, by omega⟩ : Fin 128) (by show 0 + p.val < 64; omega)]
  refine Eq.trans (b := snew _ _ _ _ _) rfl (snew_congr ?_ (head_cs m c t b g hb hg 2) (head_dt m c t b g hb hg 2) (fun s => ?_) (fun s => blk_B m c t b g hb hg s n))
  · refine (show _ = iblk m c 9 t (ix4 0 2 p n) by pointwise [k0_pay2]).trans (blk_S m c t b g hb hg 2 p n)
  · exact (congrArg (fun k : Fin 512 => iblk m c 0 t (ix3 0 s k)) (Fin.ext (by show 128 + (0 + p.val) = 128 + p.val; omega))).trans (head_x m c t b g hb hg 2 p 128 rfl s)

/-- Head 3's state after point `t`. -/
theorem point_s3 (p : Fin 64) (n : Fin 128) :
    (outsAt0 m c t).2 (ix4 0 3 p n) = resS (m ((c : Thread nD τ).loc main_arg0)) (m ((c : Thread nD τ).loc main_arg2)) (m ((c : Thread nD τ).loc main_arg3)) (m ((c : Thread nD τ).loc main_arg4)) (m ((c : Thread nD τ).loc main_arg7)) b g 3 p n := by
  rw [outsAt0]
  frame_out
  simp only [s_read0, s_read1, s_read2, s_read3, s_read4, s_read5, s_read6, s_read7, s_whole, store_3]
  rw [snew3_apply]
  simp only [xw3_apply _ _ _ _ (⟨64 + p.val, by omega⟩ : Fin 128) (by show ¬ 64 + p.val < 64; omega)]
  refine Eq.trans (b := snew _ _ _ _ _) rfl (snew_congr ?_ (head_cs m c t b g hb hg 3) (head_dt m c t b g hb hg 3) (fun s => ?_) (fun s => blk_B m c t b g hb hg s n))
  · refine (show _ = iblk m c 9 t (ix4 0 3 p n) by pointwise [k0_pay2]).trans (blk_S m c t b g hb hg 3 p n)
  · exact (congrArg (fun k : Fin 512 => iblk m c 0 t (ix3 0 s k)) (Fin.ext (by show 128 + (64 + p.val) = 192 + p.val; omega))).trans (head_x m c t b g hb hg 3 p 192 rfl s)

/-- Head 4's state after point `t`. -/
theorem point_s4 (p : Fin 64) (n : Fin 128) :
    (outsAt0 m c t).2 (ix4 0 4 p n) = resS (m ((c : Thread nD τ).loc main_arg0)) (m ((c : Thread nD τ).loc main_arg2)) (m ((c : Thread nD τ).loc main_arg3)) (m ((c : Thread nD τ).loc main_arg4)) (m ((c : Thread nD τ).loc main_arg7)) b g 4 p n := by
  rw [outsAt0]
  frame_out
  simp only [s_read0, s_read1, s_read2, s_read3, s_read4, s_read5, s_read6, s_read7, s_whole, store_4]
  rw [snew4_apply]
  simp only [xw4_apply _ _ _ _ (⟨0 + p.val, by omega⟩ : Fin 128) (by show 0 + p.val < 64; omega)]
  refine Eq.trans (b := snew _ _ _ _ _) rfl (snew_congr ?_ (head_cs m c t b g hb hg 4) (head_dt m c t b g hb hg 4) (fun s => ?_) (fun s => blk_B m c t b g hb hg s n))
  · refine (show _ = iblk m c 9 t (ix4 0 4 p n) by pointwise [k0_pay2]).trans (blk_S m c t b g hb hg 4 p n)
  · exact (congrArg (fun k : Fin 512 => iblk m c 0 t (ix3 0 s k)) (Fin.ext (by show 256 + (0 + p.val) = 256 + p.val; omega))).trans (head_x m c t b g hb hg 4 p 256 rfl s)

/-- Head 5's state after point `t`. -/
theorem point_s5 (p : Fin 64) (n : Fin 128) :
    (outsAt0 m c t).2 (ix4 0 5 p n) = resS (m ((c : Thread nD τ).loc main_arg0)) (m ((c : Thread nD τ).loc main_arg2)) (m ((c : Thread nD τ).loc main_arg3)) (m ((c : Thread nD τ).loc main_arg4)) (m ((c : Thread nD τ).loc main_arg7)) b g 5 p n := by
  rw [outsAt0]
  frame_out
  simp only [s_read0, s_read1, s_read2, s_read3, s_read4, s_read5, s_read6, s_read7, s_whole, store_5]
  rw [snew5_apply]
  simp only [xw5_apply _ _ _ _ (⟨64 + p.val, by omega⟩ : Fin 128) (by show ¬ 64 + p.val < 64; omega)]
  refine Eq.trans (b := snew _ _ _ _ _) rfl (snew_congr ?_ (head_cs m c t b g hb hg 5) (head_dt m c t b g hb hg 5) (fun s => ?_) (fun s => blk_B m c t b g hb hg s n))
  · refine (show _ = iblk m c 9 t (ix4 0 5 p n) by pointwise [k0_pay2]).trans (blk_S m c t b g hb hg 5 p n)
  · exact (congrArg (fun k : Fin 512 => iblk m c 0 t (ix3 0 s k)) (Fin.ext (by show 256 + (64 + p.val) = 320 + p.val; omega))).trans (head_x m c t b g hb hg 5 p 320 rfl s)

/-- Head 6's state after point `t`. -/
theorem point_s6 (p : Fin 64) (n : Fin 128) :
    (outsAt0 m c t).2 (ix4 0 6 p n) = resS (m ((c : Thread nD τ).loc main_arg0)) (m ((c : Thread nD τ).loc main_arg2)) (m ((c : Thread nD τ).loc main_arg3)) (m ((c : Thread nD τ).loc main_arg4)) (m ((c : Thread nD τ).loc main_arg7)) b g 6 p n := by
  rw [outsAt0]
  frame_out
  simp only [s_read0, s_read1, s_read2, s_read3, s_read4, s_read5, s_read6, s_read7, s_whole, store_6]
  rw [snew6_apply]
  simp only [xw6_apply _ _ _ _ (⟨0 + p.val, by omega⟩ : Fin 128) (by show 0 + p.val < 64; omega)]
  refine Eq.trans (b := snew _ _ _ _ _) rfl (snew_congr ?_ (head_cs m c t b g hb hg 6) (head_dt m c t b g hb hg 6) (fun s => ?_) (fun s => blk_B m c t b g hb hg s n))
  · refine (show _ = iblk m c 9 t (ix4 0 6 p n) by pointwise [k0_pay2]).trans (blk_S m c t b g hb hg 6 p n)
  · exact (congrArg (fun k : Fin 512 => iblk m c 0 t (ix3 0 s k)) (Fin.ext (by show 384 + (0 + p.val) = 384 + p.val; omega))).trans (head_x m c t b g hb hg 6 p 384 rfl s)

/-- Head 7's state after point `t`. -/
theorem point_s7 (p : Fin 64) (n : Fin 128) :
    (outsAt0 m c t).2 (ix4 0 7 p n) = resS (m ((c : Thread nD τ).loc main_arg0)) (m ((c : Thread nD τ).loc main_arg2)) (m ((c : Thread nD τ).loc main_arg3)) (m ((c : Thread nD τ).loc main_arg4)) (m ((c : Thread nD τ).loc main_arg7)) b g 7 p n := by
  rw [outsAt0]
  frame_out
  simp only [s_read0, s_read1, s_read2, s_read3, s_read4, s_read5, s_read6, s_read7, s_whole, store_7]
  rw [snew7_apply]
  simp only [xw7_apply _ _ _ _ (⟨64 + p.val, by omega⟩ : Fin 128) (by show ¬ 64 + p.val < 64; omega)]
  refine Eq.trans (b := snew _ _ _ _ _) rfl (snew_congr ?_ (head_cs m c t b g hb hg 7) (head_dt m c t b g hb hg 7) (fun s => ?_) (fun s => blk_B m c t b g hb hg s n))
  · refine (show _ = iblk m c 9 t (ix4 0 7 p n) by pointwise [k0_pay2]).trans (blk_S m c t b g hb hg 7 p n)
  · exact (congrArg (fun k : Fin 512 => iblk m c 0 t (ix3 0 s k)) (Fin.ext (by show 384 + (64 + p.val) = 448 + p.val; omega))).trans (head_x m c t b g hb hg 7 p 448 rfl s)

/-- A head's output, found by the entry of the row. -/
theorem resH_at (s : Fin 8) (r : Fin 8) (p : Fin 64) (e : Fin 512) (he : e.val = r.val * 64 + p.val) :
    resH (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) b s g r p
      = resH (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) b s g ⟨e.val / 64, by omega⟩ ⟨e.val % 64, Nat.mod_lt _ (by decide)⟩ := by
  rw [show (⟨e.val / 64, by omega⟩ : Fin 8) = r from Fin.ext (by show e.val / 64 = r.val; omega),
    show (⟨e.val % 64, Nat.mod_lt _ (by decide)⟩ : Fin 64) = p from Fin.ext (by show e.val % 64 = p.val; omega)]

/-- The output rows after point `t`. -/
theorem point_y (s : Fin 8) (e : Fin 512) :
    (outsAt0 m c t).1 (ix3 0 s e) = Ssd.resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s g e := by
  rw [outsAt0]
  frame_out
  rw [row_apply]
  unfold Ssd.resY
  refine grow_congr (fun e => ?_) (fun e => blk_z m c t b g hb hg s e) (fun e => blk_w m c t b g hb hg e) e
  obtain ⟨r, p, he⟩ : ∃ (r : Fin 8) (p : Fin 64), e.val = r.val * 64 + p.val := ⟨⟨e.val / 64, by omega⟩, ⟨e.val % 64, Nat.mod_lt _ (by decide)⟩, by dsimp only; omega⟩
  refine Eq.trans ?_ (resH_at m c t b g hb hg s r p e he)
  obtain rfl : e = ⟨r.val * 64 + p.val, head_lt r p⟩ := Fin.ext he
  unfold resH
  rcases (show r = 0 ∨ r = 1 ∨ r = 2 ∨ r = 3 ∨ r = 4 ∨ r = 5 ∨ r = 6 ∨ r = 7 by omega) with rfl | rfl | rfl | rfl | rfl | rfl | rfl | rfl
  · refine (cat_h0 _ _ _ _ _ _ _ _ _ _ s p).trans (yhead_congr (fun t' s' => ?_) (head_cs m c t b g hb hg 0) (head_dt m c t b g hb hg 0) (fun s' => head_x m c t b g hb hg 0 p 0 rfl s') ?_ ?_ s)
    · simp only [cb_apply, blk_B m c t b g hb hg, blk_C m c t b g hb hg]
    · rw [ys0_apply]
      simp only [blk_C m c t b g hb hg, blk_S m c t b g hb hg]
    · exact (ld_0 _ _).trans ((congrArg (fun k : Fin 512 => iblk m c 7 t (ix2 0 k)) (Fin.ext (by show 0 + (0 + p.val) = 0 * 64 + p.val; omega))).trans (blk_dk m c t b g hb hg 0 p))
  · refine (cat_h1 _ _ _ _ _ _ _ _ _ _ s p).trans (yhead_congr (fun t' s' => ?_) (head_cs m c t b g hb hg 1) (head_dt m c t b g hb hg 1) (fun s' => head_x m c t b g hb hg 1 p 64 rfl s') ?_ ?_ s)
    · simp only [cb_apply, blk_B m c t b g hb hg, blk_C m c t b g hb hg]
    · rw [ys1_apply]
      simp only [blk_C m c t b g hb hg, blk_S m c t b g hb hg]
    · exact (ld_0 _ _).trans ((congrArg (fun k : Fin 512 => iblk m c 7 t (ix2 0 k)) (Fin.ext (by show 0 + (64 + p.val) = 1 * 64 + p.val; omega))).trans (blk_dk m c t b g hb hg 1 p))
  · refine (cat_h2 _ _ _ _ _ _ _ _ _ _ s p).trans (yhead_congr (fun t' s' => ?_) (head_cs m c t b g hb hg 2) (head_dt m c t b g hb hg 2) (fun s' => head_x m c t b g hb hg 2 p 128 rfl s') ?_ ?_ s)
    · simp only [cb_apply, blk_B m c t b g hb hg, blk_C m c t b g hb hg]
    · rw [ys2_apply]
      simp only [blk_C m c t b g hb hg, blk_S m c t b g hb hg]
    · exact (ld_1 _ _).trans ((congrArg (fun k : Fin 512 => iblk m c 7 t (ix2 0 k)) (Fin.ext (by show 128 + (0 + p.val) = 2 * 64 + p.val; omega))).trans (blk_dk m c t b g hb hg 2 p))
  · refine (cat_h3 _ _ _ _ _ _ _ _ _ _ s p).trans (yhead_congr (fun t' s' => ?_) (head_cs m c t b g hb hg 3) (head_dt m c t b g hb hg 3) (fun s' => head_x m c t b g hb hg 3 p 192 rfl s') ?_ ?_ s)
    · simp only [cb_apply, blk_B m c t b g hb hg, blk_C m c t b g hb hg]
    · rw [ys3_apply]
      simp only [blk_C m c t b g hb hg, blk_S m c t b g hb hg]
    · exact (ld_1 _ _).trans ((congrArg (fun k : Fin 512 => iblk m c 7 t (ix2 0 k)) (Fin.ext (by show 128 + (64 + p.val) = 3 * 64 + p.val; omega))).trans (blk_dk m c t b g hb hg 3 p))
  · refine (cat_h4 _ _ _ _ _ _ _ _ _ _ s p).trans (yhead_congr (fun t' s' => ?_) (head_cs m c t b g hb hg 4) (head_dt m c t b g hb hg 4) (fun s' => head_x m c t b g hb hg 4 p 256 rfl s') ?_ ?_ s)
    · simp only [cb_apply, blk_B m c t b g hb hg, blk_C m c t b g hb hg]
    · rw [ys4_apply]
      simp only [blk_C m c t b g hb hg, blk_S m c t b g hb hg]
    · exact (ld_2 _ _).trans ((congrArg (fun k : Fin 512 => iblk m c 7 t (ix2 0 k)) (Fin.ext (by show 256 + (0 + p.val) = 4 * 64 + p.val; omega))).trans (blk_dk m c t b g hb hg 4 p))
  · refine (cat_h5 _ _ _ _ _ _ _ _ _ _ s p).trans (yhead_congr (fun t' s' => ?_) (head_cs m c t b g hb hg 5) (head_dt m c t b g hb hg 5) (fun s' => head_x m c t b g hb hg 5 p 320 rfl s') ?_ ?_ s)
    · simp only [cb_apply, blk_B m c t b g hb hg, blk_C m c t b g hb hg]
    · rw [ys5_apply]
      simp only [blk_C m c t b g hb hg, blk_S m c t b g hb hg]
    · exact (ld_2 _ _).trans ((congrArg (fun k : Fin 512 => iblk m c 7 t (ix2 0 k)) (Fin.ext (by show 256 + (64 + p.val) = 5 * 64 + p.val; omega))).trans (blk_dk m c t b g hb hg 5 p))
  · refine (cat_h6 _ _ _ _ _ _ _ _ _ _ s p).trans (yhead_congr (fun t' s' => ?_) (head_cs m c t b g hb hg 6) (head_dt m c t b g hb hg 6) (fun s' => head_x m c t b g hb hg 6 p 384 rfl s') ?_ ?_ s)
    · simp only [cb_apply, blk_B m c t b g hb hg, blk_C m c t b g hb hg]
    · rw [ys6_apply]
      simp only [blk_C m c t b g hb hg, blk_S m c t b g hb hg]
    · exact (ld_3 _ _).trans ((congrArg (fun k : Fin 512 => iblk m c 7 t (ix2 0 k)) (Fin.ext (by show 384 + (0 + p.val) = 6 * 64 + p.val; omega))).trans (blk_dk m c t b g hb hg 6 p))
  · refine (cat_h7 _ _ _ _ _ _ _ _ _ _ s p).trans (yhead_congr (fun t' s' => ?_) (head_cs m c t b g hb hg 7) (head_dt m c t b g hb hg 7) (fun s' => head_x m c t b g hb hg 7 p 448 rfl s') ?_ ?_ s)
    · simp only [cb_apply, blk_B m c t b g hb hg, blk_C m c t b g hb hg]
    · rw [ys7_apply]
      simp only [blk_C m c t b g hb hg, blk_S m c t b g hb hg]
    · exact (ld_3 _ _).trans ((congrArg (fun k : Fin 512 => iblk m c 7 t (ix2 0 k)) (Fin.ext (by show 384 + (64 + p.val) = 7 * 64 + p.val; omega))).trans (blk_dk m c t b g hb hg 7 p))

end blocks

/-! ## The final arrays -/

/-- The output as an array. -/
def resultY (c : Dev nD) : Vec Ideal S128x8x2048 .f32 := fun i =>
  Ssd.resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (i 0) (i 1) ⟨(i 2).val / 512, by have : (i 2).val < 2048 := (i 2).isLt; omega⟩ ⟨(i 2).val % 512, Nat.mod_lt _ (by decide)⟩

/-- The state as an array. -/
def resultS (c : Dev nD) : Vec Ideal S128x32x64x128 .f32 := fun i =>
  resS (m ((c : Thread nD τ).loc main_arg0)) (m ((c : Thread nD τ).loc main_arg2)) (m ((c : Thread nD τ).loc main_arg3)) (m ((c : Thread nD τ).loc main_arg4)) (m ((c : Thread nD τ).loc main_arg7)) (i 0) ⟨(i 1).val / 8, by have : (i 1).val < 32 := (i 1).isLt; omega⟩ ⟨(i 1).val % 8, Nat.mod_lt _ (by decide)⟩ (i 2) (i 3)

/-- The output array, at group `g` and its entry `e`. -/
theorem resultY_at (c : Dev nD) (b : Fin 128) (s : Fin 8) (g : Fin 4) (e : Fin 512) :
    resultY m c (ix3 b s ⟨g.val * 512 + e.val, by omega⟩) = Ssd.resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s g e := by
  show Ssd.resY _ _ _ _ _ _ _ _ b s ⟨(g.val * 512 + e.val) / 512, _⟩ ⟨(g.val * 512 + e.val) % 512, _⟩ = _
  congr 1
  · exact Fin.ext (by show (g.val * 512 + e.val) / 512 = g.val; omega)
  · exact Fin.ext (by show (g.val * 512 + e.val) % 512 = e.val; omega)

/-- The state array, at head `g * 8 + r`. -/
theorem resultS_at (c : Dev nD) (b : Fin 128) (g : Fin 4) (r : Fin 8) (p : Fin 64) (n : Fin 128) :
    resultS m c (ix4 b ⟨g.val * 8 + r.val, by omega⟩ p n) = resS (m ((c : Thread nD τ).loc main_arg0)) (m ((c : Thread nD τ).loc main_arg2)) (m ((c : Thread nD τ).loc main_arg3)) (m ((c : Thread nD τ).loc main_arg4)) (m ((c : Thread nD τ).loc main_arg7)) b g r p n := by
  show resS _ _ _ _ _ b ⟨(g.val * 8 + r.val) / 8, _⟩ ⟨(g.val * 8 + r.val) % 8, _⟩ p n = _
  congr 1
  · exact Fin.ext (by show (g.val * 8 + r.val) / 8 = g.val; omega)
  · exact Fin.ext (by show (g.val * 8 + r.val) % 8 = r.val; omega)

/-- The batch row and the group of a point. -/
theorem point_ix (t : Fin cfg0.N) : ∃ (b : Fin 128) (g : Fin 4), b.val = t.val / 4 ∧ g.val = t.val % 4 := by
  have hN : t.val < 512 := (idx t).2.2.2.2.2.2.2.2.2.2.2.2
  exact ⟨⟨t.val / 4, by omega⟩, ⟨t.val % 4, by omega⟩, rfl, rfl⟩

/-- The states after the run. -/
theorem final_S (c : Dev nD) : (dats m 0 c).arrAt 11 cfg0.N = resultS m c := by
  refine (dats m 0 c).arrAt_eq_of_covers 11 _ (by decide +kernel) fun t hf y => ?_
  blk_simp
  rw [after0_11]
  obtain ⟨b, g, hb, hg⟩ := point_ix t
  obtain ⟨z, r, p, n, rfl⟩ : ∃ (z : Fin 1) (r : Fin 8) (p : Fin 64) (n : Fin 128), y = ix4 z r p n := ⟨y 0, y 1, y 2, y 3, eq_ix4 y⟩
  obtain rfl : z = 0 := Subsingleton.elim _ _
  refine Eq.trans (b := resultS m c (ix4 b ⟨g.val * 8 + r.val, by omega⟩ p n)) ?_ (congrArg (resultS m c) (by blk_ext [idx t]))
  rw [resultS_at]
  rcases (show r = 0 ∨ r = 1 ∨ r = 2 ∨ r = 3 ∨ r = 4 ∨ r = 5 ∨ r = 6 ∨ r = 7 by omega) with rfl | rfl | rfl | rfl | rfl | rfl | rfl | rfl
  · exact point_s0 m c t b g hb hg p n
  · exact point_s1 m c t b g hb hg p n
  · exact point_s2 m c t b g hb hg p n
  · exact point_s3 m c t b g hb hg p n
  · exact point_s4 m c t b g hb hg p n
  · exact point_s5 m c t b g hb hg p n
  · exact point_s6 m c t b g hb hg p n
  · exact point_s7 m c t b g hb hg p n

/-- The output after the run. -/
theorem final_y (c : Dev nD) : (dats m 0 c).arrAt 10 cfg0.N = resultY m c := by
  refine (dats m 0 c).arrAt_eq_of_covers 10 _ (by decide +kernel) fun t hf y => ?_
  blk_simp
  rw [after0_10]
  obtain ⟨b, g, hb, hg⟩ := point_ix t
  obtain ⟨z, s, e, rfl⟩ : ∃ (z : Fin 1) (s : Fin 8) (e : Fin 512), y = ix3 z s e := ⟨y 0, y 1, y 2, eq_ix3 y⟩
  obtain rfl : z = 0 := Subsingleton.elim _ _
  refine Eq.trans (b := resultY m c (ix3 b s ⟨g.val * 512 + e.val, by omega⟩)) ?_ (congrArg (resultY m c) (by blk_ext [idx t]))
  rw [resultY_at]
  exact point_y m c t b g hb hg s e

/-- The kernel's run: the two result arrays hold the recurrence's results, the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v10_0) = resultY m c
      ∧ r.2.mem ((c : Thread nD τ).loc main_v10_1) = resultS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_y m c), (h c).2.1.trans (final_S m c), (h c).2.2⟩) (run_blocks m ρ)

end Cert.SsdKernelIdeal.Value
-- ==== Proof.SsdRef.lean ====
module

public import proofs.«01_k».proof.Proof.Gen.SsdReferenceIdeal.Run
public import proofs.«01_k».proof.Proof.SsdSpec

@[expose] public section

set_option maxRecDepth 16384

noncomputable section

/-! # The state space reference, entry by entry -/

namespace Cert.SsdReferenceIdeal.Value

open Cert.SsdReferenceIdeal Cert.SsdReferenceIdeal.Gen Idealize.ShloMosaic Idealize.ShloMosaic.TcCoe Idealize.SL.Sem Cert.Mlstm Cert.Ssd

variable (m : (ℓ : Loc nD τ sig) → Buf (Elt Ideal) ℓ) (c : Dev nD)

/-- The convolved projections. -/
abbrev aX : Vec Ideal ⟨3, ![128, 8, 3072]⟩ .f32 := m ((c.tc : Thread nD τ).loc main_arg0)
/-- The gates. -/
abbrev aZ : Vec Ideal ⟨3, ![128, 8, 5120]⟩ .f32 := m ((c.tc : Thread nD τ).loc main_arg1)
/-- The step widths as projected. -/
abbrev aD : Vec Ideal ⟨3, ![128, 8, 512]⟩ .f32 := m ((c.tc : Thread nD τ).loc main_arg2)
/-- The step widths' bias. -/
abbrev aDb : Vec Ideal ⟨1, ![32]⟩ .f32 := m ((c.tc : Thread nD τ).loc main_arg3)
/-- The rates. -/
abbrev aAl : Vec Ideal ⟨1, ![32]⟩ .f32 := m ((c.tc : Thread nD τ).loc main_arg4)
/-- The direct weights. -/
abbrev aDk : Vec Ideal ⟨1, ![32]⟩ .f32 := m ((c.tc : Thread nD τ).loc main_arg5)
/-- The norm's weight. -/
abbrev aW : Vec Ideal ⟨1, ![2048]⟩ .f32 := m ((c.tc : Thread nD τ).loc main_arg6)
/-- The state before the chunk. -/
abbrev aS : Vec Ideal ⟨4, ![128, 32, 64, 128]⟩ .f32 := m ((c.tc : Thread nD τ).loc main_arg7)

/-- The step widths before the softplus. -/
def raw (m : (ℓ : Loc nD τ sig) → Buf (Elt Ideal) ℓ) (c : Dev nD) : Vec Ideal S128x8x4x8 .f32 :=
  addf (F := Ideal) (φ := .f32) (extractStridedSlice (α := Ideal .f32) S128x8x4x8 ![0, 0, 0, 0] (shapeCast (α := Ideal .f32) _ (aD m c) shapeCasts_S128x8x512_S128x8x4x128) slices_S128x8x4x128_S128x8x4x8_0_0_0_0) (broadcastInDim (α := Ideal .f32) S128x8x4x8 ![0, 1, 2, 3] bcast_S1x1x4x8_S128x8x4x8_0_1_2_3 (broadcastInDim (α := Ideal .f32) S1x1x4x8 ![2, 3] bcast_S4x8_S1x1x4x8_2_3 (shapeCast (α := Ideal .f32) _ (aDb m c) shapeCasts_S32_S4x8)))

/-- The step widths before the softplus, entry by entry. -/
theorem raw_ref (b : Fin 128) (t : Fin 8) (g : Fin 4) (r : Fin 8) : raw m c (ix4 b t g r)
    = HAdd.hAdd (α := EReal) (β := EReal) (γ := EReal) (aD m c (ix3 b t ⟨g.val * 128 + r.val, by omega⟩)) (aDb m c (ix1 ⟨g.val * 8 + r.val, by omega⟩)) := by
  pointwise [raw]

/-- The step widths. -/
def stepW (m : (ℓ : Loc nD τ sig) → Buf (Elt Ideal) ℓ) (c : Dev nD) : Vec Ideal S128x8x4x8 .f32 :=
  select (cmpf .une (subf (F := Ideal) (φ := .f32) (raw m c) (broadcastInDim (α := Ideal .f32) S128x8x4x8 ![] bcast_S_S128x8x4x8 (constant S_ .f32 0x00000000#32))) (subf (F := Ideal) (φ := .f32) (raw m c) (broadcastInDim (α := Ideal .f32) S128x8x4x8 ![] bcast_S_S128x8x4x8 (constant S_ .f32 0x00000000#32)))) (addf (F := Ideal) (φ := .f32) (raw m c) (broadcastInDim (α := Ideal .f32) S128x8x4x8 ![] bcast_S_S128x8x4x8 (constant S_ .f32 0x00000000#32))) (addf (F := Ideal) (φ := .f32) (maximumf (F := Ideal) (φ := .f32) (raw m c) (broadcastInDim (α := Ideal .f32) S128x8x4x8 ![] bcast_S_S128x8x4x8 (constant S_ .f32 0x00000000#32))) (Host.log1p (F := Ideal) (φ := .f32) (Host.exp (F := Ideal) (φ := .f32) (Host.negf (F := Ideal) (φ := .f32) (Host.absf (F := Ideal) (φ := .f32) (subf (F := Ideal) (φ := .f32) (raw m c) (broadcastInDim (α := Ideal .f32) S128x8x4x8 ![] bcast_S_S128x8x4x8 (constant S_ .f32 0x00000000#32))))))))

/-- The step widths, entry by entry. -/
theorem step_ref (b : Fin 128) (t : Fin 8) (g : Fin 4) (r : Fin 8) : stepW m c (ix4 b t g r) = headDt (aD m c) (aDb m c) b g r t := by
  pointwise [stepW, raw_ref]
  rw [if_neg (fun h => h rfl)]
  unfold headDt softplus
  simp only [sub_zero]

/-- The terms of the running sums. -/
def summand (m : (ℓ : Loc nD τ sig) → Buf (Elt Ideal) ℓ) (c : Dev nD) : Vec Ideal S128x8x4x8 .f32 :=
  mulf (F := Ideal) (φ := .f32) (stepW m c) (broadcastInDim (α := Ideal .f32) S128x8x4x8 ![0, 1, 2, 3] bcast_S1x1x4x8_S128x8x4x8_0_1_2_3 (broadcastInDim (α := Ideal .f32) S1x1x4x8 ![2, 3] bcast_S4x8_S1x1x4x8_2_3 (Host.negf (F := Ideal) (φ := .f32) (shapeCast (α := Ideal .f32) _ (Host.exp (F := Ideal) (φ := .f32) (aAl m c)) shapeCasts_S32_S4x8))))

/-- The terms of the running sums, entry by entry. -/
theorem summand_ref (b : Fin 128) (t : Fin 8) (g : Fin 4) (r : Fin 8) : summand m c (ix4 b t g r)
    = headDt (aD m c) (aDb m c) b g r t * -Ideal.exp (aAl m c (ix1 ⟨g.val * 8 + r.val, by omega⟩)) := by
  pointwise [summand, step_ref]

/-- The sum over the window, as a sum over its 8 entries. -/
theorem foldl_window (f : Fin 8 → EReal) (z : EReal) (hz : z = 0) :
    (List.finRange (⟨4, ![1, 8, 1, 1]⟩ : Shape).numel).foldl (fun r n => r + f n) z = ∑ n : Fin 8, f n := by
  rw [hz]
  exact foldl_add_eq_sum f

/-- The window's entries in order. -/
theorem window_at (n : Fin (⟨4, ![1, 8, 1, 1]⟩ : Shape).numel) :
    (⟨4, ![1, 8, 1, 1]⟩ : Shape).rowMajor.symm n = ix4 0 (⟨n.val, n.isLt⟩ : Fin 8) 0 0 := by
  refine (Equiv.symm_apply_eq _).mpr (Fin.ext ?_)
  rw [Shape.rowMajor_val_four (d := ![1, 8, 1, 1])]
  simp

/-- One entry of the padded window: the token `t + n - 7` where there is one, zero before the first. -/
theorem window_entry (f : Vec Ideal S128x8x4x8 .f32) (z : EReal) (hz : z = 0) (b : Fin 128) (t n : Fin 8) (g : Fin 4) (r : Fin 8) (p : Fin 4 → ℕ)
    (hp : p = ![b.val, t.val + n.val, g.val, r.val])
    (hd : Decidable (∀ a : Fin 4, (![0, 7, 0, 0] : Fin 4 → ℕ) a ≤ p a ∧ p a - (![0, 7, 0, 0] : Fin 4 → ℕ) a < S128x8x4x8.size a)) :
    (if hin : ∀ a : Fin 4, (![0, 7, 0, 0] : Fin 4 → ℕ) a ≤ p a ∧ p a - (![0, 7, 0, 0] : Fin 4 → ℕ) a < S128x8x4x8.size a then
        f (fun a => ⟨p a - (![0, 7, 0, 0] : Fin 4 → ℕ) a, (hin a).2⟩) else z)
      = if h' : 7 ≤ t.val + n.val then f (ix4 b ⟨t.val + n.val - 7, by omega⟩ g r) else (0 : EReal) := by
  subst hp hz
  by_cases h7 : 7 ≤ t.val + n.val
  · have hin : ∀ a : Fin 4, (![0, 7, 0, 0] : Fin 4 → ℕ) a ≤ (![b.val, t.val + n.val, g.val, r.val] : Fin 4 → ℕ) a
        ∧ (![b.val, t.val + n.val, g.val, r.val] : Fin 4 → ℕ) a - (![0, 7, 0, 0] : Fin 4 → ℕ) a < S128x8x4x8.size a := by
      intro a
      fin_cases a
      · exact ⟨Nat.zero_le _, b.isLt⟩
      · exact ⟨h7, show t.val + n.val - 7 < 8 by omega⟩
      · exact ⟨Nat.zero_le _, g.isLt⟩
      · exact ⟨Nat.zero_le _, r.isLt⟩
    rw [dif_pos hin, dif_pos h7]
    refine congrArg f (funext fun a => Fin.ext ?_)
    fin_cases a <;> rfl
  · rw [dif_neg (fun hin => h7 (hin 1).1), dif_neg h7]

/-- The running sums. -/
def sums (m : (ℓ : Loc nD τ sig) → Buf (Elt Ideal) ℓ) (c : Dev nD) : Vec Ideal S128x8x4x8 .f32 :=
  Host.reduceWindowAdd (F := Ideal) (φ := .f32) ![1, 8, 1, 1] ![1, 1, 1, 1] ![0, 7, 0, 0] ![0, 0, 0, 0] (summand m c) (broadcastInDim (α := Ideal .f32) S_ ![] bcast_S_S_ (constant S_ .f32 0x00000000#32)) reduceWindows_S128x8x4x8_S128x8x4x8_w1s1p0_0_w8s1p7_0_w1s1p0_0_w1s1p0_0 h_S_

/-- The running sums, entry by entry. -/
theorem sums_ref (b : Fin 128) (t : Fin 8) (g : Fin 4) (r : Fin 8) : sums m c (ix4 b t g r) = headCs (aD m c) (aDb m c) (aAl m c) b g r t := by
  unfold sums
  show Ideal.hostReduceWindowAdd ![1, 8, 1, 1] ![1, 1, 1, 1] ![0, 7, 0, 0] ![0, 0, 0, 0] reduceWindows_S128x8x4x8_S128x8x4x8_w1s1p0_0_w8s1p7_0_w1s1p0_0_w1s1p0_0
    (summand m c) (Ideal.ofBits .f32 0x00000000#32) (ix4 b t g r) = _
  unfold Ideal.hostReduceWindowAdd Host.reduceWindow
  refine (foldl_window _ _ (Ideal.ofBits_zero .f32)).trans ?_
  refine Eq.trans ?_ (sum_shifted (fun s => summand m c (ix4 b s g r)) t |>.trans (congrArg (fun f => cum f t) (funext fun s => summand_ref m c b s g r)))
  refine Finset.sum_congr rfl fun n _ => ?_
  have hw : (⟨4, ![1, 8, 1, 1]⟩ : Shape).rowMajor.symm n = ix4 0 n 0 0 := window_at n
  refine window_entry (summand m c) _ (Ideal.ofBits_zero .f32) b t n g r
    (fun a => (ix4 b t g r a).val * (![1, 1, 1, 1] : Fin 4 → ℕ) a + (({ rank := S128x8x4x8.rank, size := ![1, 8, 1, 1] } : Shape).rowMajor.symm n a).val) (funext fun a => ?_) _
  rw [show ({ rank := S128x8x4x8.rank, size := ![1, 8, 1, 1] } : Shape).rowMajor.symm n = ix4 0 n 0 0 from hw]
  fin_cases a
  · show b.val * 1 + 0 = b.val; omega
  · show t.val * 1 + n.val = t.val + n.val; omega
  · show g.val * 1 + 0 = g.val; omega
  · show r.val * 1 + 0 = r.val; omega

/-- The products of the groups' output and input rows. -/
def prods (m : (ℓ : Loc nD τ sig) → Buf (Elt Ideal) ℓ) (c : Dev nD) : Vec Ideal S128x8x8x4 .f32 :=
  transpose (α := Ideal .f32) S128x8x8x4 [0, 3, 2, 1] (Host.dotGeneral (F := Ideal) (φ₁ := .f32) (φ₂ := .f32) dot_S128x8x4x128_S128x8x4x128_S128x4x8x8_3_3_1_1_02_02 none (shapeCast (α := Ideal .f32) _ (extractStridedSlice (α := Ideal .f32) S128x8x512 ![0, 0, 2048] (aX m c) slices_S128x8x3072_S128x8x512_0_0_2048) shapeCasts_S128x8x512_S128x8x4x128) (shapeCast (α := Ideal .f32) _ (extractStridedSlice (α := Ideal .f32) S128x8x512 ![0, 0, 2560] (aX m c) slices_S128x8x3072_S128x8x512_0_0_2560) shapeCasts_S128x8x512_S128x8x4x128)) transposes_S128x4x8x8_S128x8x8x4_0_3_2_1

/-- The products, entry by entry. -/
theorem prods_ref (b : Fin 128) (t s : Fin 8) (g : Fin 4) : prods m c (ix4 b t s g) = ∑ n : Fin 128, groupC (aX m c) b g t n * groupB (aX m c) b g s n := by
  pointwise [prods]
  exact Finset.sum_congr rfl fun n _ => mul_comm _ _

/-- The exponents of the tokens' weights. -/
def decays (m : (ℓ : Loc nD τ sig) → Buf (Elt Ideal) ℓ) (c : Dev nD) : Vec Ideal S128x8x8x4x8 .f32 :=
  select (broadcastInDim S128x8x8x4x8 ![0, 1, 2, 3, 4] bcast_S1x8x8x1x1_S128x8x8x4x8_0_1_2_3_4 (broadcastInDim S1x8x8x1x1 ![1, 2] bcast_S8x8_S1x8x8x1x1_1_2 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))))) (subf (F := Ideal) (φ := .f32) (broadcastInDim (α := Ideal .f32) S128x8x8x4x8 ![0, 1, 2, 3, 4] bcast_S128x8x1x4x8_S128x8x8x4x8_0_1_2_3_4 (broadcastInDim (α := Ideal .f32) S128x8x1x4x8 ![0, 1, 3, 4] bcast_S128x8x4x8_S128x8x1x4x8_0_1_3_4 (sums m c))) (broadcastInDim (α := Ideal .f32) S128x8x8x4x8 ![0, 1, 2, 3, 4] bcast_S128x1x8x4x8_S128x8x8x4x8_0_1_2_3_4 (broadcastInDim (α := Ideal .f32) S128x1x8x4x8 ![0, 2, 3, 4] bcast_S128x8x4x8_S128x1x8x4x8_0_2_3_4 (sums m c)))) (broadcastInDim (α := Ideal .f32) S128x8x8x4x8 ![] bcast_S_S128x8x8x4x8 (id (constant S_ .f32 0xFF800000#32)))

/-- The exponents, entry by entry. -/
theorem decays_ref (b : Fin 128) (t s : Fin 8) (g : Fin 4) (r : Fin 8) : decays m c (ix5 b t s g r)
    = if s ≤ t then headCs (aD m c) (aDb m c) (aAl m c) b g r t - headCs (aD m c) (aDb m c) (aAl m c) b g r s else ninf := by
  pointwise [decays, sums_ref]
  rw [sge_word, select_word, select_word]
  by_cases hs : s ≤ t
  · simp [hs]
  · simp [hs]
    rfl

/-- The tokens' weights in the outputs. -/
def weights (m : (ℓ : Loc nD τ sig) → Buf (Elt Ideal) ℓ) (c : Dev nD) : Vec Ideal S128x8x8x4x8 .f32 :=
  mulf (F := Ideal) (φ := .f32) (mulf (F := Ideal) (φ := .f32) (broadcastInDim (α := Ideal .f32) S128x8x8x4x8 ![0, 1, 2, 3, 4] bcast_S128x8x8x4x1_S128x8x8x4x8_0_1_2_3_4 (broadcastInDim (α := Ideal .f32) S128x8x8x4x1 ![0, 1, 2, 3] bcast_S128x8x8x4_S128x8x8x4x1_0_1_2_3 (prods m c))) (Host.exp (F := Ideal) (φ := .f32) (decays m c))) (broadcastInDim (α := Ideal .f32) S128x8x8x4x8 ![0, 1, 2, 3, 4] bcast_S128x1x8x4x8_S128x8x8x4x8_0_1_2_3_4 (broadcastInDim (α := Ideal .f32) S128x1x8x4x8 ![0, 2, 3, 4] bcast_S128x8x4x8_S128x1x8x4x8_0_2_3_4 (stepW m c)))

/-- The tokens' weights, entry by entry. -/
theorem weights_ref (b : Fin 128) (t s : Fin 8) (g : Fin 4) (r : Fin 8) : weights m c (ix5 b t s g r)
    = (∑ n : Fin 128, groupC (aX m c) b g t n * groupB (aX m c) b g s n)
        * Ideal.exp (if s ≤ t then headCs (aD m c) (aDb m c) (aAl m c) b g r t - headCs (aD m c) (aDb m c) (aAl m c) b g r s else ninf)
        * headDt (aD m c) (aDb m c) b g r s := by
  pointwise [weights, prods_ref, decays_ref, step_ref]

/-- The outputs before the gate. -/
def rows (m : (ℓ : Loc nD τ sig) → Buf (Elt Ideal) ℓ) (c : Dev nD) : Vec Ideal S128x8x4x8x64 .f32 :=
  addf (F := Ideal) (φ := .f32) (addf (F := Ideal) (φ := .f32) (transpose (α := Ideal .f32) S128x8x4x8x64 [0, 4, 1, 2, 3] (Host.dotGeneral (F := Ideal) (φ₁ := .f32) (φ₂ := .f32) dot_S128x8x4x8x64_S128x8x8x4x8_S128x4x8x64x8_1_2_4_1_023_034 none (shapeCast (α := Ideal .f32) _ (extractStridedSlice (α := Ideal .f32) S128x8x2048 ![0, 0, 0] (aX m c) slices_S128x8x3072_S128x8x2048_0_0_0) shapeCasts_S128x8x2048_S128x8x4x8x64) (weights m c)) transposes_S128x4x8x64x8_S128x8x4x8x64_0_4_1_2_3) (mulf (F := Ideal) (φ := .f32) (transpose (α := Ideal .f32) S128x8x4x8x64 [0, 4, 1, 2, 3] (Host.dotGeneral (F := Ideal) (φ₁ := .f32) (φ₂ := .f32) dot_S128x4x8x64x128_S128x8x4x128_S128x4x8x64x8_4_3_23_1_01_02 none (shapeCast (α := Ideal .f32) _ (aS m c) shapeCasts_S128x32x64x128_S128x4x8x64x128) (shapeCast (α := Ideal .f32) _ (extractStridedSlice (α := Ideal .f32) S128x8x512 ![0, 0, 2560] (aX m c) slices_S128x8x3072_S128x8x512_0_0_2560) shapeCasts_S128x8x512_S128x8x4x128)) transposes_S128x4x8x64x8_S128x8x4x8x64_0_4_1_2_3) (broadcastInDim (α := Ideal .f32) S128x8x4x8x64 ![0, 1, 2, 3, 4] bcast_S128x8x4x8x1_S128x8x4x8x64_0_1_2_3_4 (broadcastInDim (α := Ideal .f32) S128x8x4x8x1 ![0, 1, 2, 3] bcast_S128x8x4x8_S128x8x4x8x1_0_1_2_3 (Host.exp (F := Ideal) (φ := .f32) (sums m c)))))) (mulf (F := Ideal) (φ := .f32) (shapeCast (α := Ideal .f32) _ (extractStridedSlice (α := Ideal .f32) S128x8x2048 ![0, 0, 0] (aX m c) slices_S128x8x3072_S128x8x2048_0_0_0) shapeCasts_S128x8x2048_S128x8x4x8x64) (broadcastInDim (α := Ideal .f32) S128x8x4x8x64 ![0, 1, 2, 3, 4] bcast_S1x1x4x8x1_S128x8x4x8x64_0_1_2_3_4 (broadcastInDim (α := Ideal .f32) S1x1x4x8x1 ![2, 3, 4] bcast_S4x8x1_S1x1x4x8x1_2_3_4 (shapeCast (α := Ideal .f32) _ (aDk m c) shapeCasts_S32_S4x8x1))))

/-- The outputs before the gate, entry by entry. -/
theorem rows_ref (b : Fin 128) (t : Fin 8) (g : Fin 4) (r : Fin 8) (p : Fin 64) : rows m c (ix5 b t g r p)
    = resH (aX m c) (aD m c) (aDb m c) (aAl m c) (aDk m c) (aS m c) b t g r p := by
  pointwise [rows, weights_ref, sums_ref]
  have hx (s : Fin 8) (h : g.val * 512 + r.val * 64 + p.val < 3072) : aX m c (ix3 b s ⟨g.val * 512 + r.val * 64 + p.val, h⟩) = headX (aX m c) b g r p s :=
    congrArg (fun k : Fin 3072 => aX m c (ix3 b s k)) (Fin.ext (Nat.add_assoc _ _ _))
  simp only [hx]
  unfold resH yhead
  refine congrArg₂ (· + ·) (congrArg₂ (· + ·) (Finset.sum_congr rfl fun s _ => mul_comm _ _) (congrArg (· * _) (Finset.sum_congr rfl fun n _ => mul_comm _ _))) rfl

/-- The gated outputs. -/
def gated (m : (ℓ : Loc nD τ sig) → Buf (Elt Ideal) ℓ) (c : Dev nD) : Vec Ideal S128x8x4x512 .f32 :=
  shapeCast (α := Ideal .f32) _ (mulf (F := Ideal) (φ := .f32) (shapeCast (α := Ideal .f32) _ (rows m c) shapeCasts_S128x8x4x8x64_S128x8x2048) (mulf (F := Ideal) (φ := .f32) (extractStridedSlice (α := Ideal .f32) S128x8x2048 ![0, 0, 0] (aZ m c) slices_S128x8x5120_S128x8x2048_0_0_0) (Host.divf (F := Ideal) (φ := .f32) (broadcastInDim (α := Ideal .f32) S128x8x2048 ![] bcast_S_S128x8x2048 (constant S_ .f32 0x3F800000#32)) (addf (F := Ideal) (φ := .f32) (broadcastInDim (α := Ideal .f32) S128x8x2048 ![] bcast_S_S128x8x2048 (constant S_ .f32 0x3F800000#32)) (Host.exp (F := Ideal) (φ := .f32) (Host.negf (F := Ideal) (φ := .f32) (extractStridedSlice (α := Ideal .f32) S128x8x2048 ![0, 0, 0] (aZ m c) slices_S128x8x5120_S128x8x2048_0_0_0))))))) shapeCasts_S128x8x2048_S128x8x4x512

/-- The gated outputs, entry by entry. -/
theorem gated_ref (b : Fin 128) (t : Fin 8) (g : Fin 4) (e : Fin 512) : gated m c (ix4 b t g e)
    = gate (fun e => resH (aX m c) (aD m c) (aDb m c) (aAl m c) (aDk m c) (aS m c) b t g ⟨e.val / 64, by omega⟩ ⟨e.val % 64, Nat.mod_lt _ (by decide)⟩)
        (fun e => aZ m c (ix3 b t ⟨g.val * 512 + e.val, by omega⟩)) e := by
  pointwise [gated, rows_ref]
  unfold gate
  refine congrArg (· * _) ?_
  exact congrArg₂ (fun (r : Fin 8) (p : Fin 64) => resH (aX m c) (aD m c) (aDb m c) (aAl m c) (aDk m c) (aS m c) b t g r p)
    (Fin.ext (by dsimp only; omega)) (Fin.ext (by dsimp only; omega))

/-- The state, over the named parts. -/
theorem state_eq : (res_main_v89 m c : Vec Ideal S128x32x64x128 .f32) = shapeCast (α := Ideal .f32) _ (addf (F := Ideal) (φ := .f32) (mulf (F := Ideal) (φ := .f32) (shapeCast (α := Ideal .f32) _ (aS m c) shapeCasts_S128x32x64x128_S128x4x8x64x128) (broadcastInDim (α := Ideal .f32) S128x4x8x64x128 ![0, 1, 2, 3, 4] bcast_S128x4x8x1x1_S128x4x8x64x128_0_1_2_3_4 (broadcastInDim (α := Ideal .f32) S128x4x8x1x1 ![0, 1, 2] bcast_S128x4x8_S128x4x8x1x1_0_1_2 (Host.exp (F := Ideal) (φ := .f32) (shapeCast (α := Ideal .f32) _ (extractStridedSlice (α := Ideal .f32) S128x1x4x8 ![0, 7, 0, 0] (sums m c) slices_S128x8x4x8_S128x1x4x8_0_7_0_0) shapeCasts_S128x1x4x8_S128x4x8))))) (Host.dotGeneral (F := Ideal) (φ₁ := .f32) (φ₂ := .f32) dot_S128x8x4x8x64_S128x8x4x128_S128x4x8x64x128_1_1_34_3_02_02 none (mulf (F := Ideal) (φ := .f32) (broadcastInDim (α := Ideal .f32) S128x8x4x8x64 ![0, 1, 2, 3, 4] bcast_S128x8x4x8x1_S128x8x4x8x64_0_1_2_3_4 (broadcastInDim (α := Ideal .f32) S128x8x4x8x1 ![0, 1, 2, 3] bcast_S128x8x4x8_S128x8x4x8x1_0_1_2_3 (mulf (F := Ideal) (φ := .f32) (Host.exp (F := Ideal) (φ := .f32) (subf (F := Ideal) (φ := .f32) (broadcastInDim (α := Ideal .f32) S128x8x4x8 ![0, 1, 2, 3] bcast_S128x1x4x8_S128x8x4x8_0_1_2_3 (extractStridedSlice (α := Ideal .f32) S128x1x4x8 ![0, 7, 0, 0] (sums m c) slices_S128x8x4x8_S128x1x4x8_0_7_0_0)) (sums m c))) (stepW m c)))) (shapeCast (α := Ideal .f32) _ (extractStridedSlice (α := Ideal .f32) S128x8x2048 ![0, 0, 0] (aX m c) slices_S128x8x3072_S128x8x2048_0_0_0) shapeCasts_S128x8x2048_S128x8x4x8x64)) (shapeCast (α := Ideal .f32) _ (extractStridedSlice (α := Ideal .f32) S128x8x512 ![0, 0, 2048] (aX m c) slices_S128x8x3072_S128x8x512_0_0_2048) shapeCasts_S128x8x512_S128x8x4x128))) shapeCasts_S128x4x8x64x128_S128x32x64x128 := rfl

/-- The state, entry by entry. -/
theorem S_ref (b : Fin 128) (g : Fin 4) (r : Fin 8) (p : Fin 64) (n : Fin 128) : (res_main_v89 m c : Vec Ideal S128x32x64x128 .f32) (ix4 b ⟨g.val * 8 + r.val, by omega⟩ p n)
    = resS (aX m c) (aD m c) (aDb m c) (aAl m c) (aS m c) b g r p n := by
  rw [state_eq]
  pointwise [sums_ref, step_ref]
  unfold resS snew
  refine congrArg (_ + ·) (Finset.sum_congr rfl fun s _ => congrArg (· * _) ?_)
  rw [mul_comm]
  exact congrArg (· * _) (congrArg (fun k : Fin 3072 => aX m c (ix3 b s k)) (Fin.ext (Nat.add_assoc _ _ _)))

/-- The output, over the named parts. -/
theorem out_eq : (res_main_v88 m c : Vec Ideal S128x8x2048 .f32) = shapeCast (α := Ideal .f32) _ (mulf (F := Ideal) (φ := .f32) (mulf (F := Ideal) (φ := .f32) (gated m c) (broadcastInDim (α := Ideal .f32) S128x8x4x512 ![0, 1, 2, 3] bcast_S128x8x4x1_S128x8x4x512_0_1_2_3 (Host.rsqrt (F := Ideal) (φ := .f32) (addf (F := Ideal) (φ := .f32) (Host.divf (F := Ideal) (φ := .f32) (broadcastInDim (α := Ideal .f32) S128x8x4x1 ![0, 1, 2] bcast_S128x8x4_S128x8x4x1_0_1_2 (Host.reduceAdd (F := Ideal) (φ := .f32) (mulf (F := Ideal) (φ := .f32) (gated m c) (gated m c)) (constant S_ .f32 0x00000000#32) reducesTo_S128x8x4x512_S128x8x4_d3 h_S_)) (broadcastInDim (α := Ideal .f32) S128x8x4x1 ![] bcast_S_S128x8x4x1 (constant S_ .f32 0x44000000#32))) (broadcastInDim (α := Ideal .f32) S128x8x4x1 ![] bcast_S_S128x8x4x1 (constant S_ .f32 0x358637BD#32)))))) (broadcastInDim (α := Ideal .f32) S128x8x4x512 ![0, 1, 2, 3] bcast_S1x1x4x512_S128x8x4x512_0_1_2_3 (broadcastInDim (α := Ideal .f32) S1x1x4x512 ![2, 3] bcast_S4x512_S1x1x4x512_2_3 (shapeCast (α := Ideal .f32) _ (aW m c) shapeCasts_S2048_S4x512)))) shapeCasts_S128x8x4x512_S128x8x2048 := rfl

/-- The output, entry by entry. -/
theorem Y_ref (b : Fin 128) (t : Fin 8) (g : Fin 4) (e : Fin 512) : (res_main_v88 m c : Vec Ideal S128x8x2048 .f32) (ix3 b t ⟨g.val * 512 + e.val, by omega⟩)
    = Ssd.resY (aX m c) (aZ m c) (aD m c) (aDb m c) (aAl m c) (aDk m c) (aW m c) (aS m c) b t g e := by
  rw [out_eq]
  pointwise [gated_ref]
  rfl

/-- The reference's run: the two results are the recurrence's, entry by entry, and the arguments are unchanged. -/
theorem run_result (ρ : Dev nD → PrngReg) :
    θ_run defs (onTc (τ := τ) (main (F := Ideal))) ⟨m, fun _ => 0, ρ⟩ fun r => ∀ c : Dev nD,
      r.2.mem ((c : Thread nD τ).loc main_v88) = (fun i => Ssd.resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1)
        ⟨(i 2).val / 512, by have : (i 2).val < 2048 := (i 2).isLt; omega⟩ ⟨(i 2).val % 512, Nat.mod_lt _ (by decide)⟩ : Vec Ideal S128x8x2048 .f32)
      ∧ r.2.mem ((c : Thread nD τ).loc main_v89) = (fun i => resS (m ((c : Thread nD τ).loc main_arg0)) (m ((c : Thread nD τ).loc main_arg2)) (m ((c : Thread nD τ).loc main_arg3)) (m ((c : Thread nD τ).loc main_arg4)) (m ((c : Thread nD τ).loc main_arg7)) (i 0)
        ⟨(i 1).val / 8, by have : (i 1).val < 32 := (i 1).isLt; omega⟩ ⟨(i 1).val % 8, Nat.mod_lt _ (by decide)⟩ (i 2) (i 3) : Vec Ideal S128x32x64x128 .f32)
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4))
      ∧ r.2.mem ((c : Thread nD τ).loc main_arg5) = (m ((c : Thread nD τ).loc main_arg5))
      ∧ r.2.mem ((c : Thread nD τ).loc main_arg6) = (m ((c : Thread nD τ).loc main_arg6))
      ∧ r.2.mem ((c : Thread nD τ).loc main_arg7) = (m ((c : Thread nD τ).loc main_arg7)) := by
  refine (θ_run defs _ _).mono (fun r h c => ⟨(h c).1.trans (funext fun i => ?_), (h c).2.1.trans (funext fun i => ?_), (h c).2.2⟩) (run m ρ)
  · obtain ⟨b, t, e, rfl⟩ : ∃ (b : Fin 128) (t : Fin 8) (e : Fin 2048), i = ix3 b t e := ⟨i 0, i 1, i 2, eq_ix3 i⟩
    have he : e = ⟨(⟨e.val / 512, by omega⟩ : Fin 4).val * 512 + (⟨e.val % 512, Nat.mod_lt _ (by decide)⟩ : Fin 512).val, by dsimp only; omega⟩ :=
      Fin.ext (by dsimp only; omega)
    exact (congrArg _ (congrArg (fun z => ix3 b t z) he)).trans (Y_ref m c b t ⟨e.val / 512, by omega⟩ ⟨e.val % 512, Nat.mod_lt _ (by decide)⟩)
  · obtain ⟨b, h', p, n, rfl⟩ : ∃ (b : Fin 128) (h : Fin 32) (p : Fin 64) (n : Fin 128), i = ix4 b h p n := ⟨i 0, i 1, i 2, i 3, eq_ix4 i⟩
    have he : h' = ⟨(⟨h'.val / 8, by omega⟩ : Fin 4).val * 8 + (⟨h'.val % 8, Nat.mod_lt _ (by decide)⟩ : Fin 8).val, by dsimp only; omega⟩ :=
      Fin.ext (by dsimp only; omega)
    exact (congrArg _ (congrArg (fun z => ix4 b z p n) he)).trans (S_ref m c b ⟨h'.val / 8, by omega⟩ ⟨h'.val % 8, Nat.mod_lt _ (by decide)⟩ p n)

end Cert.SsdReferenceIdeal.Value
-- ==== Proof.lean ====
/- The claims' proofs: frames from the generated runs, the value claims from the kernels' and references' runs read
   entry by entry (the modules under Proof/). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.SsdOutKernel
public import proofs.«01_k».proof.Proof.Gen.SsdOutKernel.Skeleton
public import proofs.«01_k».proof.Proof.Gen.SsdOutKernel.Launch
public import proofs.«01_k».proof.Proof.Gen.SsdOutKernel.Points
public import proofs.«01_k».proof.Proof.Gen.SsdOutKernel.Frame
public import proofs.«01_k».proof.Proof.Gen.SsdOutKernelIdeal
public import proofs.«01_k».proof.Proof.Gen.SsdOutKernelIdeal.Skeleton
public import proofs.«01_k».proof.Proof.Gen.SsdOutKernelIdeal.Launch
public import proofs.«01_k».proof.Proof.Gen.SsdOutKernelIdeal.Points
public import proofs.«01_k».proof.Proof.Gen.SsdOutKernelIdeal.Frame
public import proofs.«01_k».proof.Proof.Gen.SsdOutKernelIdeal.Value
public import proofs.«01_k».proof.Proof.Gen.SsdOutReferenceIdeal
public import proofs.«01_k».proof.Proof.Gen.SsdOutReferenceIdeal.Run
public import proofs.«01_k».proof.Proof.Gen.RwOutKernel
public import proofs.«01_k».proof.Proof.Gen.RwOutKernel.Skeleton
public import proofs.«01_k».proof.Proof.Gen.RwOutKernel.Launch
public import proofs.«01_k».proof.Proof.Gen.RwOutKernel.Points
public import proofs.«01_k».proof.Proof.Gen.RwOutKernel.Frame
public import proofs.«01_k».proof.Proof.Gen.RwOutKernelIdeal
public import proofs.«01_k».proof.Proof.Gen.RwOutKernelIdeal.Skeleton
public import proofs.«01_k».proof.Proof.Gen.RwOutKernelIdeal.Launch
public import proofs.«01_k».proof.Proof.Gen.RwOutKernelIdeal.Points
public import proofs.«01_k».proof.Proof.Gen.RwOutKernelIdeal.Frame
public import proofs.«01_k».proof.Proof.Gen.RwOutKernelIdeal.Value
public import proofs.«01_k».proof.Proof.Gen.RwOutReferenceIdeal
public import proofs.«01_k».proof.Proof.Gen.RwOutReferenceIdeal.Run
public import proofs.«01_k».proof.Proof.Gen.ZxKernel
public import proofs.«01_k».proof.Proof.Gen.ZxKernel.Skeleton
public import proofs.«01_k».proof.Proof.Gen.ZxKernel.Launch
public import proofs.«01_k».proof.Proof.Gen.ZxKernel.Points
public import proofs.«01_k».proof.Proof.Gen.ZxKernel.Frame
public import proofs.«01_k».proof.Proof.Gen.ZxKernelIdeal
public import proofs.«01_k».proof.Proof.Gen.ZxKernelIdeal.Skeleton
public import proofs.«01_k».proof.Proof.Gen.ZxKernelIdeal.Launch
public import proofs.«01_k».proof.Proof.Gen.ZxKernelIdeal.Points
public import proofs.«01_k».proof.Proof.Gen.ZxKernelIdeal.Frame
public import proofs.«01_k».proof.Proof.Gen.ZxKernelIdeal.Value
public import proofs.«01_k».proof.Proof.Gen.ZxReferenceIdeal
public import proofs.«01_k».proof.Proof.Gen.ZxReferenceIdeal.Run
public import proofs.«01_k».proof.Proof.Gen.QkvKernel
public import proofs.«01_k».proof.Proof.Gen.QkvKernel.Skeleton
public import proofs.«01_k».proof.Proof.Gen.QkvKernel.Launch
public import proofs.«01_k».proof.Proof.Gen.QkvKernel.Points
public import proofs.«01_k».proof.Proof.Gen.QkvKernel.Frame
public import proofs.«01_k».proof.Proof.Gen.QkvKernelIdeal
public import proofs.«01_k».proof.Proof.Gen.QkvKernelIdeal.Skeleton
public import proofs.«01_k».proof.Proof.Gen.QkvKernelIdeal.Launch
public import proofs.«01_k».proof.Proof.Gen.QkvKernelIdeal.Points
public import proofs.«01_k».proof.Proof.Gen.QkvKernelIdeal.Frame
public import proofs.«01_k».proof.Proof.Gen.QkvKernelIdeal.Value
public import proofs.«01_k».proof.Proof.Gen.QkvReferenceIdeal
public import proofs.«01_k».proof.Proof.Gen.QkvReferenceIdeal.Run
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Gen.FfnSampleKernel
public import proofs.«01_k».proof.Proof.Gen.FfnSampleKernel.Skeleton
public import proofs.«01_k».proof.Proof.Gen.FfnSampleKernel.Launch
public import proofs.«01_k».proof.Proof.Gen.FfnSampleKernel.Points
public import proofs.«01_k».proof.Proof.Gen.FfnSampleKernel.Frame
public import proofs.«01_k».proof.Proof.Gen.FfnSampleKernelIdeal
public import proofs.«01_k».proof.Proof.Gen.FfnSampleKernelIdeal.Skeleton
public import proofs.«01_k».proof.Proof.Gen.FfnSampleKernelIdeal.Launch
public import proofs.«01_k».proof.Proof.Gen.FfnSampleKernelIdeal.Points
public import proofs.«01_k».proof.Proof.Gen.FfnSampleKernelIdeal.Frame
public import proofs.«01_k».proof.Proof.Gen.FfnSampleKernelIdeal.Value
public import proofs.«01_k».proof.Proof.Gen.FfnSampleReferenceIdeal
public import proofs.«01_k».proof.Proof.Gen.FfnSampleReferenceIdeal.Run
public import proofs.«01_k».proof.Proof.Gen.QkvSampleKernel
public import proofs.«01_k».proof.Proof.Gen.QkvSampleKernel.Skeleton
public import proofs.«01_k».proof.Proof.Gen.QkvSampleKernel.Launch
public import proofs.«01_k».proof.Proof.Gen.QkvSampleKernel.Points
public import proofs.«01_k».proof.Proof.Gen.QkvSampleKernel.Frame
public import proofs.«01_k».proof.Proof.Gen.QkvSampleKernelIdeal
public import proofs.«01_k».proof.Proof.Gen.QkvSampleKernelIdeal.Skeleton
public import proofs.«01_k».proof.Proof.Gen.QkvSampleKernelIdeal.Launch
public import proofs.«01_k».proof.Proof.Gen.QkvSampleKernelIdeal.Points
public import proofs.«01_k».proof.Proof.Gen.QkvSampleKernelIdeal.Frame
public import proofs.«01_k».proof.Proof.Gen.QkvSampleKernelIdeal.Value
public import proofs.«01_k».proof.Proof.Gen.QkvSampleReferenceIdeal
public import proofs.«01_k».proof.Proof.Gen.QkvSampleReferenceIdeal.Run
public import proofs.«01_k».proof.Proof.Gen.ZxSampleKernel
public import proofs.«01_k».proof.Proof.Gen.ZxSampleKernel.Skeleton
public import proofs.«01_k».proof.Proof.Gen.ZxSampleKernel.Launch
public import proofs.«01_k».proof.Proof.Gen.ZxSampleKernel.Points
public import proofs.«01_k».proof.Proof.Gen.ZxSampleKernel.Frame
public import proofs.«01_k».proof.Proof.Gen.ZxSampleKernelIdeal
public import proofs.«01_k».proof.Proof.Gen.ZxSampleKernelIdeal.Skeleton
public import proofs.«01_k».proof.Proof.Gen.ZxSampleKernelIdeal.Launch
public import proofs.«01_k».proof.Proof.Gen.ZxSampleKernelIdeal.Points
public import proofs.«01_k».proof.Proof.Gen.ZxSampleKernelIdeal.Frame
public import proofs.«01_k».proof.Proof.Gen.ZxSampleKernelIdeal.Value
public import proofs.«01_k».proof.Proof.Gen.ZxSampleReferenceIdeal
public import proofs.«01_k».proof.Proof.Gen.ZxSampleReferenceIdeal.Run
public import proofs.«01_k».proof.Proof.Gen.RotaryKernel
public import proofs.«01_k».proof.Proof.Gen.RotaryKernel.Skeleton
public import proofs.«01_k».proof.Proof.Gen.RotaryKernel.Launch
public import proofs.«01_k».proof.Proof.Gen.RotaryKernel.Points
public import proofs.«01_k».proof.Proof.Gen.RotaryKernel.Frame
public import proofs.«01_k».proof.Proof.Gen.RotaryKernelIdeal
public import proofs.«01_k».proof.Proof.Gen.RotaryKernelIdeal.Skeleton
public import proofs.«01_k».proof.Proof.Gen.RotaryKernelIdeal.Launch
public import proofs.«01_k».proof.Proof.Gen.RotaryKernelIdeal.Points
public import proofs.«01_k».proof.Proof.Gen.RotaryKernelIdeal.Frame
public import proofs.«01_k».proof.Proof.Gen.RotaryKernelIdeal.Value
public import proofs.«01_k».proof.Proof.Gen.RotaryReferenceIdeal
public import proofs.«01_k».proof.Proof.Gen.RotaryReferenceIdeal.Run
public import proofs.«01_k».proof.Proof.Gen.RotarySampleKernel
public import proofs.«01_k».proof.Proof.Gen.RotarySampleKernel.Skeleton
public import proofs.«01_k».proof.Proof.Gen.RotarySampleKernel.Launch
public import proofs.«01_k».proof.Proof.Gen.RotarySampleKernel.Points
public import proofs.«01_k».proof.Proof.Gen.RotarySampleKernel.Frame
public import proofs.«01_k».proof.Proof.Gen.RotarySampleKernelIdeal
public import proofs.«01_k».proof.Proof.Gen.RotarySampleKernelIdeal.Skeleton
public import proofs.«01_k».proof.Proof.Gen.RotarySampleKernelIdeal.Launch
public import proofs.«01_k».proof.Proof.Gen.RotarySampleKernelIdeal.Points
public import proofs.«01_k».proof.Proof.Gen.RotarySampleKernelIdeal.Frame
public import proofs.«01_k».proof.Proof.Gen.RotarySampleKernelIdeal.Value
public import proofs.«01_k».proof.Proof.Gen.RotarySampleReferenceIdeal
public import proofs.«01_k».proof.Proof.Gen.RotarySampleReferenceIdeal.Run
public import proofs.«01_k».proof.Proof.Gen.SsdKernel
public import proofs.«01_k».proof.Proof.Gen.SsdKernel.Skeleton
public import proofs.«01_k».proof.Proof.Gen.SsdKernel.Launch
public import proofs.«01_k».proof.Proof.Gen.SsdKernel.Points
public import proofs.«01_k».proof.Proof.Gen.SsdKernel.Frame
public import proofs.«01_k».proof.Proof.Gen.SsdKernelIdeal
public import proofs.«01_k».proof.Proof.Gen.SsdKernelIdeal.Skeleton
public import proofs.«01_k».proof.Proof.Gen.SsdKernelIdeal.Launch
public import proofs.«01_k».proof.Proof.Gen.SsdKernelIdeal.Points
public import proofs.«01_k».proof.Proof.Gen.SsdKernelIdeal.Frame
public import proofs.«01_k».proof.Proof.Gen.SsdKernelIdeal.Value
public import proofs.«01_k».proof.Proof.Gen.SsdReferenceIdeal
public import proofs.«01_k».proof.Proof.Gen.SsdReferenceIdeal.Run
public import proofs.«01_k».proof.Proof.Ffn
public import proofs.«01_k».proof.Proof.Mlstm
public import proofs.«01_k».proof.Proof.MlstmRef
public import proofs.«01_k».proof.Proof.Out
public import proofs.«01_k».proof.Proof.SsdOut
public import proofs.«01_k».proof.Proof.RwOut
public import proofs.«01_k».proof.Proof.Zx
public import proofs.«01_k».proof.Proof.Qkv
public import proofs.«01_k».proof.Proof.Proj
public import proofs.«01_k».proof.Proof.ProjSpec
public import proofs.«01_k».proof.Proof.QkvSample
public import proofs.«01_k».proof.Proof.ZxSample
public import proofs.«01_k».proof.Proof.FfnSample
public import proofs.«01_k».proof.Proof.Rotary
public import proofs.«01_k».proof.Proof.RotarySample
public import proofs.«01_k».proof.Proof.RotarySpec
public import proofs.«01_k».proof.Proof.SsdSpec
public import proofs.«01_k».proof.Proof.SsdVectors
public import proofs.«01_k».proof.Proof.SsdState
public import proofs.«01_k».proof.Proof.SsdScan
public import proofs.«01_k».proof.Proof.SsdRef
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The feed-forward reference runs and leaves its arguments and the semaphores as they were. -/
theorem frame_ffn_reference : Cert.quiescent_FfnReferenceIdeal := by
  intro m g _
  refine (θ_run Cert.FfnReferenceIdeal.defs _ _).mono (fun r hr => ⟨fun c => ?_, sem_eq_zero_of_no_sems (by decide) r.2⟩)
    (Cert.FfnReferenceIdeal.Value.run m g)
  exact (hr c).2

/-- The mLSTM reference runs and leaves its arguments and the semaphores as they were. -/
theorem frame_mlstm_reference : Cert.quiescent_ReferenceIdeal := by
  intro m g _
  refine (θ_run Cert.ReferenceIdeal.defs _ _).mono (fun r hr => ⟨fun c => ?_, sem_eq_zero_of_no_sems (by decide) r.2⟩)
    (Cert.ReferenceIdeal.Value.run m g)
  exact (hr c).2.2.2.2

/-- Over the reals the feed-forward kernel and its reference leave the same result. -/
theorem algebraic_ffn : Cert.algebraic_FfnKernelIdeal_FfnReferenceIdeal := by
  pair_intro
  · run_from Cert.FfnKernelIdeal.Value.run_result m g
  · run_from Cert.FfnReferenceIdeal.Value.run m' g'
    funext i
    obtain ⟨b, l, d, rfl⟩ : ∃ (b : Fin 2) (l : Fin 8192) (d : Fin 1024), i = ix3 b l d := ⟨i 0, i 1, i 2, eq_ix3 i⟩
    refine (Cert.FfnReferenceIdeal.Value.ref_apply m' c b l d).trans ?_
    obtain ⟨h0, h1, h2, h3, h4, h5, h6⟩ := hagree c
    rw [h0, h1, h2, h3, h4, h5, h6]
    rfl

/-- Over the reals the mLSTM kernel and its reference leave the same output and the same state. -/
theorem algebraic_mlstm : Cert.algebraic_KernelIdeal_ReferenceIdeal := by
  pair_intro
  · run_from Cert.KernelIdeal.Value.run_result m g
  · run_from Cert.ReferenceIdeal.Value.run_result m' g'
    all_goals rfl

/-- The output projection: the reference runs and leaves its arguments and the semaphores as they were. -/
theorem frame_out_reference : Cert.quiescent_OutReferenceIdeal := by
  intro m g _
  refine (θ_run Cert.OutReferenceIdeal.defs _ _).mono (fun r hr => ⟨fun c => ?_, sem_eq_zero_of_no_sems (by decide) r.2⟩)
    (Cert.OutReferenceIdeal.Value.run m g)
  exact (hr c).2

/-- The output projection: over the reals the kernel and its reference leave the same results. -/
theorem algebraic_out : Cert.algebraic_OutKernelIdeal_OutReferenceIdeal := by
  pair_intro
  · run_from Cert.OutKernelIdeal.Value.run_result m g
  · run_from Cert.OutReferenceIdeal.Value.run_result m' g'
    all_goals rfl

/-- The state space mixer's output projection: the reference runs and leaves its arguments and the semaphores as they were. -/
theorem frame_ssd_out_reference : Cert.quiescent_SsdOutReferenceIdeal := by
  intro m g _
  refine (θ_run Cert.SsdOutReferenceIdeal.defs _ _).mono (fun r hr => ⟨fun c => ?_, sem_eq_zero_of_no_sems (by decide) r.2⟩)
    (Cert.SsdOutReferenceIdeal.Value.run m g)
  exact (hr c).2

/-- The state space mixer's output projection: over the reals the kernel and its reference leave the same results. -/
theorem algebraic_ssd_out : Cert.algebraic_SsdOutKernelIdeal_SsdOutReferenceIdeal := by
  pair_intro
  · run_from Cert.SsdOutKernelIdeal.Value.run_result m g
  · run_from Cert.SsdOutReferenceIdeal.Value.run_result m' g'
    all_goals rfl

/-- The gated output projection: the reference runs and leaves its arguments and the semaphores as they were. -/
theorem frame_rw_out_reference : Cert.quiescent_RwOutReferenceIdeal := by
  intro m g _
  refine (θ_run Cert.RwOutReferenceIdeal.defs _ _).mono (fun r hr => ⟨fun c => ?_, sem_eq_zero_of_no_sems (by decide) r.2⟩)
    (Cert.RwOutReferenceIdeal.Value.run m g)
  exact (hr c).2

/-- The gated output projection: over the reals the kernel and its reference leave the same results. -/
theorem algebraic_rw_out : Cert.algebraic_RwOutKernelIdeal_RwOutReferenceIdeal := by
  pair_intro
  · run_from Cert.RwOutKernelIdeal.Value.run_result m g
  · run_from Cert.RwOutReferenceIdeal.Value.run_result m' g'
    all_goals rfl

/-- The state space mixer's input projection: the reference runs and leaves its arguments and the semaphores as they were. -/
theorem frame_zx_reference : Cert.quiescent_ZxReferenceIdeal := by
  intro m g _
  refine (θ_run Cert.ZxReferenceIdeal.defs _ _).mono (fun r hr => ⟨fun c => ?_, sem_eq_zero_of_no_sems (by decide) r.2⟩)
    (Cert.ZxReferenceIdeal.Value.run m g)
  exact (hr c).2

/-- The state space mixer's input projection: over the reals the kernel and its reference leave the same results. -/
theorem algebraic_zx : Cert.algebraic_ZxKernelIdeal_ZxReferenceIdeal := by
  pair_intro
  · run_from Cert.ZxKernelIdeal.Value.run_result m g
  · run_from Cert.ZxReferenceIdeal.Value.run_result m' g'
    all_goals rfl

/-- The attention's projection: the reference runs and leaves its arguments and the semaphores as they were. -/
theorem frame_qkv_reference : Cert.quiescent_QkvReferenceIdeal := by
  intro m g _
  refine (θ_run Cert.QkvReferenceIdeal.defs _ _).mono (fun r hr => ⟨fun c => ?_, sem_eq_zero_of_no_sems (by decide) r.2⟩)
    (Cert.QkvReferenceIdeal.Value.run m g)
  exact (hr c).2

/-- The attention's projection: over the reals the kernel and its reference leave the same results. -/
theorem algebraic_qkv : Cert.algebraic_QkvKernelIdeal_QkvReferenceIdeal := by
  pair_intro
  · run_from Cert.QkvKernelIdeal.Value.run_result m g
  · run_from Cert.QkvReferenceIdeal.Value.run_result m' g'
    all_goals rfl

/-- The mLSTM mixer's input projection: the reference runs and leaves its arguments and the semaphores as they were. -/
theorem frame_proj_reference : Cert.quiescent_ProjReferenceIdeal := by
  intro m g _
  refine (θ_run Cert.ProjReferenceIdeal.defs _ _).mono (fun r hr => ⟨fun c => ?_, sem_eq_zero_of_no_sems (by decide) r.2⟩)
    (Cert.ProjReferenceIdeal.Value.run m g)
  exact (hr c).2

/-- The mLSTM mixer's input projection: over the reals the kernel and its reference leave the same results. -/
theorem algebraic_proj : Cert.algebraic_ProjKernelIdeal_ProjReferenceIdeal := by
  pair_intro
  · run_from Cert.ProjKernelIdeal.Value.run_result m g
  · run_from Cert.ProjReferenceIdeal.Value.run_result m' g'
    all_goals rfl

/-- The feed-forward at the sample's shapes: the reference runs and leaves its arguments and the semaphores as they were. -/
theorem frame_ffn_sample_reference : Cert.quiescent_FfnSampleReferenceIdeal := by
  intro m g _
  refine (θ_run Cert.FfnSampleReferenceIdeal.defs _ _).mono (fun r hr => ⟨fun c => ?_, sem_eq_zero_of_no_sems (by decide) r.2⟩)
    (Cert.FfnSampleReferenceIdeal.Value.run m g)
  exact (hr c).2

/-- The feed-forward at the sample's shapes: over the reals the kernel and its reference leave the same results. -/
theorem algebraic_ffn_sample : Cert.algebraic_FfnSampleKernelIdeal_FfnSampleReferenceIdeal := by
  pair_intro
  · run_from Cert.FfnSampleKernelIdeal.Value.run_result m g
  · run_from Cert.FfnSampleReferenceIdeal.Value.run_result m' g'
    all_goals rfl

/-- The attention's projection at the sample's shapes: the reference runs and leaves its arguments and the semaphores as they were. -/
theorem frame_qkv_sample_reference : Cert.quiescent_QkvSampleReferenceIdeal := by
  intro m g _
  refine (θ_run Cert.QkvSampleReferenceIdeal.defs _ _).mono (fun r hr => ⟨fun c => ?_, sem_eq_zero_of_no_sems (by decide) r.2⟩)
    (Cert.QkvSampleReferenceIdeal.Value.run m g)
  exact (hr c).2

/-- The attention's projection at the sample's shapes: over the reals the kernel and its reference leave the same results. -/
theorem algebraic_qkv_sample : Cert.algebraic_QkvSampleKernelIdeal_QkvSampleReferenceIdeal := by
  pair_intro
  · run_from Cert.QkvSampleKernelIdeal.Value.run_result m g
  · run_from Cert.QkvSampleReferenceIdeal.Value.run_result m' g'
    all_goals rfl

/-- The state space mixer's input projection at the sample's shapes: the reference runs and leaves its arguments and the semaphores as they were. -/
theorem frame_zx_sample_reference : Cert.quiescent_ZxSampleReferenceIdeal := by
  intro m g _
  refine (θ_run Cert.ZxSampleReferenceIdeal.defs _ _).mono (fun r hr => ⟨fun c => ?_, sem_eq_zero_of_no_sems (by decide) r.2⟩)
    (Cert.ZxSampleReferenceIdeal.Value.run m g)
  exact (hr c).2

/-- The state space mixer's input projection at the sample's shapes: over the reals the kernel and its reference leave the same results. -/
theorem algebraic_zx_sample : Cert.algebraic_ZxSampleKernelIdeal_ZxSampleReferenceIdeal := by
  pair_intro
  · run_from Cert.ZxSampleKernelIdeal.Value.run_result m g
  · run_from Cert.ZxSampleReferenceIdeal.Value.run_result m' g'
    all_goals rfl

/-- The norm and rotation of queries and keys: the reference runs and leaves its arguments and the semaphores as they were. -/
theorem frame_rotary_reference : Cert.quiescent_RotaryReferenceIdeal := by
  intro m g _
  refine (θ_run Cert.RotaryReferenceIdeal.defs _ _).mono (fun r hr => ⟨fun c => ?_, sem_eq_zero_of_no_sems (by decide) r.2⟩)
    (Cert.RotaryReferenceIdeal.Value.run m g)
  exact (hr c).2.2

/-- The norm and rotation of queries and keys: over the reals the kernel and its reference leave the same results. -/
theorem algebraic_rotary : Cert.algebraic_RotaryKernelIdeal_RotaryReferenceIdeal := by
  pair_intro
  · run_from Cert.RotaryKernelIdeal.Value.run_result m g
  · run_from Cert.RotaryReferenceIdeal.Value.run_result m' g'
    all_goals rfl

/-- The norm and rotation of queries and keys at the sample's shapes: the reference runs and leaves its arguments and the semaphores as they were. -/
theorem frame_rotary_sample_reference : Cert.quiescent_RotarySampleReferenceIdeal := by
  intro m g _
  refine (θ_run Cert.RotarySampleReferenceIdeal.defs _ _).mono (fun r hr => ⟨fun c => ?_, sem_eq_zero_of_no_sems (by decide) r.2⟩)
    (Cert.RotarySampleReferenceIdeal.Value.run m g)
  exact (hr c).2.2

/-- The norm and rotation of queries and keys at the sample's shapes: over the reals the kernel and its reference leave the same results. -/
theorem algebraic_rotary_sample : Cert.algebraic_RotarySampleKernelIdeal_RotarySampleReferenceIdeal := by
  pair_intro
  · run_from Cert.RotarySampleKernelIdeal.Value.run_result m g
  · run_from Cert.RotarySampleReferenceIdeal.Value.run_result m' g'
    all_goals rfl

/-- The state space recurrence at the sample's shapes: the reference runs and leaves its arguments and the semaphores as they were. -/
theorem frame_ssd_reference : Cert.quiescent_SsdReferenceIdeal := by
  intro m g _
  refine (θ_run Cert.SsdReferenceIdeal.defs _ _).mono (fun r hr => ⟨fun c => ?_, sem_eq_zero_of_no_sems (by decide) r.2⟩)
    (Cert.SsdReferenceIdeal.Value.run m g)
  exact (hr c).2.2

/-- The state space recurrence at the sample's shapes: over the reals the kernel and its reference leave the same results. -/
theorem algebraic_ssd : Cert.algebraic_SsdKernelIdeal_SsdReferenceIdeal := by
  pair_intro
  · run_from Cert.SsdKernelIdeal.Value.run_result m g
  · run_from Cert.SsdReferenceIdeal.Value.run_result m' g'
    all_goals rfl

/-- All the claims. -/
theorem claim : Cert.Claim :=
  ⟨Cert.Kernel.Gen.facts,
    Cert.KernelIdeal.Gen.facts,
    Cert.ReferenceIdeal.Gen.facts,
    Cert.FfnKernel.Gen.facts,
    Cert.FfnKernelIdeal.Gen.facts,
    Cert.FfnReferenceIdeal.Gen.facts,
    Cert.OutKernel.Gen.facts,
    Cert.OutKernelIdeal.Gen.facts,
    Cert.OutReferenceIdeal.Gen.facts,
    Cert.SsdOutKernel.Gen.facts,
    Cert.SsdOutKernelIdeal.Gen.facts,
    Cert.SsdOutReferenceIdeal.Gen.facts,
    Cert.RwOutKernel.Gen.facts,
    Cert.RwOutKernelIdeal.Gen.facts,
    Cert.RwOutReferenceIdeal.Gen.facts,
    Cert.ZxKernel.Gen.facts,
    Cert.ZxKernelIdeal.Gen.facts,
    Cert.ZxReferenceIdeal.Gen.facts,
    Cert.QkvKernel.Gen.facts,
    Cert.QkvKernelIdeal.Gen.facts,
    Cert.QkvReferenceIdeal.Gen.facts,
    Cert.ProjKernel.Gen.facts,
    Cert.ProjKernelIdeal.Gen.facts,
    Cert.ProjReferenceIdeal.Gen.facts,
    Cert.FfnSampleKernel.Gen.facts,
    Cert.FfnSampleKernelIdeal.Gen.facts,
    Cert.FfnSampleReferenceIdeal.Gen.facts,
    Cert.QkvSampleKernel.Gen.facts,
    Cert.QkvSampleKernelIdeal.Gen.facts,
    Cert.QkvSampleReferenceIdeal.Gen.facts,
    Cert.ZxSampleKernel.Gen.facts,
    Cert.ZxSampleKernelIdeal.Gen.facts,
    Cert.ZxSampleReferenceIdeal.Gen.facts,
    Cert.RotaryKernel.Gen.facts,
    Cert.RotaryKernelIdeal.Gen.facts,
    Cert.RotaryReferenceIdeal.Gen.facts,
    Cert.RotarySampleKernel.Gen.facts,
    Cert.RotarySampleKernelIdeal.Gen.facts,
    Cert.RotarySampleReferenceIdeal.Gen.facts,
    Cert.SsdKernel.Gen.facts,
    Cert.SsdKernelIdeal.Gen.facts,
    Cert.SsdReferenceIdeal.Gen.facts,
    fun m ρ _ => Cert.Kernel.Gen.frame m ρ,
    fun m ρ _ => Cert.KernelIdeal.Gen.frame m ρ,
    frame_mlstm_reference,
    fun m ρ _ => Cert.FfnKernel.Gen.frame m ρ,
    fun m ρ _ => Cert.FfnKernelIdeal.Gen.frame m ρ,
    frame_ffn_reference,
    fun m ρ _ => Cert.OutKernel.Gen.frame m ρ,
    fun m ρ _ => Cert.OutKernelIdeal.Gen.frame m ρ,
    frame_out_reference,
    fun m ρ _ => Cert.SsdOutKernel.Gen.frame m ρ,
    fun m ρ _ => Cert.SsdOutKernelIdeal.Gen.frame m ρ,
    frame_ssd_out_reference,
    fun m ρ _ => Cert.RwOutKernel.Gen.frame m ρ,
    fun m ρ _ => Cert.RwOutKernelIdeal.Gen.frame m ρ,
    frame_rw_out_reference,
    fun m ρ _ => Cert.ZxKernel.Gen.frame m ρ,
    fun m ρ _ => Cert.ZxKernelIdeal.Gen.frame m ρ,
    frame_zx_reference,
    fun m ρ _ => Cert.QkvKernel.Gen.frame m ρ,
    fun m ρ _ => Cert.QkvKernelIdeal.Gen.frame m ρ,
    frame_qkv_reference,
    fun m ρ _ => Cert.ProjKernel.Gen.frame m ρ,
    fun m ρ _ => Cert.ProjKernelIdeal.Gen.frame m ρ,
    frame_proj_reference,
    fun m ρ _ => Cert.FfnSampleKernel.Gen.frame m ρ,
    fun m ρ _ => Cert.FfnSampleKernelIdeal.Gen.frame m ρ,
    frame_ffn_sample_reference,
    fun m ρ _ => Cert.QkvSampleKernel.Gen.frame m ρ,
    fun m ρ _ => Cert.QkvSampleKernelIdeal.Gen.frame m ρ,
    frame_qkv_sample_reference,
    fun m ρ _ => Cert.ZxSampleKernel.Gen.frame m ρ,
    fun m ρ _ => Cert.ZxSampleKernelIdeal.Gen.frame m ρ,
    frame_zx_sample_reference,
    fun m ρ _ => Cert.RotaryKernel.Gen.frame m ρ,
    fun m ρ _ => Cert.RotaryKernelIdeal.Gen.frame m ρ,
    frame_rotary_reference,
    fun m ρ _ => Cert.RotarySampleKernel.Gen.frame m ρ,
    fun m ρ _ => Cert.RotarySampleKernelIdeal.Gen.frame m ρ,
    frame_rotary_sample_reference,
    fun m ρ _ => Cert.SsdKernel.Gen.frame m ρ,
    fun m ρ _ => Cert.SsdKernelIdeal.Gen.frame m ρ,
    frame_ssd_reference,
    trivial,
    algebraic_mlstm,
    trivial,
    algebraic_ffn,
    trivial,
    algebraic_out,
    trivial,
    algebraic_ssd_out,
    trivial,
    algebraic_rw_out,
    trivial,
    algebraic_zx,
    trivial,
    algebraic_qkv,
    trivial,
    algebraic_proj,
    trivial,
    algebraic_ffn_sample,
    trivial,
    algebraic_qkv_sample,
    trivial,
    algebraic_zx_sample,
    trivial,
    algebraic_rotary,
    trivial,
    algebraic_rotary_sample,
    trivial,
    algebraic_ssd⟩

end Cert.Proof

end
